-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_slots_match [hPre_slots_match : Cert.Pre_slots_match.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_slots_match.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_slots_match.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_slots_match [hPre_slots_match : Cert.Pre_slots_match.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_slots_match.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_slots_match.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_mla_scores [hPre_finite_mla_scores : Cert.Pre_finite_mla_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mla_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite_mla_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite_mla_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_mla_scores [hPre_finite_mla_scores : Cert.Pre_finite_mla_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mla_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite_mla_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite_mla_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_router [hPre_finite_router : Cert.Pre_finite_router.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_router [hPre_finite_router : Cert.Pre_finite_router.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_slots_match [hKernel4Ideal : Cert.Kernel4Ideal.Facts] [hPre_slots_match : Cert.Pre_slots_match.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_slots_match m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_slots_match [hReference4Ideal : Cert.Reference4Ideal.Facts] [hPre_slots_match : Cert.Pre_slots_match.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_slots_match m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_mla_scores [hKernel7Ideal : Cert.Kernel7Ideal.Facts] [hPre_finite_mla_scores : Cert.Pre_finite_mla_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_mla_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_mla_scores [hReference7Ideal : Cert.Reference7Ideal.Facts] [hPre_finite_mla_scores : Cert.Pre_finite_mla_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_mla_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite_router [hKernel8Ideal : Cert.Kernel8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_router m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite_router [hReference8Ideal : Cert.Reference8Ideal.Facts] [hPre_finite_router : Cert.Pre_finite_router.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_router m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_slots_match [hKernel4Ideal : Cert.Kernel4Ideal.Facts] [hReference4Ideal : Cert.Reference4Ideal.Facts] [hPre_slots_match : Cert.Pre_slots_match.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_slots_match m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "scale_log2e" .f32 0x3E16C740#32 (((Real.sqrt 96)⁻¹ * (Real.log 2)⁻¹ : ℝ) : EReal)

def algebraic_Kernel7Ideal_Reference7Ideal_pre_finite_mla_scores [hKernel7Ideal : Cert.Kernel7Ideal.Facts] [hReference7Ideal : Cert.Reference7Ideal.Facts] [hPre_finite_mla_scores : Cert.Pre_finite_mla_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_mla_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "mask" .f32 0xF149F2CA#32 ⊥

def algebraic_Kernel8Ideal_Reference8Ideal_pre_finite_router [hKernel8Ideal : Cert.Kernel8Ideal.Facts] [hReference8Ideal : Cert.Reference8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_router m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v8) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v7) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v111_1)) (v1 : (c : Dev Cert.Kernel11Ideal.nD) → Buf (Elt Ideal) ((c.tc : Thread Cert.Kernel11Ideal.nD Cert.Kernel11Ideal.τ).loc Cert.Kernel11Ideal.main_v111_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v111_1) = v0 c
          ∧ r.2.mem ((c.tc : Thread Cert.Kernel11Ideal.nD Cert.Kernel11Ideal.τ).loc Cert.Kernel11Ideal.main_v111_3) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_slots_match : Cert.Pre_slots_match.Facts) (hPre_finite_mla_scores : Cert.Pre_finite_mla_scores.Facts) (hPre_finite_router : Cert.Pre_finite_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_slots_match (hKernel4Ideal := hKernel4Ideal) (hPre_slots_match := hPre_slots_match)
    ∧ quiescent_Reference4Ideal (hReference4Ideal := hReference4Ideal)
    ∧ quiescent_Reference4Ideal_pre_slots_match (hReference4Ideal := hReference4Ideal) (hPre_slots_match := hPre_slots_match)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_mla_scores (hKernel7Ideal := hKernel7Ideal) (hPre_finite_mla_scores := hPre_finite_mla_scores)
    ∧ quiescent_Reference7Ideal (hReference7Ideal := hReference7Ideal)
    ∧ quiescent_Reference7Ideal_pre_finite_mla_scores (hReference7Ideal := hReference7Ideal) (hPre_finite_mla_scores := hPre_finite_mla_scores)
    ∧ quiescent_Kernel8 (hKernel8 := hKernel8)
    ∧ quiescent_Kernel8Ideal (hKernel8Ideal := hKernel8Ideal)
    ∧ quiescent_Kernel8Ideal_pre_finite_router (hKernel8Ideal := hKernel8Ideal) (hPre_finite_router := hPre_finite_router)
    ∧ quiescent_Reference8Ideal (hReference8Ideal := hReference8Ideal)
    ∧ quiescent_Reference8Ideal_pre_finite_router (hReference8Ideal := hReference8Ideal) (hPre_finite_router := hPre_finite_router)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_slots_match (hKernel4Ideal := hKernel4Ideal) (hReference4Ideal := hReference4Ideal) (hPre_slots_match := hPre_slots_match)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_mla_scores (hKernel7Ideal := hKernel7Ideal) (hReference7Ideal := hReference7Ideal) (hPre_finite_mla_scores := hPre_finite_mla_scores)
    ∧ preserves_Kernel8_Kernel8Ideal
    ∧ algebraic_Kernel8Ideal_Reference8Ideal_pre_finite_router (hKernel8Ideal := hKernel8Ideal) (hReference8Ideal := hReference8Ideal) (hPre_finite_router := hPre_finite_router)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_mla_scores.lean ====
abbrev S4x2048x4x96 : Shape := ⟨4, ![4, 2048, 4, 96]⟩
abbrev S4x2048x512 : Shape := ⟨3, ![4, 2048, 512]⟩
abbrev S4x256x4x96 : Shape := ⟨4, ![4, 256, 4, 96]⟩
abbrev S4x256x512 : Shape := ⟨3, ![4, 256, 512]⟩
abbrev S_ : Shape := ⟨0, ![]⟩

class Facts : Prop where
  bitsLt_bf16_f32 : FTy.bits .bf16 < FTy.bits .f32
  bcast_S_S4x2048x4x96 : S_.BroadcastsInDim S4x2048x4x96 (![] : Fin 0 → Fin S4x2048x4x96.rank)
  bcast_S_S4x256x4x96 : S_.BroadcastsInDim S4x256x4x96 (![] : Fin 0 → Fin S4x256x4x96.rank)

variable [Facts]

def fn {F : FTy → Type} [FloatOps F] (main_arg0 : FVec F S4x2048x4x96 .bf16) (main_arg1 : FVec F S4x2048x4x96 .bf16) (main_arg2 : FVec F S4x2048x512 .bf16) (main_arg3 : FVec F S4x256x4x96 .bf16) (main_arg4 : FVec F S4x256x512 .bf16) : IVec S4x2048x4x96 1 × IVec S4x2048x4x96 1 × IVec S4x256x4x96 1 :=
  let main_v0 : FVec F S4x2048x4x96 .f32 := (extf .f32 · bitsLt_bf16_f32) main_arg0
  let main_v1 : FVec F S4x2048x4x96 .f32 := Host.absf main_v0
  let main_cst : FVec F S_ .f32 := constant S_ .f32 0x7F800000#32
  let main_v2 : FVec F S4x2048x4x96 .f32 := broadcastInDim S4x2048x4x96 ![] bcast_S_S4x2048x4x96 main_cst
  let main_v3 : IVec S4x2048x4x96 1 := cmpf .olt main_v1 main_v2
  let main_v4 : FVec F S4x2048x4x96 .f32 := (extf .f32 · bitsLt_bf16_f32) main_arg1
  let main_v5 : FVec F S4x2048x4x96 .f32 := Host.absf main_v4
  let main_cst_0 : FVec F S_ .f32 := constant S_ .f32 0x7F800000#32
  let main_v6 : FVec F S4x2048x4x96 .f32 := broadcastInDim S4x2048x4x96 ![] bcast_S_S4x2048x4x96 main_cst_0
  let main_v7 : IVec S4x2048x4x96 1 := cmpf .olt main_v5 main_v6
  let main_v8 : FVec F S4x256x4x96 .f32 := (extf .f32 · bitsLt_bf16_f32) main_arg3
  let main_v9 : FVec F S4x256x4x96 .f32 := Host.absf main_v8
  let main_cst_1 : FVec F S_ .f32 := constant S_ .f32 0x7F800000#32
  let main_v10 : FVec F S4x256x4x96 .f32 := broadcastInDim S4x256x4x96 ![] bcast_S_S4x256x4x96 main_cst_1
  let main_v11 : IVec S4x256x4x96 1 := cmpf .olt main_v9 main_v10
  (main_v3, main_v7, main_v11)
-- ==== Pre_finite_router.lean ====
abbrev S4x2048x2048 : Shape := ⟨3, ![4, 2048, 2048]⟩
abbrev S4x1x2048 : Shape := ⟨3, ![4, 1, 2048]⟩
abbrev S4x2048 : Shape := ⟨2, ![4, 2048]⟩
abbrev S4x2048x16 : Shape := ⟨3, ![4, 2048, 16]⟩
abbrev S1x2048 : Shape := ⟨2, ![1, 2048]⟩
abbrev S2048 : Shape := ⟨1, ![2048]⟩
abbrev S_ : Shape := ⟨0, ![]⟩
abbrev S1x2048x16 : Shape := ⟨3, ![1, 2048, 16]⟩
abbrev S2048x16 : Shape := ⟨2, ![2048, 16]⟩

class Facts : Prop where
  slices_S4x2048_S1x2048_0_0 : S4x2048.Slices ![0, 0] S1x2048
  shapeCasts_S1x2048_S2048 : S1x2048.ShapeCasts S2048
  bcast_S_S2048 : S_.BroadcastsInDim S2048 (![] : Fin 0 → Fin S2048.rank)
  bcast_S_S4x1x2048 : S_.BroadcastsInDim S4x1x2048 (![] : Fin 0 → Fin S4x1x2048.rank)
  slices_S4x2048x16_S1x2048x16_0_0_0 : S4x2048x16.Slices ![0, 0, 0] S1x2048x16
  shapeCasts_S1x2048x16_S2048x16 : S1x2048x16.ShapeCasts S2048x16
  bcast_S_S2048x16 : S_.BroadcastsInDim S2048x16 (![] : Fin 0 → Fin S2048x16.rank)

variable [Facts]

def fn {F : FTy → Type} [FloatOps F] (main_arg0 : FVec F S4x2048x2048 .bf16) (main_arg1 : FVec F S4x2048x2048 .f32) (main_arg2 : FVec F S4x2048x2048 .f32) (main_arg3 : FVec F S4x1x2048 .f32) (main_arg4 : FVec F S4x2048 .f32) (main_arg5 : FVec F S4x1x2048 .f32) (main_arg6 : FVec F S4x1x2048 .f32) (main_arg7 : FVec F S4x2048x16 .f32) : IVec S2048 1 × IVec S4x1x2048 1 × IVec S4x1x2048 1 × IVec S2048x16 1 :=
  let main_v0 : FVec F S1x2048 .f32 := (extractStridedSlice S1x2048 ![0, 0] · slices_S4x2048_S1x2048_0_0) main_arg4
  let main_v1 : FVec F S2048 .f32 := shapeCast S2048 main_v0 shapeCasts_S1x2048_S2048
  let main_v2 : FVec F S2048 .f32 := Host.absf main_v1
  let main_cst : FVec F S_ .f32 := constant S_ .f32 0x7F800000#32
  let main_v3 : FVec F S2048 .f32 := broadcastInDim S2048 ![] bcast_S_S2048 main_cst
  let main_v4 : IVec S2048 1 := cmpf .olt main_v2 main_v3
  let main_v5 : FVec F S4x1x2048 .f32 := Host.absf main_arg5
  let main_cst_0 : FVec F S_ .f32 := constant S_ .f32 0x7F800000#32
  let main_v6 : FVec F S4x1x2048 .f32 := broadcastInDim S4x1x2048 ![] bcast_S_S4x1x2048 main_cst_0
  let main_v7 : IVec S4x1x2048 1 := cmpf .olt main_v5 main_v6
  let main_v8 : FVec F S4x1x2048 .f32 := Host.absf main_arg6
  let main_cst_1 : FVec F S_ .f32 := constant S_ .f32 0x7F800000#32
  let main_v9 : FVec F S4x1x2048 .f32 := broadcastInDim S4x1x2048 ![] bcast_S_S4x1x2048 main_cst_1
  let main_v10 : IVec S4x1x2048 1 := cmpf .olt main_v8 main_v9
  let main_v11 : FVec F S1x2048x16 .f32 := (extractStridedSlice S1x2048x16 ![0, 0, 0] · slices_S4x2048x16_S1x2048x16_0_0_0) main_arg7
  let main_v12 : FVec F S2048x16 .f32 := shapeCast S2048x16 main_v11 shapeCasts_S1x2048x16_S2048x16
  let main_v13 : FVec F S2048x16 .f32 := Host.absf main_v12
  let main_cst_2 : FVec F S_ .f32 := constant S_ .f32 0x7F800000#32
  let main_v14 : FVec F S2048x16 .f32 := broadcastInDim S2048x16 ![] bcast_S_S2048x16 main_cst_2
  let main_v15 : IVec S2048x16 1 := cmpf .olt main_v13 main_v14
  (main_v4, main_v7, main_v10, main_v15)
-- ==== Pre_finite_scores.lean ====
abbrev S4x2048x512 : Shape := ⟨3, ![4, 2048, 512]⟩
abbrev S4x2048x256 : Shape := ⟨3, ![4, 2048, 256]⟩
abbrev S4x256x256 : Shape := ⟨3, ![4, 256, 256]⟩
abbrev S_ : Shape := ⟨0, ![]⟩

class Facts : Prop where
  bitsLt_bf16_f32 : FTy.bits .bf16 < FTy.bits .f32
  bcast_S_S4x2048x512 : S_.BroadcastsInDim S4x2048x512 (![] : Fin 0 → Fin S4x2048x512.rank)
  bcast_S_S4x2048x256 : S_.BroadcastsInDim S4x2048x256 (![] : Fin 0 → Fin S4x2048x256.rank)
  bcast_S_S4x256x256 : S_.BroadcastsInDim S4x256x256 (![] : Fin 0 → Fin S4x256x256.rank)

variable [Facts]

def fn {F : FTy → Type} [FloatOps F] (main_arg0 : FVec F S4x2048x512 .bf16) (main_arg1 : FVec F S4x2048x256 .bf16) (main_arg2 : FVec F S4x2048x256 .bf16) (main_arg3 : FVec F S4x256x256 .bf16) (main_arg4 : FVec F S4x256x256 .bf16) : IVec S4x2048x512 1 × IVec S4x2048x256 1 × IVec S4x256x256 1 :=
  let main_v0 : FVec F S4x2048x512 .f32 := (extf .f32 · bitsLt_bf16_f32) main_arg0
  let main_v1 : FVec F S4x2048x512 .f32 := Host.absf main_v0
  let main_cst : FVec F S_ .f32 := constant S_ .f32 0x7F800000#32
  let main_v2 : FVec F S4x2048x512 .f32 := broadcastInDim S4x2048x512 ![] bcast_S_S4x2048x512 main_cst
  let main_v3 : IVec S4x2048x512 1 := cmpf .olt main_v1 main_v2
  let main_v4 : FVec F S4x2048x256 .f32 := (extf .f32 · bitsLt_bf16_f32) main_arg1
  let main_v5 : FVec F S4x2048x256 .f32 := Host.absf main_v4
  let main_cst_0 : FVec F S_ .f32 := constant S_ .f32 0x7F800000#32
  let main_v6 : FVec F S4x2048x256 .f32 := broadcastInDim S4x2048x256 ![] bcast_S_S4x2048x256 main_cst_0
  let main_v7 : IVec S4x2048x256 1 := cmpf .olt main_v5 main_v6
  let main_v8 : FVec F S4x256x256 .f32 := (extf .f32 · bitsLt_bf16_f32) main_arg3
  let main_v9 : FVec F S4x256x256 .f32 := Host.absf main_v8
  let main_cst_1 : FVec F S_ .f32 := constant S_ .f32 0x7F800000#32
  let main_v10 : FVec F S4x256x256 .f32 := broadcastInDim S4x256x256 ![] bcast_S_S4x256x256 main_cst_1
  let main_v11 : IVec S4x256x256 1 := cmpf .olt main_v9 main_v10
  (main_v3, main_v7, main_v11)
-- ==== Pre_slots_match.lean ====
abbrev S4x2048x128 : Shape := ⟨3, ![4, 2048, 128]⟩
abbrev S4x16x256 : Shape := ⟨3, ![4, 16, 256]⟩
abbrev S4x16x256x2048 : Shape := ⟨4, ![4, 16, 256, 2048]⟩
abbrev S4x2048x2048 : Shape := ⟨3, ![4, 2048, 2048]⟩
abbrev S4x1x2048 : Shape := ⟨3, ![4, 1, 2048]⟩
abbrev S2048 : Shape := ⟨1, ![2048]⟩
abbrev S4x2048x16 : Shape := ⟨3, ![4, 2048, 16]⟩
abbrev S4x2048x16x1 : Shape := ⟨4, ![4, 2048, 16, 1]⟩
abbrev S256 : Shape := ⟨1, ![256]⟩
abbrev S1x1x1x256 : Shape := ⟨4, ![1, 1, 1, 256]⟩
abbrev S4x2048x16x256 : Shape := ⟨4, ![4, 2048, 16, 256]⟩
abbrev S4x1x16x256 : Shape := ⟨4, ![4, 1, 16, 256]⟩
abbrev S1x2048x1x1 : Shape := ⟨4, ![1, 2048, 1, 1]⟩
abbrev S_ : Shape := ⟨0, ![]⟩

class Facts : Prop where
  slices_S4x2048x128_S4x2048x16_0_0_0 : S4x2048x128.Slices ![0, 0, 0] S4x2048x16
  bcast_S4x2048x16_S4x2048x16x1_0_1_2 : S4x2048x16.BroadcastsInDim S4x2048x16x1 (![0, 1, 2] : Fin 3 → Fin S4x2048x16x1.rank)
  bcast_S256_S1x1x1x256_3 : S256.BroadcastsInDim S1x1x1x256 (![3] : Fin 1 → Fin S1x1x1x256.rank)
  bcast_S4x2048x16x1_S4x2048x16x256_0_1_2_3 : S4x2048x16x1.BroadcastsInDim S4x2048x16x256 (![0, 1, 2, 3] : Fin 4 → Fin S4x2048x16x256.rank)
  bcast_S1x1x1x256_S4x2048x16x256_0_1_2_3 : S1x1x1x256.BroadcastsInDim S4x2048x16x256 (![0, 1, 2, 3] : Fin 4 → Fin S4x2048x16x256.rank)
  bcast_S4x16x256_S4x1x16x256_0_2_3 : S4x16x256.BroadcastsInDim S4x1x16x256 (![0, 2, 3] : Fin 3 → Fin S4x1x16x256.rank)
  bcast_S2048_S1x2048x1x1_1 : S2048.BroadcastsInDim S1x2048x1x1 (![1] : Fin 1 → Fin S1x2048x1x1.rank)
  bcast_S4x1x16x256_S4x2048x16x256_0_1_2_3 : S4x1x16x256.BroadcastsInDim S4x2048x16x256 (![0, 1, 2, 3] : Fin 4 → Fin S4x2048x16x256.rank)
  bcast_S1x2048x1x1_S4x2048x16x256_0_1_2_3 : S1x2048x1x1.BroadcastsInDim S4x2048x16x256 (![0, 1, 2, 3] : Fin 4 → Fin S4x2048x16x256.rank)
  bcast_S_S4x16x256 : S_.BroadcastsInDim S4x16x256 (![] : Fin 0 → Fin S4x16x256.rank)

variable [Facts]

def fn {F : FTy → Type} [FloatOps F] (main_arg0 : FVec F S4x2048x128 .f32) (main_arg1 : IVec S4x16x256 32) (main_arg2 : FVec F S4x16x256x2048 .bf16) (main_arg3 : FVec F S4x2048x2048 .f32) (main_arg4 : FVec F S4x1x2048 .f32) (main_arg5 : FVec F S2048 .f32) : IVec S4x2048x16x256 1 × IVec S4x16x256 1 :=
  let main_v0 : FVec F S4x2048x16 .f32 := (extractStridedSlice S4x2048x16 ![0, 0, 0] · slices_S4x2048x128_S4x2048x16_0_0_0) main_arg0
  let main_v1 : FVec F S4x2048x16x1 .f32 := broadcastInDim S4x2048x16x1 ![0, 1, 2] bcast_S4x2048x16_S4x2048x16x1_0_1_2 main_v0
  let main_v2 : IVec S256 32 := iotaInDim S256 32 0
  let main_v3 : FVec F S256 .f32 := sitofp .f32 main_v2
  let main_v4 : FVec F S1x1x1x256 .f32 := broadcastInDim S1x1x1x256 ![3] bcast_S256_S1x1x1x256_3 main_v3
  let main_v5 : FVec F S4x2048x16x256 .f32 := broadcastInDim S4x2048x16x256 ![0, 1, 2, 3] bcast_S4x2048x16x1_S4x2048x16x256_0_1_2_3 main_v1
  let main_v6 : FVec F S4x2048x16x256 .f32 := broadcastInDim S4x2048x16x256 ![0, 1, 2, 3] bcast_S1x1x1x256_S4x2048x16x256_0_1_2_3 main_v4
  let main_v7 : IVec S4x2048x16x256 1 := cmpf .oeq main_v5 main_v6
  let main_v8 : IVec S4x1x16x256 32 := broadcastInDim S4x1x16x256 ![0, 2, 3] bcast_S4x16x256_S4x1x16x256_0_2_3 main_arg1
  let main_v9 : IVec S2048 32 := iotaInDim S2048 32 0
  let main_v10 : IVec S1x2048x1x1 32 := broadcastInDim S1x2048x1x1 ![1] bcast_S2048_S1x2048x1x1_1 main_v9
  let main_v11 : IVec S4x2048x16x256 32 := broadcastInDim S4x2048x16x256 ![0, 1, 2, 3] bcast_S4x1x16x256_S4x2048x16x256_0_1_2_3 main_v8
  let main_v12 : IVec S4x2048x16x256 32 := broadcastInDim S4x2048x16x256 ![0, 1, 2, 3] bcast_S1x2048x1x1_S4x2048x16x256_0_1_2_3 main_v10
  let main_v13 : IVec S4x2048x16x256 1 := cmpi .eq main_v11 main_v12
  let main_v14 : IVec S4x2048x16x256 1 := cmpi .eq main_v7 main_v13
  let main_c : IVec S_ 32 := constantI S_ 32 0#32
  let main_v15 : IVec S4x16x256 32 := broadcastInDim S4x16x256 ![] bcast_S_S4x16x256 main_c
  let main_v16 : IVec S4x16x256 1 := cmpi .sge main_arg1 main_v15
  (main_v14, main_v16)
-- ==== Kernel.lean ====
abbrev S4x2048x512 : Shape := ⟨3, ![4, 2048, 512]⟩
abbrev S4x2048x256 : Shape := ⟨3, ![4, 2048, 256]⟩
abbrev S4x256x256 : Shape := ⟨3, ![4, 256, 256]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x512, .bf16⟩
  | .hbm, ⟨1, _⟩ => ⟨S4x2048x256, .bf16⟩
  | .hbm, ⟨2, _⟩ => ⟨S4x2048x256, .bf16⟩
  | .hbm, ⟨3, _⟩ => ⟨S4x256x256, .bf16⟩
  | .hbm, ⟨4, _⟩ => ⟨S4x256x256, .bf16⟩
  | .hbm, ⟨5, _⟩ => ⟨S4x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S4x2048x512 : Shape := ⟨3, ![4, 2048, 512]⟩
abbrev S4x2048x256 : Shape := ⟨3, ![4, 2048, 256]⟩
abbrev S4x256x256 : Shape := ⟨3, ![4, 256, 256]⟩
abbrev S4x2048x4x128 : Shape := ⟨4, ![4, 2048, 4, 128]⟩
abbrev S4x2048x2x2x128 : Shape := ⟨5, ![4, 2048, 2, 2, 128]⟩
abbrev S4x2048x2x128 : Shape := ⟨4, ![4, 2048, 2, 128]⟩
abbrev S4x256x2x128 : Shape := ⟨4, ![4, 256, 2, 128]⟩
abbrev S4x2304x2x128 : Shape := ⟨4, ![4, 2304, 2, 128]⟩
abbrev S4x2x2304x2048x2 : Shape := ⟨5, ![4, 2, 2304, 2048, 2]⟩
abbrev S4x2x2x2048x2304 : Shape := ⟨5, ![4, 2, 2, 2048, 2304]⟩
abbrev S_ : Shape := ⟨0, ![]⟩
abbrev S4x2x2x2048 : Shape := ⟨4, ![4, 2, 2, 2048]⟩
abbrev S4x2x2x2048x1 : Shape := ⟨5, ![4, 2, 2, 2048, 1]⟩
abbrev S4x2x128x2x2048 : Shape := ⟨5, ![4, 2, 128, 2, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x256, .bf16⟩
  | .hbm, ⟨2, _⟩ => ⟨S4x2048x256, .bf16⟩
  | .hbm, ⟨3, _⟩ => ⟨S4x256x256, .bf16⟩
  | .hbm, ⟨4, _⟩ => ⟨S4x256x256, .bf16⟩
  | .hbm, ⟨5, _⟩ => ⟨S4x2048x512, .f32⟩
  | .hbm, ⟨6, _⟩ => ⟨S4x2048x4x128, .f32⟩
  | .hbm, ⟨7, _⟩ => ⟨S4x2048x2x2x128, .f32⟩
  | .hbm, ⟨8, _⟩ => ⟨S4x2048x256, .f32⟩
  | .hbm, ⟨9, _⟩ => ⟨S4x2048x2x128, .f32⟩
  | .hbm, ⟨10, _⟩ => ⟨S4x256x256, .f32⟩
  | .hbm, ⟨11, _⟩ => ⟨S4x256x2x128, .f32⟩
  | .hbm, ⟨12, _⟩ => ⟨S4x2304x2x128, .f32⟩
  | .hbm, ⟨13, _⟩ => ⟨S4x2048x256, .f32⟩
  | .hbm, ⟨14, _⟩ => ⟨S4x2048x2x128, .f32⟩
  | .hbm, ⟨15, _⟩ => ⟨S4x256x256, .f32⟩
  | .hbm, ⟨16, _⟩ => ⟨S4x256x2x128, .f32⟩
  | .hbm, ⟨17, _⟩ => ⟨S4x2304x2x128, .f32⟩
  | .hbm, ⟨18, _⟩ => ⟨S4x2x2304x2048x2, .f32⟩
  | .hbm, ⟨19, _⟩ => ⟨S4x2x2x2048x2304, .f32⟩
  | .hbm, ⟨20, _⟩ => ⟨S_, .f32⟩
  | .hbm, ⟨21, _⟩ => ⟨S_, .f32⟩
  | .hbm, ⟨22, _⟩ => ⟨S4x2x2x2048x2304, .f32⟩
  | .hbm, ⟨23, _⟩ => ⟨S4x2x2x2048x2304, .f32⟩
  | .hbm, ⟨24, _⟩ => ⟨S_, .f32⟩
  | .hbm, ⟨25, _⟩ => ⟨S4x2x2x2048, .f32⟩
  | .hbm, ⟨26, _⟩ => ⟨S_, .f32⟩
  | .hbm, ⟨27, _⟩ => ⟨S4x2x2x2048, .f32⟩
  | .hbm, ⟨28, _⟩ => ⟨S4x2x2x2048, .f32⟩
  | .hbm, ⟨29, _⟩ => ⟨S4x2x2x2048x1, .f32⟩
  | .hbm, ⟨30, _⟩ => ⟨S4x2x2x2048x2304, .f32⟩
  | .hbm, ⟨31, _⟩ => ⟨S4x2x2x2048x2304, .f32⟩
  | .hbm, ⟨32, _⟩ => ⟨S4x2x2x2048x2304, .f32⟩
  | .hbm, ⟨33, _⟩ => ⟨S_, .f32⟩
  | .hbm, ⟨34, _⟩ => ⟨S4x2x2x2048, .f32⟩
  | .hbm, ⟨35, _⟩ => ⟨S4x2x2x2048x1, .f32⟩
  | .hbm, ⟨36, _⟩ => ⟨S4x2x2x2048x2304, .f32⟩
  | .hbm, ⟨37, _⟩ => ⟨S4x2x2x2048x2304, .f32⟩
  | .hbm, ⟨38, _⟩ => ⟨S4x2x128x2x2048, .f32⟩
  | .hbm, ⟨39, _⟩ => ⟨S4x2048x2x2x128, .f32⟩
  | .hbm, ⟨40, _⟩ => ⟨S4x2048x512, .f32⟩
  | .hbm, ⟨41, _⟩ => ⟨S4x2048x512, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048x12448 : Shape := ⟨3, ![4, 2048, 12448]⟩
abbrev S4x2048x512 : Shape := ⟨3, ![4, 2048, 512]⟩
abbrev S4x4x512x2048 : Shape := ⟨4, ![4, 4, 512, 2048]⟩
abbrev S8192x2048 : Shape := ⟨2, ![8192, 2048]⟩
abbrev S4x12448x2048 : Shape := ⟨3, ![4, 12448, 2048]⟩
abbrev S8192x512 : Shape := ⟨2, ![8192, 512]⟩
abbrev S512x2048 : Shape := ⟨2, ![512, 2048]⟩
abbrev S1x512x2048 : Shape := ⟨3, ![1, 512, 2048]⟩
abbrev S512x512 : Shape := ⟨2, ![512, 512]⟩
abbrev S1x4x512x512 : Shape := ⟨4, ![1, 4, 512, 512]⟩
abbrev S4x512x2048 : Shape := ⟨3, ![4, 512, 2048]⟩
abbrev S4x512x512 : Shape := ⟨3, ![4, 512, 512]⟩
abbrev S1x512x512 : Shape := ⟨3, ![1, 512, 512]⟩

abbrev nBuf : Space → Nat
  | .hbm => 14
  | .vmem => 20
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S4x2048x512, .bf16⟩
  | .hbm, ⟨3, _⟩ => ⟨S4x2048x512, .bf16⟩
  | .hbm, ⟨4, _⟩ => ⟨S4x2048x512, .bf16⟩
  | .hbm, ⟨5, _⟩ => ⟨S4x2048x512, .bf16⟩
  | .hbm, ⟨6, _⟩ => ⟨S4x4x512x2048, .f32⟩
  | .hbm, ⟨7, _⟩ => ⟨S8192x2048, .bf16⟩
  | .hbm, ⟨8, _⟩ => ⟨S4x12448x2048, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x4x512x512, .f32⟩
  | .local _ .vmem, ⟨15, _⟩ => ⟨S1x4x512x512, .f32⟩
  | .local _ .vmem, ⟨16, _⟩ => ⟨S512x512, .bf16⟩
  | .local _ .vmem, ⟨17, _⟩ => ⟨S512x512, .bf16⟩
  | .local _ .vmem, ⟨18, _⟩ => ⟨S4x512x2048, .bf16⟩
  | .local _ .vmem, ⟨19, _⟩ => ⟨S4x512x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4256_i32 : BitVec 32 := 4256#32
  let arg0 : BitVec 32 := BitVec.ofNat 32 (i 0).val
  let c512_i32 : BitVec 32 := 512#32
  let v0 : BitVec 32 := Scalar.muli arg0 c512_i32
  let v1 : BitVec 32 := Scalar.addi c4256_i32 v0
  v1
def k0_mult2 (i : grid0.Coords) : BitVec 32 :=
  let c6304_i32 : BitVec 32 := 6304#32
  let arg0 : BitVec 32 := BitVec.ofNat 32 (i 0).val
  let c512_i32 : BitVec 32 := 512#32
  let v0 : BitVec 32 := Scalar.muli arg0 c512_i32
  let v1 : BitVec 32 := Scalar.addi c6304_i32 v0
  v1
def k0_mult3 (i : grid0.Coords) : BitVec 32 :=
  let c8352_i32 : BitVec 32 := 8352#32
  let arg0 : BitVec 32 := BitVec.ofNat 32 (i 0).val
  let c512_i32 : BitVec 32 := 512#32
  let v0 : BitVec 32 := Scalar.muli arg0 c512_i32
  let v1 : BitVec 32 := Scalar.addi c8352_i32 v0
  v1
def k0_mult4 (i : grid0.Coords) : BitVec 32 :=
  let c10400_i32 : BitVec 32 := 10400#32
  let arg0 : BitVec 32 := BitVec.ofNat 32 (i 0).val
  let c512_i32 : BitVec 32 := 512#32
  let v0 : BitVec 32 := Scalar.muli arg0 c512_i32
  let v1 : BitVec 32 := Scalar.addi c10400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4256_i32 : BitVec 32 := 4256#32
  let v1 : BitVec 32 := Scalar.addi c4256_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6304_i32 : BitVec 32 := 6304#32
  let v1 : BitVec 32 := Scalar.addi c6304_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8352_i32 : BitVec 32 := 8352#32
  let v1 : BitVec 32 := Scalar.addi c8352_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c10400_i32 : BitVec 32 := 10400#32
  let v1 : BitVec 32 := Scalar.addi c10400_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x2048x2048 : Shape := ⟨3, ![4, 2048, 2048]⟩
abbrev S4x2048x12448 : Shape := ⟨3, ![4, 2048, 12448]⟩
abbrev S4x2048x512 : Shape := ⟨3, ![4, 2048, 512]⟩
abbrev S4x4x512x2048 : Shape := ⟨4, ![4, 4, 512, 2048]⟩
abbrev S1x2048x12448 : Shape := ⟨3, ![1, 2048, 12448]⟩
abbrev S2048x12448 : Shape := ⟨2, ![2048, 12448]⟩
abbrev S4x2048x8192 : Shape := ⟨3, ![4, 2048, 8192]⟩
abbrev S4x2048x1x512 : Shape := ⟨4, ![4, 2048, 1, 512]⟩
abbrev S4x2048x4x512 : Shape := ⟨4, ![4, 2048, 4, 512]⟩
abbrev S1x4x512x2048 : Shape := ⟨4, ![1, 4, 512, 2048]⟩
abbrev S4x512x2048 : Shape := ⟨3, ![4, 512, 2048]⟩
abbrev S4x2048x4x2048 : Shape := ⟨4, ![4, 2048, 4, 2048]⟩
abbrev S_ : Shape := ⟨0, ![]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S4x2048x512, .bf16⟩
  | .hbm, ⟨3, _⟩ => ⟨S4x2048x512, .bf16⟩
  | .hbm, ⟨4, _⟩ => ⟨S4x2048x512, .bf16⟩
  | .hbm, ⟨5, _⟩ => ⟨S4x2048x512, .bf16⟩
  | .hbm, ⟨6, _⟩ => ⟨S4x4x512x2048, .f32⟩
  | .hbm, ⟨7, _⟩ => ⟨S4x2048x2048, .f32⟩
  | .hbm, ⟨8, _⟩ => ⟨S1x2048x12448, .f32⟩
  | .hbm, ⟨9, _⟩ => ⟨S2048x12448, .f32⟩
  | .hbm, ⟨10, _⟩ => ⟨S4x2048x12448, .f32⟩
  | .hbm, ⟨11, _⟩ => ⟨S4x2048x8192, .f32⟩
  | .hbm, ⟨12, _⟩ => ⟨S4x2048x1x512, .bf16⟩
  | .hbm, ⟨13, _⟩ => ⟨S4x2048x1x512, .bf16⟩
  | .hbm, ⟨14, _⟩ => ⟨S4x2048x1x512, .bf16⟩
  | .hbm, ⟨15, _⟩ => ⟨S4x2048x1x512, .bf16⟩
  | .hbm, ⟨16, _⟩ => ⟨S4x2048x4x512, .bf16⟩
  | .hbm, ⟨17, _⟩ => ⟨S4x2048x4x512, .f32⟩
  | .hbm, ⟨18, _⟩ => ⟨S1x4x512x2048, .f32⟩
  | .hbm, ⟨19, _⟩ => ⟨S4x512x2048, .f32⟩
  | .hbm, ⟨20, _⟩ => ⟨S4x2048x4x2048, .f32⟩
  | .hbm, ⟨21, _⟩ => ⟨S4x2048x4x2048, .f32⟩
  | .hbm, ⟨22, _⟩ => ⟨S4x2048x4x2048, .f32⟩
  | .hbm, ⟨23, _⟩ => ⟨S4x2048x4x2048, .f32⟩
  | .hbm, ⟨24, _⟩ => ⟨S4x2048x4x2048, .f32⟩
  | .hbm, ⟨25, _⟩ => ⟨S_, .f32⟩
  | .hbm, ⟨26, _⟩ => ⟨S4x2048x4x2048, .f32⟩
  | .hbm, ⟨27, _⟩ => ⟨S4x2048x4x2048, .f32⟩
  | .hbm, ⟨28, _⟩ => ⟨S_, .f32⟩
  | .hbm, ⟨29, _⟩ => ⟨S4x2048x4x2048, .f32⟩
  | .hbm, ⟨30, _⟩ => ⟨S4x2048x4x2048, .f32⟩
  | .hbm, ⟨31, _⟩ => ⟨S4x2048x2048, .f32⟩
  | .hbm, ⟨32, _⟩ => ⟨S4x2048x2048, .bf16⟩
  | .hbm, ⟨33, _⟩ => ⟨S8192x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S16x1024x2048 : Shape := ⟨3, ![16, 1024, 2048]⟩
abbrev S4x16x256x1 : Shape := ⟨4, ![4, 16, 256, 1]⟩
abbrev S16x128x2048 : Shape := ⟨3, ![16, 128, 2048]⟩
abbrev S4x16x32x1 : Shape := ⟨4, ![4, 16, 32, 1]⟩
abbrev S4x16x2048x1024 : Shape := ⟨4, ![4, 16, 2048, 1024]⟩
abbrev S4x16x1024x2048 : Shape := ⟨4, ![4, 16, 1024, 2048]⟩
abbrev S4x16x256x2048 : Shape := ⟨4, ![4, 16, 256, 2048]⟩
abbrev S4x16x32x2048 : Shape := ⟨4, ![4, 16, 32, 2048]⟩
abbrev S1x1024x2048 : Shape := ⟨3, ![1, 1024, 2048]⟩
abbrev S1x128x2048 : Shape := ⟨3, ![1, 128, 2048]⟩
abbrev S4x1x256x1 : Shape := ⟨4, ![4, 1, 256, 1]⟩
abbrev S4x1x32x1 : Shape := ⟨4, ![4, 1, 32, 1]⟩
abbrev S1x1x2048x256 : Shape := ⟨4, ![1, 1, 2048, 256]⟩
abbrev S1x1x256x2048 : Shape := ⟨4, ![1, 1, 256, 2048]⟩
abbrev S4x1x256x2048 : Shape := ⟨4, ![4, 1, 256, 2048]⟩
abbrev S4x1x32x2048 : Shape := ⟨4, ![4, 1, 32, 2048]⟩
abbrev S1024x2048 : Shape := ⟨2, ![1024, 2048]⟩
abbrev S128x2048 : Shape := ⟨2, ![128, 2048]⟩
abbrev S2048x256 : Shape := ⟨2, ![2048, 256]⟩
abbrev S256x2048 : Shape := ⟨2, ![256, 2048]⟩
abbrev S1x512x2048 : Shape := ⟨3, ![1, 512, 2048]⟩
abbrev S512x2048 : Shape := ⟨2, ![512, 2048]⟩
abbrev S512x256 : Shape := ⟨2, ![512, 256]⟩
abbrev S1x1x256x1 : Shape := ⟨4, ![1, 1, 256, 1]⟩
abbrev S256x1 : Shape := ⟨2, ![256, 1]⟩
abbrev S128x256 : Shape := ⟨2, ![128, 256]⟩
abbrev S32x2048 : Shape := ⟨2, ![32, 2048]⟩
abbrev S1x1x32x1 : Shape := ⟨4, ![1, 1, 32, 1]⟩
abbrev S32x1 : Shape := ⟨2, ![32, 1]⟩
abbrev S1x1x32x2048 : Shape := ⟨4, ![1, 1, 32, 2048]⟩

abbrev nBuf : Space → Nat
  | .hbm => 9
  | .vmem => 20
  | .smem => 0
  | _ => 0

abbrev bufTy : (tb : Table) → Fin (tcTables nBuf tb) → BufTy
  | .hbm, ⟨0, _⟩ => ⟨S16x1024x2048, .bf16⟩
  | .hbm, ⟨1, _⟩ => ⟨S4x16x256x1, .f32⟩
  | .hbm, ⟨2, _⟩ => ⟨S16x128x2048, .bf16⟩
  | .hbm, ⟨3, _⟩ => ⟨S4x16x32x1, .f32⟩
  | .hbm, ⟨4, _⟩ => ⟨S4x16x2048x1024, .f32⟩
  | .hbm, ⟨5, _⟩ => ⟨S4x16x2048x1024, .f32⟩
  | .hbm, ⟨6, _⟩ => ⟨S4x16x1024x2048, .f32⟩
  | .hbm, ⟨7, _⟩ => ⟨S4x16x256x2048, .bf16⟩
  | .hbm, ⟨8, _⟩ => ⟨S4x16x32x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S4x1x256x1, .f32⟩
  | .local _ .vmem, ⟨5, _⟩ => ⟨S4x1x256x1, .f32⟩
  | .local _ .vmem, ⟨6, _⟩ => ⟨S4x1x32x1, .f32⟩
  | .local _ .vmem, ⟨7, _⟩ => ⟨S4x1x32x1, .f32⟩
  | .local _ .vmem, ⟨8, _⟩ => ⟨S1x1x2048x256, .f32⟩
  | .local _ .vmem, ⟨9, _⟩ => ⟨S1x1x2048x256, .f32⟩
  | .local _ .vmem, ⟨10, _⟩ => ⟨S1x1x2048x256, .f32⟩
  | .local _ .vmem, ⟨11, _⟩ => ⟨S1x1x2048x256, .f32⟩
  | .local _ .vmem, ⟨12, _⟩ => ⟨S1x1x256x2048, .f32⟩
  | .local _ .vmem, ⟨13, _⟩ => ⟨S1x1x256x2048, .f32⟩
  | .local _ .vmem, ⟨14, _⟩ => ⟨S4x1x256x2048, .bf16⟩
  | .local _ .vmem, ⟨15, _⟩ => ⟨S4x1x256x2048, .bf16⟩
  | .local _ .vmem, ⟨16, _⟩ => ⟨S4x1x32x2048, .bf16⟩
  | .local _ .vmem, ⟨17, _⟩ => ⟨S4x1x32x2048, .bf16⟩
  | .local _ .vmem, ⟨18, _⟩ => ⟨S1024x2048, .f32⟩
  | .local _ .vmem, ⟨19, _⟩ => ⟨S128x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_33 : BitVec 32 := 0#32
  let v48 : BitVec 1 := Scalar.cmpi .ne v47 c0_i32_33
  v48

def k0_cond3 (i : grid0.Coords) : BitVec 1 :=
  let arg1 : BitVec 32 := BitVec.ofNat 32 (i 1).val
  let c3_i32_45 : BitVec 32 := 3#32
  let v65 : BitVec 1 := Scalar.cmpi .eq arg1 c3_i32_45
  let v66 : BitVec 32 := Scalar.extui v65
  let c0_i32_46 : BitVec 32 := 0#32
  let v67 : BitVec 1 := Scalar.cmpi .ne v66 c0_i32_46
  v67

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x1x32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16x1024x2048 : Shape := ⟨3, ![16, 1024, 2048]⟩
abbrev S4x16x256x1 : Shape := ⟨4, ![4, 16, 256, 1]⟩
abbrev S16x128x2048 : Shape := ⟨3, ![16, 128, 2048]⟩
abbrev S4x16x32x1 : Shape := ⟨4, ![4, 16, 32, 1]⟩
abbrev S4x16x2048x1024 : Shape := ⟨4, ![4, 16, 2048, 1024]⟩
abbrev S4x16x1024x2048 : Shape := ⟨4, ![4, 16, 1024, 2048]⟩
abbrev S16x4x256x2048 : Shape := ⟨4, ![16, 4, 256, 2048]⟩
abbrev S1x16x2048x1024 : Shape := ⟨4, ![1, 16, 2048, 1024]⟩
abbrev S16x2048x1024 : Shape := ⟨3, ![16, 2048, 1024]⟩
abbrev S16x4x256x1024 : Shape := ⟨4, ![16, 4, 256, 1024]⟩
abbrev S_ : Shape := ⟨0, ![]⟩
abbrev S1x16x1024x2048 : Shape := ⟨4, ![1, 16, 1024, 2048]⟩
abbrev S16x2048x4x256 : Shape := ⟨4, ![16, 2048, 4, 256]⟩
abbrev S4x16x256x2048 : Shape := ⟨4, ![4, 16, 256, 2048]⟩
abbrev S16x4x32x2048 : Shape := ⟨4, ![16, 4, 32, 2048]⟩
abbrev S16x4x32x1024 : Shape := ⟨4, ![16, 4, 32, 1024]⟩
abbrev S16x2048x4x32 : Shape := ⟨4, ![16, 2048, 4, 32]⟩
abbrev S4x16x32x2048 : Shape := ⟨4, ![4, 16, 32, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S4x16x256x1, .f32⟩
  | .hbm, ⟨2, _⟩ => ⟨S16x128x2048, .bf16⟩
  | .hbm, ⟨3, _⟩ => ⟨S4x16x32x1, .f32⟩
  | .hbm, ⟨4, _⟩ => ⟨S4x16x2048x1024, .f32⟩
  | .hbm, ⟨5, _⟩ => ⟨S4x16x2048x1024, .f32⟩
  | .hbm, ⟨6, _⟩ => ⟨S4x16x1024x2048, .f32⟩
  | .hbm, ⟨7, _⟩ => ⟨S16x1024x2048, .f32⟩
  | .hbm, ⟨8, _⟩ => ⟨S16x4x256x2048, .f32⟩
  | .hbm, ⟨9, _⟩ => ⟨S1x16x2048x1024, .f32⟩
  | .hbm, ⟨10, _⟩ => ⟨S16x2048x1024, .f32⟩
  | .hbm, ⟨11, _⟩ => ⟨S16x4x256x1024, .f32⟩
  | .hbm, ⟨12, _⟩ => ⟨S16x4x256x1024, .f32⟩
  | .hbm, ⟨13, _⟩ => ⟨S16x4x256x1024, .f32⟩
  | .hbm, ⟨14, _⟩ => ⟨S_, .f32⟩
  | .hbm, ⟨15, _⟩ => ⟨S16x4x256x1024, .f32⟩
  | .hbm, ⟨16, _⟩ => ⟨S16x4x256x1024, .f32⟩
  | .hbm, ⟨17, _⟩ => ⟨S_, .f32⟩
  | .hbm, ⟨18, _⟩ => ⟨S16x4x256x1024, .f32⟩
  | .hbm, ⟨19, _⟩ => ⟨S16x4x256x1024, .f32⟩
  | .hbm, ⟨20, _⟩ => ⟨S16x4x256x1024, .f32⟩
  | .hbm, ⟨21, _⟩ => ⟨S1x16x2048x1024, .f32⟩
  | .hbm, ⟨22, _⟩ => ⟨S16x2048x1024, .f32⟩
  | .hbm, ⟨23, _⟩ => ⟨S16x4x256x1024, .f32⟩
  | .hbm, ⟨24, _⟩ => ⟨S16x4x256x1024, .f32⟩
  | .hbm, ⟨25, _⟩ => ⟨S1x16x1024x2048, .f32⟩
  | .hbm, ⟨26, _⟩ => ⟨S16x1024x2048, .f32⟩
  | .hbm, ⟨27, _⟩ => ⟨S16x2048x4x256, .f32⟩
  | .hbm, ⟨28, _⟩ => ⟨S4x16x256x2048, .f32⟩
  | .hbm, ⟨29, _⟩ => ⟨S4x16x256x2048, .f32⟩
  | .hbm, ⟨30, _⟩ => ⟨S4x16x256x2048, .f32⟩
  | .hbm, ⟨31, _⟩ => ⟨S4x16x256x2048, .bf16⟩
  | .hbm, ⟨32, _⟩ => ⟨S16x128x2048, .f32⟩
  | .hbm, ⟨33, _⟩ => ⟨S16x4x32x2048, .f32⟩
  | .hbm, ⟨34, _⟩ => ⟨S1x16x2048x1024, .f32⟩
  | .hbm, ⟨35, _⟩ => ⟨S16x2048x1024, .f32⟩
  | .hbm, ⟨36, _⟩ => ⟨S16x4x32x1024, .f32⟩
  | .hbm, ⟨37, _⟩ => ⟨S16x4x32x1024, .f32⟩
  | .hbm, ⟨38, _⟩ => ⟨S16x4x32x1024, .f32⟩
  | .hbm, ⟨39, _⟩ => ⟨S_, .f32⟩
  | .hbm, ⟨40, _⟩ => ⟨S16x4x32x1024, .f32⟩
  | .hbm, ⟨41, _⟩ => ⟨S16x4x32x1024, .f32⟩
  | .hbm, ⟨42, _⟩ => ⟨S_, .f32⟩
  | .hbm, ⟨43, _⟩ => ⟨S16x4x32x1024, .f32⟩
  | .hbm, ⟨44, _⟩ => ⟨S16x4x32x1024, .f32⟩
  | .hbm, ⟨45, _⟩ => ⟨S16x4x32x1024, .f32⟩
  | .hbm, ⟨46, _⟩ => ⟨S1x16x2048x1024, .f32⟩
  | .hbm, ⟨47, _⟩ => ⟨S16x2048x1024, .f32⟩
  | .hbm, ⟨48, _⟩ => ⟨S16x4x32x1024, .f32⟩
  | .hbm, ⟨49, _⟩ => ⟨S16x4x32x1024, .f32⟩
  | .hbm, ⟨50, _⟩ => ⟨S1x16x1024x2048, .f32⟩
  | .hbm, ⟨51, _⟩ => ⟨S16x1024x2048, .f32⟩
  | .hbm, ⟨52, _⟩ => ⟨S16x2048x4x32, .f32⟩
  | .hbm, ⟨53, _⟩ => ⟨S4x16x32x2048, .f32⟩
  | .hbm, ⟨54, _⟩ => ⟨S4x16x32x2048, .f32⟩
  | .hbm, ⟨55, _⟩ => ⟨S4x16x32x2048, .f32⟩
  | .hbm, ⟨56, _⟩ => ⟨S4x16x32x2048, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]
-- ==== Kernel4.lean ====
abbrev S4x2048x128 : Shape := ⟨3, ![4, 2048, 128]⟩
abbrev S4x16x256 : Shape := ⟨3, ![4, 16, 256]⟩
abbrev S4x16x256x2048 : Shape := ⟨4, ![4, 16, 256, 2048]⟩
abbrev S4x2048x2048 : Shape := ⟨3, ![4, 2048, 2048]⟩
abbrev S4x1x2048 : Shape := ⟨3, ![4, 1, 2048]⟩
abbrev S2048 : Shape := ⟨1, ![2048]⟩
abbrev S_ : Shape := ⟨0, ![]⟩
abbrev S4x4096x2048 : Shape := ⟨3, ![4, 4096, 2048]⟩
abbrev S1x2048 : Shape := ⟨2, ![1, 2048]⟩
abbrev S1x512x128 : Shape := ⟨3, ![1, 512, 128]⟩
abbrev S1x2048x2048 : Shape := ⟨3, ![1, 2048, 2048]⟩
abbrev S1x512x2048 : Shape := ⟨3, ![1, 512, 2048]⟩
abbrev S1x1x2048 : Shape := ⟨3, ![1, 1, 2048]⟩
abbrev S512x2048 : Shape := ⟨2, ![512, 2048]⟩
abbrev S512x128 : Shape := ⟨2, ![512, 128]⟩
abbrev S128x1024 : Shape := ⟨2, ![128, 1024]⟩
abbrev S512x1024 : Shape := ⟨2, ![512, 1024]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x128, .f32⟩
  | .hbm, ⟨1, _⟩ => ⟨S4x16x256, .i32⟩
  | .hbm, ⟨2, _⟩ => ⟨S4x16x256x2048, .bf16⟩
  | .hbm, ⟨3, _⟩ => ⟨S4x2048x2048, .f32⟩
  | .hbm, ⟨4, _⟩ => ⟨S4x1x2048, .f32⟩
  | .hbm, ⟨5, _⟩ => ⟨S2048, .f32⟩
  | .hbm, ⟨6, _⟩ => ⟨S_, .f32⟩
  | .hbm, ⟨7, _⟩ => ⟨S4x1x2048, .f32⟩
  | .hbm, ⟨8, _⟩ => ⟨S4x4096x2048, .bf16⟩
  | .hbm, ⟨9, _⟩ => ⟨S1x2048, .f32⟩
  | .hbm, ⟨10, _⟩ => ⟨S4x2048x2048, .f32⟩
  | .hbm, ⟨11, _⟩ => ⟨S4x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .f32⟩
  | .local _ .vmem, ⟨16, _⟩ => ⟨S1x512x2048, .f32⟩
  | .local _ .vmem, ⟨17, _⟩ => ⟨S512x2048, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32_58 : BitVec 32 := 1#32
  let v172 : BitVec 1 := Scalar.cmpi .eq arg2 c1_i32_58
  let v173 : BitVec 32 := Scalar.extui v172
  let c0_i32_59 : BitVec 32 := 0#32
  let v174 : BitVec 1 := Scalar.cmpi .ne v173 c0_i32_59
  v174

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference4Ideal.lean ====
abbrev S4x2048x128 : Shape := ⟨3, ![4, 2048, 128]⟩
abbrev S4x16x256 : Shape := ⟨3, ![4, 16, 256]⟩
abbrev S4x16x256x2048 : Shape := ⟨4, ![4, 16, 256, 2048]⟩
abbrev S4x2048x2048 : Shape := ⟨3, ![4, 2048, 2048]⟩
abbrev S4x1x2048 : Shape := ⟨3, ![4, 1, 2048]⟩
abbrev S2048 : Shape := ⟨1, ![2048]⟩
abbrev S4 : Shape := ⟨1, ![4]⟩
abbrev S4x1x1 : Shape := ⟨3, ![4, 1, 1]⟩
abbrev S_ : Shape := ⟨0, ![]⟩
abbrev S4x16x256x1 : Shape := ⟨4, ![4, 16, 256, 1]⟩
abbrev S4x16x256x2 : Shape := ⟨4, ![4, 16, 256, 2]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x16x256, .i32⟩
  | .hbm, ⟨2, _⟩ => ⟨S4x16x256x2048, .bf16⟩
  | .hbm, ⟨3, _⟩ => ⟨S4x2048x2048, .f32⟩
  | .hbm, ⟨4, _⟩ => ⟨S4x1x2048, .f32⟩
  | .hbm, ⟨5, _⟩ => ⟨S2048, .f32⟩
  | .hbm, ⟨6, _⟩ => ⟨S4, .i32⟩
  | .hbm, ⟨7, _⟩ => ⟨S4x1x1, .i32⟩
  | .hbm, ⟨8, _⟩ => ⟨S_, .f32⟩
  | .hbm, ⟨9, _⟩ => ⟨S4x2048x2048, .f32⟩
  | .hbm, ⟨10, _⟩ => ⟨S4x16x256x2048, .f32⟩
  | .hbm, ⟨11, _⟩ => ⟨S_, .i32⟩
  | .hbm, ⟨12, _⟩ => ⟨S4x1x1, .i32⟩
  | .hbm, ⟨13, _⟩ => ⟨S4x1x1, .i1⟩
  | .hbm, ⟨14, _⟩ => ⟨S_, .i32⟩
  | .hbm, ⟨15, _⟩ => ⟨S4x1x1, .i32⟩
  | .hbm, ⟨16, _⟩ => ⟨S4x1x1, .i32⟩
  | .hbm, ⟨17, _⟩ => ⟨S4x1x1, .i32⟩
  | .hbm, ⟨18, _⟩ => ⟨S_, .i32⟩
  | .hbm, ⟨19, _⟩ => ⟨S4x16x256, .i32⟩
  | .hbm, ⟨20, _⟩ => ⟨S4x16x256, .i1⟩
  | .hbm, ⟨21, _⟩ => ⟨S_, .i32⟩
  | .hbm, ⟨22, _⟩ => ⟨S4x16x256, .i32⟩
  | .hbm, ⟨23, _⟩ => ⟨S4x16x256, .i32⟩
  | .hbm, ⟨24, _⟩ => ⟨S4x16x256, .i32⟩
  | .hbm, ⟨25, _⟩ => ⟨S4x16x256, .i32⟩
  | .hbm, ⟨26, _⟩ => ⟨S4x16x256x1, .i32⟩
  | .hbm, ⟨27, _⟩ => ⟨S4x16x256x1, .i32⟩
  | .hbm, ⟨28, _⟩ => ⟨S4x16x256x2, .i32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x2048x12448 : Shape := ⟨3, ![4, 2048, 12448]⟩
abbrev S8192x2048 : Shape := ⟨2, ![8192, 2048]⟩
abbrev S4x12448x2048 : Shape := ⟨3, ![4, 12448, 2048]⟩
abbrev S8192x1536 : Shape := ⟨2, ![8192, 1536]⟩
abbrev S1024x2048 : Shape := ⟨2, ![1024, 2048]⟩
abbrev S1x768x2048 : Shape := ⟨3, ![1, 768, 2048]⟩
abbrev S1024x768 : Shape := ⟨2, ![1024, 768]⟩
abbrev S768x2048 : Shape := ⟨2, ![768, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S8192x2048, .bf16⟩
  | .hbm, ⟨3, _⟩ => ⟨S4x12448x2048, .f32⟩
  | .hbm, ⟨4, _⟩ => ⟨S8192x1536, .f32⟩
  | .local _ .vmem, ⟨0, _⟩ => ⟨S1024x2048, .bf16⟩
  | .local _ .vmem, ⟨1, _⟩ => ⟨S1024x2048, .bf16⟩
  | .local _ .vmem, ⟨2, _⟩ => ⟨S1x768x2048, .f32⟩
  | .local _ .vmem, ⟨3, _⟩ => ⟨S1x768x2048, .f32⟩
  | .local _ .vmem, ⟨4, _⟩ => ⟨S1024x768, .f32⟩
  | .local _ .vmem, ⟨5, _⟩ => ⟨S1024x768, .f32⟩
  | .local _ .vmem, ⟨6, _⟩ => ⟨S768x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c1696_i32 : BitVec 32 := 1696#32
  let arg0 : BitVec 32 := BitVec.ofNat 32 (i 0).val
  let c768_i32 : BitVec 32 := 768#32
  let v0 : BitVec 32 := Scalar.muli arg0 c768_i32
  let v1 : BitVec 32 := Scalar.addi c1696_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c1696_i32 : BitVec 32 := 1696#32
  let v1 : BitVec 32 := Scalar.addi c1696_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x2048 : Shape := ⟨3, ![4, 2048, 2048]⟩
abbrev S4x2048x12448 : Shape := ⟨3, ![4, 2048, 12448]⟩
abbrev S1x2048x12448 : Shape := ⟨3, ![1, 2048, 12448]⟩
abbrev S2048x12448 : Shape := ⟨2, ![2048, 12448]⟩
abbrev S4x2048x1536 : Shape := ⟨3, ![4, 2048, 1536]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S4x2048x2048, .f32⟩
  | .hbm, ⟨3, _⟩ => ⟨S1x2048x12448, .f32⟩
  | .hbm, ⟨4, _⟩ => ⟨S2048x12448, .f32⟩
  | .hbm, ⟨5, _⟩ => ⟨S4x2048x12448, .f32⟩
  | .hbm, ⟨6, _⟩ => ⟨S4x2048x1536, .f32⟩
  | .hbm, ⟨7, _⟩ => ⟨S8192x1536, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S4x2048x2048 : Shape := ⟨3, ![4, 2048, 2048]⟩
abbrev S4x2048x12448 : Shape := ⟨3, ![4, 2048, 12448]⟩
abbrev S8192x2048 : Shape := ⟨2, ![8192, 2048]⟩
abbrev S4x12448x2048 : Shape := ⟨3, ![4, 12448, 2048]⟩
abbrev S8192x1024 : Shape := ⟨2, ![8192, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S8192x2048, .bf16⟩
  | .hbm, ⟨3, _⟩ => ⟨S4x12448x2048, .f32⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c3232_i32 : BitVec 32 := 3232#32
  let arg0 : BitVec 32 := BitVec.ofNat 32 (i 0).val
  let c1024_i32 : BitVec 32 := 1024#32
  let v0 : BitVec 32 := Scalar.muli arg0 c1024_i32
  let v1 : BitVec 32 := Scalar.addi c3232_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c3232_i32 : BitVec 32 := 3232#32
  let v1 : BitVec 32 := Scalar.addi c3232_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2048x2048 : Shape := ⟨3, ![4, 2048, 2048]⟩
abbrev S4x2048x12448 : Shape := ⟨3, ![4, 2048, 12448]⟩
abbrev S1x2048x12448 : Shape := ⟨3, ![1, 2048, 12448]⟩
abbrev S2048x12448 : Shape := ⟨2, ![2048, 12448]⟩
abbrev S4x2048x1024 : Shape := ⟨3, ![4, 2048, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S4x2048x2048, .f32⟩
  | .hbm, ⟨3, _⟩ => ⟨S1x2048x12448, .f32⟩
  | .hbm, ⟨4, _⟩ => ⟨S2048x12448, .f32⟩
  | .hbm, ⟨5, _⟩ => ⟨S4x2048x12448, .f32⟩
  | .hbm, ⟨6, _⟩ => ⟨S4x2048x1024, .f32⟩
  | .hbm, ⟨7, _⟩ => ⟨S8192x1024, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4x2048x4x96 : Shape := ⟨4, ![4, 2048, 4, 96]⟩
abbrev S4x2048x512 : Shape := ⟨3, ![4, 2048, 512]⟩
abbrev S4x256x4x96 : Shape := ⟨4, ![4, 256, 4, 96]⟩
abbrev S4x256x512 : Shape := ⟨3, ![4, 256, 512]⟩
abbrev S_ : Shape := ⟨0, ![]⟩
abbrev S4x2048x4x128 : Shape := ⟨4, ![4, 2048, 4, 128]⟩
abbrev S4x256x4x128 : Shape := ⟨4, ![4, 256, 4, 128]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S4x2048x4x96, .bf16⟩
  | .hbm, ⟨1, _⟩ => ⟨S4x2048x4x96, .bf16⟩
  | .hbm, ⟨2, _⟩ => ⟨S4x2048x512, .bf16⟩
  | .hbm, ⟨3, _⟩ => ⟨S4x256x4x96, .bf16⟩
  | .hbm, ⟨4, _⟩ => ⟨S4x256x512, .bf16⟩
  | .hbm, ⟨5, _⟩ => ⟨S_, .i32⟩
  | .hbm, ⟨6, _⟩ => ⟨S_, .bf16⟩
  | .hbm, ⟨7, _⟩ => ⟨S4x2048x4x128, .bf16⟩
  | .hbm, ⟨8, _⟩ => ⟨S4x2048x512, .bf16⟩
  | .hbm, ⟨9, _⟩ => ⟨S_, .i32⟩
  | .hbm, ⟨10, _⟩ => ⟨S_, .bf16⟩
  | .hbm, ⟨11, _⟩ => ⟨S4x2048x4x128, .bf16⟩
  | .hbm, ⟨12, _⟩ => ⟨S4x2048x512, .bf16⟩
  | .hbm, ⟨13, _⟩ => ⟨S_, .i32⟩
  | .hbm, ⟨14, _⟩ => ⟨S_, .bf16⟩
  | .hbm, ⟨15, _⟩ => ⟨S4x256x4x128, .bf16⟩
  | .hbm, ⟨16, _⟩ => ⟨S4x256x512, .bf16⟩
  | .hbm, ⟨17, _⟩ => ⟨S4x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | _, _ => ⟨S4x2048x4x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel7Ideal.lean ====
variable {F : FTy → Type} [FloatOps F] [Named F]
def κ : String → Option EReal := fun
  | "scale_log2e" => some (((Real.sqrt 96)⁻¹ * (Real.log 2)⁻¹ : ℝ) : EReal)
  | _ => none
-- ==== Reference7Ideal.lean ====
abbrev S4x2048x4x96 : Shape := ⟨4, ![4, 2048, 4, 96]⟩
abbrev S4x2048x512 : Shape := ⟨3, ![4, 2048, 512]⟩
abbrev S4x256x4x96 : Shape := ⟨4, ![4, 256, 4, 96]⟩
abbrev S4x256x512 : Shape := ⟨3, ![4, 256, 512]⟩
abbrev S4x2304x4x96 : Shape := ⟨4, ![4, 2304, 4, 96]⟩
abbrev S4x2048x4x128 : Shape := ⟨4, ![4, 2048, 4, 128]⟩
abbrev S4x256x4x128 : Shape := ⟨4, ![4, 256, 4, 128]⟩
abbrev S4x2304x4x128 : Shape := ⟨4, ![4, 2304, 4, 128]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4x96, .bf16⟩
  | .hbm, ⟨1, _⟩ => ⟨S4x2048x4x96, .bf16⟩
  | .hbm, ⟨2, _⟩ => ⟨S4x2048x512, .bf16⟩
  | .hbm, ⟨3, _⟩ => ⟨S4x256x4x96, .bf16⟩
  | .hbm, ⟨4, _⟩ => ⟨S4x256x512, .bf16⟩
  | .hbm, ⟨5, _⟩ => ⟨S4x2048x4x96, .f32⟩
  | .hbm, ⟨6, _⟩ => ⟨S4x256x4x96, .f32⟩
  | .hbm, ⟨7, _⟩ => ⟨S4x2304x4x96, .f32⟩
  | .hbm, ⟨8, _⟩ => ⟨S4x2048x512, .f32⟩
  | .hbm, ⟨9, _⟩ => ⟨S4x2048x4x128, .f32⟩
  | .hbm, ⟨10, _⟩ => ⟨S4x256x512, .f32⟩
  | .hbm, ⟨11, _⟩ => ⟨S4x256x4x128, .f32⟩
  | .hbm, ⟨12, _⟩ => ⟨S4x2304x4x128, .f32⟩
  | .hbm, ⟨13, _⟩ => ⟨S4x2048x4x96, .f32⟩
  | .hbm, ⟨14, _⟩ => ⟨S4x4x2048x2304, .f32⟩
  | .hbm, ⟨15, _⟩ => ⟨S_, .f32⟩
  | .hbm, ⟨16, _⟩ => ⟨S_, .f32⟩
  | .hbm, ⟨17, _⟩ => ⟨S4x4x2048x2304, .f32⟩
  | .hbm, ⟨18, _⟩ => ⟨S4x4x2048x2304, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S4x4x2048x1, .f32⟩
  | .hbm, ⟨25, _⟩ => ⟨S4x4x2048x2304, .f32⟩
  | .hbm, ⟨26, _⟩ => ⟨S4x4x2048x2304, .f32⟩
  | .hbm, ⟨27, _⟩ => ⟨S4x4x2048x2304, .f32⟩
  | .hbm, ⟨28, _⟩ => ⟨S_, .f32⟩
  | .hbm, ⟨29, _⟩ => ⟨S4x4x2048, .f32⟩
  | .hbm, ⟨30, _⟩ => ⟨S4x4x2048x1, .f32⟩
  | .hbm, ⟨31, _⟩ => ⟨S4x4x2048x2304, .f32⟩
  | .hbm, ⟨32, _⟩ => ⟨S4x4x2048x2304, .f32⟩
  | .hbm, ⟨33, _⟩ => ⟨S4x4x128x2048, .f32⟩
  | .hbm, ⟨34, _⟩ => ⟨S4x2048x4x128, .f32⟩
  | .hbm, ⟨35, _⟩ => ⟨S4x2048x512, .f32⟩
  | .hbm, ⟨36, _⟩ => ⟨S4x2048x512, .bf16⟩
  | _, _ => ⟨S4x2048x4x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel8.lean ====
abbrev S4x2048x2048 : Shape := ⟨3, ![4, 2048, 2048]⟩
abbrev S4x1x2048 : Shape := ⟨3, ![4, 1, 2048]⟩
abbrev S4x2048 : Shape := ⟨2, ![4, 2048]⟩
abbrev S4x2048x16 : Shape := ⟨3, ![4, 2048, 16]⟩
abbrev S1x2048 : Shape := ⟨2, ![1, 2048]⟩
abbrev S2048 : Shape := ⟨1, ![2048]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S4x2048x128 : Shape := ⟨3, ![4, 2048, 128]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1x512x128 : Shape := ⟨3, ![1, 512, 128]⟩
abbrev S1x256x2048 : Shape := ⟨3, ![1, 256, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 21
  | .vmem => 19
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S4x2048x2048, .f32⟩
  | .hbm, ⟨3, _⟩ => ⟨S4x1x2048, .f32⟩
  | .hbm, ⟨4, _⟩ => ⟨S4x2048, .f32⟩
  | .hbm, ⟨5, _⟩ => ⟨S4x1x2048, .f32⟩
  | .hbm, ⟨6, _⟩ => ⟨S4x1x2048, .f32⟩
  | .hbm, ⟨7, _⟩ => ⟨S4x2048x16, .f32⟩
  | .hbm, ⟨8, _⟩ => ⟨S4x2048x2048, .bf16⟩
  | .hbm, ⟨9, _⟩ => ⟨S1x2048, .f32⟩
  | .hbm, ⟨10, _⟩ => ⟨S2048, .f32⟩
  | .hbm, ⟨11, _⟩ => ⟨S1x2048x16, .f32⟩
  | .hbm, ⟨12, _⟩ => ⟨S2048x16, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S1x2048, .f32⟩
  | .hbm, ⟨17, _⟩ => ⟨S4x2048x2048, .f32⟩
  | .hbm, ⟨18, _⟩ => ⟨S4x2048x2048, .bf16⟩
  | .hbm, ⟨19, _⟩ => ⟨S4x2048x128, .f32⟩
  | .hbm, ⟨20, _⟩ => ⟨S4x2048x16, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x128, .f32⟩
  | .local _ .vmem, ⟨13, _⟩ => ⟨S1x512x2048, .f32⟩
  | .local _ .vmem, ⟨14, _⟩ => ⟨S1x512x2048, .f32⟩
  | .local _ .vmem, ⟨15, _⟩ => ⟨S1x512x2048, .bf16⟩
  | .local _ .vmem, ⟨16, _⟩ => ⟨S1x512x2048, .bf16⟩
  | .local _ .vmem, ⟨17, _⟩ => ⟨S1x512x128, .f32⟩
  | .local _ .vmem, ⟨18, _⟩ => ⟨S1x512x128, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S4x2048x2048 : Shape := ⟨3, ![4, 2048, 2048]⟩
abbrev S4x1x2048 : Shape := ⟨3, ![4, 1, 2048]⟩
abbrev S4x2048 : Shape := ⟨2, ![4, 2048]⟩
abbrev S4x2048x16 : Shape := ⟨3, ![4, 2048, 16]⟩
abbrev S1x2048x2048 : Shape := ⟨3, ![1, 2048, 2048]⟩
abbrev S2048x2048 : Shape := ⟨2, ![2048, 2048]⟩
abbrev S_ : Shape := ⟨0, ![]⟩
abbrev S4x2048x1 : Shape := ⟨3, ![4, 2048, 1]⟩
abbrev S1x2048 : Shape := ⟨2, ![1, 2048]⟩
abbrev S2048 : Shape := ⟨1, ![2048]⟩
abbrev S1x1x2048 : Shape := ⟨3, ![1, 1, 2048]⟩
abbrev S1x2048x16 : Shape := ⟨3, ![1, 2048, 16]⟩
abbrev S2048x16 : Shape := ⟨2, ![2048, 16]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .f32⟩
  | .hbm, ⟨2, _⟩ => ⟨S4x2048x2048, .f32⟩
  | .hbm, ⟨3, _⟩ => ⟨S4x1x2048, .f32⟩
  | .hbm, ⟨4, _⟩ => ⟨S4x2048, .f32⟩
  | .hbm, ⟨5, _⟩ => ⟨S4x1x2048, .f32⟩
  | .hbm, ⟨6, _⟩ => ⟨S4x1x2048, .f32⟩
  | .hbm, ⟨7, _⟩ => ⟨S4x2048x16, .f32⟩
  | .hbm, ⟨8, _⟩ => ⟨S4x2048x2048, .f32⟩
  | .hbm, ⟨9, _⟩ => ⟨S1x2048x2048, .f32⟩
  | .hbm, ⟨10, _⟩ => ⟨S2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S1x2048x16, .f32⟩
  | .hbm, ⟨41, _⟩ => ⟨S2048x16, .f32⟩
  | .hbm, ⟨42, _⟩ => ⟨S4x2048x16, .f32⟩
  | .hbm, ⟨43, _⟩ => ⟨S_, .f32⟩
  | .hbm, ⟨44, _⟩ => ⟨S4x2048, .f32⟩
  | .hbm, ⟨45, _⟩ => ⟨S_, .f32⟩
  | .hbm, ⟨46, _⟩ => ⟨S4x2048, .f32⟩
  | .hbm, ⟨47, _⟩ => ⟨S4x2048, .f32⟩
  | .hbm, ⟨48, _⟩ => ⟨S4x2048x1, .f32⟩
  | .hbm, ⟨49, _⟩ => ⟨S4x2048x16, .f32⟩
  | .hbm, ⟨50, _⟩ => ⟨S4x2048x16, .f32⟩
  | .hbm, ⟨51, _⟩ => ⟨S4x2048x16, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S4x2048x16, .f32⟩
  | .hbm, ⟨56, _⟩ => ⟨S4x2048x16, .f32⟩
  | .hbm, ⟨57, _⟩ => ⟨S4x2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel9.lean ====
abbrev S4x2048x2048 : Shape := ⟨3, ![4, 2048, 2048]⟩
abbrev S4x2048 : Shape := ⟨2, ![4, 2048]⟩
abbrev S4x1x2048 : Shape := ⟨3, ![4, 1, 2048]⟩
abbrev S1x2048 : Shape := ⟨2, ![1, 2048]⟩
abbrev S2048 : Shape := ⟨1, ![2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x256x2048, .bf16⟩
  | .local _ .vmem, ⟨8, _⟩ => ⟨S1x256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x2048x2048 : Shape := ⟨3, ![4, 2048, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x1x2048, .f32⟩
  | .hbm, ⟨3, _⟩ => ⟨S4x1x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel10.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S4x4x12288 : Shape := ⟨3, ![4, 4, 12288]⟩

abbrev nBuf : Space → Nat
  | .hbm => 13
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .hbm, ⟨10, _⟩ => ⟨S4x4x12288, .f32⟩
  | .hbm, ⟨11, _⟩ => ⟨S4x1x12288, .f32⟩
  | .hbm, ⟨12, _⟩ => ⟨S4x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S4x12288x4 : Shape := ⟨3, ![4, 12288, 4]⟩
abbrev S4x4x12288 : Shape := ⟨3, ![4, 4, 12288]⟩
abbrev S4x1x12288 : Shape := ⟨3, ![4, 1, 12288]⟩

abbrev nBuf : Space → Nat
  | .hbm => 29
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288x4, .f32⟩
  | .hbm, ⟨14, _⟩ => ⟨S4x4x12288, .f32⟩
  | .hbm, ⟨15, _⟩ => ⟨S4x1x12288, .f32⟩
  | .hbm, ⟨16, _⟩ => ⟨S4x4x12288, .f32⟩
  | .hbm, ⟨17, _⟩ => ⟨S4x4x12288, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S4x12288, .f32⟩
  | .hbm, ⟨28, _⟩ => ⟨S4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel11.lean ====
abbrev S4x2048x2048 : Shape := ⟨3, ![4, 2048, 2048]⟩
abbrev S4x2048x12448 : Shape := ⟨3, ![4, 2048, 12448]⟩
abbrev S4x128 : Shape := ⟨2, ![4, 128]⟩
abbrev S4x384 : Shape := ⟨2, ![4, 384]⟩
abbrev S4x384x384 : Shape := ⟨3, ![4, 384, 384]⟩
abbrev S4x256 : Shape := ⟨2, ![4, 256]⟩
abbrev S4x256x768 : Shape := ⟨3, ![4, 256, 768]⟩
abbrev S1x384x384 : Shape := ⟨3, ![1, 384, 384]⟩
abbrev S384x384 : Shape := ⟨2, ![384, 384]⟩
abbrev S384x4x96 : Shape := ⟨3, ![384, 4, 96]⟩
abbrev S_ : Shape := ⟨0, ![]⟩
abbrev S384x4x128 : Shape := ⟨3, ![384, 4, 128]⟩
abbrev S384x512 : Shape := ⟨2, ![384, 512]⟩
abbrev S1x256x768 : Shape := ⟨3, ![1, 256, 768]⟩
abbrev S256x768 : Shape := ⟨2, ![256, 768]⟩
abbrev S256x4x192 : Shape := ⟨3, ![256, 4, 192]⟩
abbrev S256x4x64 : Shape := ⟨3, ![256, 4, 64]⟩
abbrev S256x4x128 : Shape := ⟨3, ![256, 4, 128]⟩
abbrev S256x512 : Shape := ⟨2, ![256, 512]⟩
abbrev S4x12448x2048 : Shape := ⟨3, ![4, 12448, 2048]⟩
abbrev S1x128 : Shape := ⟨2, ![1, 128]⟩
abbrev S128 : Shape := ⟨1, ![128]⟩
abbrev S1x384 : Shape := ⟨2, ![1, 384]⟩
abbrev S384 : Shape := ⟨1, ![384]⟩
abbrev S1x256 : Shape := ⟨2, ![1, 256]⟩
abbrev S256 : Shape := ⟨1, ![256]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S2048x16 : Shape := ⟨2, ![2048, 16]⟩
abbrev S1x2048x128 : Shape := ⟨3, ![1, 2048, 128]⟩
abbrev S2x2048x128 : Shape := ⟨3, ![2, 2048, 128]⟩
abbrev S4x2048x256 : Shape := ⟨3, ![4, 2048, 256]⟩
abbrev S4x2048x512 : Shape := ⟨3, ![4, 2048, 512]⟩
abbrev S1x512x2048 : Shape := ⟨3, ![1, 512, 2048]⟩
abbrev S1x896x2048 : Shape := ⟨3, ![1, 896, 2048]⟩
abbrev S2x512x128 : Shape := ⟨3, ![2, 512, 128]⟩
abbrev S1x512x256 : Shape := ⟨3, ![1, 512, 256]⟩
abbrev S1x512x512 : Shape := ⟨3, ![1, 512, 512]⟩
abbrev S896x2048 : Shape := ⟨2, ![896, 2048]⟩
abbrev S1x256x2048 : Shape := ⟨3, ![1, 256, 2048]⟩
abbrev S256x2048 : Shape := ⟨2, ![256, 2048]⟩
abbrev S256x896 : Shape := ⟨2, ![256, 896]⟩
abbrev S1x256x128 : Shape := ⟨3, ![1, 256, 128]⟩
abbrev S256x128 : Shape := ⟨2, ![256, 128]⟩
abbrev S256x1 : Shape := ⟨2, ![256, 1]⟩
abbrev S256x256 : Shape := ⟨2, ![256, 256]⟩
abbrev S1x256x256 : Shape := ⟨3, ![1, 256, 256]⟩
abbrev S1x256x512 : Shape := ⟨3, ![1, 256, 512]⟩
abbrev S256x384 : Shape := ⟨2, ![256, 384]⟩

abbrev nBuf : Space → Nat
  | .hbm => 141
  | .vmem => 29
  | .smem => 0
  | _ => 0

abbrev hbmTy0_0 (i : Nat) : BufTy := match i % 128 with
  | 0 => ⟨S4x2048x2048, .bf16⟩
  | 1 => ⟨S4x2048x12448, .f32⟩
  | 2 => ⟨S4x128, .f32⟩
  | 3 => ⟨S4x128, .f32⟩
  | 4 => ⟨S4x384, .f32⟩
  | 5 => ⟨S4x384x384, .f32⟩
  | 6 => ⟨S4x256, .f32⟩
  | 7 => ⟨S4x256x768, .f32⟩
  | 8 => ⟨S1x384x384, .f32⟩
  | 9 => ⟨S384x384, .f32⟩
  | 10 => ⟨S384x4x96, .f32⟩
  | 11 => ⟨S_, .i32⟩
  | 12 => ⟨S_, .f32⟩
  | 13 => ⟨S384x4x128, .f32⟩
  | 14 => ⟨S384x512, .f32⟩
  | 15 => ⟨S1x256x768, .f32⟩
  | 16 => ⟨S256x768, .f32⟩
  | 17 => ⟨S256x4x192, .f32⟩
  | 18 => ⟨S256x4x64, .f32⟩
  | 19 => ⟨S_, .i32⟩
  | 20 => ⟨S_, .f32⟩
  | 21 => ⟨S256x4x128, .f32⟩
  | 22 => ⟨S256x512, .f32⟩
  | 23 => ⟨S256x4x128, .f32⟩
  | 24 => ⟨S256x512, .f32⟩
  | 25 => ⟨S4x12448x2048, .f32⟩
  | 26 => ⟨S1x128, .f32⟩
  | 27 => ⟨S128, .f32⟩
  | 28 => ⟨S1x128, .f32⟩
  | 29 => ⟨S128, .f32⟩
  | 30 => ⟨S1x384, .f32⟩
  | 31 => ⟨S384, .f32⟩
  | 32 => ⟨S1x256, .f32⟩
  | 33 => ⟨S256, .f32⟩
  | 34 => ⟨S32, .i32⟩
  | 35 => ⟨S32x64, .i32⟩
  | 36 => ⟨S2048, .i32⟩
  | 37 => ⟨S2048, .f32⟩
  | 38 => ⟨S64, .i32⟩
  | 39 => ⟨S1x64, .i32⟩
  | 40 => ⟨S32x64, .i32⟩
  | 41 => ⟨S2048, .i32⟩
  | 42 => ⟨S2048, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S2048x64, .f32⟩
  | 65 => ⟨S2048x32, .f32⟩
  | 66 => ⟨S2048x64, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x32, .f32⟩
  | 73 => ⟨S2048x32, .f32⟩
  | 74 => ⟨S2048x64, .f32⟩
  | 75 => ⟨S2048x32, .f32⟩
  | 76 => ⟨S2048x64, .f32⟩
  | 77 => ⟨S2048x128, .f32⟩
  | 78 => ⟨S2048x128, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S2048x1, .f32⟩
  | 94 => ⟨S1x8, .f32⟩
  | 95 => ⟨S2048x8, .f32⟩
  | 96 => ⟨S2048x8, .f32⟩
  | 97 => ⟨S2048x8, .f32⟩
  | 98 => ⟨S2048x8, .f32⟩
  | 99 => ⟨S2048x8, .f32⟩
  | 100 => ⟨S2048x16, .f32⟩
  | 101 => ⟨S2048x8, .f32⟩
  | 102 => ⟨S2048x16, .f32⟩
  | 103 => ⟨S2048x1, .f32⟩
  | 104 => ⟨S1x8, .f32⟩
  | 105 => ⟨S2048x8, .f32⟩
  | 106 => ⟨S2048x8, .f32⟩
  | 107 => ⟨S2048x8, .f32⟩
  | 108 => ⟨S2048x8, .f32⟩
  | 109 => ⟨S2048x8, .f32⟩
  | 110 => ⟨S2048x16, .f32⟩
  | 111 => ⟨S2048x8, .f32⟩
  | 112 => ⟨S2048x16, .f32⟩
  | 113 => ⟨S2048x32, .f32⟩
  | 114 => ⟨S2048x32, .f32⟩
  | 115 => ⟨S1x2048x128, .f32⟩
  | 116 => ⟨S1x2048x128, .f32⟩
  | 117 => ⟨S2x2048x128, .f32⟩
  | 118 => ⟨S_, .f32⟩
  | 119 => ⟨S2048x64, .f32⟩
  | 120 => ⟨S_, .f32⟩
  | 121 => ⟨S2048x32, .f32⟩
  | 122 => ⟨S2048x128, .f32⟩
  | 123 => ⟨S_, .f32⟩
  | 124 => ⟨S2048x64, .f32⟩
  | 125 => ⟨S_, .f32⟩
  | 126 => ⟨S2048x32, .f32⟩
  | 127 => ⟨S2048x128, .f32⟩
  | _ => ⟨S4x2048x2048, .bf16⟩

abbrev hbmTy0_1 (i : Nat) : BufTy := match i % 128 with
  | 0 => ⟨S1x2048x128, .f32⟩
  | 1 => ⟨S1x2048x128, .f32⟩
  | 2 => ⟨S2x2048x128, .f32⟩
  | 3 => ⟨S1x128, .f32⟩
  | 4 => ⟨S1x128, .f32⟩
  | 5 => ⟨S1x384, .f32⟩
  | 6 => ⟨S1x256, .f32⟩
  | 7 => ⟨S4x2048x256, .bf16⟩
  | 8 => ⟨S4x2048x256, .bf16⟩
  | 9 => ⟨S4x2048x512, .bf16⟩
  | 10 => ⟨S4x2048x512, .bf16⟩
  | 11 => ⟨S4x2048x512, .bf16⟩
  | 12 => ⟨S4x2048x512, .bf16⟩
  | _ => ⟨S4x2048x2048, .bf16⟩

abbrev hbmTy (i : Nat) : BufTy := match i / 128 with
  | 0 => hbmTy0_0 i
  | 1 => hbmTy0_1 i
  | _ => ⟨S4x2048x2048, .bf16⟩

abbrev bufTy : (tb : Table) → Fin (tcTables nBuf tb) → BufTy
  | .hbm, ⟨i, _⟩ => hbmTy i
  | .local _ .vmem, ⟨0, _⟩ => ⟨S1x512x2048, .bf16⟩
  | .local _ .vmem, ⟨1, _⟩ => ⟨S1x512x2048, .bf16⟩
  | .local _ .vmem, ⟨2, _⟩ => ⟨S1x896x2048, .f32⟩
  | .local _ .vmem, ⟨3, _⟩ => ⟨S1x896x2048, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S1x128, .f32⟩
  | .local _ .vmem, ⟨9, _⟩ => ⟨S1x128, .f32⟩
  | .local _ .vmem, ⟨10, _⟩ => ⟨S1x384, .f32⟩
  | .local _ .vmem, ⟨11, _⟩ => ⟨S1x256, .f32⟩
  | .local _ .vmem, ⟨12, _⟩ => ⟨S384x512, .f32⟩
  | .local _ .vmem, ⟨13, _⟩ => ⟨S256x512, .f32⟩
  | .local _ .vmem, ⟨14, _⟩ => ⟨S256x512, .f32⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S896x2048, .bf16⟩
  | .local _ .vmem, ⟨28, _⟩ => ⟨S896x2048, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_4 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_6 : Ref sig .tc := ⟨.hbm, 87, rfl⟩
abbrev main_v69 : Ref sig .tc := ⟨.hbm, 88, rfl⟩
abbrev main_v70 : Ref sig .tc := ⟨.hbm, 89, rfl⟩
abbrev main_cst_7 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_8 : Ref sig .tc := ⟨.hbm, 118, rfl⟩
abbrev main_v98 : Ref sig .tc := ⟨.hbm, 119, rfl⟩
abbrev main_cst_9 : Ref sig .tc := ⟨.hbm, 120, rfl⟩
abbrev main_v99 : Ref sig .tc := ⟨.hbm, 121, rfl⟩
abbrev main_v100 : Ref sig .tc := ⟨.hbm, 122, rfl⟩
abbrev main_cst_10 : Ref sig .tc := ⟨.hbm, 123, rfl⟩
abbrev main_v101 : Ref sig .tc := ⟨.hbm, 124, rfl⟩
abbrev main_cst_11 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111_0 : Ref sig .tc := ⟨.hbm, 135, rfl⟩
abbrev main_v111_1 : Ref sig .tc := ⟨.hbm, 136, rfl⟩
abbrev main_v111_2 : Ref sig .tc := ⟨.hbm, 137, rfl⟩
abbrev main_v111_3 : Ref sig .tc := ⟨.hbm, 138, rfl⟩
abbrev main_v111_4 : Ref sig .tc := ⟨.hbm, 139, rfl⟩
abbrev main_v111_5 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c800_i32 : BitVec 32 := 800#32
  let c0_i32_0 : BitVec 32 := 0#32
  let c0_i32_1 : BitVec 32 := 0#32
  ![c0_i32.toNat, c800_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x896x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x896x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference11Ideal.lean ====
abbrev S4x2048x2048 : Shape := ⟨3, ![4, 2048, 2048]⟩
abbrev S4x2048x12448 : Shape := ⟨3, ![4, 2048, 12448]⟩
abbrev S4x128 : Shape := ⟨2, ![4, 128]⟩
abbrev S4x384 : Shape := ⟨2, ![4, 384]⟩
abbrev S4x384x384 : Shape := ⟨3, ![4, 384, 384]⟩
abbrev S4x256 : Shape := ⟨2, ![4, 256]⟩
abbrev S4x256x768 : Shape := ⟨3, ![4, 256, 768]⟩
abbrev S1x2048x12448 : Shape := ⟨3, ![1, 2048, 12448]⟩
abbrev S2048x12448 : Shape := ⟨2, ![2048, 12448]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x256 : Shape := ⟨2, ![1, 256]⟩
abbrev S256 : Shape := ⟨1, ![256]⟩
abbrev S1x1x256 : Shape := ⟨3, ![1, 1, 256]⟩
abbrev S1x256x768 : Shape := ⟨3, ![1, 256, 768]⟩
abbrev S256x768 : Shape := ⟨2, ![256, 768]⟩
abbrev S4x2048x768 : Shape := ⟨3, ![4, 2048, 768]⟩
abbrev S4x2048x4x192 : Shape := ⟨4, ![4, 2048, 4, 192]⟩
abbrev S4x2048x4x128 : Shape := ⟨4, ![4, 2048, 4, 128]⟩
abbrev S4x2048x512 : Shape := ⟨3, ![4, 2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x12448, .f32⟩
  | .hbm, ⟨2, _⟩ => ⟨S4x128, .f32⟩
  | .hbm, ⟨3, _⟩ => ⟨S4x128, .f32⟩
  | .hbm, ⟨4, _⟩ => ⟨S4x384, .f32⟩
  | .hbm, ⟨5, _⟩ => ⟨S4x384x384, .f32⟩
  | .hbm, ⟨6, _⟩ => ⟨S4x256, .f32⟩
  | .hbm, ⟨7, _⟩ => ⟨S4x256x768, .f32⟩
  | .hbm, ⟨8, _⟩ => ⟨S4x2048x2048, .f32⟩
  | .hbm, ⟨9, _⟩ => ⟨S1x2048x12448, .f32⟩
  | .hbm, ⟨10, _⟩ => ⟨S2048x12448, .f32⟩
  | .hbm, ⟨11, _⟩ => ⟨S4x2048x12448, .f32⟩
  | .hbm, ⟨12, _⟩ => ⟨S4x2048x256, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S1x256, .f32⟩
  | .hbm, ⟨28, _⟩ => ⟨S256, .f32⟩
  | .hbm, ⟨29, _⟩ => ⟨S1x1x256, .f32⟩
  | .hbm, ⟨30, _⟩ => ⟨S4x2048x256, .f32⟩
  | .hbm, ⟨31, _⟩ => ⟨S4x2048x256, .f32⟩
  | .hbm, ⟨32, _⟩ => ⟨S1x256x768, .f32⟩
  | .hbm, ⟨33, _⟩ => ⟨S256x768, .f32⟩
  | .hbm, ⟨34, _⟩ => ⟨S4x2048x768, .f32⟩
  | .hbm, ⟨35, _⟩ => ⟨S4x2048x4x192, .f32⟩
  | .hbm, ⟨36, _⟩ => ⟨S4x2048x256, .bf16⟩
  | .hbm, ⟨37, _⟩ => ⟨S4x2048x4x128, .f32⟩
  | .hbm, ⟨38, _⟩ => ⟨S4x2048x512, .f32⟩
  | .hbm, ⟨39, _⟩ => ⟨S4x2048x512, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.AttentionMath.lean ====
/-
  The extended-real arithmetic of one attention output, apart from any program: a softmax written as
  `2 ^ ((s - m) / (√128 · log 2))` with ONE division at the end is the softmax written as
  `e ^ (s / √128 - max (s / √128))` with every weight divided by the sum.
-/
module

public import Idealize.ShloMosaic.PureOps.Ideal
public import Idealize.ShloMosaic.PureOps.Ideal.Laws

@[expose] public section

noncomputable section

namespace Cert.AttentionMath

open Idealize.ShloMosaic
open scoped BigOperators

/-- A nonnegative real factor moves into a finite sum of extended reals. -/
theorem coe_mul_sum {ι : Type*} (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- The coercion of a finite real sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The fold of `max` from `⊥` over real entries is the real supremum. -/
theorem fold_max_coe {ι : Type*} [Fintype ι] [Nonempty ι] (f : ι → ℝ) :
    (Finset.univ : Finset ι).fold max (⊥ : EReal) (fun k => (f k : EReal))
      = ((Finset.univ.sup' Finset.univ_nonempty f : ℝ) : EReal) := by
  apply le_antisymm
  · rw [Finset.fold_max_le]
    exact ⟨bot_le, fun x hx => EReal.coe_le_coe_iff.mpr (Finset.le_sup' f hx)⟩
  · obtain ⟨x, hx, e⟩ := Finset.exists_mem_eq_sup' Finset.univ_nonempty f
    rw [e]
    exact Finset.le_fold_max (b := (⊥ : EReal)) (f := fun k => (f k : EReal)) (f x : EReal) |>.mpr (Or.inr ⟨x, hx, le_rfl⟩)

/-- The fold of `max` over `m + n` positions is the larger of the folds over the first `m` and the last `n`. -/
theorem fold_max_add {m n : ℕ} (f : Fin (m + n) → EReal) :
    max ((Finset.univ : Finset (Fin m)).fold max ⊥ fun k => f (Fin.castAdd n k))
      ((Finset.univ : Finset (Fin n)).fold max ⊥ fun k => f (Fin.natAdd m k))
      = (Finset.univ : Finset (Fin (m + n))).fold max ⊥ f := by
  apply le_antisymm
  · refine max_le ?_ ?_ <;> rw [Finset.fold_max_le] <;> refine ⟨bot_le, fun x _ => ?_⟩
    · exact Finset.le_fold_max _ |>.mpr (Or.inr ⟨_, Finset.mem_univ _, le_rfl⟩)
    · exact Finset.le_fold_max _ |>.mpr (Or.inr ⟨_, Finset.mem_univ _, le_rfl⟩)
  · rw [Finset.fold_max_le]
    refine ⟨bot_le, fun x _ => ?_⟩
    refine Fin.addCases (fun k => ?_) (fun k => ?_) x
    · exact le_max_of_le_left (Finset.le_fold_max _ |>.mpr (Or.inr ⟨k, Finset.mem_univ _, le_rfl⟩))
    · exact le_max_of_le_right (Finset.le_fold_max _ |>.mpr (Or.inr ⟨k, Finset.mem_univ _, le_rfl⟩))

/-- What the kernel computes at one output from a source of `m` keys and one of `n` keys: `s` the scores, `v` the values. -/
def fused {m n : ℕ} (c2 : EReal) (s₁ v₁ : Fin m → EReal) (s₂ v₂ : Fin n → EReal) : EReal :=
  let M := max ((Finset.univ : Finset (Fin m)).fold max ⊥ s₁) ((Finset.univ : Finset (Fin n)).fold max ⊥ s₂)
  let p₁ := fun k => Ideal.exp2 ((s₁ k - M) * c2)
  let p₂ := fun k => Ideal.exp2 ((s₂ k - M) * c2)
  Ideal.div (∑ k, p₁ k * v₁ k + ∑ k, p₂ k * v₂ k) (∑ k, p₁ k + ∑ k, p₂ k)

/-- The textbook softmax-weighted sum at one output: `w` the scaled scores, `v` the values. -/
def softmaxSum {n : ℕ} (w v : Fin n → EReal) : EReal :=
  let M := (Finset.univ : Finset (Fin n)).fold max ⊥ w
  let p := fun k => Ideal.exp (w k - M)
  ∑ k, v k * Ideal.div (p k) (∑ k, p k)

/-- The two agree when every score is a real number, `c2 = c / log 2` and the reference's scale is `c > 0`. The values may be anything. -/
theorem fused_eq_softmaxSum {m n : ℕ} [NeZero (m + n)] {c : ℝ} (hc : 0 < c) (s : Fin (m + n) → ℝ) (v : Fin (m + n) → EReal) :
    fused ((c * (Real.log 2)⁻¹ : ℝ) : EReal) (fun k => (s (Fin.castAdd n k) : EReal)) (fun k => v (Fin.castAdd n k))
        (fun k => (s (Fin.natAdd m k) : EReal)) (fun k => v (Fin.natAdd m k))
      = softmaxSum (fun k => (s k : EReal) * (c : EReal)) v := by
  unfold fused softmaxSum
  dsimp only
  rw [fold_max_add (fun k => (s k : EReal)), fold_max_coe]
  have hmax : (Finset.univ : Finset (Fin (m + n))).fold max (⊥ : EReal) (fun k => (s k : EReal) * (c : EReal))
      = ((Finset.univ.sup' Finset.univ_nonempty s * c : ℝ) : EReal) := by
    simp only [← EReal.coe_mul]
    rw [fold_max_coe (fun k => s k * c)]
    congr 1
    exact (Finset.comp_sup'_eq_sup'_comp Finset.univ_nonempty (fun x : ℝ => x * c)
      (fun x y => max_mul_of_nonneg x y hc.le)).symm
  rw [hmax]
  generalize Finset.univ.sup' Finset.univ_nonempty s = M
  set p : Fin (m + n) → ℝ := fun k => Real.exp (s k * c - M * c) with hp
  have h2 : ∀ k, Ideal.exp2 (((s k : EReal) - (M : EReal)) * ((c * (Real.log 2)⁻¹ : ℝ) : EReal)) = (p k : EReal) := by
    intro k
    rw [← EReal.coe_sub, ← EReal.coe_mul, Ideal.exp2_coe]
    congr 1
    refine (Real.rpow_def_of_pos (by norm_num) _).trans ?_
    have hl : Real.log 2 ≠ 0 := (Real.log_pos (by norm_num)).ne'
    simp only [hp]
    congr 1
    field_simp
  have h1 : ∀ k, Ideal.exp ((s k : EReal) * (c : EReal) - ((M * c : ℝ) : EReal)) = (p k : EReal) := by
    intro k
    rw [← EReal.coe_mul, ← EReal.coe_sub, Ideal.exp_coe]
  simp only [h1, h2]
  have hsum : ∑ k, (p k : EReal) = ((∑ k, p k : ℝ) : EReal) := (coe_sum _ _).symm
  have e1 : ∑ k : Fin m, (p (Fin.castAdd n k) : EReal) + ∑ k : Fin n, (p (Fin.natAdd m k) : EReal) = ∑ k, (p k : EReal) :=
    (Fin.sum_univ_add fun k => (p k : EReal)).symm
  have e2 : ∑ k : Fin m, (p (Fin.castAdd n k) : EReal) * v (Fin.castAdd n k) + ∑ k : Fin n, (p (Fin.natAdd m k) : EReal) * v (Fin.natAdd m k)
      = ∑ k, (p k : EReal) * v k := (Fin.sum_univ_add fun k => (p k : EReal) * v k).symm
  rw [e1, e2, hsum]
  have hpos : 0 < ∑ k, p k := Finset.sum_pos (fun k _ => Real.exp_pos _) Finset.univ_nonempty
  have hinv : 0 ≤ (1 / ∑ k, p k) := by positivity
  simp only [Ideal.div_coe hpos.ne']
  rw [mul_comm, coe_mul_sum _ hinv]
  refine Finset.sum_congr rfl fun k _ => ?_
  rw [mul_comm (v k), ← mul_assoc, mul_comm ((1 / ∑ k, p k : ℝ) : EReal) (p k : EReal)]

end Cert.AttentionMath

end
-- ==== Proof.AttentionBlock.lean ====
/-
  What the attention kernel writes at one grid point, entry by entry: each of its eight stores is the same function of
  256 query rows and of the point's keys and values, and that function at a row and a column is the two-part softmax of
  `AttentionMath.fused` over the row's scores. The eight stores together are one function of the whole block.
-/
module

public import proofs.«01_k».proof.Proof.Gen.KernelIdeal.Frame
public import proofs.«01_k».proof.Proof.AttentionMath
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pipeline.ReadBack
public import Idealize.ShloMosaic.PureOps.IdealRules

@[expose] public section

set_option maxRecDepth 16384

noncomputable section

namespace Cert.KernelIdeal.AttentionBlock

open Cert.KernelIdeal Cert.KernelIdeal.Gen Idealize.ShloMosaic.TcCoe Idealize.ShloMosaic.ValueIdx
open Idealize.ShloMosaic
open Idealize.SL Idealize.SL.Sem
open Cert.AttentionMath
open scoped BigOperators

/-- The scale named in the kernel: `1 / (√128 · log 2)`. -/
def c2 : EReal := (((Real.sqrt 128)⁻¹ * (Real.log 2)⁻¹ : ℝ) : EReal)

theorem negInf : (FloatOps.ofBits (F := Ideal) .f32 0xFF800000#32 : EReal) = ⊥ := by
  show Ideal.ofBits .f32 0xFF800000#32 = ⊥
  simp [Ideal.ofBits, Ideal.ieee]

theorem zeroBits : (FloatOps.ofBits (F := Ideal) .f32 0x00000000#32 : EReal) = 0 := Ideal.ofBits_zero_f32

theorem scale_eq : (Named.named (F := Ideal) κ "scale_log2e" (φ := .f32) 0x3E0293EE#32 : EReal) = c2 :=
  IdealRules.named_const.ideal_named_scalar κ "scale_log2e" _ c2 rfl

/-! ## The score of a query row against a key row -/

/-- Query row `r` of a block of rows against row `k` of a block of keys. -/
def score {a b : ℕ} (q : (⟨3, ![1, a, 128]⟩ : Shape).Idx → EReal) (K : (⟨3, ![1, b, 128]⟩ : Shape).Idx → EReal) (r : Fin a) (k : Fin b) : EReal :=
  ∑ e : Fin 128, q (ix3 0 r e) * K (ix3 0 k e)

variable (q : Vec Ideal S1x256x128 .bf16) (kx vx : Vec Ideal S1x2048x128 .bf16) (kc vc : Vec Ideal S1x256x128 .bf16)

theorem score_x (r : Fin 256) (k : Fin 2048) : k0_pay3 (F := Ideal) q kx (ix2 r k) = score q kx r k := by
  unfold k0_pay3 k0_pay2
  show FloatOps.matmul (DotDims.transposedRhs 256 128 2048) none _ _ _ (ix2 r k) = _
  rw [Ideal.matmul_transposedRhs_apply]
  show FloatOps.ofBits (F := Ideal) .f32 0x00000000#32 + _ = _
  rw [zeroBits, zero_add]
  refine Finset.sum_congr rfl fun e _ => ?_
  rw [shapeCast_1ab_ab_apply, shapeCast_1ab_ab_apply]

theorem score_c (r : Fin 256) (k : Fin 256) : k0_pay4 (F := Ideal) q kc (ix2 r k) = score q kc r k := by
  unfold k0_pay4 k0_pay2
  show FloatOps.matmul (DotDims.transposedRhs 256 128 256) none _ _ _ (ix2 r k) = _
  rw [Ideal.matmul_transposedRhs_apply]
  show FloatOps.ofBits (F := Ideal) .f32 0x00000000#32 + _ = _
  rw [zeroBits, zero_add]
  refine Finset.sum_congr rfl fun e _ => ?_
  rw [shapeCast_1ab_ab_apply, shapeCast_1ab_ab_apply]

/-! ## Row reductions -/

theorem rowMax {n : ℕ} (h : (⟨2, ![256, n]⟩ : Shape).Reduces [1] ⟨1, ![256]⟩) (h1 : (⟨1, ![256]⟩ : Shape).ShapeCasts ⟨2, ![256, 1]⟩)
    (x : FVec Ideal ⟨2, ![256, n]⟩ .f32) (hφ : FKind.Formats .f32) (hacc) (r : Fin 256) (u : Fin 1) :
    shapeCast ⟨2, ![256, 1]⟩ (multiReduction (F := Ideal) .maximumf [1] ⟨1, ![256]⟩ x 0xFF800000#32 h hφ hacc) h1 (ix2 r u)
      = (Finset.univ : Finset (Fin n)).fold max ⊥ (fun k => x (ix2 r k)) := by
  rw [shapeCast_a_a1_apply, Ideal.multiReduction_maximumf_single, negInf]
  refine congrArg (fun f => (Finset.univ : Finset (Fin n)).fold max ⊥ f) (funext fun k => congrArg x ?_)
  funext a; apply Fin.ext
  match a with
  | ⟨0, _⟩ => rfl
  | ⟨1, _⟩ => rfl

theorem rowSum {n : ℕ} (h : (⟨2, ![256, n]⟩ : Shape).Reduces [1] ⟨1, ![256]⟩) (h1 : (⟨1, ![256]⟩ : Shape).ShapeCasts ⟨2, ![256, 1]⟩)
    (x : FVec Ideal ⟨2, ![256, n]⟩ .f32) (hφ : FKind.Formats .f32) (hacc) (r : Fin 256) (u : Fin 1) :
    shapeCast ⟨2, ![256, 1]⟩ (multiReduction (F := Ideal) .add [1] ⟨1, ![256]⟩ x 0x00000000#32 h hφ hacc) h1 (ix2 r u)
      = ∑ k : Fin n, x (ix2 r k) := by
  rw [shapeCast_a_a1_apply, Ideal.multiReduction_add_single]
  refine Finset.sum_congr rfl fun k _ => congrArg x ?_
  funext a; apply Fin.ext
  match a with
  | ⟨0, _⟩ => rfl
  | ⟨1, _⟩ => rfl

/-- A column spread along the rows reads the column's entry of that row. -/
theorem spread_apply {n : ℕ} (x : FVec Ideal ⟨2, ![256, 1]⟩ .f32) (h : (⟨2, ![256, 1]⟩ : Shape).Broadcasts ⟨2, ![256, n]⟩) (r : Fin 256) (k : Fin n) :
    broadcastTo ⟨2, ![256, n]⟩ x h (ix2 r k) = x (ix2 r 0) :=
  broadcastTo_apply x h _ _ fun a => match a with | ⟨0, _⟩ => rfl | ⟨1, _⟩ => rfl

/-! ## The weights and the output of a row -/

/-- The largest score of the row, over both groups of keys. -/
def rowTop (r : Fin 256) : EReal :=
  max ((Finset.univ : Finset (Fin 2048)).fold max ⊥ (score q kx r)) ((Finset.univ : Finset (Fin 256)).fold max ⊥ (score q kc r))

theorem top_apply (r : Fin 256) (u : Fin 1) : k0_pay5 (F := Ideal) q kx kc (ix2 r u) = rowTop q kx kc r := by
  unfold k0_pay5 rowTop
  refine congrArg₂ max ((rowMax _ _ _ _ _ r u).trans ?_) ((rowMax _ _ _ _ _ r u).trans ?_)
  · simp only [score_x]
  · simp only [score_c]

theorem weight_x (r : Fin 256) (k : Fin 2048) :
    k0_pay6 (F := Ideal) q kx kc (ix2 r k) = Ideal.exp2 ((score q kx r k - rowTop q kx kc r) * c2) := by
  unfold k0_pay6
  show Ideal.exp2 ((k0_pay3 q kx (ix2 r k) - broadcastTo S256x2048 (k0_pay5 q kx kc) broadcasts_S256x1_S256x2048 (ix2 r k)) * Named.named (F := Ideal) κ "scale_log2e" (φ := .f32) 0x3E0293EE#32) = _
  rw [score_x, spread_apply, top_apply, scale_eq]

theorem weight_c (r : Fin 256) (k : Fin 256) :
    k0_pay9 (F := Ideal) q kx kc (ix2 r k) = Ideal.exp2 ((score q kc r k - rowTop q kx kc r) * c2) := by
  unfold k0_pay9
  show Ideal.exp2 ((k0_pay4 q kc (ix2 r k) - broadcastTo S256x256 (k0_pay5 q kx kc) broadcasts_S256x1_S256x256 (ix2 r k)) * Named.named (F := Ideal) κ "scale_log2e" (φ := .f32) 0x3E0293EE#32) = _
  rw [score_c, spread_apply, top_apply, scale_eq]

/-- What the kernel stores for 256 query rows. -/
def rows : Vec Ideal S1x256x128 .bf16 :=
  k0_pay12 (F := Ideal) (k0_pay7 q kx kc) (k0_pay8 q kx kc vx) (k0_pay10 q kx kc) (k0_pay11 q kx kc) vc

/-- One entry of it: the softmax of the row's scores over both groups of keys, against column `d` of the values. -/
theorem rows_apply (u : Fin 1) (r : Fin 256) (d : Fin 128) :
    rows q kx vx kc vc (ix3 u r d)
      = fused c2 (score q kx r) (fun k => vx (ix3 0 k d)) (score q kc r) (fun k => vc (ix3 0 k d)) := by
  unfold rows k0_pay12
  rw [shapeCast_ab_1ab_apply]
  show Ideal.div (k0_pay8 q kx kc vx (ix2 r d) + FloatOps.matmul (DotDims.plain 256 256 128) none (k0_pay11 q kx kc) _ _ (ix2 r d)) (broadcastTo S256x128 (addf (k0_pay7 q kx kc) (k0_pay10 q kx kc)) broadcasts_S256x1_S256x128 (ix2 r d)) = _
  rw [spread_apply, Ideal.matmul_plain_apply]
  show Ideal.div (k0_pay8 q kx kc vx (ix2 r d) + (FloatOps.ofBits (F := Ideal) .f32 0x00000000#32 + _)) (k0_pay7 q kx kc (ix2 r 0) + k0_pay10 q kx kc (ix2 r 0)) = _
  unfold k0_pay8 k0_pay7 k0_pay10 k0_pay11 fused
  rw [show (matmul (F := Ideal) dot_S256x2048_S2048x128_S256x128_1_0_0_1_n_n none (truncf .bf16 (k0_pay6 q kx kc) bitsLt_bf16_f32) (shapeCast S2048x128 vx shapeCasts_S1x2048x128_S2048x128) (constant S256x128 .f32 0x00000000#32) (ix2 r d))
      = FloatOps.matmul (F := Ideal) (DotDims.plain 256 2048 128) none (truncf .bf16 (k0_pay6 q kx kc) bitsLt_bf16_f32) (shapeCast S2048x128 vx shapeCasts_S1x2048x128_S2048x128) (constant S256x128 .f32 0x00000000#32) (ix2 r d) from rfl]
  rw [Ideal.matmul_plain_apply]
  show Ideal.div ((FloatOps.ofBits (F := Ideal) .f32 0x00000000#32 + ∑ k : Fin 2048, k0_pay6 q kx kc (ix2 r k) * _) + (FloatOps.ofBits (F := Ideal) .f32 0x00000000#32 + ∑ k : Fin 256, k0_pay9 q kx kc (ix2 r k) * _)) _ = _
  rw [zeroBits, zero_add, zero_add]
  congr 1
  · congr 1
    · refine Finset.sum_congr rfl fun k _ => ?_
      rw [weight_x, shapeCast_1ab_ab_apply]; rfl
    · refine Finset.sum_congr rfl fun k _ => ?_
      rw [weight_c, shapeCast_1ab_ab_apply]; rfl
  · congr 1
    · refine (rowSum _ _ _ _ _ r 0).trans (Finset.sum_congr rfl fun k _ => ?_)
      rw [weight_x]; rfl
    · refine (rowSum _ _ _ _ _ r 0).trans (Finset.sum_congr rfl fun k _ => ?_)
      rw [weight_c]; rfl

end Cert.KernelIdeal.AttentionBlock

end
-- ==== Proof.AttentionKernel.lean ====
/-
  The attention kernel's result array, entry by entry: what one grid point leaves in its output block is one function of
  the five input blocks (`block_eq`), the input blocks are the arguments read at the point's place (batch `t / 4`, query
  head `t % 4`, key and value head half of it), and the sixteen output blocks tile the array (`run`).
-/
module

public import proofs.«01_k».proof.Proof.AttentionBlock
public import proofs.«01_k».proof.Proof.Gen.KernelIdeal.Value

@[expose] public section

set_option maxRecDepth 16384

noncomputable section

namespace Cert.KernelIdeal.AttentionKernel

open Cert.KernelIdeal Cert.KernelIdeal.Gen Idealize.ShloMosaic.TcCoe Idealize.ShloMosaic.ValueIdx
open Idealize.ShloMosaic
open Idealize.SL Idealize.SL.Sem
open Idealize.ShloMosaic.Pipeline (Dat)
open Cert.AttentionMath Cert.KernelIdeal.AttentionBlock
open scoped BigOperators

/-! ## One grid point -/

variable (x0 x1 x2 : Vec Ideal S1x2048x128 .bf16) (x3 x4 : Vec Ideal S1x256x128 .bf16)

/-- What a point's output block holds at an index. -/
def block : Vec Ideal S1x2048x128 .bf16 := fun y =>
  fused c2 (score x0 x1 (y 1)) (fun k => x2 (ix3 0 k (y 2))) (score x0 x3 (y 1)) (fun k => x4 (ix3 0 k (y 2)))

/-- A store of `rows` for the query rows from `o` on is a block of it. -/
theorem rows_piece (o : ℕ) (inb : ∀ a, (![0, o, 0] : Fin 3 → ℕ) a + S1x256x128.size a ≤ S1x2048x128.size a) (x : S1x256x128.Idx) :
    rows (View.ld x0 (Rect.unit (s := S1x2048x128) ![0, o, 0] S1x256x128.size inb)) x1 x2 x3 x4 x
      = block x0 x1 x2 x3 x4 ((Rect.unit (s := S1x2048x128) ![0, o, 0] S1x256x128.size inb).emb x) := by
  have hx : x = ix3 (x 0) (x 1) (x 2) := eq_ix3 x
  have hr : ∀ e : Fin 128, (Rect.unit (s := S1x2048x128) ![0, o, 0] S1x256x128.size inb).idx (ix3 (0 : Fin 1) (x 1) e)
      = ix3 (0 : Fin 1) ((Rect.unit (s := S1x2048x128) ![0, o, 0] S1x256x128.size inb).emb x 1) e := by
    intro e; funext a; apply Fin.ext
    match a with
    | ⟨0, _⟩ => rfl
    | ⟨1, _⟩ => rfl
    | ⟨2, _⟩ => show 0 + 1 * e.val = e.val; omega
  have hd : (Rect.unit (s := S1x2048x128) ![0, o, 0] S1x256x128.size inb).emb x 2 = x 2 := Fin.ext (by show 0 + 1 * (x 2).val = (x 2).val; omega)
  refine (congrArg _ hx).trans ((rows_apply _ _ _ _ _ (x 0) (x 1) (x 2)).trans ?_)
  unfold block
  rw [hd]
  have hs : ∀ {b : ℕ} (K : (⟨3, ![1, b, 128]⟩ : Shape).Idx → EReal),
      score (View.ld x0 (Rect.unit (s := S1x2048x128) ![0, o, 0] S1x256x128.size inb)) K (x 1)
        = score x0 K ((Rect.unit (s := S1x2048x128) ![0, o, 0] S1x256x128.size inb).emb x 1) := by
    intro b K; funext k
    refine Finset.sum_congr rfl fun e _ => ?_
    show x0 ((Rect.unit (s := S1x2048x128) ![0, o, 0] S1x256x128.size inb).idx (ix3 (0 : Fin 1) (x 1) e)) * _ = _
    rw [hr e]; rfl
  exact congrArg₂ (fun s t => fused c2 s (fun k => x2 (ix3 0 k (x 2))) t (fun k => x4 (ix3 0 k (x 2)))) (hs x1) (hs x3)

theorem hz : (![0, 0, 0] : Fin 3 → Nat) = fun _ => 0 := funext fun a => by fin_cases a <;> rfl

theorem block_eq : out0_5 x0 x1 x2 x3 x4 = block x0 x1 x2 x3 x4 := by
  unfold out0_5
  rw [show View.ld x1 r0_1 = x1 from View.ld_unit_zero (S := S1x2048x128) hz _ x1, show View.ld x2 r0_1 = x2 from View.ld_unit_zero (S := S1x2048x128) hz _ x2,
    show View.ld x3 r0_2 = x3 from View.ld_unit_zero (S := S1x256x128) hz _ x3, show View.ld x4 r0_2 = x4 from View.ld_unit_zero (S := S1x256x128) hz _ x4]
  funext y
  have h := View.canon_append_of_piecesOf (Val := Elt Ideal) (block x0 x1 x2 x3 x4) []
    [⟨r0_9, rows (View.ld x0 r0_9) x1 x2 x3 x4⟩, ⟨r0_8, rows (View.ld x0 r0_8) x1 x2 x3 x4⟩, ⟨r0_7, rows (View.ld x0 r0_7) x1 x2 x3 x4⟩,
      ⟨r0_6, rows (View.ld x0 r0_6) x1 x2 x3 x4⟩, ⟨r0_5, rows (View.ld x0 r0_5) x1 x2 x3 x4⟩, ⟨r0_4, rows (View.ld x0 r0_4) x1 x2 x3 x4⟩,
      ⟨r0_3, rows (View.ld x0 r0_3) x1 x2 x3 x4⟩, ⟨r0_0, rows (View.ld x0 r0_0) x1 x2 x3 x4⟩]
    ⟨rows_piece x0 x1 x2 x3 x4 _ _, rows_piece x0 x1 x2 x3 x4 _ _, rows_piece x0 x1 x2 x3 x4 _ _, rows_piece x0 x1 x2 x3 x4 _ _,
      rows_piece x0 x1 x2 x3 x4 _ _, rows_piece x0 x1 x2 x3 x4 _ _, rows_piece x0 x1 x2 x3 x4 _ _, rows_piece x0 x1 x2 x3 x4 _ _, trivial⟩ y (cover0_5 _ _ _ _ _ _ _ _ y)
  rw [List.append_nil] at h
  exact h

/-! ## The blocks of the arguments -/

variable (m : (ℓ : Loc nD τ sig) → Buf (Elt Ideal) ℓ) (ρ : Dev nD → PrngReg)

/-- Argument arrays as functions of an index. -/
abbrev argQ (c : Dev nD) : S4x2048x512.Idx → EReal := m ((c : Thread nD τ).loc main_arg0)
abbrev argKx (c : Dev nD) : S4x2048x256.Idx → EReal := m ((c : Thread nD τ).loc main_arg1)
abbrev argVx (c : Dev nD) : S4x2048x256.Idx → EReal := m ((c : Thread nD τ).loc main_arg2)
abbrev argKc (c : Dev nD) : S4x256x256.Idx → EReal := m ((c : Thread nD τ).loc main_arg3)
abbrev argVc (c : Dev nD) : S4x256x256.Idx → EReal := m ((c : Thread nD τ).loc main_arg4)

/-- Lane `z` lies in query head `z / 128`: entry `e` of that head. -/
abbrev qlane (z : Fin 512) (e : Fin 128) : Fin 512 := ⟨128 * (z.val / 128) + e.val, by have := z.isLt; have := e.isLt; omega⟩
/-- Two query heads share a key and value head: entry `e` of the one lane `z` uses. -/
abbrev klane (z : Fin 512) (e : Fin 128) : Fin 256 := ⟨128 * (z.val / 256) + e.val, by have := z.isLt; have := e.isLt; omega⟩
/-- The place of lane `z` in its head. -/
abbrev place (z : Fin 512) : Fin 128 := ⟨z.val % 128, Nat.mod_lt _ (by decide)⟩

/-- Query `(b, r)` of the head of lane `z` against key `k` of `n` keys. -/
def headScore {n : ℕ} (Q : S4x2048x512.Idx → EReal) (K : (⟨3, ![4, n, 256]⟩ : Shape).Idx → EReal) (b : Fin 4) (r : Fin 2048) (z : Fin 512) (k : Fin n) : EReal :=
  ∑ e : Fin 128, Q (ix3 b r (qlane z e)) * K (ix3 b k (klane z e))

/-- The whole result: at batch `b`, query `r`, lane `z`, the softmax over the token keys and the context keys. -/
def result (Q : S4x2048x512.Idx → EReal) (Kx Vx : S4x2048x256.Idx → EReal) (Kc Vc : S4x256x256.Idx → EReal) (b : Fin 4) (r : Fin 2048) (z : Fin 512) : EReal :=
  fused c2 (headScore Q Kx b r z) (fun k => Vx (ix3 b k (klane z (place z)))) (headScore Q Kc b r z) (fun k => Vc (ix3 b k (klane z (place z))))

theorem idx_q : ∀ t : Fin cfg0.N, win0_0.index t 0 = t.val / 4 ∧ win0_0.index t 1 = 0 ∧ win0_0.index t 2 = t.val % 4 :=
  (by decide +kernel : ∀ t : Fin grid0.N, _)
theorem idx_kx : ∀ t : Fin cfg0.N, win0_1.index t 0 = t.val / 4 ∧ win0_1.index t 1 = 0 ∧ win0_1.index t 2 = t.val % 4 / 2 :=
  (by decide +kernel : ∀ t : Fin grid0.N, _)
theorem idx_vx : ∀ t : Fin cfg0.N, win0_2.index t 0 = t.val / 4 ∧ win0_2.index t 1 = 0 ∧ win0_2.index t 2 = t.val % 4 / 2 :=
  (by decide +kernel : ∀ t : Fin grid0.N, _)
theorem idx_kc : ∀ t : Fin cfg0.N, win0_3.index t 0 = t.val / 4 ∧ win0_3.index t 1 = 0 ∧ win0_3.index t 2 = t.val % 4 / 2 :=
  (by decide +kernel : ∀ t : Fin grid0.N, _)
theorem idx_vc : ∀ t : Fin cfg0.N, win0_4.index t 0 = t.val / 4 ∧ win0_4.index t 1 = 0 ∧ win0_4.index t 2 = t.val % 4 / 2 :=
  (by decide +kernel : ∀ t : Fin grid0.N, _)
theorem idx_o : ∀ t : Fin cfg0.N, win0_5.index t 0 = t.val / 4 ∧ win0_5.index t 1 = 0 ∧ win0_5.index t 2 = t.val % 4 :=
  (by decide +kernel : ∀ t : Fin grid0.N, _)

theorem blk_q (c : Dev nD) (t : Fin cfg0.N) (r : Fin 2048) (e : Fin 128) :
    iblk m c 0 t (ix3 (0 : Fin 1) r e) = argQ m c (ix3 ⟨t.val / 4, by have := t.isLt; have : cfg0.N = 16 := N_0; omega⟩ r ⟨128 * (t.val % 4) + e.val, by have := e.isLt; omega⟩) := by
  unfold iblk
  rw [View.read_apply]
  show V m c main_arg0 _ = m ((c : Thread nD τ).loc main_arg0) _
  unfold V
  congr 1; funext a; apply Fin.ext
  obtain ⟨h0, h1, h2⟩ := idx_q t
  match a with
  | ⟨0, _⟩ => show win0_0.index t 0 * 1 + 1 * 0 = t.val / 4; omega
  | ⟨1, _⟩ => show win0_0.index t 1 * 2048 + 1 * r.val = r.val; omega
  | ⟨2, _⟩ => show win0_0.index t 2 * 128 + 1 * e.val = 128 * (t.val % 4) + e.val; omega

theorem blk_kx (c : Dev nD) (t : Fin cfg0.N) (k : Fin 2048) (e : Fin 128) :
    iblk m c 1 t (ix3 (0 : Fin 1) k e) = argKx m c (ix3 ⟨t.val / 4, by have := t.isLt; have : cfg0.N = 16 := N_0; omega⟩ k ⟨128 * (t.val % 4 / 2) + e.val, by have := e.isLt; omega⟩) := by
  unfold iblk
  rw [View.read_apply]
  show V m c main_arg1 _ = m ((c : Thread nD τ).loc main_arg1) _
  unfold V
  congr 1; funext a; apply Fin.ext
  obtain ⟨h0, h1, h2⟩ := idx_kx t
  match a with
  | ⟨0, _⟩ => show win0_1.index t 0 * 1 + 1 * 0 = t.val / 4; omega
  | ⟨1, _⟩ => show win0_1.index t 1 * 2048 + 1 * k.val = k.val; omega
  | ⟨2, _⟩ => show win0_1.index t 2 * 128 + 1 * e.val = 128 * (t.val % 4 / 2) + e.val; omega

theorem blk_vx (c : Dev nD) (t : Fin cfg0.N) (k : Fin 2048) (e : Fin 128) :
    iblk m c 2 t (ix3 (0 : Fin 1) k e) = argVx m c (ix3 ⟨t.val / 4, by have := t.isLt; have : cfg0.N = 16 := N_0; omega⟩ k ⟨128 * (t.val % 4 / 2) + e.val, by have := e.isLt; omega⟩) := by
  unfold iblk
  rw [View.read_apply]
  show V m c main_arg2 _ = m ((c : Thread nD τ).loc main_arg2) _
  unfold V
  congr 1; funext a; apply Fin.ext
  obtain ⟨h0, h1, h2⟩ := idx_vx t
  match a with
  | ⟨0, _⟩ => show win0_2.index t 0 * 1 + 1 * 0 = t.val / 4; omega
  | ⟨1, _⟩ => show win0_2.index t 1 * 2048 + 1 * k.val = k.val; omega
  | ⟨2, _⟩ => show win0_2.index t 2 * 128 + 1 * e.val = 128 * (t.val % 4 / 2) + e.val; omega

theorem blk_kc (c : Dev nD) (t : Fin cfg0.N) (k : Fin 256) (e : Fin 128) :
    iblk m c 3 t (ix3 (0 : Fin 1) k e) = argKc m c (ix3 ⟨t.val / 4, by have := t.isLt; have : cfg0.N = 16 := N_0; omega⟩ k ⟨128 * (t.val % 4 / 2) + e.val, by have := e.isLt; omega⟩) := by
  unfold iblk
  rw [View.read_apply]
  show V m c main_arg3 _ = m ((c : Thread nD τ).loc main_arg3) _
  unfold V
  congr 1; funext a; apply Fin.ext
  obtain ⟨h0, h1, h2⟩ := idx_kc t
  match a with
  | ⟨0, _⟩ => show win0_3.index t 0 * 1 + 1 * 0 = t.val / 4; omega
  | ⟨1, _⟩ => show win0_3.index t 1 * 256 + 1 * k.val = k.val; omega
  | ⟨2, _⟩ => show win0_3.index t 2 * 128 + 1 * e.val = 128 * (t.val % 4 / 2) + e.val; omega

theorem blk_vc (c : Dev nD) (t : Fin cfg0.N) (k : Fin 256) (e : Fin 128) :
    iblk m c 4 t (ix3 (0 : Fin 1) k e) = argVc m c (ix3 ⟨t.val / 4, by have := t.isLt; have : cfg0.N = 16 := N_0; omega⟩ k ⟨128 * (t.val % 4 / 2) + e.val, by have := e.isLt; omega⟩) := by
  unfold iblk
  rw [View.read_apply]
  show V m c main_arg4 _ = m ((c : Thread nD τ).loc main_arg4) _
  unfold V
  congr 1; funext a; apply Fin.ext
  obtain ⟨h0, h1, h2⟩ := idx_vc t
  match a with
  | ⟨0, _⟩ => show win0_4.index t 0 * 1 + 1 * 0 = t.val / 4; omega
  | ⟨1, _⟩ => show win0_4.index t 1 * 256 + 1 * k.val = k.val; omega
  | ⟨2, _⟩ => show win0_4.index t 2 * 128 + 1 * e.val = 128 * (t.val % 4 / 2) + e.val; omega

/-! ## The whole array -/

/-- The result array's contents. -/
def G (c : Dev nD) : Buf (Elt Ideal) ((c : Thread nD τ).loc main_v0) := fun i =>
  result (argQ m c) (argKx m c) (argVx m c) (argKc m c) (argVc m c) (i 0) (i 1) (i 2)

/-- A point's block is the array's block there. -/
theorem block_at (c : Dev nD) (t : Fin cfg0.N) (y : S1x2048x128.Idx) (i : S4x2048x512.Idx)
    (h0 : (i 0).val = t.val / 4) (h1 : (i 1).val = (y 1).val) (h2 : (i 2).val = 128 * (t.val % 4) + (y 2).val) :
    block (iblk m c 0 t) (iblk m c 1 t) (iblk m c 2 t) (iblk m c 3 t) (iblk m c 4 t) y
      = result (argQ m c) (argKx m c) (argVx m c) (argKc m c) (argVc m c) (i 0) (i 1) (i 2) := by
  have hy : (y 2).val < 128 := (y 2).isLt
  have hb : (⟨t.val / 4, by have := t.isLt; have : cfg0.N = 16 := N_0; omega⟩ : Fin 4) = i 0 := Fin.ext h0.symm
  have hr : (y 1 : Fin 2048) = i 1 := Fin.ext h1.symm
  have hq : ∀ e : Fin 128, (⟨128 * (t.val % 4) + e.val, by have := e.isLt; omega⟩ : Fin 512) = qlane (i 2) e := fun e => Fin.ext (by show 128 * (t.val % 4) + e.val = 128 * ((i 2).val / 128) + e.val; omega)
  have hk : ∀ e : Fin 128, (⟨128 * (t.val % 4 / 2) + e.val, by have := e.isLt; omega⟩ : Fin 256) = klane (i 2) e := fun e => Fin.ext (by show 128 * (t.val % 4 / 2) + e.val = 128 * ((i 2).val / 256) + e.val; omega)
  have hp : (y 2 : Fin 128) = place (i 2) := Fin.ext (by show (y 2).val = (i 2).val % 128; omega)
  unfold block result
  have e1 : score (iblk m c 0 t) (iblk m c 1 t) (y 1) = headScore (argQ m c) (argKx m c) (i 0) (i 1) (i 2) := by
    funext k
    refine Finset.sum_congr rfl fun e _ => ?_
    rw [blk_kx, hb, hk]
    refine congrArg (· * _) ((blk_q m c t (y 1) e).trans ?_)
    rw [hb, hq, hr]
  have e2 : score (iblk m c 0 t) (iblk m c 3 t) (y 1) = headScore (argQ m c) (argKc m c) (i 0) (i 1) (i 2) := by
    funext k
    refine Finset.sum_congr rfl fun e _ => ?_
    rw [blk_kc, hb, hk]
    refine congrArg (· * _) ((blk_q m c t (y 1) e).trans ?_)
    rw [hb, hq, hr]
  have e3 : (fun k : Fin 2048 => iblk m c 2 t (ix3 (0 : Fin 1) k (y 2))) = fun k => argVx m c (ix3 (i 0) k (klane (i 2) (place (i 2)))) := by
    funext k
    refine (blk_vx m c t k (y 2)).trans ?_
    rw [hb]
    exact congrArg (fun z => argVx m c (ix3 (i 0) k z)) ((hk (y 2)).trans (congrArg (klane (i 2)) hp))
  have e4 : (fun k : Fin 256 => iblk m c 4 t (ix3 (0 : Fin 1) k (y 2))) = fun k => argVc m c (ix3 (i 0) k (klane (i 2) (place (i 2)))) := by
    funext k
    refine (blk_vc m c t k (y 2)).trans ?_
    rw [hb]
    exact congrArg (fun z => argVc m c (ix3 (i 0) k z)) ((hk (y 2)).trans (congrArg (klane (i 2)) hp))
  rw [← e1, ← e2, ← e3, ← e4]

theorem flushed_eq (c : Dev nD) (t : Fin cfg0.N) (_ : (cfg0.win 5).flush t = true) :
    (dats m 0 c).flushed 5 t = ((cfg0.win 5).blk t).view.read (Elt Ideal) (G m c) := by
  rw [Value.flushed5, block_eq]
  funext y
  rw [View.read_apply]
  obtain ⟨h0, h1, h2⟩ := idx_o t
  refine block_at m c t y _ ?_ ?_ ?_
  · show win0_5.index t 0 * 1 + 1 * (y 0).val = t.val / 4
    have : (y 0).val < 1 := (y 0).isLt
    omega
  · show win0_5.index t 1 * 2048 + 1 * (y 1).val = (y 1).val; omega
  · show win0_5.index t 2 * 128 + 1 * (y 2).val = 128 * (t.val % 4) + (y 2).val; omega

theorem final_eq (c : Dev nD) : (dats m 0 c).arrAt 5 cfg0.N = G m c :=
  (dats m 0 c).arrAt_eq_of_cover 5 (G m c) (flushed_eq m c) fun i => by
    have i0 : (i 0 : Nat) < 4 := (i 0).isLt
    have i1 : (i 1 : Nat) < 2048 := (i 1).isLt
    have i2 : (i 2 : Nat) < 512 := (i 2).isLt
    have hN : cfg0.N = 16 := N_0
    have hf : ∀ t : Fin cfg0.N, (cfg0.win 5).flush t = true := (by decide +kernel : ∀ t : Fin grid0.N, _)
    obtain ⟨t, ht⟩ : ∃ t : Fin cfg0.N, t.val = 4 * (i 0).val + (i 2).val / 128 := ⟨⟨4 * (i 0).val + (i 2).val / 128, by omega⟩, rfl⟩
    refine ⟨t, hf t, ?_⟩
    show i ∈ ((View.whole main_v0).slice (win0_5.rect t)).set
    rw [View.set_slice_whole, Rect.mem_set_unit]
    obtain ⟨h0, h1, h2⟩ := idx_o t
    intro a
    match a with
    | ⟨0, _⟩ => show win0_5.index t 0 * 1 ≤ (i 0 : Nat) ∧ (i 0 : Nat) < win0_5.index t 0 * 1 + 1; omega
    | ⟨1, _⟩ => show win0_5.index t 1 * 2048 ≤ (i 1 : Nat) ∧ (i 1 : Nat) < win0_5.index t 1 * 2048 + 2048; omega
    | ⟨2, _⟩ => show win0_5.index t 2 * 128 ≤ (i 2 : Nat) ∧ (i 2 : Nat) < win0_5.index t 2 * 128 + 128; omega

/-- The run: the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ h c => ⟨(h c).1.trans (final_eq m c), (h c).2⟩) (Value.run_blocks m ρ)

end Cert.KernelIdeal.AttentionKernel

end
-- ==== Proof.AttentionRef.lean ====
/-
  The attention reference, entry by entry: at batch `b`, query `s`, lane `z` its result is the textbook softmax of the
  scores divided by `√128`, over the token keys followed by the context keys (`result_apply`).
-/
module

public import proofs.«01_k».proof.Proof.Gen.ReferenceIdeal.Read
public import proofs.«01_k».proof.Proof.AttentionMath
public import proofs.«01_k».proof.Proof.AttentionKernel
public import Idealize.ShloMosaic.Lib.KernelVsHost

@[expose] public section

set_option maxRecDepth 16384

noncomputable section

namespace Cert.AttentionRef

open Cert.ReferenceIdeal Cert.ReferenceIdeal.Read Cert.ReferenceIdeal.Gen Idealize.ShloMosaic.TcCoe Idealize.ShloMosaic.ValueIdx
open Idealize.ShloMosaic
open Cert.AttentionMath Cert.KernelIdeal.AttentionBlock
open Cert.KernelIdeal.AttentionKernel (headScore qlane klane place)
open scoped BigOperators

variable (Q : S4x2048x512.Idx → EReal) (Kx Vx : S4x2048x256.Idx → EReal) (Kc Vc : S4x256x256.Idx → EReal)

/-- The key and value head of lane `z`. -/
abbrev kvHead (z : Fin 512) : Fin 2 := ⟨z.val / 256, by have := z.isLt; omega⟩
/-- Which of the query heads sharing that one lane `z` lies in. -/
abbrev qOf (z : Fin 512) : Fin 2 := ⟨z.val / 128 % 2, Nat.mod_lt _ (by decide)⟩

/-! ## The joined keys and values -/

theorem keys_x (b : Fin 4) (k : Fin 2048) (z : Fin 512) (e : Fin 128) :
    val_main_v7 (F := Ideal) Kx Kc (ix4 b (Fin.castAdd 256 k : Fin 2304) (kvHead z) e) = Kx (ix3 b k (klane z e)) := by
  unfold val_main_v7
  rw [concatenate_pair_apply_left (t := S4x2304x2x128) (s₁ := S4x2048x2x128) (s₂ := S4x256x2x128) 1 _ _ _ _ rfl (ix4 b k (kvHead z) e)
    (fun a => match a with | ⟨0, _⟩ => rfl | ⟨1, _⟩ => rfl | ⟨2, _⟩ => rfl | ⟨3, _⟩ => rfl), val_main_v4_apply, val_main_v3_apply]
  show Kx _ = _
  congr 1; funext a; apply Fin.ext
  have hb := b.isLt; have hk := k.isLt; have hz := z.isLt; have he := e.isLt
  match a with
  | ⟨0, _⟩ => show (((b.val * 2048 + k.val) * 2 + z.val / 256) * 128 + e.val) / 524288 = b.val; omega
  | ⟨1, _⟩ => show (((b.val * 2048 + k.val) * 2 + z.val / 256) * 128 + e.val) / 256 % 2048 = k.val; omega
  | ⟨2, _⟩ => show (((b.val * 2048 + k.val) * 2 + z.val / 256) * 128 + e.val) % 256 = 128 * (z.val / 256) + e.val; omega

theorem keys_c (b : Fin 4) (k : Fin 256) (z : Fin 512) (e : Fin 128) :
    val_main_v7 (F := Ideal) Kx Kc (ix4 b (Fin.natAdd 2048 k : Fin 2304) (kvHead z) e) = Kc (ix3 b k (klane z e)) := by
  unfold val_main_v7
  rw [concatenate_pair_apply_right (t := S4x2304x2x128) (s₁ := S4x2048x2x128) (s₂ := S4x256x2x128) 1 _ _ _ _ rfl rfl (ix4 b k (kvHead z) e)
    (fun a h => match a with | ⟨0, _⟩ => rfl | ⟨1, _⟩ => absurd rfl h | ⟨2, _⟩ => rfl | ⟨3, _⟩ => rfl)
    (by show k.val + 2048 = 2048 + k.val; omega), val_main_v6_apply, val_main_v5_apply]
  show Kc _ = _
  congr 1; funext a; apply Fin.ext
  have hb := b.isLt; have hk := k.isLt; have hz := z.isLt; have he := e.isLt
  match a with
  | ⟨0, _⟩ => show (((b.val * 256 + k.val) * 2 + z.val / 256) * 128 + e.val) / 65536 = b.val; omega
  | ⟨1, _⟩ => show (((b.val * 256 + k.val) * 2 + z.val / 256) * 128 + e.val) / 256 % 256 = k.val; omega
  | ⟨2, _⟩ => show (((b.val * 256 + k.val) * 2 + z.val / 256) * 128 + e.val) % 256 = 128 * (z.val / 256) + e.val; omega

theorem values_x (b : Fin 4) (k : Fin 2048) (z : Fin 512) (e : Fin 128) :
    val_main_v12 (F := Ideal) Vx Vc (ix4 b (Fin.castAdd 256 k : Fin 2304) (kvHead z) e) = Vx (ix3 b k (klane z e)) := keys_x Vx Vc b k z e

theorem values_c (b : Fin 4) (k : Fin 256) (z : Fin 512) (e : Fin 128) :
    val_main_v12 (F := Ideal) Vx Vc (ix4 b (Fin.natAdd 2048 k : Fin 2304) (kvHead z) e) = Vc (ix3 b k (klane z e)) := keys_c Vx Vc b k z e

theorem query (b : Fin 4) (s : Fin 2048) (z : Fin 512) (e : Fin 128) :
    val_main_v2 (F := Ideal) Q (ix5 b s (kvHead z) (qOf z) e) = Q (ix3 b s (qlane z e)) := by
  rw [val_main_v2_apply, val_main_v1_apply, val_main_v0_apply]
  show Q _ = _
  congr 1; funext a; apply Fin.ext
  have hb := b.isLt; have hk := s.isLt; have hz := z.isLt; have he := e.isLt
  have e0 : ((idx_main_v2 (ix5 b s (kvHead z) (qOf z) e)) 0).val = b.val := by
    show ((((b.val * 2048 + s.val) * 2 + z.val / 256) * 2 + z.val / 128 % 2) * 128 + e.val) / 1048576 = b.val; omega
  have e1 : ((idx_main_v2 (ix5 b s (kvHead z) (qOf z) e)) 1).val = s.val := by
    show ((((b.val * 2048 + s.val) * 2 + z.val / 256) * 2 + z.val / 128 % 2) * 128 + e.val) / 512 % 2048 = s.val; omega
  have e2 : ((idx_main_v2 (ix5 b s (kvHead z) (qOf z) e)) 2).val = z.val / 128 := by
    show ((((b.val * 2048 + s.val) * 2 + z.val / 256) * 2 + z.val / 128 % 2) * 128 + e.val) / 128 % 4 = z.val / 128; omega
  have e3 : ((idx_main_v2 (ix5 b s (kvHead z) (qOf z) e)) 3).val = e.val := by
    show ((((b.val * 2048 + s.val) * 2 + z.val / 256) * 2 + z.val / 128 % 2) * 128 + e.val) % 128 = e.val; omega
  generalize idx_main_v2 (ix5 b s (kvHead z) (qOf z) e) = j at e0 e1 e2 e3
  match a with
  | ⟨0, _⟩ => show ((((j 0).val * 2048 + (j 1).val) * 4 + (j 2).val) * 128 + (j 3).val) / 1048576 = b.val; omega
  | ⟨1, _⟩ => show ((((j 0).val * 2048 + (j 1).val) * 4 + (j 2).val) * 128 + (j 3).val) / 512 % 2048 = s.val; omega
  | ⟨2, _⟩ => show ((((j 0).val * 2048 + (j 1).val) * 4 + (j 2).val) * 128 + (j 3).val) % 512 = 128 * (z.val / 128) + e.val; omega

/-! ## The scaled scores -/

theorem bits128 : (FloatOps.ofBits (F := Ideal) .f32 0x43000000#32 : EReal) = ((128 : ℝ) : EReal) := by
  show Ideal.ofBits .f32 0x43000000#32 = _
  simp [Ideal.ofBits, Ideal.ieee, -EReal.coe_mul]; norm_num

theorem root : FloatOps.hostUnary (F := Ideal) (φ := .f32) .sqrt (FloatOps.ofBits .f32 0x43000000#32) = ((Real.sqrt 128 : ℝ) : EReal) := by
  rw [bits128, Ideal.hostUnary_sqrt_def, Ideal.sqrt_coe, if_neg (by norm_num)]

theorem div_root (x : EReal) : Ideal.div x ((Real.sqrt 128 : ℝ) : EReal) = x * (((Real.sqrt 128)⁻¹ : ℝ) : EReal) := by
  rw [Ideal.div_coe (by positivity), one_div]

/-- The scores over the joined keys. -/
def joinedScore (b : Fin 4) (s : Fin 2048) (z : Fin 512) : Fin (2048 + 256) → EReal :=
  Fin.addCases (headScore Q Kx b s z) (headScore Q Kc b s z)

def joinedValue (b : Fin 4) (z : Fin 512) : Fin (2048 + 256) → EReal :=
  Fin.addCases (fun k => Vx (ix3 b k (klane z (place z)))) (fun k => Vc (ix3 b k (klane z (place z))))

theorem dot_apply (b : Fin 4) (s : Fin 2048) (z : Fin 512) (k : Fin (2048 + 256)) :
    val_main_v14 (F := Ideal) Q Kx Kc (ix5 b (kvHead z) (qOf z) s k) = joinedScore Q Kx Kc b s z k := by
  have hl : ∀ e : Fin 128, lidx_main_v13 (idx_main_v14 (ix5 b (kvHead z) (qOf z) s k)) e = ix4 b k (kvHead z) e := fun e => by
    funext a; match a with | ⟨0, _⟩ => rfl | ⟨1, _⟩ => rfl | ⟨2, _⟩ => rfl | ⟨3, _⟩ => rfl
  have hr : ∀ e : Fin 128, ridx_main_v13 (idx_main_v14 (ix5 b (kvHead z) (qOf z) s k)) e = ix5 b s (kvHead z) (qOf z) e := fun e => by
    funext a; match a with | ⟨0, _⟩ => rfl | ⟨1, _⟩ => rfl | ⟨2, _⟩ => rfl | ⟨3, _⟩ => rfl | ⟨4, _⟩ => rfl
  rw [val_main_v14_apply, val_main_v13_apply]
  unfold joinedScore
  induction k using Fin.addCases with
  | left k =>
    rw [Fin.addCases_left]
    refine Finset.sum_congr rfl fun e _ => ?_
    rw [hl, hr, keys_x, query, mul_comm]
  | right k =>
    rw [Fin.addCases_right]
    refine Finset.sum_congr rfl fun e _ => ?_
    rw [hl, hr, keys_c, query, mul_comm]

/-- The scaled score. -/
theorem scaled_apply (b : Fin 4) (s : Fin 2048) (z : Fin 512) (k : Fin (2048 + 256)) :
    val_main_v17 (F := Ideal) Q Kx Kc (ix5 b (kvHead z) (qOf z) s k) = joinedScore Q Kx Kc b s z k * (((Real.sqrt 128)⁻¹ : ℝ) : EReal) := by
  rw [val_main_v17_apply, val_main_v16_apply, val_main_v15_apply, val_main_cst_apply]
  show Ideal.div _ _ = _
  rw [root, div_root, dot_apply]

/-! ## The row's maximum and sum -/

theorem negInf' : (FloatOps.ofBits (F := Ideal) .f32 0xFF800000#32 : EReal) = ⊥ := negInf

theorem red : S4x2x2x2048x2304.Reduces [4] S4x2x2x2048 := by decide

theorem rowTop_apply (b : Fin 4) (s : Fin 2048) (z : Fin 512) :
    val_main_v20 (F := Ideal) Q Kx Kc (ix4 b (kvHead z) (qOf z) s)
      = (Finset.univ : Finset (Fin (2048 + 256))).fold max ⊥ (fun k => joinedScore Q Kx Kc b s z k * (((Real.sqrt 128)⁻¹ : ℝ) : EReal)) := by
  rw [val_main_v20_apply, val_main_v19_apply, val_main_cst_1_apply]
  show max (FloatOps.ofBits (F := Ideal) .f32 0xFF800000#32 : EReal) _ = _
  rw [negInf, max_eq_right bot_le]
  unfold val_main_v18 val_main_cst_0
  refine (congrFun (hostReduce_maximumf_eq_multiReduction (F := Ideal) (φ := .f32) (s := S4x2x2x2048x2304) (t := S4x2x2x2048) (u := S_)
    (val_main_v17 (F := Ideal) Q Kx Kc) 0xFF800000#32 reducesTo_S4x2x2x2048x2304_S4x2x2x2048_d4 h_S_ red (.inl rfl) rfl) _).trans ?_
  refine (Ideal.multiReduction_maximumf_single (φ := .f32) (s := S4x2x2x2048x2304) (t := S4x2x2x2048) (a := 4) _ _ red _ _ _).trans ?_
  rw [negInf]
  refine congrArg (fun f => (Finset.univ : Finset (Fin 2304)).fold max ⊥ f) (funext fun k => ?_)
  refine Eq.trans ?_ (scaled_apply Q Kx Kc b s z k)
  refine congrArg (val_main_v17 (F := Ideal) Q Kx Kc) ?_
  funext a; apply Fin.ext
  match a with
  | ⟨0, _⟩ => rfl
  | ⟨1, _⟩ => rfl
  | ⟨2, _⟩ => rfl
  | ⟨3, _⟩ => rfl
  | ⟨4, _⟩ => rfl

theorem weight_apply (b : Fin 4) (s : Fin 2048) (z : Fin 512) (k : Fin (2048 + 256)) :
    val_main_v24 (F := Ideal) Q Kx Kc (ix5 b (kvHead z) (qOf z) s k)
      = Ideal.exp (joinedScore Q Kx Kc b s z k * (((Real.sqrt 128)⁻¹ : ℝ) : EReal)
          - (Finset.univ : Finset (Fin (2048 + 256))).fold max ⊥ (fun k => joinedScore Q Kx Kc b s z k * (((Real.sqrt 128)⁻¹ : ℝ) : EReal))) := by
  rw [val_main_v24_apply, val_main_v23_apply, val_main_v22_apply, val_main_v21_apply]
  show Ideal.exp (_ - _) = _
  rw [scaled_apply, ← rowTop_apply]
  refine congrArg (fun j => Ideal.exp (_ - val_main_v20 (F := Ideal) Q Kx Kc j)) ?_
  funext a
  match a with
  | ⟨0, _⟩ => rfl
  | ⟨1, _⟩ => rfl
  | ⟨2, _⟩ => rfl
  | ⟨3, _⟩ => rfl

theorem sum_apply (b : Fin 4) (s : Fin 2048) (z : Fin 512) (k : Fin (2048 + 256)) :
    val_main_v27 (F := Ideal) Q Kx Kc (ix5 b (kvHead z) (qOf z) s k)
      = ∑ k : Fin (2048 + 256), val_main_v24 (F := Ideal) Q Kx Kc (ix5 b (kvHead z) (qOf z) s k) := by
  rw [val_main_v27_apply, val_main_v26_apply, val_main_v25_apply, val_main_cst_2_apply]
  show (FloatOps.ofBits (F := Ideal) .f32 0x00000000#32 : EReal) + _ = _
  rw [zeroBits, zero_add]
  refine Finset.sum_congr rfl fun k' _ => congrArg (val_main_v24 (F := Ideal) Q Kx Kc) ?_
  funext a
  match a with
  | ⟨0, _⟩ => rfl
  | ⟨1, _⟩ => rfl
  | ⟨2, _⟩ => rfl
  | ⟨3, _⟩ => rfl
  | ⟨4, _⟩ => rfl

/-- The reference's result at batch `b`, query `s`, lane `z`. -/
theorem result_apply (b : Fin 4) (s : Fin 2048) (z : Fin 512) :
    val_main_v32 (F := Ideal) Q Kx Vx Kc Vc (ix3 b s z)
      = softmaxSum (fun k => joinedScore Q Kx Kc b s z k * (((Real.sqrt 128)⁻¹ : ℝ) : EReal)) (joinedValue Vx Vc b z) := by
  have hi : idx_main_v30 (idx_main_v31 (ix3 b s z)) = ix5 b (kvHead z) (place z) (qOf z) s := by
    have hb := b.isLt; have hs := s.isLt; have hz := z.isLt
    funext a; apply Fin.ext
    match a with
    | ⟨0, _⟩ => show ((b.val * 2048 + s.val) * 512 + z.val) / 1048576 = b.val; omega
    | ⟨1, _⟩ => show ((b.val * 2048 + s.val) * 512 + z.val) / 256 % 2 = z.val / 256; omega
    | ⟨2, _⟩ => show ((b.val * 2048 + s.val) * 512 + z.val) % 128 = z.val % 128; omega
    | ⟨3, _⟩ => show ((b.val * 2048 + s.val) * 512 + z.val) / 128 % 2 = z.val / 128 % 2; omega
    | ⟨4, _⟩ => show ((b.val * 2048 + s.val) * 512 + z.val) / 512 % 2048 = s.val; omega
  rw [val_main_v32_apply]
  show val_main_v31 (F := Ideal) Q Kx Vx Kc Vc (ix3 b s z) = _
  rw [val_main_v31_apply, val_main_v30_apply, hi, val_main_v29_apply]
  unfold softmaxSum
  refine Finset.sum_congr rfl fun k _ => ?_
  have hl : lidx_main_v29 (ix5 b (kvHead z) (place z) (qOf z) s) k = ix4 b k (kvHead z) (place z) := by
    funext a; match a with | ⟨0, _⟩ => rfl | ⟨1, _⟩ => rfl | ⟨2, _⟩ => rfl | ⟨3, _⟩ => rfl
  have hr : ridx_main_v29 (ix5 b (kvHead z) (place z) (qOf z) s) k = ix5 b (kvHead z) (qOf z) s k := by
    funext a; match a with | ⟨0, _⟩ => rfl | ⟨1, _⟩ => rfl | ⟨2, _⟩ => rfl | ⟨3, _⟩ => rfl | ⟨4, _⟩ => rfl
  rw [hl, hr, val_main_v28_apply]
  show _ * Ideal.div _ _ = _
  rw [sum_apply]
  simp only [weight_apply]
  refine congrArg (· * _) ?_
  unfold joinedValue
  induction k using Fin.addCases (m := 2048) (n := 256) with
  | left k => rw [Fin.addCases_left]; exact values_x Vx Vc b k z (place z)
  | right k => rw [Fin.addCases_right]; exact values_c Vx Vc b k z (place z)

end Cert.AttentionRef

end
-- ==== Proof.AttentionClaim.lean ====
/-
  The attention claims: the precondition read as "every query and key entry is a real number", the scores then real, and
  the kernel's result the reference's.
-/
module

public import proofs.«01_k».proof.Defs
public import proofs.«01_k».proof.Proof.AttentionRef
public import proofs.«01_k».proof.Proof.Gen.Pre_finite_scores
public import proofs.«01_k».proof.Proof.Gen.Kernel.Frame
public import Idealize.ShloMosaic.Lib.Claim

@[expose] public section

set_option maxRecDepth 16384

noncomputable section

namespace Cert.Proof.Attention

open Idealize.ShloMosaic Idealize.ShloMosaic.TcCoe Idealize.ShloMosaic.ValueIdx
open Idealize.SL.Sem
open Cert.AttentionMath Cert.KernelIdeal.AttentionBlock Cert.KernelIdeal.AttentionKernel Cert.AttentionRef
open scoped BigOperators

/-- A value whose magnitude lies below `+∞` is a real number. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  refine (EReal.coe_toReal ?_ ?_).symm
  · rintro rfl
    simp [Ideal.cmp] at h
  · rintro rfl
    simp [Ideal.cmp] at h

/-- The two-part softmax of the kernel is the reference's, once every query and key entry is a real number. -/
theorem result_eq (Q : (⟨3, ![4, 2048, 512]⟩ : Shape).Idx → EReal) (Kx Vx : (⟨3, ![4, 2048, 256]⟩ : Shape).Idx → EReal) (Kc Vc : (⟨3, ![4, 256, 256]⟩ : Shape).Idx → EReal)
    (hq : ∀ i, Q i = ((Q i).toReal : EReal)) (hx : ∀ i, Kx i = ((Kx i).toReal : EReal)) (hc : ∀ i, Kc i = ((Kc i).toReal : EReal))
    (b : Fin 4) (s : Fin 2048) (z : Fin 512) :
    result Q Kx Vx Kc Vc b s z = Cert.ReferenceIdeal.Read.val_main_v32 (F := Ideal) Q Kx Vx Kc Vc (ix3 b s z) := by
  rw [Cert.AttentionRef.result_apply]
  have real : ∀ {n : ℕ} (K : (⟨3, ![4, n, 256]⟩ : Shape).Idx → EReal), (∀ i, K i = ((K i).toReal : EReal)) → ∀ k : Fin n,
      headScore Q K b s z k = ((∑ e : Fin 128, (Q (ix3 b s (qlane z e))).toReal * (K (ix3 b k (klane z e))).toReal : ℝ) : EReal) := by
    intro n K hK k
    unfold headScore
    rw [coe_sum]
    refine Finset.sum_congr rfl fun e _ => ?_
    rw [EReal.coe_mul, ← hq, ← hK]
  let S : Fin (2048 + 256) → ℝ := Fin.addCases
    (fun k => ∑ e : Fin 128, (Q (ix3 b s (qlane z e))).toReal * (Kx (ix3 b k (klane z e))).toReal)
    (fun k => ∑ e : Fin 128, (Q (ix3 b s (qlane z e))).toReal * (Kc (ix3 b k (klane z e))).toReal)
  have hS : ∀ k, joinedScore Q Kx Kc b s z k = ((S k : ℝ) : EReal) := by
    intro k
    unfold joinedScore
    induction k using Fin.addCases with
    | left k => simp only [S, Fin.addCases_left]; exact real Kx hx k
    | right k => simp only [S, Fin.addCases_right]; exact real Kc hc k
  have main := fused_eq_softmaxSum (m := 2048) (n := 256) (c := (Real.sqrt 128)⁻¹) (by positivity) S (joinedValue Vx Vc b z)
  have e1 : headScore Q Kx b s z = fun k => ((S (Fin.castAdd 256 k) : ℝ) : EReal) := funext fun k =>
    (real Kx hx k).trans (by simp only [S, Fin.addCases_left])
  have e2 : headScore Q Kc b s z = fun k => ((S (Fin.natAdd 2048 k) : ℝ) : EReal) := funext fun k =>
    (real Kc hc k).trans (by simp only [S, Fin.addCases_right])
  simp only [hS]
  refine Eq.trans ?_ main
  unfold result joinedValue
  simp only [Fin.addCases_left, Fin.addCases_right]
  rw [e1, e2]
  rfl

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_scores := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_scores := fun m ρ _ => frame_ri m ρ trivial

/-- The one named constant: the kernel's scale `1 / (√128 · log 2)`. -/
theorem preserves : Cert.preserves_Kernel_KernelIdeal :=
  IdealRules.named_const.statement Cert.KernelIdeal.κ "scale_log2e" .f32 0x3E0293EE#32 (((Real.sqrt 128)⁻¹ * (Real.log 2)⁻¹ : ℝ) : EReal) rfl

theorem algebraic : Cert.algebraic_KernelIdeal_ReferenceIdeal_pre_finite_scores := fun m ρ m' ρ' hpre hag =>
  ⟨fun c => G m c, run m ρ, (θ_run Cert.ReferenceIdeal.defs _ _).mono (fun _ h c => ⟨(h c).1.trans (by
      rw [Cert.ReferenceIdeal.Read.val_main_v32_eq]
      obtain ⟨e0, e1, e2, e3, e4⟩ := hag c
      rw [e0, e1, e2, e3, e4]
      obtain ⟨p0, p1, p2⟩ := hpre c
      funext i
      refine (congrArg _ (eq_ix3 i)).trans (result_eq _ _ _ _ _ (fun i => real_of_lt _ (congrFun p0 i)) (fun i => real_of_lt _ (congrFun p1 i))
        (fun i => real_of_lt _ (congrFun p2 i)) (i 0) (i 1) (i 2)).symm), (h c).2⟩)
    (Cert.ReferenceIdeal.Value.run (F := Ideal) m' ρ')⟩

end Cert.Proof.Attention

end
-- ==== Proof.MergeBlock.lean ====
/-
  What the gated merge writes at one grid point, entry by entry: at row `r` and column `d` of the block the four gates
  times the four projected branches, added in order. The weights come from the two scratch arrays; the first point of a
  column block fills them from its weight blocks, the other points find them as they were.
-/
module

public import proofs.«01_k».proof.Proof.Gen.Kernel2Ideal.Frame
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pipeline.ReadBack

@[expose] public section

set_option maxRecDepth 16384

noncomputable section

namespace Cert.Kernel2Ideal.MergeBlock

open Cert.Kernel2Ideal Cert.Kernel2Ideal.Gen Idealize.ShloMosaic.TcCoe Idealize.ShloMosaic.ValueIdx
open Idealize.ShloMosaic Idealize.ShloMosaic.Tactic
open Idealize.SL Idealize.SL.Sem
open scoped BigOperators

/-! ## The value of a block -/

/-- The gate of row `r` and column `d` for branch `n`, from the rows and the cached gate weights. -/
def gate (x : S512x2048.Idx → EReal) (W : S4x512x2048.Idx → EReal) (n : Fin 4) (r d : Fin 512) : EReal :=
  Ideal.logistic (∑ e : Fin 2048, x (ix2 r e) * W (ix3 n d e))

/-- Row `r` of a branch projected to column `d` by the cached weights of branch `n`. -/
def lift (b : S512x512.Idx → EReal) (W : S4x512x512.Idx → EReal) (n : Fin 4) (r d : Fin 512) : EReal :=
  ∑ k : Fin 512, b (ix2 r k) * W (ix3 n k d)

/-- The block: the four gated branches added in order. -/
def merged (x : S512x2048.Idx → EReal) (b0 b1 b2 b3 : S512x512.Idx → EReal) (W : S4x512x2048.Idx → EReal) (U : S4x512x512.Idx → EReal) : S512x512.Idx → EReal := fun y =>
  gate x W 0 (y 0) (y 1) * lift b0 U 0 (y 0) (y 1) + gate x W 1 (y 0) (y 1) * lift b1 U 1 (y 0) (y 1)
    + gate x W 2 (y 0) (y 1) * lift b2 U 2 (y 0) (y 1) + gate x W 3 (y 0) (y 1) * lift b3 U 3 (y 0) (y 1)

/-- Four gate weight blocks side by side: what the first scratch array is filled with. -/
def stacked (w0 w1 w2 w3 : S1x512x2048.Idx → EReal) : S4x512x2048.Idx → EReal := fun y =>
  (![w0, w1, w2, w3] : Fin 4 → _) (y 0) (ix3 0 (y 1) (y 2))

/-- The branch weight block without its leading axis: what the second scratch array is filled with. -/
def flat (w : S1x4x512x512.Idx → EReal) : S4x512x512.Idx → EReal := fun y => w (ix4 0 (y 0) (y 1) (y 2))

theorem zeroBits : (FloatOps.ofBits (F := Ideal) .f32 0x00000000#32 : EReal) = 0 := Ideal.ofBits_zero_f32

/-- The gate product of the rows with one slice of the weights. -/
theorem gate_dot (x : Vec Ideal S512x2048 .bf16) (w : Vec Ideal S1x512x2048 .bf16) (r d : Fin 512) :
    matmul (F := Ideal) (φ₁ := .bf16) (φ₂ := .bf16) dot_S512x2048_S512x2048_S512x512_1_1_0_0_n_n none x (shapeCast S512x2048 w shapeCasts_S1x512x2048_S512x2048) (constant S512x512 .f32 0x00000000#32) (ix2 r d)
      = ∑ e : Fin 2048, x (ix2 r e) * w (ix3 0 d e) := by
  show FloatOps.matmul (DotDims.transposedRhs 512 2048 512) none _ _ _ (ix2 r d) = _
  rw [Ideal.matmul_transposedRhs_apply]
  show FloatOps.ofBits (F := Ideal) .f32 0x00000000#32 + _ = _
  rw [zeroBits, zero_add]
  refine Finset.sum_congr rfl fun e _ => ?_
  rw [shapeCast_1ab_ab_apply]

theorem lift_dot (b : Vec Ideal S512x512 .bf16) (w : Vec Ideal S1x512x512 .bf16) (r d : Fin 512) :
    matmul (F := Ideal) (φ₁ := .bf16) (φ₂ := .bf16) dot_S512x512_S512x512_S512x512_1_0_0_1_n_n none b (shapeCast S512x512 w shapeCasts_S1x512x512_S512x512) (constant S512x512 .f32 0x00000000#32) (ix2 r d)
      = ∑ k : Fin 512, b (ix2 r k) * w (ix3 0 k d) := by
  show FloatOps.matmul (DotDims.plain 512 512 512) none _ _ _ (ix2 r d) = _
  rw [Ideal.matmul_plain_apply]
  show FloatOps.ofBits (F := Ideal) .f32 0x00000000#32 + _ = _
  rw [zeroBits, zero_add]
  refine Finset.sum_congr rfl fun e _ => ?_
  rw [shapeCast_1ab_ab_apply]

/-- The stored value from the eight weight slices. -/
theorem pay_apply (x : Vec Ideal S512x2048 .bf16) (b0 b1 b2 b3 : Vec Ideal S512x512 .bf16) (w0 w1 w2 w3 : Vec Ideal S1x512x2048 .bf16) (u0 u1 u2 u3 : Vec Ideal S1x512x512 .bf16) (r d : Fin 512) :
    k0_pay1 (F := Ideal) (k0_pay8 x) (k0_pay9 x w0 b0 u0 w1 b1 u1) (k0_pay10 x w2) b2 u2 w3 b3 u3 (ix2 r d)
      = Ideal.logistic (∑ e : Fin 2048, x (ix2 r e) * w0 (ix3 0 d e)) * (∑ k : Fin 512, b0 (ix2 r k) * u0 (ix3 0 k d))
        + Ideal.logistic (∑ e : Fin 2048, x (ix2 r e) * w1 (ix3 0 d e)) * (∑ k : Fin 512, b1 (ix2 r k) * u1 (ix3 0 k d))
        + Ideal.logistic (∑ e : Fin 2048, x (ix2 r e) * w2 (ix3 0 d e)) * (∑ k : Fin 512, b2 (ix2 r k) * u2 (ix3 0 k d))
        + Ideal.logistic (∑ e : Fin 2048, x (ix2 r e) * w3 (ix3 0 d e)) * (∑ k : Fin 512, b3 (ix2 r k) * u3 (ix3 0 k d)) := by
  unfold k0_pay1 k0_pay9 k0_pay10 k0_pay8
  simp only [shapeCast_self]
  refine congrArg₂ (α := EReal) (β := EReal) (γ := EReal) (fun a b => a + b) (congrArg₂ (α := EReal) (β := EReal) (γ := EReal) (fun a b => a + b) (congrArg₂ (α := EReal) (β := EReal) (γ := EReal) (fun a b => a + b) ?_ ?_) ?_) ?_
  all_goals exact congrArg₂ (α := EReal) (β := EReal) (γ := EReal) (fun a b => a * b) (congrArg Ideal.logistic (gate_dot _ _ r d)) (lift_dot _ _ r d)

/-! ## The run's pieces read back -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A slice of a weight array, entry by entry. -/
theorem ld_slice {p q : ℕ} (W : (⟨3, ![4, p, q]⟩ : Shape).Idx → EReal) (o : ℕ) (n : Fin 4) (hn : n.val = o)
    (inb : ∀ a, (![o, 0, 0] : Fin 3 → ℕ) a + (![1, p, q] : Fin 3 → ℕ) a ≤ (![4, p, q] : Fin 3 → ℕ) a) (d : Fin p) (e : Fin q) :
    W ((Rect.unit (s := (⟨3, ![4, p, q]⟩ : Shape)) ![o, 0, 0] ![1, p, q] inb).emb (ix3 0 d e)) = W (ix3 n d e) := by
  refine congrArg W (funext fun a => Fin.ext ?_)
  match a with
  | ⟨0, _⟩ => show o + 1 * 0 = n.val; omega
  | ⟨1, _⟩ => show 0 + 1 * d.val = d.val; omega
  | ⟨2, _⟩ => show 0 + 1 * e.val = e.val; omega

/-- Storing a gate weight slice narrowed and recast stores the slice. -/
theorem pay_slice (w : Vec Ideal S1x512x2048 .f32) :
    k0_pay2 (F := Ideal) w = w ∧ k0_pay3 (F := Ideal) w = w ∧ k0_pay4 (F := Ideal) w = w ∧ k0_pay5 (F := Ideal) w = w := by
  have h : shapeCast S1x512x2048 (shapeCast S512x2048 w shapeCasts_S1x512x2048_S512x2048) shapeCasts_S512x2048_S1x512x2048 = w := shapeCast_shapeCast w _ _
  exact ⟨h, h, h, h⟩

/-- Storing the branch weight block stores it without its leading axis. -/
theorem pay_flat (w : Vec Ideal S1x4x512x512 .f32) : k0_pay7 (F := Ideal) (k0_pay6 w) = flat w := by
  unfold k0_pay7 k0_pay6
  rw [shapeCast_self]
  funext y
  refine (congrArg _ (eq_ix3 y)).trans ?_
  exact shapeCast_1abc_abc_apply w _ (y 0) (y 1) (y 2)

/-- A gate weight slice is the stacked array's block there. -/
theorem stacked_piece (w0 w1 w2 w3 : S1x512x2048.Idx → EReal) (o : ℕ) (n : Fin 4) (hn : n.val = o)
    (inb : ∀ a, (![o, 0, 0] : Fin 3 → ℕ) a + (![1, 512, 2048] : Fin 3 → ℕ) a ≤ S4x512x2048.size a) (x : S1x512x2048.Idx) :
    (![w0, w1, w2, w3] : Fin 4 → _) n x = stacked w0 w1 w2 w3 ((Rect.unit (s := S4x512x2048) ![o, 0, 0] ![1, 512, 2048] inb).emb x) := by
  have hx : x = ix3 (0 : Fin 1) (x 1) (x 2) := (eq_ix3 x).trans (congrArg (fun u : Fin 1 => ix3 u (x 1) (x 2)) (Subsingleton.elim (α := Fin 1) (x 0) 0))
  refine Eq.trans ?_ ((congrArg (fun z => stacked w0 w1 w2 w3 ((Rect.unit (s := S4x512x2048) ![o, 0, 0] ![1, 512, 2048] inb).emb z)) hx).trans
    (ld_slice (stacked w0 w1 w2 w3) o n hn inb (x 1) (x 2))).symm
  exact congrArg ((![w0, w1, w2, w3] : Fin 4 → S1x512x2048.Idx → EReal) n) hx

/-- The four gate weight stores leave the stacked array. -/
theorem canon_stacked (w1 w2 w3 w4 : Vec Ideal S1x512x2048 .f32) :
    View.canon (Val := Elt Ideal) (s := S4x512x2048) (e := .bf16)
      [⟨Rect.unit ![3, 0, 0] ![1, 512, 2048] inb_S4x512x2048_S1x512x2048_3_0_0, k0_pay5 (F := Ideal) w4⟩,
        ⟨Rect.unit ![2, 0, 0] ![1, 512, 2048] inb_S4x512x2048_S1x512x2048_2_0_0, k0_pay4 (F := Ideal) w3⟩,
        ⟨Rect.unit ![1, 0, 0] ![1, 512, 2048] inb_S4x512x2048_S1x512x2048_1_0_0, k0_pay3 (F := Ideal) w2⟩,
        ⟨Rect.unit ![0, 0, 0] ![1, 512, 2048] inb_S4x512x2048_S1x512x2048_0_0_0, k0_pay2 (F := Ideal) w1⟩] = stacked w1 w2 w3 w4 := by
  rw [(pay_slice w1).1, (pay_slice w2).2.1, (pay_slice w3).2.2.1, (pay_slice w4).2.2.2]
  funext y
  have h := View.canon_append_of_piecesOf (Val := Elt Ideal) (s := S4x512x2048) (e := .bf16) (stacked w1 w2 w3 w4) []
    [⟨Rect.unit ![3, 0, 0] ![1, 512, 2048] inb_S4x512x2048_S1x512x2048_3_0_0, w4⟩,
        ⟨Rect.unit ![2, 0, 0] ![1, 512, 2048] inb_S4x512x2048_S1x512x2048_2_0_0, w3⟩,
        ⟨Rect.unit ![1, 0, 0] ![1, 512, 2048] inb_S4x512x2048_S1x512x2048_1_0_0, w2⟩,
        ⟨Rect.unit ![0, 0, 0] ![1, 512, 2048] inb_S4x512x2048_S1x512x2048_0_0_0, w1⟩]
    ⟨stacked_piece w1 w2 w3 w4 3 3 rfl inb_S4x512x2048_S1x512x2048_3_0_0, stacked_piece w1 w2 w3 w4 2 2 rfl inb_S4x512x2048_S1x512x2048_2_0_0, stacked_piece w1 w2 w3 w4 1 1 rfl inb_S4x512x2048_S1x512x2048_1_0_0, stacked_piece w1 w2 w3 w4 0 0 rfl inb_S4x512x2048_S1x512x2048_0_0_0, trivial⟩ y
    (View.cover_of_tiledL (s := S4x512x2048) _ ![1, 512, 2048] (by sl_kernel_rfl) y)
  rw [List.append_nil] at h
  exact h

/-- The value of a block, from its payload over the eight slices of the cached weights. -/
theorem pay_merged (x : Vec Ideal S512x2048 .bf16) (b0 b1 b2 b3 : Vec Ideal S512x512 .bf16) (W : S4x512x2048.Idx → EReal) (U : S4x512x512.Idx → EReal) :
    k0_pay1 (F := Ideal) (k0_pay8 x)
      (k0_pay9 x (fun j => W ((Rect.unit (s := S4x512x2048) ![0, 0, 0] ![1, 512, 2048] inb_S4x512x2048_S1x512x2048_0_0_0).emb j)) b0
        (fun j => U ((Rect.unit (s := S4x512x512) ![0, 0, 0] ![1, 512, 512] inb_S4x512x512_S1x512x512_0_0_0).emb j))
        (fun j => W ((Rect.unit (s := S4x512x2048) ![1, 0, 0] ![1, 512, 2048] inb_S4x512x2048_S1x512x2048_1_0_0).emb j)) b1
        (fun j => U ((Rect.unit (s := S4x512x512) ![1, 0, 0] ![1, 512, 512] inb_S4x512x512_S1x512x512_1_0_0).emb j)))
      (k0_pay10 x (fun j => W ((Rect.unit (s := S4x512x2048) ![2, 0, 0] ![1, 512, 2048] inb_S4x512x2048_S1x512x2048_2_0_0).emb j))) b2
      (fun j => U ((Rect.unit (s := S4x512x512) ![2, 0, 0] ![1, 512, 512] inb_S4x512x512_S1x512x512_2_0_0).emb j))
      (fun j => W ((Rect.unit (s := S4x512x2048) ![3, 0, 0] ![1, 512, 2048] inb_S4x512x2048_S1x512x2048_3_0_0).emb j)) b3
      (fun j => U ((Rect.unit (s := S4x512x512) ![3, 0, 0] ![1, 512, 512] inb_S4x512x512_S1x512x512_3_0_0).emb j))
      = merged x b0 b1 b2 b3 W U := by
  funext y
  refine (congrArg _ (eq_ix2 y)).trans ((pay_apply _ _ _ _ _ _ _ _ _ _ _ _ _ (y 0) (y 1)).trans ?_)
  unfold merged gate lift
  have hW : ∀ (o : ℕ) (n : Fin 4) (hn : n.val = o) (inb) (e : Fin 2048), W ((Rect.unit (s := S4x512x2048) ![o, 0, 0] ![1, 512, 2048] inb).emb (ix3 0 (y 1) e)) = W (ix3 n (y 1) e) :=
    fun o n hn inb e => ld_slice W o n hn inb (y 1) e
  have hU : ∀ (o : ℕ) (n : Fin 4) (hn : n.val = o) (inb) (k : Fin 512), U ((Rect.unit (s := S4x512x512) ![o, 0, 0] ![1, 512, 512] inb).emb (ix3 0 k (y 1))) = U (ix3 n k (y 1)) :=
    fun o n hn inb k => ld_slice U o n hn inb k (y 1)
  simp only [hW 0 0 rfl, hW 1 1 rfl, hW 2 2 rfl, hW 3 3 rfl, hU 0 0 rfl, hU 1 1 rfl, hU 2 2 rfl, hU 3 3 rfl]

variable (c : Dev nD) (i : grid0.Coords) (arg2 : Memref sig .tc .vmem S512x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x512x512 .f32) (harg11 : arg11.IsWhole) (arg12 : Memref sig .tc .vmem S512x512 .bf16) (harg12 : arg12.IsWhole) (arg13 : Memref sig .tc .vmem S4x512x2048 .bf16) (harg13 : arg13.IsWhole) (arg14 : Memref sig .tc .vmem S4x512x512 .bf16) (harg14 : arg14.IsWhole)
variable (x0 : Vec Ideal S512x2048 .bf16) (x1 : Vec Ideal S1x512x2048 .f32) (x2 : Vec Ideal S1x512x2048 .f32) (x3 : Vec Ideal S1x512x2048 .f32) (x4 : Vec Ideal S1x512x2048 .f32) (x5 : Vec Ideal S512x512 .bf16) (x6 : Vec Ideal S512x512 .bf16) (x7 : Vec Ideal S512x512 .bf16) (x8 : Vec Ideal S512x512 .bf16) (x9 : Vec Ideal S1x4x512x512 .f32)

/-- A point that finds the weights cached. -/
theorem out_B (hc0 : ¬cond0_0 i) (xs0 : Vec Ideal S4x512x2048 .bf16) (xs1 : Vec Ideal S4x512x512 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 = merged x0 x5 x6 x7 x8 xs0 xs1 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1)]
  unfold kernelRun0_B
  dsimp only
  sl_unfold_words
  rw [View.canon_cons_unit_zero (S := S512x512) hz2]
  simp only [View.readAt_eq_ld, harg2.read_unread, harg7.read_unread, harg8.read_unread, harg9.read_unread, harg10.read_unread, harg13.read_unread, harg14.read_unread,
    View.ld_unit_zero (S := S512x512) hz2, View.ld_unit_zero (S := S512x2048) hz2]
  exact pay_merged x0 x5 x6 x7 x8 xs0 xs1

/-- A point that fills the gate weights. -/
theorem sout_A_0 (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = stacked x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp only [View.readAt_eq_ld, harg3.read_unread, harg4.read_unread, harg5.read_unread, harg6.read_unread, View.ld_unit_zero (S := S1x512x2048) hz3]
  exact canon_stacked x1 x2 x3 x4

/-- A point that fills the branch weights. -/
theorem sout_A_1 (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = flat x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S4x512x512) hz3]
  simp only [View.readAt_eq_ld, harg11.read_unread, View.ld_unit_zero (S := S1x4x512x512) hz4]
  exact pay_flat x9

/-- A point that fills the weights, then uses them. -/
theorem out_A (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = merged x0 x5 x6 x7 x8 (stacked x1 x2 x3 x4) (flat x9) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S512x512) hz2]
  simp only [View.readAt_eq_ld, harg2.read_unread, harg3.read_unread, harg4.read_unread, harg5.read_unread, harg6.read_unread, harg7.read_unread, harg8.read_unread, harg9.read_unread, harg10.read_unread, harg11.read_unread,
    View.ld_unit_zero (S := S512x512) hz2, View.ld_unit_zero (S := S512x2048) hz2, View.ld_unit_zero (S := S1x512x2048) hz3, View.ld_unit_zero (S := S1x4x512x512) hz4]
  simp only [View.readCov_eq_canon', canon_stacked]
  rw [show View.canon (Val := Elt Ideal) (s := S4x512x512) (e := .bf16)
    [⟨Rect.unit ![0, 0, 0] ![4, 512, 512] inb_S4x512x512_S4x512x512_0_0_0, k0_pay7 (F := Ideal) (k0_pay6 x9)⟩] = flat x9 from
    (View.canon_unit_zero (S := S4x512x512) hz3 _ _).trans (pay_flat x9)]
  exact pay_merged x0 x5 x6 x7 x8 (stacked x1 x2 x3 x4) (flat x9)

end Cert.Kernel2Ideal.MergeBlock

end
-- ==== Proof.MergeKernel.lean ====
/-
  The merge kernel's result array, entry by entry. The weight slices a column tile uses are stored once, at the tile's first
  point, and kept in scratch; every point of the tile then leaves the gated sum of the four branches for its rows (`block_at`),
  and the sixty-four output blocks tile the array (`run`).
-/
module

public import proofs.«01_k».proof.Proof.MergeBlock
public import proofs.«01_k».proof.Proof.Gen.Kernel2Ideal.Value
public import Idealize.ShloMosaic.Lib.Claim

@[expose] public section

set_option maxRecDepth 16384

noncomputable section

namespace Cert.Kernel2Ideal.MergeKernel

open Cert.Kernel2Ideal Cert.Kernel2Ideal.Gen Idealize.ShloMosaic.TcCoe Idealize.ShloMosaic.ValueIdx
open Idealize.ShloMosaic
open Idealize.SL Idealize.SL.Sem
open Idealize.ShloMosaic.Pipeline (Dat)
open Cert.Kernel2Ideal.MergeBlock
open scoped BigOperators

variable (m : (ℓ : Loc nD τ sig) → Buf (Elt Ideal) ℓ) (ρ : Dev nD → PrngReg)

/-! ## The result as a formula -/

/-- Argument arrays as functions of an index. -/
abbrev argX (c : Dev nD) : S4x2048x2048.Idx → EReal := m ((c : Thread nD τ).loc main_arg0)
abbrev argIn (c : Dev nD) : S4x2048x12448.Idx → EReal := m ((c : Thread nD τ).loc main_arg1)
abbrev argB0 (c : Dev nD) : S4x2048x512.Idx → EReal := m ((c : Thread nD τ).loc main_arg2)
abbrev argB1 (c : Dev nD) : S4x2048x512.Idx → EReal := m ((c : Thread nD τ).loc main_arg3)
abbrev argB2 (c : Dev nD) : S4x2048x512.Idx → EReal := m ((c : Thread nD τ).loc main_arg4)
abbrev argB3 (c : Dev nD) : S4x2048x512.Idx → EReal := m ((c : Thread nD τ).loc main_arg5)
abbrev argBr (c : Dev nD) : S4x4x512x2048.Idx → EReal := m ((c : Thread nD τ).loc main_arg6)

/-- The column of the input projection that gates branch `n` at output channel `d`. -/
abbrev gateCol (n : Fin 4) (d : Fin 2048) : Fin 12448 := ⟨4256 + 2048 * n.val + d.val, by have := n.isLt; have := d.isLt; omega⟩

/-- The gate of branch `n` for a token and a channel. -/
def gateAt (X : S4x2048x2048.Idx → EReal) (W : S4x2048x12448.Idx → EReal) (n : Fin 4) (b : Fin 4) (s d : Fin 2048) : EReal :=
  Ideal.logistic (∑ e : Fin 2048, X (ix3 b s e) * W (ix3 0 e (gateCol n d)))
/-- A branch's vector taken to the model width. -/
def liftAt (B : S4x2048x512.Idx → EReal) (U : S4x4x512x2048.Idx → EReal) (n : Fin 4) (b : Fin 4) (s d : Fin 2048) : EReal :=
  ∑ k : Fin 512, B (ix3 b s k) * U (ix4 0 n k d)
/-- The gated sum of the four branches. -/
def mergedAt (X : S4x2048x2048.Idx → EReal) (W : S4x2048x12448.Idx → EReal) (B0 B1 B2 B3 : S4x2048x512.Idx → EReal) (U : S4x4x512x2048.Idx → EReal)
    (b : Fin 4) (s d : Fin 2048) : EReal :=
  gateAt X W 0 b s d * liftAt B0 U 0 b s d + gateAt X W 1 b s d * liftAt B1 U 1 b s d
    + gateAt X W 2 b s d * liftAt B2 U 2 b s d + gateAt X W 3 b s d * liftAt B3 U 3 b s d

/-- Row `r` of the flattened tokens is token `r % 2048` of batch `r / 2048`. -/
abbrev batch (r : Fin 8192) : Fin 4 := ⟨r.val / 2048, by have := r.isLt; omega⟩
abbrev token (r : Fin 8192) : Fin 2048 := ⟨r.val % 2048, Nat.mod_lt _ (by decide)⟩

/-! ## The blocks of the arguments -/

theorem tlt (t : Fin cfg0.N) : t.val < 64 := by have := t.isLt; have : cfg0.N = 64 := N_0; omega

/-- The row of a point's row `r`, and the channel of a point's column `d`. -/
abbrev row (t : Fin cfg0.N) (r : Fin 512) : Fin 8192 := ⟨512 * (t.val % 16) + r.val, by have := r.isLt; omega⟩
abbrev chan (j : Fin 4) (d : Fin 512) : Fin 2048 := ⟨512 * j.val + d.val, by have := j.isLt; have := d.isLt; omega⟩
/-- The column tile of a point. -/
abbrev tile (t : Fin cfg0.N) : Fin 4 := ⟨t.val / 16, by have := tlt t; omega⟩

theorem idx_0 : ∀ t : Fin cfg0.N, win0_0.index t 0 = t.val % 16 ∧ win0_0.index t 1 = 0 :=
  (by decide +kernel : ∀ t : Fin grid0.N, _)
theorem idx_9 : ∀ t : Fin cfg0.N, win0_9.index t 0 = 0 ∧ win0_9.index t 1 = 0 ∧ win0_9.index t 2 = 0 ∧ win0_9.index t 3 = t.val / 16 :=
  (by decide +kernel : ∀ t : Fin grid0.N, _)
theorem idx_10 : ∀ t : Fin cfg0.N, win0_10.index t 0 = t.val % 16 ∧ win0_10.index t 1 = t.val / 16 :=
  (by decide +kernel : ∀ t : Fin grid0.N, _)
theorem idx_1 : ∀ t : Fin cfg0.N, win0_1.index t 0 = 0 ∧ win0_1.index t 1 = 4256 + 512 * (t.val / 16) ∧ win0_1.index t 2 = 0 :=
  (by decide +kernel : ∀ t : Fin grid0.N, _)
theorem idx_2 : ∀ t : Fin cfg0.N, win0_2.index t 0 = 0 ∧ win0_2.index t 1 = 6304 + 512 * (t.val / 16) ∧ win0_2.index t 2 = 0 :=
  (by decide +kernel : ∀ t : Fin grid0.N, _)
theorem idx_3 : ∀ t : Fin cfg0.N, win0_3.index t 0 = 0 ∧ win0_3.index t 1 = 8352 + 512 * (t.val / 16) ∧ win0_3.index t 2 = 0 :=
  (by decide +kernel : ∀ t : Fin grid0.N, _)
theorem idx_4 : ∀ t : Fin cfg0.N, win0_4.index t 0 = 0 ∧ win0_4.index t 1 = 10400 + 512 * (t.val / 16) ∧ win0_4.index t 2 = 0 :=
  (by decide +kernel : ∀ t : Fin grid0.N, _)
theorem idx_5 : ∀ t : Fin cfg0.N, win0_5.index t 0 = t.val % 16 ∧ win0_5.index t 1 = 0 :=
  (by decide +kernel : ∀ t : Fin grid0.N, _)
theorem idx_6 : ∀ t : Fin cfg0.N, win0_6.index t 0 = t.val % 16 ∧ win0_6.index t 1 = 0 :=
  (by decide +kernel : ∀ t : Fin grid0.N, _)
theorem idx_7 : ∀ t : Fin cfg0.N, win0_7.index t 0 = t.val % 16 ∧ win0_7.index t 1 = 0 :=
  (by decide +kernel : ∀ t : Fin grid0.N, _)
theorem idx_8 : ∀ t : Fin cfg0.N, win0_8.index t 0 = t.val % 16 ∧ win0_8.index t 1 = 0 :=
  (by decide +kernel : ∀ t : Fin grid0.N, _)

/-- Flattened tokens read at a row. -/
theorem flat_rows {w : ℕ} (x : (⟨3, ![4, 2048, w]⟩ : Shape).Idx → EReal) (h : (⟨3, ![4, 2048, w]⟩ : Shape).ShapeCasts ⟨2, ![8192, w]⟩) (r : Fin 8192) (e : Fin w) :
    shapeCast (⟨2, ![8192, w]⟩ : Shape) x h (ix2 r e) = x (ix3 (batch r) (token r) e) := by
  refine shapeCast_apply x h _ _ ?_
  rw [Shape.rowMajor_val_three, Shape.rowMajor_val_two]
  show ((r.val / 2048) * 2048 + r.val % 2048) * w + e.val = r.val * w + e.val
  rw [Nat.div_add_mod' r.val 2048]

theorem V_0 (c : Dev nD) : V m c main_v0 = shapeCast S8192x2048 (argX m c) shapeCasts_S4x2048x2048_S8192x2048 := by entry_read; rfl
theorem V_1 (c : Dev nD) : V m c main_v1 = transpose S4x12448x2048 [0, 2, 1] (argIn m c) transposes_S4x2048x12448_S4x12448x2048_0_2_1 := by entry_read; rfl
theorem V_2 (c : Dev nD) : V m c main_v2 = shapeCast S8192x512 (argB0 m c) shapeCasts_S4x2048x512_S8192x512 := by entry_read; rfl
theorem V_3 (c : Dev nD) : V m c main_v3 = shapeCast S8192x512 (argB1 m c) shapeCasts_S4x2048x512_S8192x512 := by entry_read; rfl
theorem V_4 (c : Dev nD) : V m c main_v4 = shapeCast S8192x512 (argB2 m c) shapeCasts_S4x2048x512_S8192x512 := by entry_read; rfl
theorem V_5 (c : Dev nD) : V m c main_v5 = shapeCast S8192x512 (argB3 m c) shapeCasts_S4x2048x512_S8192x512 := by entry_read; rfl

theorem blk_0 (c : Dev nD) (t : Fin cfg0.N) (r : Fin 512) (e : Fin 2048) :
    iblk m c 0 t (ix2 r e) = argX m c (ix3 (batch (row t r)) (token (row t r)) e) := by
  unfold iblk
  rw [View.read_apply]
  show V m c main_v0 _ = _
  rw [V_0]
  refine Eq.trans (congrArg _ ?_) (flat_rows (argX m c) _ (row t r) e)
  funext a; apply Fin.ext
  obtain ⟨h0, h1⟩ := idx_0 t
  match a with
  | ⟨0, _⟩ => show win0_0.index t 0 * 512 + 1 * r.val = 512 * (t.val % 16) + r.val; omega
  | ⟨1, _⟩ => show win0_0.index t 1 * 2048 + 1 * e.val = e.val; omega

theorem blk_5 (c : Dev nD) (t : Fin cfg0.N) (r : Fin 512) (e : Fin 512) :
    iblk m c 5 t (ix2 r e) = argB0 m c (ix3 (batch (row t r)) (token (row t r)) e) := by
  unfold iblk
  rw [View.read_apply]
  show V m c main_v2 _ = _
  rw [V_2]
  refine Eq.trans (congrArg _ ?_) (flat_rows (argB0 m c) _ (row t r) e)
  funext a; apply Fin.ext
  obtain ⟨h0, h1⟩ := idx_5 t
  match a with
  | ⟨0, _⟩ => show win0_5.index t 0 * 512 + 1 * r.val = 512 * (t.val % 16) + r.val; omega
  | ⟨1, _⟩ => show win0_5.index t 1 * 512 + 1 * e.val = e.val; omega

theorem blk_6 (c : Dev nD) (t : Fin cfg0.N) (r : Fin 512) (e : Fin 512) :
    iblk m c 6 t (ix2 r e) = argB1 m c (ix3 (batch (row t r)) (token (row t r)) e) := by
  unfold iblk
  rw [View.read_apply]
  show V m c main_v3 _ = _
  rw [V_3]
  refine Eq.trans (congrArg _ ?_) (flat_rows (argB1 m c) _ (row t r) e)
  funext a; apply Fin.ext
  obtain ⟨h0, h1⟩ := idx_6 t
  match a with
  | ⟨0, _⟩ => show win0_6.index t 0 * 512 + 1 * r.val = 512 * (t.val % 16) + r.val; omega
  | ⟨1, _⟩ => show win0_6.index t 1 * 512 + 1 * e.val = e.val; omega

theorem blk_7 (c : Dev nD) (t : Fin cfg0.N) (r : Fin 512) (e : Fin 512) :
    iblk m c 7 t (ix2 r e) = argB2 m c (ix3 (batch (row t r)) (token (row t r)) e) := by
  unfold iblk
  rw [View.read_apply]
  show V m c main_v4 _ = _
  rw [V_4]
  refine Eq.trans (congrArg _ ?_) (flat_rows (argB2 m c) _ (row t r) e)
  funext a; apply Fin.ext
  obtain ⟨h0, h1⟩ := idx_7 t
  match a with
  | ⟨0, _⟩ => show win0_7.index t 0 * 512 + 1 * r.val = 512 * (t.val % 16) + r.val; omega
  | ⟨1, _⟩ => show win0_7.index t 1 * 512 + 1 * e.val = e.val; omega

theorem blk_8 (c : Dev nD) (t : Fin cfg0.N) (r : Fin 512) (e : Fin 512) :
    iblk m c 8 t (ix2 r e) = argB3 m c (ix3 (batch (row t r)) (token (row t r)) e) := by
  unfold iblk
  rw [View.read_apply]
  show V m c main_v5 _ = _
  rw [V_5]
  refine Eq.trans (congrArg _ ?_) (flat_rows (argB3 m c) _ (row t r) e)
  funext a; apply Fin.ext
  obtain ⟨h0, h1⟩ := idx_8 t
  match a with
  | ⟨0, _⟩ => show win0_8.index t 0 * 512 + 1 * r.val = 512 * (t.val % 16) + r.val; omega
  | ⟨1, _⟩ => show win0_8.index t 1 * 512 + 1 * e.val = e.val; omega

theorem blk_1 (c : Dev nD) (t : Fin cfg0.N) (d : Fin 512) (e : Fin 2048) :
    iblk m c 1 t (ix3 (0 : Fin 1) d e) = argIn m c (ix3 0 e (gateCol 0 (chan (tile t) d))) := by
  unfold iblk
  rw [View.read_apply]
  show V m c main_v1 _ = _
  rw [V_1]
  refine Eq.trans (congrArg _ ?_) (transpose_ix3_021_apply (argIn m c) _ 0 (gateCol 0 (chan (tile t) d)) e)
  funext a; apply Fin.ext
  obtain ⟨h0, h1, h2⟩ := idx_1 t
  match a with
  | ⟨0, _⟩ => show win0_1.index t 0 + 1 * 0 = 0; omega
  | ⟨1, _⟩ => show win0_1.index t 1 + 1 * d.val = 4256 + 2048 * 0 + (512 * (t.val / 16) + d.val); omega
  | ⟨2, _⟩ => show win0_1.index t 2 + 1 * e.val = e.val; omega

theorem blk_2 (c : Dev nD) (t : Fin cfg0.N) (d : Fin 512) (e : Fin 2048) :
    iblk m c 2 t (ix3 (0 : Fin 1) d e) = argIn m c (ix3 0 e (gateCol 1 (chan (tile t) d))) := by
  unfold iblk
  rw [View.read_apply]
  show V m c main_v1 _ = _
  rw [V_1]
  refine Eq.trans (congrArg _ ?_) (transpose_ix3_021_apply (argIn m c) _ 0 (gateCol 1 (chan (tile t) d)) e)
  funext a; apply Fin.ext
  obtain ⟨h0, h1, h2⟩ := idx_2 t
  match a with
  | ⟨0, _⟩ => show win0_2.index t 0 + 1 * 0 = 0; omega
  | ⟨1, _⟩ => show win0_2.index t 1 + 1 * d.val = 4256 + 2048 * 1 + (512 * (t.val / 16) + d.val); omega
  | ⟨2, _⟩ => show win0_2.index t 2 + 1 * e.val = e.val; omega

theorem blk_3 (c : Dev nD) (t : Fin cfg0.N) (d : Fin 512) (e : Fin 2048) :
    iblk m c 3 t (ix3 (0 : Fin 1) d e) = argIn m c (ix3 0 e (gateCol 2 (chan (tile t) d))) := by
  unfold iblk
  rw [View.read_apply]
  show V m c main_v1 _ = _
  rw [V_1]
  refine Eq.trans (congrArg _ ?_) (transpose_ix3_021_apply (argIn m c) _ 0 (gateCol 2 (chan (tile t) d)) e)
  funext a; apply Fin.ext
  obtain ⟨h0, h1, h2⟩ := idx_3 t
  match a with
  | ⟨0, _⟩ => show win0_3.index t 0 + 1 * 0 = 0; omega
  | ⟨1, _⟩ => show win0_3.index t 1 + 1 * d.val = 4256 + 2048 * 2 + (512 * (t.val / 16) + d.val); omega
  | ⟨2, _⟩ => show win0_3.index t 2 + 1 * e.val = e.val; omega

theorem blk_4 (c : Dev nD) (t : Fin cfg0.N) (d : Fin 512) (e : Fin 2048) :
    iblk m c 4 t (ix3 (0 : Fin 1) d e) = argIn m c (ix3 0 e (gateCol 3 (chan (tile t) d))) := by
  unfold iblk
  rw [View.read_apply]
  show V m c main_v1 _ = _
  rw [V_1]
  refine Eq.trans (congrArg _ ?_) (transpose_ix3_021_apply (argIn m c) _ 0 (gateCol 3 (chan (tile t) d)) e)
  funext a; apply Fin.ext
  obtain ⟨h0, h1, h2⟩ := idx_4 t
  match a with
  | ⟨0, _⟩ => show win0_4.index t 0 + 1 * 0 = 0; omega
  | ⟨1, _⟩ => show win0_4.index t 1 + 1 * d.val = 4256 + 2048 * 3 + (512 * (t.val / 16) + d.val); omega
  | ⟨2, _⟩ => show win0_4.index t 2 + 1 * e.val = e.val; omega

theorem blk_9 (c : Dev nD) (t : Fin cfg0.N) (n : Fin 4) (k d : Fin 512) :
    iblk m c 9 t (ix4 (0 : Fin 1) n k d) = argBr m c (ix4 0 n k (chan (tile t) d)) := by
  unfold iblk
  rw [View.read_apply]
  show V m c main_arg6 _ = m ((c : Thread nD τ).loc main_arg6) _
  rw [V_main_arg6]
  refine congrArg _ (funext fun a => Fin.ext ?_)
  obtain ⟨h0, h1, h2, h3⟩ := idx_9 t
  match a with
  | ⟨0, _⟩ => show win0_9.index t 0 * 1 + 1 * 0 = 0; omega
  | ⟨1, _⟩ => show win0_9.index t 1 * 4 + 1 * n.val = n.val; omega
  | ⟨2, _⟩ => show win0_9.index t 2 * 512 + 1 * k.val = k.val; omega
  | ⟨3, _⟩ => show win0_9.index t 3 * 512 + 1 * d.val = 512 * (t.val / 16) + d.val; omega

/-! ## The weights kept in scratch -/

/-- The gate weights of column tile `j`, and its branch weights. -/
def gateW (c : Dev nD) (j : Fin 4) : S4x512x2048.Idx → EReal := fun y => argIn m c (ix3 0 (y 2) (gateCol (y 0) (chan j (y 1))))
def brW (c : Dev nD) (j : Fin 4) : S4x512x512.Idx → EReal := fun y => argBr m c (ix4 0 (y 0) (y 1) (chan j (y 2)))

theorem stacked_eq (c : Dev nD) (t : Fin cfg0.N) : stacked (iblk m c 1 t) (iblk m c 2 t) (iblk m c 3 t) (iblk m c 4 t) = gateW m c (tile t) := by
  funext y
  obtain ⟨n, d, e, rfl⟩ : ∃ (n : Fin 4) (d : Fin 512) (e : Fin 2048), y = ix3 n d e := ⟨y 0, y 1, y 2, eq_ix3 y⟩
  match n with
  | ⟨0, _⟩ => exact blk_1 m c t d e
  | ⟨1, _⟩ => exact blk_2 m c t d e
  | ⟨2, _⟩ => exact blk_3 m c t d e
  | ⟨3, _⟩ => exact blk_4 m c t d e

theorem flat_eq (c : Dev nD) (t : Fin cfg0.N) : flat (iblk m c 9 t) = brW m c (tile t) :=
  funext fun y => blk_9 m c t (y 0) (y 1) (y 2)

/-- After every point the scratch holds the weights of the point's column tile, and the output block the gated sum over them. -/
theorem held (c : Dev nD) (n : ℕ) : ∀ h : n < cfg0.N,
    (outsAt0 m c n h).1 = merged (iblk m c 0 ⟨n, h⟩) (iblk m c 5 ⟨n, h⟩) (iblk m c 6 ⟨n, h⟩) (iblk m c 7 ⟨n, h⟩) (iblk m c 8 ⟨n, h⟩) (gateW m c (tile ⟨n, h⟩)) (brW m c (tile ⟨n, h⟩))
    ∧ (outsAt0 m c n h).2.1 = gateW m c (tile ⟨n, h⟩) ∧ (outsAt0 m c n h).2.2 = brW m c (tile ⟨n, h⟩) := by
  induction n with
  | zero =>
    intro h
    have e := outsAt0_A m c ⟨0, h⟩ rfl
    rw [show outsAt0 m c 0 h = _ from e]
    dsimp only
    rw [out_A, sout_A_0, sout_A_1, stacked_eq, flat_eq]
    exact ⟨rfl, rfl, rfl⟩
  | succ n ih =>
    intro h
    by_cases h0 : (n + 1) % 16 = 0
    · have e := outsAt0_A m c ⟨n + 1, h⟩ h0
      rw [show outsAt0 m c (n + 1) h = _ from e]
      dsimp only
      rw [out_A, sout_A_0, sout_A_1, stacked_eq, flat_eq]
      exact ⟨rfl, rfl, rfl⟩
    · have e := outsAt0_B m c ⟨n + 1, h⟩ h0
      obtain ⟨-, ih1, ih2⟩ := ih (Nat.lt_of_succ_lt h)
      have ht : tile ⟨n, Nat.lt_of_succ_lt h⟩ = tile ⟨n + 1, h⟩ := Fin.ext (by show n / 16 = (n + 1) / 16; omega)
      rw [ht] at ih1 ih2
      rw [show outsAt0 m c (n + 1) h = _ from e]
      dsimp only
      rw [out_B]
      have e1 : (outsAt0 m c (n + 1 - 1) (Nat.lt_of_le_of_lt (Nat.sub_le _ _) h)).2.1 = gateW m c (tile ⟨n + 1, h⟩) := ih1
      have e2 : (outsAt0 m c (n + 1 - 1) (Nat.lt_of_le_of_lt (Nat.sub_le _ _) h)).2.2 = brW m c (tile ⟨n + 1, h⟩) := ih2
      rw [e1, e2]
      exact ⟨rfl, rfl, rfl⟩

/-! ## The whole array -/

/-- The result array's contents. -/
def G (c : Dev nD) : Buf (Elt Ideal) ((c : Thread nD τ).loc main_v6) := fun i =>
  mergedAt (argX m c) (argIn m c) (argB0 m c) (argB1 m c) (argB2 m c) (argB3 m c) (argBr m c) (batch (i 0)) (token (i 0)) (i 1)

/-- A point's block is the array's block there. -/
theorem block_at (c : Dev nD) (t : Fin cfg0.N) (r d : Fin 512) :
    merged (iblk m c 0 t) (iblk m c 5 t) (iblk m c 6 t) (iblk m c 7 t) (iblk m c 8 t) (gateW m c (tile t)) (brW m c (tile t)) (ix2 r d)
      = mergedAt (argX m c) (argIn m c) (argB0 m c) (argB1 m c) (argB2 m c) (argB3 m c) (argBr m c) (batch (row t r)) (token (row t r)) (chan (tile t) d) := by
  have hg : ∀ n : Fin 4, gate (iblk m c 0 t) (gateW m c (tile t)) n r d = gateAt (argX m c) (argIn m c) n (batch (row t r)) (token (row t r)) (chan (tile t) d) := by
    intro n
    unfold gate gateAt
    refine congrArg Ideal.logistic (Finset.sum_congr rfl fun e _ => ?_)
    exact congrArg (· * argIn m c (ix3 0 e (gateCol n (chan (tile t) d)))) (blk_0 m c t r e)
  have h0 : lift (iblk m c 5 t) (brW m c (tile t)) 0 r d = liftAt (argB0 m c) (argBr m c) 0 (batch (row t r)) (token (row t r)) (chan (tile t) d) :=
    Finset.sum_congr rfl fun k _ => congrArg (· * argBr m c (ix4 0 0 k (chan (tile t) d))) (blk_5 m c t r k)
  have h1 : lift (iblk m c 6 t) (brW m c (tile t)) 1 r d = liftAt (argB1 m c) (argBr m c) 1 (batch (row t r)) (token (row t r)) (chan (tile t) d) :=
    Finset.sum_congr rfl fun k _ => congrArg (· * argBr m c (ix4 0 1 k (chan (tile t) d))) (blk_6 m c t r k)
  have h2 : lift (iblk m c 7 t) (brW m c (tile t)) 2 r d = liftAt (argB2 m c) (argBr m c) 2 (batch (row t r)) (token (row t r)) (chan (tile t) d) :=
    Finset.sum_congr rfl fun k _ => congrArg (· * argBr m c (ix4 0 2 k (chan (tile t) d))) (blk_7 m c t r k)
  have h3 : lift (iblk m c 8 t) (brW m c (tile t)) 3 r d = liftAt (argB3 m c) (argBr m c) 3 (batch (row t r)) (token (row t r)) (chan (tile t) d) :=
    Finset.sum_congr rfl fun k _ => congrArg (· * argBr m c (ix4 0 3 k (chan (tile t) d))) (blk_8 m c t r k)
  unfold mergedAt
  rw [← hg 0, ← hg 1, ← hg 2, ← hg 3, ← h0, ← h1, ← h2, ← h3]
  rfl

theorem flushed_eq (c : Dev nD) (t : Fin cfg0.N) (_ : (cfg0.win 10).flush t = true) :
    (dats m 0 c).flushed 10 t = ((cfg0.win 10).blk t).view.read (Elt Ideal) (G m c) := by
  rw [Value.flushed10, (held m c t.val t.isLt).1]
  funext y
  rw [View.read_apply]
  obtain ⟨h0, h1⟩ := idx_10 t
  obtain ⟨r, d, rfl⟩ : ∃ (r d : Fin 512), y = ix2 r d := ⟨y 0, y 1, eq_ix2 y⟩
  refine (block_at m c t r d).trans ?_
  have e0 : row t r = ((cfg0.win 10).blk t).view.emb (ix2 r d) 0 := Fin.ext (by show 512 * (t.val % 16) + r.val = win0_10.index t 0 * 512 + 1 * r.val; omega)
  have e1 : chan (tile t) d = ((cfg0.win 10).blk t).view.emb (ix2 r d) 1 := Fin.ext (by show 512 * (t.val / 16) + d.val = win0_10.index t 1 * 512 + 1 * d.val; omega)
  rw [e0, e1]
  rfl

theorem final_eq (c : Dev nD) : (dats m 0 c).arrAt 10 cfg0.N = G m c :=
  (dats m 0 c).arrAt_eq_of_cover 10 (G m c) (flushed_eq m c) fun i => by
    have i0 : (i 0 : Nat) < 8192 := (i 0).isLt
    have i1 : (i 1 : Nat) < 2048 := (i 1).isLt
    have hN : cfg0.N = 64 := N_0
    have hf : ∀ t : Fin cfg0.N, (cfg0.win 10).flush t = true := (by decide +kernel : ∀ t : Fin grid0.N, _)
    obtain ⟨t, ht⟩ : ∃ t : Fin cfg0.N, t.val = 16 * ((i 1).val / 512) + (i 0).val / 512 := ⟨⟨16 * ((i 1).val / 512) + (i 0).val / 512, by omega⟩, rfl⟩
    refine ⟨t, hf t, ?_⟩
    show i ∈ ((View.whole main_v6).slice (win0_10.rect t)).set
    rw [View.set_slice_whole, Rect.mem_set_unit]
    obtain ⟨h0, h1⟩ := idx_10 t
    intro a
    match a with
    | ⟨0, _⟩ => show win0_10.index t 0 * 512 ≤ (i 0 : Nat) ∧ (i 0 : Nat) < win0_10.index t 0 * 512 + 512; omega
    | ⟨1, _⟩ => show win0_10.index t 1 * 512 ≤ (i 1 : Nat) ∧ (i 1 : Nat) < win0_10.index t 1 * 512 + 512; omega

/-- The run: the result array at `G`, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c => ⟨(h c).1.trans (final_eq m c), (h c).2⟩) (Value.run_blocks m ρ)

end Cert.Kernel2Ideal.MergeKernel

end
-- ==== Proof.MergeRef.lean ====
/-
  The merge reference, entry by entry: at a token and a channel its result is the gated sum of the four branches (`result_apply`).
-/
module

public import proofs.«01_k».proof.Proof.Gen.Reference2Ideal.Read
public import proofs.«01_k».proof.Proof.MergeKernel
public import Idealize.ShloMosaic.Lib.KernelVsHost

@[expose] public section

set_option maxRecDepth 16384

noncomputable section

namespace Cert.MergeRef

open Cert.Reference2Ideal Cert.Reference2Ideal.Read Cert.Reference2Ideal.Gen Idealize.ShloMosaic.TcCoe Idealize.ShloMosaic.ValueIdx
open Idealize.ShloMosaic
open Cert.Kernel2Ideal.MergeKernel (gateAt liftAt mergedAt gateCol batch token)
open scoped BigOperators

variable (X : S4x2048x2048.Idx → EReal) (W : S4x2048x12448.Idx → EReal) (B0 B1 B2 B3 : S4x2048x512.Idx → EReal) (U : S4x4x512x2048.Idx → EReal)

/-- The stacked branches hold branch `n` at place `n`. -/
theorem stack_apply (b : Fin 4) (s : Fin 2048) (n : Fin 4) (k : Fin 512) :
    val_main_v9 (F := Ideal) B0 B1 B2 B3 (ix4 b s n k) = (![B0, B1, B2, B3] : Fin 4 → S4x2048x512.Idx → EReal) n (ix3 b s k) := by
  unfold val_main_v9
  refine (concatenate_ofFn_unit_apply (t := S4x2048x4x512) (s₁ := S4x2048x1x512) (2 : Fin 4) (N := 4)
    (![val_main_v5 (F := Ideal) B0, val_main_v6 (F := Ideal) B1, val_main_v7 (F := Ideal) B2, val_main_v8 (F := Ideal) B3] : Fin 4 → S4x2048x1x512.Idx → EReal) _
    rfl rfl (ix4 b s n k) n rfl (ix4 b s 0 k) (fun a h => match a with | ⟨0, _⟩ => rfl | ⟨1, _⟩ => rfl | ⟨2, _⟩ => absurd rfl h | ⟨3, _⟩ => rfl)).trans ?_
  match n with
  | ⟨0, _⟩ => exact (val_main_v5_apply (F := Ideal) B0 (ix4 b s 0 k)).trans (congrArg B0 (funext fun a => match a with | ⟨0, _⟩ => rfl | ⟨1, _⟩ => rfl | ⟨2, _⟩ => rfl))
  | ⟨1, _⟩ => exact (val_main_v6_apply (F := Ideal) B1 (ix4 b s 0 k)).trans (congrArg B1 (funext fun a => match a with | ⟨0, _⟩ => rfl | ⟨1, _⟩ => rfl | ⟨2, _⟩ => rfl))
  | ⟨2, _⟩ => exact (val_main_v7_apply (F := Ideal) B2 (ix4 b s 0 k)).trans (congrArg B2 (funext fun a => match a with | ⟨0, _⟩ => rfl | ⟨1, _⟩ => rfl | ⟨2, _⟩ => rfl))
  | ⟨3, _⟩ => exact (val_main_v8_apply (F := Ideal) B3 (ix4 b s 0 k)).trans (congrArg B3 (funext fun a => match a with | ⟨0, _⟩ => rfl | ⟨1, _⟩ => rfl | ⟨2, _⟩ => rfl))

/-- The branches taken to the model width. -/
theorem up_apply (b : Fin 4) (s : Fin 2048) (n : Fin 4) (d : Fin 2048) :
    val_main_v14 (F := Ideal) B0 B1 B2 B3 U (ix4 b s n d) = liftAt ((![B0, B1, B2, B3] : Fin 4 → S4x2048x512.Idx → EReal) n) U n b s d := by
  rw [val_main_v14_apply, val_main_v13_apply]
  refine Finset.sum_congr rfl fun k _ => ?_
  rw [val_main_v12_apply, val_main_v11_apply, val_main_v10_apply, mul_comm]
  refine congrArg₂ (α := EReal) (β := EReal) (γ := EReal) (fun a b => a * b) ((congrArg (val_main_v9 (F := Ideal) B0 B1 B2 B3) ?_).trans (stack_apply B0 B1 B2 B3 b s n k)) (congrArg U ?_)
  · exact funext fun a => match a with | ⟨0, _⟩ => rfl | ⟨1, _⟩ => rfl | ⟨2, _⟩ => rfl | ⟨3, _⟩ => rfl
  · funext a; apply Fin.ext
    have hn := n.isLt; have hk := k.isLt; have hd := d.isLt
    match a with
    | ⟨0, _⟩ => rfl
    | ⟨1, _⟩ => show ((n.val * 512 + k.val) * 2048 + d.val) / 1048576 % 4 = n.val; omega
    | ⟨2, _⟩ => show ((n.val * 512 + k.val) * 2048 + d.val) / 2048 % 512 = k.val; omega
    | ⟨3, _⟩ => show ((n.val * 512 + k.val) * 2048 + d.val) % 2048 = d.val; omega

theorem oneBits : (FloatOps.ofBits (F := Ideal) .f32 0x3F800000#32 : EReal) = 1 := by
  show Ideal.ofBits .f32 0x3F800000#32 = 1
  simp [Ideal.ofBits, Ideal.ieee]
  rw [← EReal.coe_mul]
  norm_num

/-- The gates. -/
theorem gate_apply (b : Fin 4) (s : Fin 2048) (n : Fin 4) (d : Fin 2048) :
    val_main_v21 (F := Ideal) X W (ix4 b s n d) = gateAt X W n b s d := by
  have hp : val_main_v15 (F := Ideal) X W (ix4 b s n d) = ∑ e : Fin 2048, X (ix3 b s e) * W (ix3 0 e (gateCol n d)) := by
    rw [val_main_v15_apply, val_main_v4_apply, val_main_v3_apply]
    refine Finset.sum_congr rfl fun e _ => ?_
    rw [val_main_v0_apply, val_main_v2_apply, val_main_v1_apply]
    have hb := b.isLt; have hs := s.isLt; have hn := n.isLt; have hd := d.isLt; have he := e.isLt
    refine congrArg₂ (α := EReal) (β := EReal) (γ := EReal) (fun a b => a * b) (congrArg X ?_) (congrArg W ?_)
    · funext a; apply Fin.ext
      match a with
      | ⟨0, _⟩ => show (((b.val * 2048 + s.val) * 4 + n.val) * 2048 + d.val) / 16777216 = b.val; omega
      | ⟨1, _⟩ => show (((b.val * 2048 + s.val) * 4 + n.val) * 2048 + d.val) / 8192 % 2048 = s.val; omega
      | ⟨2, _⟩ => rfl
    · funext a; apply Fin.ext
      match a with
      | ⟨0, _⟩ => rfl
      | ⟨1, _⟩ => show (e.val * 12448 + (4256 + (((b.val * 2048 + s.val) * 4 + n.val) * 2048 + d.val) % 8192)) / 12448 % 2048 = e.val; omega
      | ⟨2, _⟩ => show (e.val * 12448 + (4256 + (((b.val * 2048 + s.val) * 4 + n.val) * 2048 + d.val) % 8192)) % 12448 = 4256 + 2048 * n.val + d.val; omega
  rw [val_main_v21_apply, val_main_v20_apply, val_main_cst_0_apply, val_main_v19_apply, val_main_v18_apply, val_main_cst_apply, val_main_v17_apply, val_main_v16_apply, hp, oneBits]
  rfl

theorem result_apply (r : Fin 8192) (d : Fin 2048) :
    val_main_v24 (F := Ideal) X W B0 B1 B2 B3 U (ix2 r d) = mergedAt X W B0 B1 B2 B3 U (batch r) (token r) d := by
  rw [val_main_v24_apply, val_main_v23_apply]
  show val_main_v22 (F := Ideal) X W B0 B1 B2 B3 U _ = _
  have hi : idx_main_v24 (ix2 r d) = ix3 (batch r) (token r) d := by
    funext a; apply Fin.ext
    have hr := r.isLt; have hd := d.isLt
    match a with
    | ⟨0, _⟩ => show (r.val * 2048 + d.val) / 4194304 = r.val / 2048; omega
    | ⟨1, _⟩ => show (r.val * 2048 + d.val) / 2048 % 2048 = r.val % 2048; omega
    | ⟨2, _⟩ => show (r.val * 2048 + d.val) % 2048 = d.val; omega
  rw [hi, val_main_v22_apply]
  have hk : ∀ k : Fin 4, val_main_v21 (F := Ideal) X W (lidx_main_v22 (ix3 (batch r) (token r) d) k) * val_main_v14 (F := Ideal) B0 B1 B2 B3 U (ridx_main_v22 (ix3 (batch r) (token r) d) k)
      = gateAt X W k (batch r) (token r) d * liftAt ((![B0, B1, B2, B3] : Fin 4 → S4x2048x512.Idx → EReal) k) U k (batch r) (token r) d := by
    intro k
    have el : lidx_main_v22 (ix3 (batch r) (token r) d) k = ix4 (batch r) (token r) k d := funext fun a => match a with | ⟨0, _⟩ => rfl | ⟨1, _⟩ => rfl | ⟨2, _⟩ => rfl | ⟨3, _⟩ => rfl
    have er : ridx_main_v22 (ix3 (batch r) (token r) d) k = ix4 (batch r) (token r) k d := funext fun a => match a with | ⟨0, _⟩ => rfl | ⟨1, _⟩ => rfl | ⟨2, _⟩ => rfl | ⟨3, _⟩ => rfl
    rw [el, er, gate_apply, up_apply]
  rw [Finset.sum_congr rfl fun k _ => hk k, Fin.sum_univ_four]
  rfl

end Cert.MergeRef

end
-- ==== Proof.MergeClaim.lean ====
/-
  The claims on the merge call: what each program leaves unchanged, and that kernel and reference compute one array.
-/
module

public import proofs.«01_k».proof.Proof.MergeRef
public import proofs.«01_k».proof.Proof.Gen.Kernel2.Frame
public import proofs.«01_k».proof.Defs
public import Idealize.ShloMosaic.Lib.Claim

@[expose] public section

set_option maxRecDepth 16384

noncomputable section

namespace Cert.Proof.Merge

open Idealize.ShloMosaic Idealize.ShloMosaic.TcCoe Idealize.ShloMosaic.ValueIdx
open Idealize.SL.Sem
open Cert.Kernel2Ideal.MergeKernel Cert.MergeRef

theorem frame_p : Cert.quiescent_Kernel2 := fun m ρ _ => Cert.Kernel2.Gen.frame m ρ
theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := fun m ρ m' ρ' _ hag =>
  ⟨fun c => G m c, run m ρ, (θ_run Cert.Reference2Ideal.defs _ _).mono (fun _ h c => ⟨(h c).1.trans (by
      rw [Cert.Reference2Ideal.Read.val_main_v24_eq]
      obtain ⟨e0, e1, e2, e3, e4, e5, e6⟩ := hag c
      rw [e0, e1, e2, e3, e4, e5, e6]
      funext i
      exact (congrArg _ (eq_ix2 i)).trans (result_apply _ _ _ _ _ _ _ (i 0) (i 1))), (h c).2⟩)
    (Cert.Reference2Ideal.Value.run (F := Ideal) m' ρ')⟩

end Cert.Proof.Merge

end
-- ==== Proof.FfnPay.lean ====
/-
  The expert feed-forward's arithmetic at one grid point, entry by entry: the part a slice of the hidden units adds to a
  row, the accumulator's step, and the gated rows stored at the last slice.
-/
module

public import proofs.«01_k».proof.Proof.Gen.Kernel3Ideal.Frame
public import Idealize.ShloMosaic.Lib.MatmulPlain
public import Idealize.ShloMosaic.Lib.ValueLayout
public import Idealize.ShloMosaic.Lib.IdealHost

@[expose] public section

set_option maxRecDepth 16384

noncomputable section

namespace Cert.Kernel3Ideal.FfnPay

open Cert.Kernel3Ideal Cert.Kernel3Ideal.Gen Idealize.ShloMosaic.TcCoe Idealize.ShloMosaic.ValueIdx
open Idealize.ShloMosaic
open scoped BigOperators

/-- A hidden unit: `silu(x·w₁) · (x·w₃)`. -/
def hid {n h : ℕ} (x : (⟨3, ![1, n, 2048]⟩ : Shape).Idx → EReal) (w1 w3 : (⟨4, ![1, 1, 2048, h]⟩ : Shape).Idx → EReal) (r : Fin n) (f : Fin h) : EReal :=
  (∑ e : Fin 2048, x (ix3 0 r e) * w1 (ix4 0 0 e f)) * Ideal.logistic (∑ e : Fin 2048, x (ix3 0 r e) * w1 (ix4 0 0 e f))
    * (∑ e : Fin 2048, x (ix3 0 r e) * w3 (ix4 0 0 e f))
/-- What a slice of the hidden units adds to a row. -/
def part {n : ℕ} (x : (⟨3, ![1, n, 2048]⟩ : Shape).Idx → EReal) (w1 w3 : S1x1x2048x256.Idx → EReal) (w2 : S1x1x256x2048.Idx → EReal) (r : Fin n) (d : Fin 2048) : EReal :=
  ∑ f : Fin 256, hid x w1 w3 r f * w2 (ix4 0 0 f d)
/-- The accumulator after a point: the part alone at the first slice (`z` set), added to what was there otherwise. -/
def step {n : ℕ} (z : BitVec 1) (x : (⟨3, ![1, n, 2048]⟩ : Shape).Idx → EReal) (w1 w3 : S1x1x2048x256.Idx → EReal) (w2 : S1x1x256x2048.Idx → EReal)
    (acc : (⟨2, ![n, 2048]⟩ : Shape).Idx → EReal) : (⟨2, ![n, 2048]⟩ : Shape).Idx → EReal := fun y =>
  Scalar.select z (part x w1 w3 w2 (y 0) (y 1)) (acc y + part x w1 w3 w2 (y 0) (y 1))
/-- The gated rows of the output block: `k` rows for each of the four batches. -/
def gated {n k : ℕ} (h : 4 * k = n) (acc : (⟨2, ![n, 2048]⟩ : Shape).Idx → EReal) (g : (⟨4, ![4, 1, k, 1]⟩ : Shape).Idx → EReal) : (⟨4, ![4, 1, k, 2048]⟩ : Shape).Idx → EReal := fun y =>
  acc (ix2 ⟨k * (y 0).val + (y 2).val, by
    have h0 : (y 0).val < 4 := (y 0).isLt
    have h2 : (y 2).val < k := (y 2).isLt
    have : k * (y 0).val ≤ k * 3 := Nat.mul_le_mul_left k (by omega)
    omega⟩ (y 3)) * g (ix4 (y 0) 0 (y 2) 0)

theorem zeroBits : (FloatOps.ofBits (F := Ideal) .f32 0x00000000#32 : EReal) = 0 := Ideal.ofBits_zero_f32

/-- Dropping two leading unit axes. -/
theorem drop_two {a b : ℕ} (x : (⟨4, ![1, 1, a, b]⟩ : Shape).Idx → EReal) (h : (⟨4, ![1, 1, a, b]⟩ : Shape).ShapeCasts ⟨2, ![a, b]⟩) (i : Fin a) (j : Fin b) :
    shapeCast (⟨2, ![a, b]⟩ : Shape) x h (ix2 i j) = x (ix4 0 0 i j) := by
  refine shapeCast_apply x h _ _ ?_
  rw [Shape.rowMajor_val_four, Shape.rowMajor_val_two]
  show ((0 * 1 + 0) * a + i.val) * b + j.val = i.val * b + j.val
  simp
/-- Adding them. -/
theorem add_two {a b : ℕ} (x : (⟨2, ![a, b]⟩ : Shape).Idx → EReal) (h : (⟨2, ![a, b]⟩ : Shape).ShapeCasts ⟨4, ![1, 1, a, b]⟩) (i : Fin a) (j : Fin b) :
    shapeCast (⟨4, ![1, 1, a, b]⟩ : Shape) x h (ix4 0 0 i j) = x (ix2 i j) := by
  refine shapeCast_apply x h _ _ ?_
  rw [Shape.rowMajor_val_four, Shape.rowMajor_val_two]
  show i.val * b + j.val = ((0 * 1 + 0) * a + i.val) * b + j.val
  simp

/-- A product onto zero. -/
theorem dot_apply {n k p : ℕ} (x : (⟨2, ![n, k]⟩ : Shape).Idx → EReal) (w : (⟨2, ![k, p]⟩ : Shape).Idx → EReal) (r : Fin n) (d : Fin p) :
    matmul (F := Ideal) (φ₁ := .bf16) (φ₂ := .bf16) (DotDims.plain n k p) none x w (constant _ .f32 0x00000000#32) (ix2 r d)
      = ∑ e : Fin k, x (ix2 r e) * w (ix2 e d) := by
  show FloatOps.matmul (DotDims.plain n k p) none _ _ _ (ix2 r d) = _
  rw [Ideal.matmul_plain_apply]
  show FloatOps.ofBits (F := Ideal) .f32 0x00000000#32 + _ = _
  rw [zeroBits, zero_add]

/-- A product onto zero, as the kernel takes it. -/
abbrev prod {n k p : ℕ} (x : (⟨2, ![n, k]⟩ : Shape).Idx → EReal) (w : (⟨2, ![k, p]⟩ : Shape).Idx → EReal) : (⟨2, ![n, p]⟩ : Shape).Idx → EReal :=
  matmul (F := Ideal) (φ₁ := .bf16) (φ₂ := .bf16) (DotDims.plain n k p) none x w (constant (⟨2, ![n, p]⟩ : Shape) .f32 0x00000000#32)

/-- The kernel's chain for a group of rows is the part. -/
theorem part_apply {n : ℕ} (x : (⟨3, ![1, n, 2048]⟩ : Shape).Idx → EReal) (hx : (⟨3, ![1, n, 2048]⟩ : Shape).ShapeCasts ⟨2, ![n, 2048]⟩)
    (w1 w3 : S1x1x2048x256.Idx → EReal) (w2 : S1x1x256x2048.Idx → EReal) (r : Fin n) (d : Fin 2048) :
    prod (n := n) (k := 256) (p := 2048)
      (fun y => prod (shapeCast (⟨2, ![n, 2048]⟩ : Shape) x hx) (k0_pay9 (F := Ideal) w1) y * Ideal.logistic (prod (shapeCast (⟨2, ![n, 2048]⟩ : Shape) x hx) (k0_pay9 (F := Ideal) w1) y)
        * prod (shapeCast (⟨2, ![n, 2048]⟩ : Shape) x hx) (k0_pay10 (F := Ideal) w3) y)
      (k0_pay11 (F := Ideal) w2) (ix2 r d) = part x w1 w3 w2 r d := by
  refine (dot_apply _ _ r d).trans (Finset.sum_congr rfl fun f _ => ?_)
  have e9 : prod (shapeCast (⟨2, ![n, 2048]⟩ : Shape) x hx) (k0_pay9 (F := Ideal) w1) (ix2 r f) = ∑ e : Fin 2048, x (ix3 0 r e) * w1 (ix4 0 0 e f) := by
    refine (dot_apply _ _ r f).trans (Finset.sum_congr rfl fun e _ => ?_)
    rw [shapeCast_1ab_ab_apply]
    exact congrArg (x (ix3 0 r e) * ·) (drop_two w1 _ e f)
  have e10 : prod (shapeCast (⟨2, ![n, 2048]⟩ : Shape) x hx) (k0_pay10 (F := Ideal) w3) (ix2 r f) = ∑ e : Fin 2048, x (ix3 0 r e) * w3 (ix4 0 0 e f) := by
    refine (dot_apply _ _ r f).trans (Finset.sum_congr rfl fun e _ => ?_)
    rw [shapeCast_1ab_ab_apply]
    exact congrArg (x (ix3 0 r e) * ·) (drop_two w3 _ e f)
  have e11 : k0_pay11 (F := Ideal) w2 (ix2 f d) = w2 (ix4 0 0 f d) := drop_two w2 _ f d
  rw [e11]
  refine congrArg (· * w2 (ix4 0 0 f d)) ?_
  show prod (shapeCast (⟨2, ![n, 2048]⟩ : Shape) x hx) (k0_pay9 (F := Ideal) w1) (ix2 r f) * Ideal.logistic (prod (shapeCast (⟨2, ![n, 2048]⟩ : Shape) x hx) (k0_pay9 (F := Ideal) w1) (ix2 r f))
        * prod (shapeCast (⟨2, ![n, 2048]⟩ : Shape) x hx) (k0_pay10 (F := Ideal) w3) (ix2 r f) = _
  rw [e9, e10]
  rfl

theorem select_apply {S : Shape} (z : BitVec 1) (u v : S.Idx → EReal) (y : S.Idx) : Scalar.select z u v y = Scalar.select z (u y) (v y) := by
  unfold Scalar.select; split <;> rfl

/-- The first slice's test. -/
abbrev first (i : grid0.Coords) : BitVec 1 := Scalar.cmpi .eq (BitVec.ofNat 32 (i 1).val) 0#32

theorem pay14_eq (i : grid0.Coords) (w1 w3 : Vec Ideal S1x1x2048x256 .f32) (w2 : Vec Ideal S1x1x256x2048 .f32) (x : Vec Ideal S1x512x2048 .bf16) (acc : Vec Ideal S512x2048 .f32) :
    k0_pay14 (F := Ideal) i w1 w3 w2 x acc = step (first i) x w1 w3 w2 acc := by
  unfold k0_pay14
  dsimp only
  rw [shapeCast_self]
  funext y
  refine (select_apply _ _ _ y).trans ?_
  obtain ⟨r, d, rfl⟩ : ∃ (r : Fin 512) (d : Fin 2048), y = ix2 r d := ⟨y 0, y 1, eq_ix2 y⟩
  have h := part_apply x shapeCasts_S1x512x2048_S512x2048 w1 w3 w2 r d
  exact congrArg₂ (fun a b => Scalar.select (first i) a (acc (ix2 r d) + b)) h h

theorem pay15_eq (i : grid0.Coords) (w1 w3 : Vec Ideal S1x1x2048x256 .f32) (w2 : Vec Ideal S1x1x256x2048 .f32) (x : Vec Ideal S1x512x2048 .bf16) (acc : Vec Ideal S512x2048 .f32) :
    k0_pay15 (F := Ideal) (BitVec.ofNat 32 (i 1).val) (k0_pay9 w1) (k0_pay10 w3) (k0_pay11 w2) x acc = step (first i) x w1 w3 w2 acc := by
  unfold k0_pay15
  dsimp only
  rw [shapeCast_self]
  funext y
  refine (select_apply _ _ _ y).trans ?_
  obtain ⟨r, d, rfl⟩ : ∃ (r : Fin 512) (d : Fin 2048), y = ix2 r d := ⟨y 0, y 1, eq_ix2 y⟩
  have h := part_apply x shapeCasts_S1x512x2048_S512x2048 w1 w3 w2 r d
  exact congrArg₂ (fun a b => Scalar.select (first i) a (acc (ix2 r d) + b)) h h

theorem pay17_eq (i : grid0.Coords) (w1 w3 : Vec Ideal S1x1x2048x256 .f32) (w2 : Vec Ideal S1x1x256x2048 .f32) (x : Vec Ideal S1x128x2048 .bf16) (acc : Vec Ideal S128x2048 .f32) :
    k0_pay1 (F := Ideal) (k0_pay17 (F := Ideal) (BitVec.ofNat 32 (i 1).val) (k0_pay9 w1) (k0_pay10 w3) (k0_pay11 w2) x acc) = step (first i) x w1 w3 w2 acc := by
  unfold k0_pay1 k0_pay17
  dsimp only
  rw [shapeCast_self]
  funext y
  refine (select_apply _ _ _ y).trans ?_
  obtain ⟨r, d, rfl⟩ : ∃ (r : Fin 128) (d : Fin 2048), y = ix2 r d := ⟨y 0, y 1, eq_ix2 y⟩
  have h := part_apply x shapeCasts_S1x128x2048_S128x2048 w1 w3 w2 r d
  exact congrArg₂ (fun a b => Scalar.select (first i) a (acc (ix2 r d) + b)) h h

/-- Rows times their gates. -/
theorem gate_apply {k : ℕ} (a : (⟨2, ![k, 2048]⟩ : Shape).Idx → EReal) (g : (⟨4, ![1, 1, k, 1]⟩ : Shape).Idx → EReal)
    (hg : (⟨4, ![1, 1, k, 1]⟩ : Shape).ShapeCasts ⟨2, ![k, 1]⟩) (hbc : (⟨2, ![k, 1]⟩ : Shape).Broadcasts ⟨2, ![k, 2048]⟩)
    (ha : (⟨2, ![k, 2048]⟩ : Shape).ShapeCasts ⟨4, ![1, 1, k, 2048]⟩) (r : Fin k) (d : Fin 2048) :
    shapeCast (⟨4, ![1, 1, k, 2048]⟩ : Shape) (mulf (F := Ideal) (φ := .f32) a (broadcastTo (⟨2, ![k, 2048]⟩ : Shape) (shapeCast (⟨2, ![k, 1]⟩ : Shape) g hg) hbc)) ha (ix4 0 0 r d)
      = a (ix2 r d) * g (ix4 0 0 r 0) := by
  rw [add_two]
  refine congrArg (a (ix2 r d) * ·) ?_
  refine Eq.trans ?_ (drop_two g hg r 0)
  exact broadcastTo_apply _ hbc (ix2 r d) (ix2 r 0) fun a => match a with
    | ⟨0, _⟩ => by
      show r.val = if k = 1 then 0 else r.val
      have := r.isLt
      split <;> omega
    | ⟨1, _⟩ => rfl

end Cert.Kernel3Ideal.FfnPay

end
-- ==== Proof.FfnBlock.lean ====
/-
  What the expert feed-forward writes at one grid point. The accumulators step by the point's part; at the last slice of
  the hidden units the output blocks take the accumulated rows times their gates.
-/
module

public import proofs.«01_k».proof.Proof.FfnPay
public import Idealize.ShloMosaic.Lib.Pipeline.ReadBack

@[expose] public section

set_option maxRecDepth 16384

noncomputable section

namespace Cert.Kernel3Ideal.FfnBlock

open Cert.Kernel3Ideal Cert.Kernel3Ideal.Gen Idealize.ShloMosaic.TcCoe Idealize.ShloMosaic.ValueIdx
open Idealize.ShloMosaic Idealize.ShloMosaic.Tactic
open Cert.Kernel3Ideal.FfnPay
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A step of 512 of the rows is the whole step's block. -/
theorem rows_piece (z : BitVec 1) (x : S1x1024x2048.Idx → EReal) (w1 w3 : S1x1x2048x256.Idx → EReal) (w2 : S1x1x256x2048.Idx → EReal) (acc : S1024x2048.Idx → EReal) (o : ℕ)
    (inb : ∀ a, (![o, 0] : Fin 2 → ℕ) a + (![512, 2048] : Fin 2 → ℕ) a ≤ S1024x2048.size a)
    (inbx : ∀ a, (![0, o, 0] : Fin 3 → ℕ) a + (![1, 512, 2048] : Fin 3 → ℕ) a ≤ S1x1024x2048.size a) (j : S512x2048.Idx) :
    step (n := 512) z (View.ld (Val := Elt Ideal) (e' := .bf16) x (Rect.unit (s := S1x1024x2048) ![0, o, 0] ![1, 512, 2048] inbx)) w1 w3 w2
        (fun y : S512x2048.Idx => acc ((Rect.unit (s := S1024x2048) ![o, 0] ![512, 2048] inb).emb y)) j
      = step (n := 1024) z x w1 w3 w2 acc ((Rect.unit (s := S1024x2048) ![o, 0] ![512, 2048] inb).emb j) := by
  have hd : ((Rect.unit (s := S1024x2048) ![o, 0] ![512, 2048] inb).emb j) 1 = j 1 := Fin.ext (show 0 + 1 * (j 1).val = (j 1).val by omega)
  have hx : ∀ e : Fin 2048, View.ld (Val := Elt Ideal) (e' := .bf16) x (Rect.unit (s := S1x1024x2048) ![0, o, 0] ![1, 512, 2048] inbx) (ix3 0 (j 0) e)
      = x (ix3 0 (((Rect.unit (s := S1024x2048) ![o, 0] ![512, 2048] inb).emb j) 0) e) := fun e => by
    refine congrArg x (funext fun a => Fin.ext ?_)
    match a with
    | ⟨0, _⟩ => rfl
    | ⟨1, _⟩ => rfl
    | ⟨2, _⟩ => show 0 + 1 * e.val = e.val; omega
  have hp : part (n := 512) (View.ld (Val := Elt Ideal) (e' := .bf16) x (Rect.unit (s := S1x1024x2048) ![0, o, 0] ![1, 512, 2048] inbx)) w1 w3 w2 (j 0) (j 1)
      = part (n := 1024) x w1 w3 w2 (((Rect.unit (s := S1024x2048) ![o, 0] ![512, 2048] inb).emb j) 0) (((Rect.unit (s := S1024x2048) ![o, 0] ![512, 2048] inb).emb j) 1) := by
    unfold part hid
    rw [hd]
    simp only [hx]
  exact congrArg (fun p : EReal => Scalar.select z p (acc ((Rect.unit (s := S1024x2048) ![o, 0] ![512, 2048] inb).emb j) + p)) hp

/-- The two stores of the large accumulator leave the step, whatever was stored before. -/
theorem canon_rows (z : BitVec 1) (x : S1x1024x2048.Idx → EReal) (w1 w3 : S1x1x2048x256.Idx → EReal) (w2 : S1x1x256x2048.Idx → EReal) (acc : S1024x2048.Idx → EReal)
    (P Q : S512x2048.Idx → EReal)
    (hP : P = step (n := 512) z (View.ld (Val := Elt Ideal) (e' := .bf16) x (Rect.unit (s := S1x1024x2048) ![0, 512, 0] ![1, 512, 2048] inb_S1x1024x2048_S1x512x2048_0_512_0)) w1 w3 w2
        (fun y : S512x2048.Idx => acc ((Rect.unit (s := S1024x2048) ![512, 0] ![512, 2048] inb_S1024x2048_S512x2048_512_0).emb y)))
    (hQ : Q = step (n := 512) z (View.ld (Val := Elt Ideal) (e' := .bf16) x (Rect.unit (s := S1x1024x2048) ![0, 0, 0] ![1, 512, 2048] inb_S1x1024x2048_S1x512x2048_0_0_0)) w1 w3 w2
        (fun y : S512x2048.Idx => acc ((Rect.unit (s := S1024x2048) ![0, 0] ![512, 2048] inb_S1024x2048_S512x2048_0_0).emb y)))
    (L : List (View.Piece (Elt Ideal) S1024x2048 .f32)) :
    View.canon (Val := Elt Ideal) (s := S1024x2048) (e := .f32)
      (⟨Rect.unit ![512, 0] ![512, 2048] inb_S1024x2048_S512x2048_512_0, P⟩ :: ⟨Rect.unit ![0, 0] ![512, 2048] inb_S1024x2048_S512x2048_0_0, Q⟩ :: L) = step (n := 1024) z x w1 w3 w2 acc := by
  funext y
  exact View.canon_append_of_piecesOf (Val := Elt Ideal) (s := S1024x2048) (e := .f32) (step (n := 1024) z x w1 w3 w2 acc) L
    [⟨Rect.unit ![512, 0] ![512, 2048] inb_S1024x2048_S512x2048_512_0, P⟩, ⟨Rect.unit ![0, 0] ![512, 2048] inb_S1024x2048_S512x2048_0_0, Q⟩]
    ⟨fun j => (congrFun hP j).trans (rows_piece z x w1 w3 w2 acc 512 inb_S1024x2048_S512x2048_512_0 inb_S1x1024x2048_S1x512x2048_0_512_0 j),
      fun j => (congrFun hQ j).trans (rows_piece z x w1 w3 w2 acc 0 inb_S1024x2048_S512x2048_0_0 inb_S1x1024x2048_S1x512x2048_0_0_0 j), trivial⟩ y
    (View.cover_of_tiledL (s := S1024x2048) _ ![512, 2048] (by sl_kernel_rfl) y)

/-- At the first slice what was there does not matter. -/
theorem step_first {n : ℕ} (z : BitVec 1) (hz : z = 1#1) (x : (⟨3, ![1, n, 2048]⟩ : Shape).Idx → EReal) (w1 w3 : S1x1x2048x256.Idx → EReal) (w2 : S1x1x256x2048.Idx → EReal)
    (a b : (⟨2, ![n, 2048]⟩ : Shape).Idx → EReal) : step z x w1 w3 w2 a = step z x w1 w3 w2 b := by
  subst hz
  funext y
  rfl

/-- The point that clears the accumulators stands at a first slice. -/
theorem first_of_clear (i : grid0.Coords) (h : cond0_0 i) : first i = 1#1 := by
  revert h
  unfold cond0_0 first
  generalize Scalar.cmpi .eq (BitVec.ofNat 32 (i 1).val) 0#32 = q
  generalize Scalar.cmpi .eq (BitVec.ofNat 32 (i 0).val) 0#32 = p
  revert p q
  decide

/-- A gated slice of the rows is the output's block. -/
theorem gated_piece {n k : ℕ} (h : 4 * k = n) (S : (⟨2, ![n, 2048]⟩ : Shape).Idx → EReal) (g : (⟨4, ![4, 1, k, 1]⟩ : Shape).Idx → EReal) (q p : ℕ) (hp : p = k * q)
    (inbS : ∀ a, (![p, 0] : Fin 2 → ℕ) a + (![k, 2048] : Fin 2 → ℕ) a ≤ (![n, 2048] : Fin 2 → ℕ) a)
    (inbg : ∀ a, (![q, 0, 0, 0] : Fin 4 → ℕ) a + (![1, 1, k, 1] : Fin 4 → ℕ) a ≤ (![4, 1, k, 1] : Fin 4 → ℕ) a)
    (inbO : ∀ a, (![q, 0, 0, 0] : Fin 4 → ℕ) a + (![1, 1, k, 2048] : Fin 4 → ℕ) a ≤ (![4, 1, k, 2048] : Fin 4 → ℕ) a)
    (r : Fin k) (d : Fin 2048) :
    S ((Rect.unit (s := (⟨2, ![n, 2048]⟩ : Shape)) ![p, 0] ![k, 2048] inbS).emb (ix2 r d)) * g ((Rect.unit (s := (⟨4, ![4, 1, k, 1]⟩ : Shape)) ![q, 0, 0, 0] ![1, 1, k, 1] inbg).emb (ix4 0 0 r 0))
      = gated h S g ((Rect.unit (s := (⟨4, ![4, 1, k, 2048]⟩ : Shape)) ![q, 0, 0, 0] ![1, 1, k, 2048] inbO).emb (ix4 0 0 r d)) := by
  subst hp
  unfold gated
  refine congrArg₂ (α := EReal) (β := EReal) (γ := EReal) (fun a b => a * b) (congrArg S (funext fun a => Fin.ext ?_)) (congrArg g (funext fun a => Fin.ext ?_))
  · match a with
    | ⟨0, _⟩ => show k * q + 1 * r.val = k * (q + 1 * 0) + (0 + 1 * r.val); rw [Nat.mul_zero, Nat.add_zero]; omega
    | ⟨1, _⟩ => rfl
  · match a with
    | ⟨0, _⟩ => rfl
    | ⟨1, _⟩ => rfl
    | ⟨2, _⟩ => rfl
    | ⟨3, _⟩ => rfl

theorem unit_unit {a b : ℕ} (y : (⟨4, ![1, 1, a, b]⟩ : Shape).Idx) : y = ix4 0 0 (y 2) (y 3) := by
  funext i
  match i with
  | ⟨0, _⟩ => exact Subsingleton.elim (α := Fin 1) _ _
  | ⟨1, _⟩ => exact Subsingleton.elim (α := Fin 1) _ _
  | ⟨2, _⟩ => rfl
  | ⟨3, _⟩ => rfl

/-- The four stores of the output of 256 rows a batch leave the gated rows. -/
theorem canon_gated7 (S : S1024x2048.Idx → EReal) (g : S4x1x256x1.Idx → EReal) :
    View.canon (Val := Elt Ideal) (s := S4x1x256x2048) (e := .bf16)
      [⟨Rect.unit ![3, 0, 0, 0] ![1, 1, 256, 2048] inb_S4x1x256x2048_S1x1x256x2048_3_0_0_0, k0_pay16 (F := Ideal) (fun j => S ((Rect.unit (s := S1024x2048) ![768, 0] ![256, 2048] inb_S1024x2048_S256x2048_768_0).emb j)) (View.ld (Val := Elt Ideal) (e' := .f32) g (Rect.unit ![3, 0, 0, 0] ![1, 1, 256, 1] inb_S4x1x256x1_S1x1x256x1_3_0_0_0))⟩,
        ⟨Rect.unit ![2, 0, 0, 0] ![1, 1, 256, 2048] inb_S4x1x256x2048_S1x1x256x2048_2_0_0_0, k0_pay5 (F := Ideal) (fun j => S ((Rect.unit (s := S1024x2048) ![512, 0] ![256, 2048] inb_S1024x2048_S256x2048_512_0).emb j)) (View.ld (Val := Elt Ideal) (e' := .f32) g (Rect.unit ![2, 0, 0, 0] ![1, 1, 256, 1] inb_S4x1x256x1_S1x1x256x1_2_0_0_0))⟩,
        ⟨Rect.unit ![1, 0, 0, 0] ![1, 1, 256, 2048] inb_S4x1x256x2048_S1x1x256x2048_1_0_0_0, k0_pay4 (F := Ideal) (fun j => S ((Rect.unit (s := S1024x2048) ![256, 0] ![256, 2048] inb_S1024x2048_S256x2048_256_0).emb j)) (View.ld (Val := Elt Ideal) (e' := .f32) g (Rect.unit ![1, 0, 0, 0] ![1, 1, 256, 1] inb_S4x1x256x1_S1x1x256x1_1_0_0_0))⟩,
        ⟨Rect.unit ![0, 0, 0, 0] ![1, 1, 256, 2048] inb_S4x1x256x2048_S1x1x256x2048_0_0_0_0, k0_pay3 (F := Ideal) (fun j => S ((Rect.unit (s := S1024x2048) ![0, 0] ![256, 2048] inb_S1024x2048_S256x2048_0_0).emb j)) (View.ld (Val := Elt Ideal) (e' := .f32) g (Rect.unit ![0, 0, 0, 0] ![1, 1, 256, 1] inb_S4x1x256x1_S1x1x256x1_0_0_0_0))⟩] = gated (n := 1024) (k := 256) rfl S g := by
  funext y
  have h := View.canon_append_of_piecesOf (Val := Elt Ideal) (s := S4x1x256x2048) (e := .bf16) (gated (n := 1024) (k := 256) rfl S g) []
    [⟨Rect.unit ![3, 0, 0, 0] ![1, 1, 256, 2048] inb_S4x1x256x2048_S1x1x256x2048_3_0_0_0, k0_pay16 (F := Ideal) (fun j => S ((Rect.unit (s := S1024x2048) ![768, 0] ![256, 2048] inb_S1024x2048_S256x2048_768_0).emb j)) (View.ld (Val := Elt Ideal) (e' := .f32) g (Rect.unit ![3, 0, 0, 0] ![1, 1, 256, 1] inb_S4x1x256x1_S1x1x256x1_3_0_0_0))⟩,
        ⟨Rect.unit ![2, 0, 0, 0] ![1, 1, 256, 2048] inb_S4x1x256x2048_S1x1x256x2048_2_0_0_0, k0_pay5 (F := Ideal) (fun j => S ((Rect.unit (s := S1024x2048) ![512, 0] ![256, 2048] inb_S1024x2048_S256x2048_512_0).emb j)) (View.ld (Val := Elt Ideal) (e' := .f32) g (Rect.unit ![2, 0, 0, 0] ![1, 1, 256, 1] inb_S4x1x256x1_S1x1x256x1_2_0_0_0))⟩,
        ⟨Rect.unit ![1, 0, 0, 0] ![1, 1, 256, 2048] inb_S4x1x256x2048_S1x1x256x2048_1_0_0_0, k0_pay4 (F := Ideal) (fun j => S ((Rect.unit (s := S1024x2048) ![256, 0] ![256, 2048] inb_S1024x2048_S256x2048_256_0).emb j)) (View.ld (Val := Elt Ideal) (e' := .f32) g (Rect.unit ![1, 0, 0, 0] ![1, 1, 256, 1] inb_S4x1x256x1_S1x1x256x1_1_0_0_0))⟩,
        ⟨Rect.unit ![0, 0, 0, 0] ![1, 1, 256, 2048] inb_S4x1x256x2048_S1x1x256x2048_0_0_0_0, k0_pay3 (F := Ideal) (fun j => S ((Rect.unit (s := S1024x2048) ![0, 0] ![256, 2048] inb_S1024x2048_S256x2048_0_0).emb j)) (View.ld (Val := Elt Ideal) (e' := .f32) g (Rect.unit ![0, 0, 0, 0] ![1, 1, 256, 1] inb_S4x1x256x1_S1x1x256x1_0_0_0_0))⟩]
    ⟨fun y => by
        obtain ⟨r, d, rfl⟩ : ∃ (r : Fin 256) (d : Fin 2048), y = ix4 0 0 r d := ⟨y 2, y 3, unit_unit y⟩
        refine Eq.trans ?_ (gated_piece (n := 1024) (k := 256) rfl S g 3 768 rfl inb_S1024x2048_S256x2048_768_0 inb_S4x1x256x1_S1x1x256x1_3_0_0_0 inb_S4x1x256x2048_S1x1x256x2048_3_0_0_0 r d)
        exact gate_apply (k := 256) (fun j => S ((Rect.unit (s := S1024x2048) ![768, 0] ![256, 2048] inb_S1024x2048_S256x2048_768_0).emb j)) (View.ld (Val := Elt Ideal) (e' := .f32) g (Rect.unit ![3, 0, 0, 0] ![1, 1, 256, 1] inb_S4x1x256x1_S1x1x256x1_3_0_0_0)) _ _ _ r d,
      fun y => by
        obtain ⟨r, d, rfl⟩ : ∃ (r : Fin 256) (d : Fin 2048), y = ix4 0 0 r d := ⟨y 2, y 3, unit_unit y⟩
        refine Eq.trans ?_ (gated_piece (n := 1024) (k := 256) rfl S g 2 512 rfl inb_S1024x2048_S256x2048_512_0 inb_S4x1x256x1_S1x1x256x1_2_0_0_0 inb_S4x1x256x2048_S1x1x256x2048_2_0_0_0 r d)
        exact gate_apply (k := 256) (fun j => S ((Rect.unit (s := S1024x2048) ![512, 0] ![256, 2048] inb_S1024x2048_S256x2048_512_0).emb j)) (View.ld (Val := Elt Ideal) (e' := .f32) g (Rect.unit ![2, 0, 0, 0] ![1, 1, 256, 1] inb_S4x1x256x1_S1x1x256x1_2_0_0_0)) _ _ _ r d,
      fun y => by
        obtain ⟨r, d, rfl⟩ : ∃ (r : Fin 256) (d : Fin 2048), y = ix4 0 0 r d := ⟨y 2, y 3, unit_unit y⟩
        refine Eq.trans ?_ (gated_piece (n := 1024) (k := 256) rfl S g 1 256 rfl inb_S1024x2048_S256x2048_256_0 inb_S4x1x256x1_S1x1x256x1_1_0_0_0 inb_S4x1x256x2048_S1x1x256x2048_1_0_0_0 r d)
        exact gate_apply (k := 256) (fun j => S ((Rect.unit (s := S1024x2048) ![256, 0] ![256, 2048] inb_S1024x2048_S256x2048_256_0).emb j)) (View.ld (Val := Elt Ideal) (e' := .f32) g (Rect.unit ![1, 0, 0, 0] ![1, 1, 256, 1] inb_S4x1x256x1_S1x1x256x1_1_0_0_0)) _ _ _ r d,
      fun y => by
        obtain ⟨r, d, rfl⟩ : ∃ (r : Fin 256) (d : Fin 2048), y = ix4 0 0 r d := ⟨y 2, y 3, unit_unit y⟩
        refine Eq.trans ?_ (gated_piece (n := 1024) (k := 256) rfl S g 0 0 rfl inb_S1024x2048_S256x2048_0_0 inb_S4x1x256x1_S1x1x256x1_0_0_0_0 inb_S4x1x256x2048_S1x1x256x2048_0_0_0_0 r d)
        exact gate_apply (k := 256) (fun j => S ((Rect.unit (s := S1024x2048) ![0, 0] ![256, 2048] inb_S1024x2048_S256x2048_0_0).emb j)) (View.ld (Val := Elt Ideal) (e' := .f32) g (Rect.unit ![0, 0, 0, 0] ![1, 1, 256, 1] inb_S4x1x256x1_S1x1x256x1_0_0_0_0)) _ _ _ r d, trivial⟩ y
    (View.cover_of_tiledL (s := S4x1x256x2048) _ ![1, 1, 256, 2048] (by sl_kernel_rfl) y)
  rw [List.append_nil] at h
  exact h

/-- The four stores of the output of 32 rows a batch leave the gated rows. -/
theorem canon_gated8 (S : S128x2048.Idx → EReal) (g : S4x1x32x1.Idx → EReal) :
    View.canon (Val := Elt Ideal) (s := S4x1x32x2048) (e := .bf16)
      [⟨Rect.unit ![3, 0, 0, 0] ![1, 1, 32, 2048] inb_S4x1x32x2048_S1x1x32x2048_3_0_0_0, k0_pay2 (F := Ideal) (fun j => S ((Rect.unit (s := S128x2048) ![96, 0] ![32, 2048] inb_S128x2048_S32x2048_96_0).emb j)) (View.ld (Val := Elt Ideal) (e' := .f32) g (Rect.unit ![3, 0, 0, 0] ![1, 1, 32, 1] inb_S4x1x32x1_S1x1x32x1_3_0_0_0))⟩,
        ⟨Rect.unit ![2, 0, 0, 0] ![1, 1, 32, 2048] inb_S4x1x32x2048_S1x1x32x2048_2_0_0_0, k0_pay8 (F := Ideal) (fun j => S ((Rect.unit (s := S128x2048) ![64, 0] ![32, 2048] inb_S128x2048_S32x2048_64_0).emb j)) (View.ld (Val := Elt Ideal) (e' := .f32) g (Rect.unit ![2, 0, 0, 0] ![1, 1, 32, 1] inb_S4x1x32x1_S1x1x32x1_2_0_0_0))⟩,
        ⟨Rect.unit ![1, 0, 0, 0] ![1, 1, 32, 2048] inb_S4x1x32x2048_S1x1x32x2048_1_0_0_0, k0_pay7 (F := Ideal) (fun j => S ((Rect.unit (s := S128x2048) ![32, 0] ![32, 2048] inb_S128x2048_S32x2048_32_0).emb j)) (View.ld (Val := Elt Ideal) (e' := .f32) g (Rect.unit ![1, 0, 0, 0] ![1, 1, 32, 1] inb_S4x1x32x1_S1x1x32x1_1_0_0_0))⟩,
        ⟨Rect.unit ![0, 0, 0, 0] ![1, 1, 32, 2048] inb_S4x1x32x2048_S1x1x32x2048_0_0_0_0, k0_pay6 (F := Ideal) (fun j => S ((Rect.unit (s := S128x2048) ![0, 0] ![32, 2048] inb_S128x2048_S32x2048_0_0).emb j)) (View.ld (Val := Elt Ideal) (e' := .f32) g (Rect.unit ![0, 0, 0, 0] ![1, 1, 32, 1] inb_S4x1x32x1_S1x1x32x1_0_0_0_0))⟩] = gated (n := 128) (k := 32) rfl S g := by
  funext y
  have h := View.canon_append_of_piecesOf (Val := Elt Ideal) (s := S4x1x32x2048) (e := .bf16) (gated (n := 128) (k := 32) rfl S g) []
    [⟨Rect.unit ![3, 0, 0, 0] ![1, 1, 32, 2048] inb_S4x1x32x2048_S1x1x32x2048_3_0_0_0, k0_pay2 (F := Ideal) (fun j => S ((Rect.unit (s := S128x2048) ![96, 0] ![32, 2048] inb_S128x2048_S32x2048_96_0).emb j)) (View.ld (Val := Elt Ideal) (e' := .f32) g (Rect.unit ![3, 0, 0, 0] ![1, 1, 32, 1] inb_S4x1x32x1_S1x1x32x1_3_0_0_0))⟩,
        ⟨Rect.unit ![2, 0, 0, 0] ![1, 1, 32, 2048] inb_S4x1x32x2048_S1x1x32x2048_2_0_0_0, k0_pay8 (F := Ideal) (fun j => S ((Rect.unit (s := S128x2048) ![64, 0] ![32, 2048] inb_S128x2048_S32x2048_64_0).emb j)) (View.ld (Val := Elt Ideal) (e' := .f32) g (Rect.unit ![2, 0, 0, 0] ![1, 1, 32, 1] inb_S4x1x32x1_S1x1x32x1_2_0_0_0))⟩,
        ⟨Rect.unit ![1, 0, 0, 0] ![1, 1, 32, 2048] inb_S4x1x32x2048_S1x1x32x2048_1_0_0_0, k0_pay7 (F := Ideal) (fun j => S ((Rect.unit (s := S128x2048) ![32, 0] ![32, 2048] inb_S128x2048_S32x2048_32_0).emb j)) (View.ld (Val := Elt Ideal) (e' := .f32) g (Rect.unit ![1, 0, 0, 0] ![1, 1, 32, 1] inb_S4x1x32x1_S1x1x32x1_1_0_0_0))⟩,
        ⟨Rect.unit ![0, 0, 0, 0] ![1, 1, 32, 2048] inb_S4x1x32x2048_S1x1x32x2048_0_0_0_0, k0_pay6 (F := Ideal) (fun j => S ((Rect.unit (s := S128x2048) ![0, 0] ![32, 2048] inb_S128x2048_S32x2048_0_0).emb j)) (View.ld (Val := Elt Ideal) (e' := .f32) g (Rect.unit ![0, 0, 0, 0] ![1, 1, 32, 1] inb_S4x1x32x1_S1x1x32x1_0_0_0_0))⟩]
    ⟨fun y => by
        obtain ⟨r, d, rfl⟩ : ∃ (r : Fin 32) (d : Fin 2048), y = ix4 0 0 r d := ⟨y 2, y 3, unit_unit y⟩
        refine Eq.trans ?_ (gated_piece (n := 128) (k := 32) rfl S g 3 96 rfl inb_S128x2048_S32x2048_96_0 inb_S4x1x32x1_S1x1x32x1_3_0_0_0 inb_S4x1x32x2048_S1x1x32x2048_3_0_0_0 r d)
        exact gate_apply (k := 32) (fun j => S ((Rect.unit (s := S128x2048) ![96, 0] ![32, 2048] inb_S128x2048_S32x2048_96_0).emb j)) (View.ld (Val := Elt Ideal) (e' := .f32) g (Rect.unit ![3, 0, 0, 0] ![1, 1, 32, 1] inb_S4x1x32x1_S1x1x32x1_3_0_0_0)) _ _ _ r d,
      fun y => by
        obtain ⟨r, d, rfl⟩ : ∃ (r : Fin 32) (d : Fin 2048), y = ix4 0 0 r d := ⟨y 2, y 3, unit_unit y⟩
        refine Eq.trans ?_ (gated_piece (n := 128) (k := 32) rfl S g 2 64 rfl inb_S128x2048_S32x2048_64_0 inb_S4x1x32x1_S1x1x32x1_2_0_0_0 inb_S4x1x32x2048_S1x1x32x2048_2_0_0_0 r d)
        exact gate_apply (k := 32) (fun j => S ((Rect.unit (s := S128x2048) ![64, 0] ![32, 2048] inb_S128x2048_S32x2048_64_0).emb j)) (View.ld (Val := Elt Ideal) (e' := .f32) g (Rect.unit ![2, 0, 0, 0] ![1, 1, 32, 1] inb_S4x1x32x1_S1x1x32x1_2_0_0_0)) _ _ _ r d,
      fun y => by
        obtain ⟨r, d, rfl⟩ : ∃ (r : Fin 32) (d : Fin 2048), y = ix4 0 0 r d := ⟨y 2, y 3, unit_unit y⟩
        refine Eq.trans ?_ (gated_piece (n := 128) (k := 32) rfl S g 1 32 rfl inb_S128x2048_S32x2048_32_0 inb_S4x1x32x1_S1x1x32x1_1_0_0_0 inb_S4x1x32x2048_S1x1x32x2048_1_0_0_0 r d)
        exact gate_apply (k := 32) (fun j => S ((Rect.unit (s := S128x2048) ![32, 0] ![32, 2048] inb_S128x2048_S32x2048_32_0).emb j)) (View.ld (Val := Elt Ideal) (e' := .f32) g (Rect.unit ![1, 0, 0, 0] ![1, 1, 32, 1] inb_S4x1x32x1_S1x1x32x1_1_0_0_0)) _ _ _ r d,
      fun y => by
        obtain ⟨r, d, rfl⟩ : ∃ (r : Fin 32) (d : Fin 2048), y = ix4 0 0 r d := ⟨y 2, y 3, unit_unit y⟩
        refine Eq.trans ?_ (gated_piece (n := 128) (k := 32) rfl S g 0 0 rfl inb_S128x2048_S32x2048_0_0 inb_S4x1x32x1_S1x1x32x1_0_0_0_0 inb_S4x1x32x2048_S1x1x32x2048_0_0_0_0 r d)
        exact gate_apply (k := 32) (fun j => S ((Rect.unit (s := S128x2048) ![0, 0] ![32, 2048] inb_S128x2048_S32x2048_0_0).emb j)) (View.ld (Val := Elt Ideal) (e' := .f32) g (Rect.unit ![0, 0, 0, 0] ![1, 1, 32, 1] inb_S4x1x32x1_S1x1x32x1_0_0_0_0)) _ _ _ r d, trivial⟩ y
    (View.cover_of_tiledL (s := S4x1x32x2048) _ ![1, 1, 32, 2048] (by sl_kernel_rfl) y)
  rw [List.append_nil] at h
  exact h

variable (c : Dev nD) (i : grid0.Coords) (arg2 : Memref sig .tc .vmem S1x1024x2048 .bf16) (harg2 : arg2.IsWhole) (arg3 : Memref sig .tc .vmem S1x128x2048 .bf16) (harg3 : arg3.IsWhole) (arg4 : Memref sig .tc .vmem S4x1x256x1 .f32) (harg4 : arg4.IsWhole) (arg5 : Memref sig .tc .vmem S4x1x32x1 .f32) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S4x1x256x2048 .bf16) (harg9 : arg9.IsWhole) (arg10 : Memref sig .tc .vmem S4x1x32x2048 .bf16) (harg10 : arg10.IsWhole) (arg11 : Memref sig .tc .vmem S1024x2048 .f32) (harg11 : arg11.IsWhole) (arg12 : Memref sig .tc .vmem S128x2048 .f32) (harg12 : arg12.IsWhole)
variable (x0 : Vec Ideal S1x1024x2048 .bf16) (x1 : Vec Ideal S1x128x2048 .bf16) (x2 : Vec Ideal S4x1x256x1 .f32) (x3 : Vec Ideal S4x1x32x1 .f32) (x4 : Vec Ideal S1x1x2048x256 .f32) (x5 : Vec Ideal S1x1x2048x256 .f32) (x6 : Vec Ideal S1x1x256x2048 .f32)

/-- The large accumulator at the first point. -/
theorem sout_A_0 (hc0 : cond0_0 i) (hc1 : ¬cond0_1 i) (hc2 : ¬cond0_2 i) (acc : Vec Ideal S1024x2048 .f32) : sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 = step (n := 1024) (first i) x0 x4 x5 x6 acc := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  exact canon_rows (first i) x0 x4 x5 x6 acc _ _ ((pay15_eq i x4 x5 x6 _ _).trans (step_first _ (first_of_clear i hc0) _ _ _ _ _ _)) ((pay14_eq i x4 x5 x6 _ _).trans (step_first _ (first_of_clear i hc0) _ _ _ _ _ _)) _

/-- The small accumulator at the first point. -/
theorem sout_A_1 (hc0 : cond0_0 i) (hc1 : ¬cond0_1 i) (hc2 : ¬cond0_2 i) (acc : Vec Ideal S128x2048 .f32) : sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 = step (n := 128) (first i) x1 x4 x5 x6 acc := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  rw [View.canon_cons_unit_zero (S := S128x2048) hz2, View.ld_unit_zero (S := S1x128x2048) hz3]
  exact (pay17_eq i x4 x5 x6 x1 _).trans (step_first _ (first_of_clear i hc0) _ _ _ _ _ _)

/-- The large accumulator at a middle slice. -/
theorem sout_B_0 (hc0 : ¬cond0_0 i) (hc1 : ¬cond0_1 i) (hc2 : ¬cond0_2 i) (xs0 : Vec Ideal S1024x2048 .f32) (xs1 : Vec Ideal S128x2048 .f32) : sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = step (n := 1024) (first i) x0 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  exact canon_rows (first i) x0 x4 x5 x6 xs0 _ _ (pay15_eq i x4 x5 x6 _ _) (pay14_eq i x4 x5 x6 _ _) []

/-- The small accumulator at a middle slice. -/
theorem sout_B_1 (hc0 : ¬cond0_0 i) (hc1 : ¬cond0_1 i) (hc2 : ¬cond0_2 i) (xs0 : Vec Ideal S1024x2048 .f32) (xs1 : Vec Ideal S128x2048 .f32) : sout0_B_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = step (n := 128) (first i) x1 x4 x5 x6 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  rw [View.canon_cons_unit_zero (S := S128x2048) hz2, View.ld_unit_zero (S := S1x128x2048) hz3, View.ld_unit_zero (S := S128x2048) hz2]
  exact pay17_eq i x4 x5 x6 x1 xs1

/-- The large accumulator at a last slice. -/
theorem sout_C_0 (hc0 : ¬cond0_0 i) (hc1 : cond0_1 i) (hc2 : cond0_2 i) (xs0 : Vec Ideal S1024x2048 .f32) (xs1 : Vec Ideal S128x2048 .f32) : sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = step (n := 1024) (first i) x0 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  exact canon_rows (first i) x0 x4 x5 x6 xs0 _ _ (pay15_eq i x4 x5 x6 _ _) (pay14_eq i x4 x5 x6 _ _) []

/-- The small accumulator at a last slice. -/
theorem sout_C_1 (hc0 : ¬cond0_0 i) (hc1 : cond0_1 i) (hc2 : cond0_2 i) (xs0 : Vec Ideal S1024x2048 .f32) (xs1 : Vec Ideal S128x2048 .f32) : sout0_C_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = step (n := 128) (first i) x1 x4 x5 x6 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  rw [View.canon_cons_unit_zero (S := S128x2048) hz2, View.ld_unit_zero (S := S1x128x2048) hz3, View.ld_unit_zero (S := S128x2048) hz2]
  exact pay17_eq i x4 x5 x6 x1 xs1

/-- The large output block. -/
theorem out_C_7 (hc0 : ¬cond0_0 i) (hc1 : cond0_1 i) (hc2 : cond0_2 i) (xs0 : Vec Ideal S1024x2048 .f32) (xs1 : Vec Ideal S128x2048 .f32) : out0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = gated (n := 1024) (k := 256) rfl (step (n := 1024) (first i) x0 x4 x5 x6 xs0) x2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  have e := canon_rows (first i) x0 x4 x5 x6 xs0 _ _ (pay15_eq i x4 x5 x6 _ _) (pay14_eq i x4 x5 x6 _ _) []
  simp only [View.readCov_eq_canon']
  refine Eq.trans ?_ (canon_gated7 (step (n := 1024) (first i) x0 x4 x5 x6 xs0) x2)
  rw [← e]
  rfl

/-- The small output block. -/
theorem out_C_8 (hc0 : ¬cond0_0 i) (hc1 : cond0_1 i) (hc2 : cond0_2 i) (xs0 : Vec Ideal S1024x2048 .f32) (xs1 : Vec Ideal S128x2048 .f32) : out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1 = gated (n := 128) (k := 32) rfl (step (n := 128) (first i) x1 x4 x5 x6 xs1) x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0 xs1)]
  unfold kernelRun0_C
  dsimp only
  sl_unfold_words
  simp only [View.readAt_eq_ld, harg2.read_unread, harg3.read_unread, harg4.read_unread, harg5.read_unread, harg6.read_unread, harg7.read_unread, harg8.read_unread, harg11.read_unread, harg12.read_unread, View.ld_unit_zero (S := S1x1x2048x256) hz4, View.ld_unit_zero (S := S1x1x256x2048) hz4]
  simp only [View.readCov_eq_canon', View.canon_cons_unit_zero (S := S128x2048) hz2, View.ld_unit_zero (S := S1x128x2048) hz3, View.ld_unit_zero (S := S128x2048) hz2, pay17_eq i x4 x5 x6 x1 xs1]
  exact canon_gated8 (step (n := 128) (first i) x1 x4 x5 x6 xs1) x3

end Cert.Kernel3Ideal.FfnBlock

end
-- ==== Proof.FfnKernel.lean ====
/-
  The expert feed-forward's two result arrays, entry by entry. The grid runs over the experts and, within an expert, over four
  slices of the hidden units; the accumulators after a point hold the sum over the slices so far (`held`), and the last slice's
  blocks tile the results (`run`).
-/
module

public import proofs.«01_k».proof.Proof.FfnBlock
public import proofs.«01_k».proof.Proof.Gen.Kernel3Ideal.Value
public import Idealize.ShloMosaic.Lib.Claim

@[expose] public section

set_option maxRecDepth 16384

noncomputable section

namespace Cert.Kernel3Ideal.FfnKernel

open Cert.Kernel3Ideal Cert.Kernel3Ideal.Gen Idealize.ShloMosaic.TcCoe Idealize.ShloMosaic.ValueIdx
open Idealize.ShloMosaic
open Idealize.SL Idealize.SL.Sem
open Idealize.ShloMosaic.Pipeline (Dat)
open Cert.Kernel3Ideal.FfnPay Cert.Kernel3Ideal.FfnBlock
open scoped BigOperators

variable (m : (ℓ : Loc nD τ sig) → Buf (Elt Ideal) ℓ) (ρ : Dev nD → PrngReg)

/-! ## The results as formulas -/

/-- Argument arrays as functions of an index. -/
abbrev argX (c : Dev nD) : S16x1024x2048.Idx → EReal := m ((c : Thread nD τ).loc main_arg0)
abbrev argG (c : Dev nD) : S4x16x256x1.Idx → EReal := m ((c : Thread nD τ).loc main_arg1)
abbrev argXc (c : Dev nD) : S16x128x2048.Idx → EReal := m ((c : Thread nD τ).loc main_arg2)
abbrev argGc (c : Dev nD) : S4x16x32x1.Idx → EReal := m ((c : Thread nD τ).loc main_arg3)
abbrev argW1 (c : Dev nD) : S4x16x2048x1024.Idx → EReal := m ((c : Thread nD τ).loc main_arg4)
abbrev argW3 (c : Dev nD) : S4x16x2048x1024.Idx → EReal := m ((c : Thread nD τ).loc main_arg5)
abbrev argW2 (c : Dev nD) : S4x16x1024x2048.Idx → EReal := m ((c : Thread nD τ).loc main_arg6)

/-- Hidden unit `f` of expert `e` for row `r` of its rows. -/
def hidAt {n : ℕ} (X : (⟨3, ![16, n, 2048]⟩ : Shape).Idx → EReal) (W1 W3 : S4x16x2048x1024.Idx → EReal) (e : Fin 16) (r : Fin n) (f : Fin 1024) : EReal :=
  (∑ k : Fin 2048, X (ix3 e r k) * W1 (ix4 0 e k f)) * Ideal.logistic (∑ k : Fin 2048, X (ix3 e r k) * W1 (ix4 0 e k f)) * (∑ k : Fin 2048, X (ix3 e r k) * W3 (ix4 0 e k f))
/-- The expert's output for a row: the sum over its hidden units. -/
def sumAt {n : ℕ} (X : (⟨3, ![16, n, 2048]⟩ : Shape).Idx → EReal) (W1 W3 : S4x16x2048x1024.Idx → EReal) (W2 : S4x16x1024x2048.Idx → EReal) (e : Fin 16) (r : Fin n) (d : Fin 2048) : EReal :=
  ∑ f : Fin 1024, hidAt X W1 W3 e r f * W2 (ix4 0 e f d)
/-- Row `r` of batch `b`, among an expert's rows. -/
abbrev row {n k : ℕ} (h : 4 * k = n) (b : Fin 4) (r : Fin k) : Fin n := ⟨k * b.val + r.val, by
  have hb : b.val < 4 := b.isLt
  have hr : r.val < k := r.isLt
  have : k * b.val ≤ k * 3 := Nat.mul_le_mul_left k (by omega)
  omega⟩
/-- A result entry: the expert's output for the row, times the row's gate. -/
def resultAt {n k : ℕ} (h : 4 * k = n) (X : (⟨3, ![16, n, 2048]⟩ : Shape).Idx → EReal) (g : (⟨4, ![4, 16, k, 1]⟩ : Shape).Idx → EReal) (W1 W3 : S4x16x2048x1024.Idx → EReal) (W2 : S4x16x1024x2048.Idx → EReal)
    (b : Fin 4) (e : Fin 16) (r : Fin k) (d : Fin 2048) : EReal :=
  sumAt X W1 W3 W2 e (row h b r) d * g (ix4 b e r 0)

/-! ## Four slices of the hidden units -/

/-- Hidden unit `f` of slice `q`. -/
abbrev unit (q : Fin 4) (f : Fin 256) : Fin 1024 := ⟨256 * q.val + f.val, by have := q.isLt; have := f.isLt; omega⟩
/-- What slice `q` adds. -/
def sliceAt {n : ℕ} (X : (⟨3, ![16, n, 2048]⟩ : Shape).Idx → EReal) (W1 W3 : S4x16x2048x1024.Idx → EReal) (W2 : S4x16x1024x2048.Idx → EReal) (e : Fin 16) (q : Fin 4) (r : Fin n) (d : Fin 2048) : EReal :=
  ∑ f : Fin 256, hidAt X W1 W3 e r (unit q f) * W2 (ix4 0 e (unit q f) d)
/-- The sum of the slices up to slice `q`. -/
def upto {n : ℕ} (X : (⟨3, ![16, n, 2048]⟩ : Shape).Idx → EReal) (W1 W3 : S4x16x2048x1024.Idx → EReal) (W2 : S4x16x1024x2048.Idx → EReal) (e : Fin 16) (q : ℕ) (r : Fin n) (d : Fin 2048) : EReal :=
  match q with
  | 0 => sliceAt X W1 W3 W2 e 0 r d
  | q + 1 => upto X W1 W3 W2 e q r d + sliceAt X W1 W3 W2 e ⟨(q + 1) % 4, Nat.mod_lt _ (by decide)⟩ r d

/-- The four slices make the whole sum. -/
theorem sumAt_eq {n : ℕ} (X : (⟨3, ![16, n, 2048]⟩ : Shape).Idx → EReal) (W1 W3 : S4x16x2048x1024.Idx → EReal) (W2 : S4x16x1024x2048.Idx → EReal) (e : Fin 16) (r : Fin n) (d : Fin 2048) :
    sumAt X W1 W3 W2 e r d = upto X W1 W3 W2 e 3 r d := by
  have h : ∀ F : Fin 1024 → EReal, (∑ f : Fin 1024, F f) = (∑ f : Fin 256, F (unit 0 f)) + (∑ f : Fin 256, F (unit 1 f)) + (∑ f : Fin 256, F (unit 2 f)) + (∑ f : Fin 256, F (unit 3 f)) := by
    intro F
    rw [← Fin.sum_univ_four (fun q : Fin 4 => ∑ f : Fin 256, F (unit q f)), ← Fintype.sum_prod_type' (fun (q : Fin 4) (f : Fin 256) => F (unit q f))]
    refine (Fintype.sum_equiv (finProdFinEquiv (m := 4) (n := 256)) _ _ fun p => ?_).symm
    exact congrArg F (Fin.ext (Nat.add_comm _ _))
  exact h _

/-! ## The blocks of the arguments -/

theorem tlt (t : Fin cfg0.N) : t.val < 64 := by have := t.isLt; have : cfg0.N = 64 := N_0; omega

/-- The expert and the slice of a point. -/
abbrev expert (t : Fin cfg0.N) : Fin 16 := ⟨t.val / 4, by have := tlt t; omega⟩
abbrev slice (t : Fin cfg0.N) : Fin 4 := ⟨t.val % 4, Nat.mod_lt _ (by decide)⟩

theorem idx_0 : ∀ t : Fin cfg0.N, win0_0.index t 0 = t.val / 4 ∧ win0_0.index t 1 = 0 ∧ win0_0.index t 2 = 0 :=
  (by decide +kernel : ∀ t : Fin grid0.N, _)
theorem blk_0 (c : Dev nD) (t : Fin cfg0.N) (r : Fin 1024) (k : Fin 2048) : iblk m c 0 t (ix3 (0 : Fin 1) r k) = argX m c (ix3 (expert t) r k) := by
  unfold iblk
  rw [View.read_apply]
  show V m c main_arg0 _ = m ((c : Thread nD τ).loc main_arg0) _
  rw [V_main_arg0]
  refine congrArg _ (funext fun a => Fin.ext ?_)
  obtain ⟨h0, h1, h2⟩ := idx_0 t
  match a with
  | ⟨0, _⟩ => show win0_0.index t 0 * 1 + 1 * 0 = t.val / 4; omega
  | ⟨1, _⟩ => show win0_0.index t 1 * 1024 + 1 * r.val = r.val; omega
  | ⟨2, _⟩ => show win0_0.index t 2 * 2048 + 1 * k.val = k.val; omega
theorem idx_1 : ∀ t : Fin cfg0.N, win0_1.index t 0 = t.val / 4 ∧ win0_1.index t 1 = 0 ∧ win0_1.index t 2 = 0 :=
  (by decide +kernel : ∀ t : Fin grid0.N, _)
theorem blk_1 (c : Dev nD) (t : Fin cfg0.N) (r : Fin 128) (k : Fin 2048) : iblk m c 1 t (ix3 (0 : Fin 1) r k) = argXc m c (ix3 (expert t) r k) := by
  unfold iblk
  rw [View.read_apply]
  show V m c main_arg2 _ = m ((c : Thread nD τ).loc main_arg2) _
  rw [V_main_arg2]
  refine congrArg _ (funext fun a => Fin.ext ?_)
  obtain ⟨h0, h1, h2⟩ := idx_1 t
  match a with
  | ⟨0, _⟩ => show win0_1.index t 0 * 1 + 1 * 0 = t.val / 4; omega
  | ⟨1, _⟩ => show win0_1.index t 1 * 128 + 1 * r.val = r.val; omega
  | ⟨2, _⟩ => show win0_1.index t 2 * 2048 + 1 * k.val = k.val; omega
theorem idx_2 : ∀ t : Fin cfg0.N, win0_2.index t 0 = 0 ∧ win0_2.index t 1 = t.val / 4 ∧ win0_2.index t 2 = 0 ∧ win0_2.index t 3 = 0 :=
  (by decide +kernel : ∀ t : Fin grid0.N, _)
theorem blk_2 (c : Dev nD) (t : Fin cfg0.N) (b : Fin 4) (r : Fin 256) : iblk m c 2 t (ix4 b (0 : Fin 1) r (0 : Fin 1)) = argG m c (ix4 b (expert t) r 0) := by
  unfold iblk
  rw [View.read_apply]
  show V m c main_arg1 _ = m ((c : Thread nD τ).loc main_arg1) _
  rw [V_main_arg1]
  refine congrArg _ (funext fun a => Fin.ext ?_)
  obtain ⟨h0, h1, h2, h3⟩ := idx_2 t
  match a with
  | ⟨0, _⟩ => show win0_2.index t 0 * 4 + 1 * b.val = b.val; omega
  | ⟨1, _⟩ => show win0_2.index t 1 * 1 + 1 * 0 = t.val / 4; omega
  | ⟨2, _⟩ => show win0_2.index t 2 * 256 + 1 * r.val = r.val; omega
  | ⟨3, _⟩ => show win0_2.index t 3 * 1 + 1 * 0 = 0; omega
theorem idx_3 : ∀ t : Fin cfg0.N, win0_3.index t 0 = 0 ∧ win0_3.index t 1 = t.val / 4 ∧ win0_3.index t 2 = 0 ∧ win0_3.index t 3 = 0 :=
  (by decide +kernel : ∀ t : Fin grid0.N, _)
theorem blk_3 (c : Dev nD) (t : Fin cfg0.N) (b : Fin 4) (r : Fin 32) : iblk m c 3 t (ix4 b (0 : Fin 1) r (0 : Fin 1)) = argGc m c (ix4 b (expert t) r 0) := by
  unfold iblk
  rw [View.read_apply]
  show V m c main_arg3 _ = m ((c : Thread nD τ).loc main_arg3) _
  rw [V_main_arg3]
  refine congrArg _ (funext fun a => Fin.ext ?_)
  obtain ⟨h0, h1, h2, h3⟩ := idx_3 t
  match a with
  | ⟨0, _⟩ => show win0_3.index t 0 * 4 + 1 * b.val = b.val; omega
  | ⟨1, _⟩ => show win0_3.index t 1 * 1 + 1 * 0 = t.val / 4; omega
  | ⟨2, _⟩ => show win0_3.index t 2 * 32 + 1 * r.val = r.val; omega
  | ⟨3, _⟩ => show win0_3.index t 3 * 1 + 1 * 0 = 0; omega
theorem idx_4 : ∀ t : Fin cfg0.N, win0_4.index t 0 = 0 ∧ win0_4.index t 1 = t.val / 4 ∧ win0_4.index t 2 = 0 ∧ win0_4.index t 3 = t.val % 4 :=
  (by decide +kernel : ∀ t : Fin grid0.N, _)
theorem blk_4 (c : Dev nD) (t : Fin cfg0.N) (k : Fin 2048) (f : Fin 256) : iblk m c 4 t (ix4 (0 : Fin 1) (0 : Fin 1) k f) = argW1 m c (ix4 0 (expert t) k (unit (slice t) f)) := by
  unfold iblk
  rw [View.read_apply]
  show V m c main_arg4 _ = m ((c : Thread nD τ).loc main_arg4) _
  rw [V_main_arg4]
  refine congrArg _ (funext fun a => Fin.ext ?_)
  obtain ⟨h0, h1, h2, h3⟩ := idx_4 t
  match a with
  | ⟨0, _⟩ => show win0_4.index t 0 * 1 + 1 * 0 = 0; omega
  | ⟨1, _⟩ => show win0_4.index t 1 * 1 + 1 * 0 = t.val / 4; omega
  | ⟨2, _⟩ => show win0_4.index t 2 * 2048 + 1 * k.val = k.val; omega
  | ⟨3, _⟩ => show win0_4.index t 3 * 256 + 1 * f.val = 256 * (t.val % 4) + f.val; omega
theorem idx_5 : ∀ t : Fin cfg0.N, win0_5.index t 0 = 0 ∧ win0_5.index t 1 = t.val / 4 ∧ win0_5.index t 2 = 0 ∧ win0_5.index t 3 = t.val % 4 :=
  (by decide +kernel : ∀ t : Fin grid0.N, _)
theorem blk_5 (c : Dev nD) (t : Fin cfg0.N) (k : Fin 2048) (f : Fin 256) : iblk m c 5 t (ix4 (0 : Fin 1) (0 : Fin 1) k f) = argW3 m c (ix4 0 (expert t) k (unit (slice t) f)) := by
  unfold iblk
  rw [View.read_apply]
  show V m c main_arg5 _ = m ((c : Thread nD τ).loc main_arg5) _
  rw [V_main_arg5]
  refine congrArg _ (funext fun a => Fin.ext ?_)
  obtain ⟨h0, h1, h2, h3⟩ := idx_5 t
  match a with
  | ⟨0, _⟩ => show win0_5.index t 0 * 1 + 1 * 0 = 0; omega
  | ⟨1, _⟩ => show win0_5.index t 1 * 1 + 1 * 0 = t.val / 4; omega
  | ⟨2, _⟩ => show win0_5.index t 2 * 2048 + 1 * k.val = k.val; omega
  | ⟨3, _⟩ => show win0_5.index t 3 * 256 + 1 * f.val = 256 * (t.val % 4) + f.val; omega
theorem idx_6 : ∀ t : Fin cfg0.N, win0_6.index t 0 = 0 ∧ win0_6.index t 1 = t.val / 4 ∧ win0_6.index t 2 = t.val % 4 ∧ win0_6.index t 3 = 0 :=
  (by decide +kernel : ∀ t : Fin grid0.N, _)
theorem blk_6 (c : Dev nD) (t : Fin cfg0.N) (f : Fin 256) (d : Fin 2048) : iblk m c 6 t (ix4 (0 : Fin 1) (0 : Fin 1) f d) = argW2 m c (ix4 0 (expert t) (unit (slice t) f) d) := by
  unfold iblk
  rw [View.read_apply]
  show V m c main_arg6 _ = m ((c : Thread nD τ).loc main_arg6) _
  rw [V_main_arg6]
  refine congrArg _ (funext fun a => Fin.ext ?_)
  obtain ⟨h0, h1, h2, h3⟩ := idx_6 t
  match a with
  | ⟨0, _⟩ => show win0_6.index t 0 * 1 + 1 * 0 = 0; omega
  | ⟨1, _⟩ => show win0_6.index t 1 * 1 + 1 * 0 = t.val / 4; omega
  | ⟨2, _⟩ => show win0_6.index t 2 * 256 + 1 * f.val = 256 * (t.val % 4) + f.val; omega
  | ⟨3, _⟩ => show win0_6.index t 3 * 2048 + 1 * d.val = d.val; omega
theorem idx_7 : ∀ t : Fin cfg0.N, win0_7.index t 0 = 0 ∧ win0_7.index t 1 = t.val / 4 ∧ win0_7.index t 2 = 0 ∧ win0_7.index t 3 = 0 :=
  (by decide +kernel : ∀ t : Fin grid0.N, _)
theorem idx_8 : ∀ t : Fin cfg0.N, win0_8.index t 0 = 0 ∧ win0_8.index t 1 = t.val / 4 ∧ win0_8.index t 2 = 0 ∧ win0_8.index t 3 = 0 :=
  (by decide +kernel : ∀ t : Fin grid0.N, _)

theorem first_at : ∀ t : Fin cfg0.N, first (grid0.coords t) = if t.val % 4 = 0 then 1#1 else 0#1 :=
  (by decide +kernel : ∀ t : Fin grid0.N, _)

/-- A point's part of a row is its slice's. -/
theorem part_at {n : ℕ} (c : Dev nD) (t : Fin cfg0.N) (x : (⟨3, ![1, n, 2048]⟩ : Shape).Idx → EReal) (X : (⟨3, ![16, n, 2048]⟩ : Shape).Idx → EReal)
    (hx : ∀ (r : Fin n) (k : Fin 2048), x (ix3 0 r k) = X (ix3 (expert t) r k)) (r : Fin n) (d : Fin 2048) :
    part x (iblk m c 4 t) (iblk m c 5 t) (iblk m c 6 t) r d = sliceAt X (argW1 m c) (argW3 m c) (argW2 m c) (expert t) (slice t) r d := by
  have h1 : ∀ (f : Fin 256), (∑ k : Fin 2048, x (ix3 0 r k) * iblk m c 4 t (ix4 (0 : Fin 1) (0 : Fin 1) k f)) = ∑ k : Fin 2048, X (ix3 (expert t) r k) * argW1 m c (ix4 0 (expert t) k (unit (slice t) f)) :=
    fun f => Finset.sum_congr rfl fun k _ => congrArg₂ (α := EReal) (β := EReal) (γ := EReal) (fun a b => a * b) (hx r k) (blk_4 m c t k f)
  have h3 : ∀ (f : Fin 256), (∑ k : Fin 2048, x (ix3 0 r k) * iblk m c 5 t (ix4 (0 : Fin 1) (0 : Fin 1) k f)) = ∑ k : Fin 2048, X (ix3 (expert t) r k) * argW3 m c (ix4 0 (expert t) k (unit (slice t) f)) :=
    fun f => Finset.sum_congr rfl fun k _ => congrArg₂ (α := EReal) (β := EReal) (γ := EReal) (fun a b => a * b) (hx r k) (blk_5 m c t k f)
  unfold part sliceAt
  refine Finset.sum_congr rfl fun f _ => congrArg₂ (α := EReal) (β := EReal) (γ := EReal) (fun a b => a * b) ?_ (blk_6 m c t f d)
  unfold hid hidAt
  exact congrArg₂ (α := EReal) (β := EReal) (γ := EReal) (fun a b => a * Ideal.logistic a * b) (h1 f) (h3 f)

/-- A step takes the sum over the slices so far one slice on. -/
theorem step_at {n : ℕ} (c : Dev nD) (t : Fin cfg0.N) (x : (⟨3, ![1, n, 2048]⟩ : Shape).Idx → EReal) (X : (⟨3, ![16, n, 2048]⟩ : Shape).Idx → EReal)
    (hx : ∀ (r : Fin n) (k : Fin 2048), x (ix3 0 r k) = X (ix3 (expert t) r k)) (acc : (⟨2, ![n, 2048]⟩ : Shape).Idx → EReal)
    (ha : t.val % 4 ≠ 0 → acc = fun y => upto X (argW1 m c) (argW3 m c) (argW2 m c) (expert t) (t.val % 4 - 1) (y 0) (y 1)) :
    step (first (grid0.coords t)) x (iblk m c 4 t) (iblk m c 5 t) (iblk m c 6 t) acc
      = fun y => upto X (argW1 m c) (argW3 m c) (argW2 m c) (expert t) (t.val % 4) (y 0) (y 1) := by
  funext y
  unfold step
  rw [part_at m c t x X hx (y 0) (y 1), first_at]
  by_cases h0 : t.val % 4 = 0
  · rw [if_pos h0, h0]
    exact congrArg (fun q : Fin 4 => sliceAt X (argW1 m c) (argW3 m c) (argW2 m c) (expert t) q (y 0) (y 1)) (Fin.ext h0)
  · rw [if_neg h0, ha h0]
    obtain ⟨q, hq⟩ : ∃ q, t.val % 4 = q + 1 := ⟨t.val % 4 - 1, by omega⟩
    have e : slice t = ⟨(q + 1) % 4, Nat.mod_lt _ (by decide)⟩ := Fin.ext (by show t.val % 4 = (q + 1) % 4; omega)
    rw [e, hq]
    rfl

/-! ## The accumulators -/

/-- After every point the accumulators hold the sums over the slices so far, and after a last slice the output blocks hold them gated. -/
theorem held (c : Dev nD) (n : ℕ) : ∀ h : n < cfg0.N,
    (outsAt0 m c n h).2.2.1 = (fun y => upto (argX m c) (argW1 m c) (argW3 m c) (argW2 m c) (expert ⟨n, h⟩) (n % 4) (y 0) (y 1))
    ∧ (outsAt0 m c n h).2.2.2 = (fun y => upto (argXc m c) (argW1 m c) (argW3 m c) (argW2 m c) (expert ⟨n, h⟩) (n % 4) (y 0) (y 1))
    ∧ (n % 4 = 3 → (outsAt0 m c n h).1 = gated (n := 1024) (k := 256) rfl (fun y => upto (argX m c) (argW1 m c) (argW3 m c) (argW2 m c) (expert ⟨n, h⟩) (n % 4) (y 0) (y 1)) (iblk m c 2 ⟨n, h⟩)
        ∧ (outsAt0 m c n h).2.1 = gated (n := 128) (k := 32) rfl (fun y => upto (argXc m c) (argW1 m c) (argW3 m c) (argW2 m c) (expert ⟨n, h⟩) (n % 4) (y 0) (y 1)) (iblk m c 3 ⟨n, h⟩)) := by
  induction n with
  | zero =>
    intro h
    have e := outsAt0_A m c ⟨0, h⟩ rfl (by show ¬0 % 4 = 3; decide) (by show ¬0 % 4 = 3; decide)
    rw [show outsAt0 m c 0 h = _ from e]
    dsimp only
    refine ⟨?_, ?_, fun h3 => absurd h3 (by decide)⟩
    · rw [sout_A_0 (acc := fun _ => (0 : EReal))]
      exact step_at m c ⟨0, h⟩ _ (argX m c) (blk_0 m c ⟨0, h⟩) _ (fun hn => absurd rfl hn)
    · rw [sout_A_1 (acc := fun _ => (0 : EReal))]
      exact step_at m c ⟨0, h⟩ _ (argXc m c) (blk_1 m c ⟨0, h⟩) _ (fun hn => absurd rfl hn)
  | succ n ih =>
    intro h
    have hN : cfg0.N = 64 := N_0
    obtain ⟨ih1, ih2, -⟩ := ih (Nat.lt_of_succ_lt h)
    have a1 : (n + 1) % 4 ≠ 0 → (outsAt0 m c (n + 1 - 1) (Nat.lt_of_le_of_lt (Nat.sub_le _ _) h)).2.2.1 = (fun y => upto (argX m c) (argW1 m c) (argW3 m c) (argW2 m c) (expert ⟨n + 1, h⟩) ((n + 1) % 4 - 1) (y 0) (y 1)) := by
      intro h0
      have e1 : expert ⟨n, Nat.lt_of_succ_lt h⟩ = expert ⟨n + 1, h⟩ := Fin.ext (by show n / 4 = (n + 1) / 4; omega)
      have e2 : n % 4 = (n + 1) % 4 - 1 := by omega
      rw [← e1, ← e2]
      exact ih1
    have a2 : (n + 1) % 4 ≠ 0 → (outsAt0 m c (n + 1 - 1) (Nat.lt_of_le_of_lt (Nat.sub_le _ _) h)).2.2.2 = (fun y => upto (argXc m c) (argW1 m c) (argW3 m c) (argW2 m c) (expert ⟨n + 1, h⟩) ((n + 1) % 4 - 1) (y 0) (y 1)) := by
      intro h0
      have e1 : expert ⟨n, Nat.lt_of_succ_lt h⟩ = expert ⟨n + 1, h⟩ := Fin.ext (by show n / 4 = (n + 1) / 4; omega)
      have e2 : n % 4 = (n + 1) % 4 - 1 := by omega
      rw [← e1, ← e2]
      exact ih2
    have s1 := step_at m c ⟨n + 1, h⟩ _ (argX m c) (blk_0 m c ⟨n + 1, h⟩) _ a1
    have s2 := step_at m c ⟨n + 1, h⟩ _ (argXc m c) (blk_1 m c ⟨n + 1, h⟩) _ a2
    by_cases h3 : (n + 1) % 4 = 3
    · have e := outsAt0_C m c ⟨n + 1, h⟩ (by show ¬(n + 1) % 64 = 0; omega) h3 h3
      rw [show outsAt0 m c (n + 1) h = _ from e]
      dsimp only
      refine ⟨?_, ?_, fun _ => ⟨?_, ?_⟩⟩
      · rw [sout_C_0]; exact s1
      · rw [sout_C_1]; exact s2
      · rw [out_C_7]; exact congrArg (fun S => gated (n := 1024) (k := 256) rfl S (iblk m c 2 ⟨n + 1, h⟩)) s1
      · rw [out_C_8]; exact congrArg (fun S => gated (n := 128) (k := 32) rfl S (iblk m c 3 ⟨n + 1, h⟩)) s2
    · have e := outsAt0_B m c ⟨n + 1, h⟩ (by show ¬(n + 1) % 64 = 0; omega) h3 h3
      rw [show outsAt0 m c (n + 1) h = _ from e]
      dsimp only
      refine ⟨?_, ?_, fun hh => absurd hh h3⟩
      · rw [sout_B_0]; exact s1
      · rw [sout_B_1]; exact s2

/-! ## The whole arrays -/

/-- The two result arrays' contents. -/
def G (c : Dev nD) : Buf (Elt Ideal) ((c : Thread nD τ).loc main_v0_0) := fun i =>
  resultAt (n := 1024) (k := 256) rfl (argX m c) (argG m c) (argW1 m c) (argW3 m c) (argW2 m c) (i 0) (i 1) (i 2) (i 3)
def Gc (c : Dev nD) : Buf (Elt Ideal) ((c : Thread nD τ).loc main_v0_1) := fun i =>
  resultAt (n := 128) (k := 32) rfl (argXc m c) (argGc m c) (argW1 m c) (argW3 m c) (argW2 m c) (i 0) (i 1) (i 2) (i 3)

theorem flush_7 : ∀ t : Fin cfg0.N, (cfg0.win 7).flush t = true → t.val % 4 = 3 := (by decide +kernel : ∀ t : Fin grid0.N, _)
theorem flush_8 : ∀ t : Fin cfg0.N, (cfg0.win 8).flush t = true → t.val % 4 = 3 := (by decide +kernel : ∀ t : Fin grid0.N, _)

theorem flushed_eq7 (c : Dev nD) (t : Fin cfg0.N) (hf : (cfg0.win 7).flush t = true) :
    (dats m 0 c).flushed 7 t = ((cfg0.win 7).blk t).view.read (Elt Ideal) (G m c) := by
  have ht : t.val % 4 = 3 := flush_7 t hf
  rw [Value.flushed7, ((held m c t.val t.isLt).2.2 ht).1]
  funext y
  rw [View.read_apply]
  obtain ⟨h0, h1, h2, h3⟩ := idx_7 t
  obtain ⟨b, r, d, rfl⟩ : ∃ (b : Fin 4) (r : Fin 256) (d : Fin 2048), y = ix4 b (0 : Fin 1) r d := ⟨y 0, y 2, y 3, by
    funext i
    match i with
    | ⟨0, _⟩ => rfl
    | ⟨1, _⟩ => exact Subsingleton.elim (α := Fin 1) _ _
    | ⟨2, _⟩ => rfl
    | ⟨3, _⟩ => rfl⟩
  have e : ((cfg0.win 7).blk t).view.emb (ix4 b (0 : Fin 1) r d) = ix4 b (expert t) r d := by
    funext a; apply Fin.ext
    match a with
    | ⟨0, _⟩ => show win0_7.index t 0 * 4 + 1 * b.val = b.val; omega
    | ⟨1, _⟩ => show win0_7.index t 1 * 1 + 1 * 0 = t.val / 4; omega
    | ⟨2, _⟩ => show win0_7.index t 2 * 256 + 1 * r.val = r.val; omega
    | ⟨3, _⟩ => show win0_7.index t 3 * 2048 + 1 * d.val = d.val; omega
  show gated (n := 1024) (k := 256) rfl (fun y => upto (argX m c) (argW1 m c) (argW3 m c) (argW2 m c) (expert t) (t.val % 4) (y 0) (y 1)) (iblk m c 2 t) (ix4 b (0 : Fin 1) r d)
    = G m c (((cfg0.win 7).blk t).view.emb (ix4 b (0 : Fin 1) r d))
  rw [e, ht]
  show upto (argX m c) (argW1 m c) (argW3 m c) (argW2 m c) (expert t) 3 (row (n := 1024) rfl b r) d * iblk m c 2 t (ix4 b (0 : Fin 1) r (0 : Fin 1))
    = sumAt (argX m c) (argW1 m c) (argW3 m c) (argW2 m c) (expert t) (row (n := 1024) rfl b r) d * argG m c (ix4 b (expert t) r 0)
  rw [sumAt_eq]
  exact congrArg (upto (argX m c) (argW1 m c) (argW3 m c) (argW2 m c) (expert t) 3 (row (n := 1024) rfl b r) d * ·) (blk_2 m c t b r)

theorem final_eq7 (c : Dev nD) : (dats m 0 c).arrAt 7 cfg0.N = G m c :=
  (dats m 0 c).arrAt_eq_of_cover 7 (G m c) (flushed_eq7 m c) fun i => by
    have i0 : (i 0 : Nat) < 4 := (i 0).isLt
    have i1 : (i 1 : Nat) < 16 := (i 1).isLt
    have i2 : (i 2 : Nat) < 256 := (i 2).isLt
    have i3 : (i 3 : Nat) < 2048 := (i 3).isLt
    have hN : cfg0.N = 64 := N_0
    have hf : ∀ t : Fin cfg0.N, t.val % 4 = 3 → (cfg0.win 7).flush t = true := (by decide +kernel : ∀ t : Fin grid0.N, _)
    obtain ⟨t, ht⟩ : ∃ t : Fin cfg0.N, t.val = 4 * (i 1).val + 3 := ⟨⟨4 * (i 1).val + 3, by omega⟩, rfl⟩
    refine ⟨t, hf t (by omega), ?_⟩
    show i ∈ ((View.whole main_v0_0).slice (win0_7.rect t)).set
    rw [View.set_slice_whole, Rect.mem_set_unit]
    obtain ⟨h0, h1, h2, h3⟩ := idx_7 t
    intro a
    match a with
    | ⟨0, _⟩ => show win0_7.index t 0 * 4 ≤ (i 0 : Nat) ∧ (i 0 : Nat) < win0_7.index t 0 * 4 + 4; omega
    | ⟨1, _⟩ => show win0_7.index t 1 * 1 ≤ (i 1 : Nat) ∧ (i 1 : Nat) < win0_7.index t 1 * 1 + 1; omega
    | ⟨2, _⟩ => show win0_7.index t 2 * 256 ≤ (i 2 : Nat) ∧ (i 2 : Nat) < win0_7.index t 2 * 256 + 256; omega
    | ⟨3, _⟩ => show win0_7.index t 3 * 2048 ≤ (i 3 : Nat) ∧ (i 3 : Nat) < win0_7.index t 3 * 2048 + 2048; omega

theorem flushed_eq8 (c : Dev nD) (t : Fin cfg0.N) (hf : (cfg0.win 8).flush t = true) :
    (dats m 0 c).flushed 8 t = ((cfg0.win 8).blk t).view.read (Elt Ideal) (Gc m c) := by
  have ht : t.val % 4 = 3 := flush_8 t hf
  rw [Value.flushed8, ((held m c t.val t.isLt).2.2 ht).2]
  funext y
  rw [View.read_apply]
  obtain ⟨h0, h1, h2, h3⟩ := idx_8 t
  obtain ⟨b, r, d, rfl⟩ : ∃ (b : Fin 4) (r : Fin 32) (d : Fin 2048), y = ix4 b (0 : Fin 1) r d := ⟨y 0, y 2, y 3, by
    funext i
    match i with
    | ⟨0, _⟩ => rfl
    | ⟨1, _⟩ => exact Subsingleton.elim (α := Fin 1) _ _
    | ⟨2, _⟩ => rfl
    | ⟨3, _⟩ => rfl⟩
  have e : ((cfg0.win 8).blk t).view.emb (ix4 b (0 : Fin 1) r d) = ix4 b (expert t) r d := by
    funext a; apply Fin.ext
    match a with
    | ⟨0, _⟩ => show win0_8.index t 0 * 4 + 1 * b.val = b.val; omega
    | ⟨1, _⟩ => show win0_8.index t 1 * 1 + 1 * 0 = t.val / 4; omega
    | ⟨2, _⟩ => show win0_8.index t 2 * 32 + 1 * r.val = r.val; omega
    | ⟨3, _⟩ => show win0_8.index t 3 * 2048 + 1 * d.val = d.val; omega
  show gated (n := 128) (k := 32) rfl (fun y => upto (argXc m c) (argW1 m c) (argW3 m c) (argW2 m c) (expert t) (t.val % 4) (y 0) (y 1)) (iblk m c 3 t) (ix4 b (0 : Fin 1) r d)
    = Gc m c (((cfg0.win 8).blk t).view.emb (ix4 b (0 : Fin 1) r d))
  rw [e, ht]
  show upto (argXc m c) (argW1 m c) (argW3 m c) (argW2 m c) (expert t) 3 (row (n := 128) rfl b r) d * iblk m c 3 t (ix4 b (0 : Fin 1) r (0 : Fin 1))
    = sumAt (argXc m c) (argW1 m c) (argW3 m c) (argW2 m c) (expert t) (row (n := 128) rfl b r) d * argGc m c (ix4 b (expert t) r 0)
  rw [sumAt_eq]
  exact congrArg (upto (argXc m c) (argW1 m c) (argW3 m c) (argW2 m c) (expert t) 3 (row (n := 128) rfl b r) d * ·) (blk_3 m c t b r)

theorem final_eq8 (c : Dev nD) : (dats m 0 c).arrAt 8 cfg0.N = Gc m c :=
  (dats m 0 c).arrAt_eq_of_cover 8 (Gc m c) (flushed_eq8 m c) fun i => by
    have i0 : (i 0 : Nat) < 4 := (i 0).isLt
    have i1 : (i 1 : Nat) < 16 := (i 1).isLt
    have i2 : (i 2 : Nat) < 32 := (i 2).isLt
    have i3 : (i 3 : Nat) < 2048 := (i 3).isLt
    have hN : cfg0.N = 64 := N_0
    have hf : ∀ t : Fin cfg0.N, t.val % 4 = 3 → (cfg0.win 8).flush t = true := (by decide +kernel : ∀ t : Fin grid0.N, _)
    obtain ⟨t, ht⟩ : ∃ t : Fin cfg0.N, t.val = 4 * (i 1).val + 3 := ⟨⟨4 * (i 1).val + 3, by omega⟩, rfl⟩
    refine ⟨t, hf t (by omega), ?_⟩
    show i ∈ ((View.whole main_v0_1).slice (win0_8.rect t)).set
    rw [View.set_slice_whole, Rect.mem_set_unit]
    obtain ⟨h0, h1, h2, h3⟩ := idx_8 t
    intro a
    match a with
    | ⟨0, _⟩ => show win0_8.index t 0 * 4 ≤ (i 0 : Nat) ∧ (i 0 : Nat) < win0_8.index t 0 * 4 + 4; omega
    | ⟨1, _⟩ => show win0_8.index t 1 * 1 ≤ (i 1 : Nat) ∧ (i 1 : Nat) < win0_8.index t 1 * 1 + 1; omega
    | ⟨2, _⟩ => show win0_8.index t 2 * 32 ≤ (i 2 : Nat) ∧ (i 2 : Nat) < win0_8.index t 2 * 32 + 32; omega
    | ⟨3, _⟩ => show win0_8.index t 3 * 2048 ≤ (i 3 : Nat) ∧ (i 3 : Nat) < win0_8.index t 3 * 2048 + 2048; omega

/-- The run: the result arrays at `G` and `Gc`, the arguments unchanged. -/
theorem run : θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = Gc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c => ⟨(h c).1.trans (final_eq7 m c), (h c).2.1.trans (final_eq8 m c), (h c).2.2⟩) (Value.run_blocks m ρ)

end Cert.Kernel3Ideal.FfnKernel

end
-- ==== Proof.FfnRef.lean ====
/-
  The reference's results of the expert feed-forward, entry by entry: the gated sum over the hidden units.
-/
module

public import proofs.«01_k».proof.Proof.FfnKernel
public import proofs.«01_k».proof.Proof.Gen.Reference3Ideal.Read

@[expose] public section

set_option maxRecDepth 16384

noncomputable section

namespace Cert.FfnRef

open Cert.Reference3Ideal Cert.Reference3Ideal.Gen Cert.Reference3Ideal.Read
open Idealize.ShloMosaic Idealize.ShloMosaic.TcCoe Idealize.ShloMosaic.ValueIdx
open Cert.Kernel3Ideal.FfnKernel (hidAt sumAt resultAt row)
open scoped BigOperators

theorem oneBits : (FloatOps.ofBits (F := Ideal) .f32 0x3F800000#32 : EReal) = 1 := by
  show Ideal.ofBits .f32 0x3F800000#32 = 1
  simp [Ideal.ofBits, Ideal.ieee]
  rw [← EReal.coe_mul]
  norm_num

/-! ## The first layer's expert weights -/

theorem up_v3 (W : (⟨S4x16x2048x1024, .f32⟩ : BufTy).Contents (Elt Ideal)) (e : Fin 16) (i : Fin 2048) (j : Fin 1024) : val_main_v3 (F := Ideal) W (ix3 e i j) = W (ix4 0 e i j) := by
  rw [val_main_v3_apply, val_main_v2_apply]
  refine congrArg W (funext fun a => Fin.ext ?_)
  have he := e.isLt; have hi := i.isLt; have hj := j.isLt
  match a with
  | ⟨0, _⟩ => rfl
  | ⟨1, _⟩ => show ((e.val * 2048 + i.val) * 1024 + j.val) / 2097152 % 16 = e.val; omega
  | ⟨2, _⟩ => show ((e.val * 2048 + i.val) * 1024 + j.val) / 1024 % 2048 = i.val; omega
  | ⟨3, _⟩ => show ((e.val * 2048 + i.val) * 1024 + j.val) % 1024 = j.val; omega

theorem up_v7 (W : (⟨S4x16x2048x1024, .f32⟩ : BufTy).Contents (Elt Ideal)) (e : Fin 16) (i : Fin 2048) (j : Fin 1024) : val_main_v7 (F := Ideal) W (ix3 e i j) = W (ix4 0 e i j) := by
  rw [val_main_v7_apply, val_main_v6_apply]
  refine congrArg W (funext fun a => Fin.ext ?_)
  have he := e.isLt; have hi := i.isLt; have hj := j.isLt
  match a with
  | ⟨0, _⟩ => rfl
  | ⟨1, _⟩ => show ((e.val * 2048 + i.val) * 1024 + j.val) / 2097152 % 16 = e.val; omega
  | ⟨2, _⟩ => show ((e.val * 2048 + i.val) * 1024 + j.val) / 1024 % 2048 = i.val; omega
  | ⟨3, _⟩ => show ((e.val * 2048 + i.val) * 1024 + j.val) % 1024 = j.val; omega

theorem up_v20 (W : (⟨S4x16x2048x1024, .f32⟩ : BufTy).Contents (Elt Ideal)) (e : Fin 16) (i : Fin 2048) (j : Fin 1024) : val_main_v20 (F := Ideal) W (ix3 e i j) = W (ix4 0 e i j) := by
  rw [val_main_v20_apply, val_main_v19_apply]
  refine congrArg W (funext fun a => Fin.ext ?_)
  have he := e.isLt; have hi := i.isLt; have hj := j.isLt
  match a with
  | ⟨0, _⟩ => rfl
  | ⟨1, _⟩ => show ((e.val * 2048 + i.val) * 1024 + j.val) / 2097152 % 16 = e.val; omega
  | ⟨2, _⟩ => show ((e.val * 2048 + i.val) * 1024 + j.val) / 1024 % 2048 = i.val; omega
  | ⟨3, _⟩ => show ((e.val * 2048 + i.val) * 1024 + j.val) % 1024 = j.val; omega

theorem up_v24 (W : (⟨S4x16x2048x1024, .f32⟩ : BufTy).Contents (Elt Ideal)) (e : Fin 16) (i : Fin 2048) (j : Fin 1024) : val_main_v24 (F := Ideal) W (ix3 e i j) = W (ix4 0 e i j) := by
  rw [val_main_v24_apply, val_main_v23_apply]
  refine congrArg W (funext fun a => Fin.ext ?_)
  have he := e.isLt; have hi := i.isLt; have hj := j.isLt
  match a with
  | ⟨0, _⟩ => rfl
  | ⟨1, _⟩ => show ((e.val * 2048 + i.val) * 1024 + j.val) / 2097152 % 16 = e.val; omega
  | ⟨2, _⟩ => show ((e.val * 2048 + i.val) * 1024 + j.val) / 1024 % 2048 = i.val; omega
  | ⟨3, _⟩ => show ((e.val * 2048 + i.val) * 1024 + j.val) % 1024 = j.val; omega

theorem down_v11 (W : (⟨S4x16x1024x2048, .f32⟩ : BufTy).Contents (Elt Ideal)) (e : Fin 16) (i : Fin 1024) (j : Fin 2048) : val_main_v11 (F := Ideal) W (ix3 e i j) = W (ix4 0 e i j) := by
  rw [val_main_v11_apply, val_main_v10_apply]
  refine congrArg W (funext fun a => Fin.ext ?_)
  have he := e.isLt; have hi := i.isLt; have hj := j.isLt
  match a with
  | ⟨0, _⟩ => rfl
  | ⟨1, _⟩ => show ((e.val * 1024 + i.val) * 2048 + j.val) / 2097152 % 16 = e.val; omega
  | ⟨2, _⟩ => show ((e.val * 1024 + i.val) * 2048 + j.val) / 2048 % 1024 = i.val; omega
  | ⟨3, _⟩ => show ((e.val * 1024 + i.val) * 2048 + j.val) % 2048 = j.val; omega

theorem down_v28 (W : (⟨S4x16x1024x2048, .f32⟩ : BufTy).Contents (Elt Ideal)) (e : Fin 16) (i : Fin 1024) (j : Fin 2048) : val_main_v28 (F := Ideal) W (ix3 e i j) = W (ix4 0 e i j) := by
  rw [val_main_v28_apply, val_main_v27_apply]
  refine congrArg W (funext fun a => Fin.ext ?_)
  have he := e.isLt; have hi := i.isLt; have hj := j.isLt
  match a with
  | ⟨0, _⟩ => rfl
  | ⟨1, _⟩ => show ((e.val * 1024 + i.val) * 2048 + j.val) / 2097152 % 16 = e.val; omega
  | ⟨2, _⟩ => show ((e.val * 1024 + i.val) * 2048 + j.val) / 2048 % 1024 = i.val; omega
  | ⟨3, _⟩ => show ((e.val * 1024 + i.val) * 2048 + j.val) % 2048 = j.val; omega

/-! ## The 1024 rows of an expert -/

theorem rows1024 (X : (⟨S16x1024x2048, .bf16⟩ : BufTy).Contents (Elt Ideal)) (e : Fin 16) (b : Fin 4) (r : Fin 256) (j : Fin 2048) :
    val_main_v1 (F := Ideal) X (ix4 e b r j) = X (ix3 e (row (n := 1024) (k := 256) rfl b r) j) := by
  rw [val_main_v1_apply, val_main_v0_apply]
  show X _ = _
  refine congrArg X (funext fun a => Fin.ext ?_)
  have he := e.isLt; have hb := b.isLt; have hr := r.isLt; have hj := j.isLt
  match a with
  | ⟨0, _⟩ => show (((e.val * 4 + b.val) * 256 + r.val) * 2048 + j.val) / 2097152 = e.val; omega
  | ⟨1, _⟩ => show (((e.val * 4 + b.val) * 256 + r.val) * 2048 + j.val) / 2048 % 1024 = 256 * b.val + r.val; omega
  | ⟨2, _⟩ => show (((e.val * 4 + b.val) * 256 + r.val) * 2048 + j.val) % 2048 = j.val; omega

/-- A hidden unit of the reference. -/
theorem hid1024 (X : (⟨S16x1024x2048, .bf16⟩ : BufTy).Contents (Elt Ideal)) (W1 W3 : (⟨S4x16x2048x1024, .f32⟩ : BufTy).Contents (Elt Ideal)) (e : Fin 16) (b : Fin 4) (r : Fin 256) (f : Fin 1024) :
    val_main_v9 (F := Ideal) X W1 W3 (ix4 e b r f) = hidAt (n := 1024) X W1 W3 e (row (n := 1024) (k := 256) rfl b r) f := by
  have h1 : val_main_v4 (F := Ideal) X W1 (ix4 e b r f) = ∑ j : Fin 2048, X (ix3 e (row (n := 1024) (k := 256) rfl b r) j) * W1 (ix4 0 e j f) := by
    rw [val_main_v4_apply]
    refine Finset.sum_congr rfl fun j _ => ?_
    have el : lidx_main_v4 (ix4 e b r f) j = ix4 e b r j := funext fun a => match a with | ⟨0, _⟩ => rfl | ⟨1, _⟩ => rfl | ⟨2, _⟩ => rfl | ⟨3, _⟩ => rfl
    have er : ridx_main_v4 (ix4 e b r f) j = ix3 e j f := funext fun a => match a with | ⟨0, _⟩ => rfl | ⟨1, _⟩ => rfl | ⟨2, _⟩ => rfl
    rw [el, er, rows1024, up_v3]
  have h3 : val_main_v8 (F := Ideal) X W3 (ix4 e b r f) = ∑ j : Fin 2048, X (ix3 e (row (n := 1024) (k := 256) rfl b r) j) * W3 (ix4 0 e j f) := by
    rw [val_main_v8_apply]
    refine Finset.sum_congr rfl fun j _ => ?_
    have el : lidx_main_v8 (ix4 e b r f) j = ix4 e b r j := funext fun a => match a with | ⟨0, _⟩ => rfl | ⟨1, _⟩ => rfl | ⟨2, _⟩ => rfl | ⟨3, _⟩ => rfl
    have er : ridx_main_v8 (ix4 e b r f) j = ix3 e j f := funext fun a => match a with | ⟨0, _⟩ => rfl | ⟨1, _⟩ => rfl | ⟨2, _⟩ => rfl
    rw [el, er, rows1024, up_v7]
  rw [val_main_v9_apply, val_main_v5_apply, val_main_call0_v5_apply, val_main_call0_v4_apply, val_main_call0_cst_0_apply, val_main_call0_v3_apply, val_main_call0_v2_apply,
    val_main_call0_cst_apply, val_main_call0_v1_apply, val_main_call0_v0_apply, h1, h3, oneBits]
  rfl

/-- An entry of the reference's result. -/
theorem result1024 (X : (⟨S16x1024x2048, .bf16⟩ : BufTy).Contents (Elt Ideal)) (g : (⟨S4x16x256x1, .f32⟩ : BufTy).Contents (Elt Ideal)) (W1 W3 : (⟨S4x16x2048x1024, .f32⟩ : BufTy).Contents (Elt Ideal))
    (W2 : (⟨S4x16x1024x2048, .f32⟩ : BufTy).Contents (Elt Ideal)) (b : Fin 4) (e : Fin 16) (r : Fin 256) (d : Fin 2048) :
    val_main_v16 (F := Ideal) X g W1 W3 W2 (ix4 b e r d) = resultAt (n := 1024) (k := 256) rfl X g W1 W3 W2 b e r d := by
  have hs : val_main_v13 (F := Ideal) X W1 W3 W2 (ix4 b e r d) = sumAt (n := 1024) X W1 W3 W2 e (row (n := 1024) (k := 256) rfl b r) d := by
    have et : idx_main_v13 (ix4 b e r d) = ix4 e d b r := funext fun a => match a with | ⟨0, _⟩ => rfl | ⟨1, _⟩ => rfl | ⟨2, _⟩ => rfl | ⟨3, _⟩ => rfl
    rw [val_main_v13_apply, et, val_main_v12_apply]
    refine Finset.sum_congr rfl fun f _ => ?_
    have el : lidx_main_v12 (ix4 e d b r) f = ix3 e f d := funext fun a => match a with | ⟨0, _⟩ => rfl | ⟨1, _⟩ => rfl | ⟨2, _⟩ => rfl
    have er : ridx_main_v12 (ix4 e d b r) f = ix4 e b r f := funext fun a => match a with | ⟨0, _⟩ => rfl | ⟨1, _⟩ => rfl | ⟨2, _⟩ => rfl | ⟨3, _⟩ => rfl
    rw [el, er, hid1024, down_v11]
    exact mul_comm (G := EReal) _ _
  have hg : val_main_v14 (F := Ideal) g (ix4 b e r d) = g (ix4 b e r 0) := by
    rw [val_main_v14_apply]
    exact congrArg g (funext fun a => match a with | ⟨0, _⟩ => rfl | ⟨1, _⟩ => rfl | ⟨2, _⟩ => rfl | ⟨3, _⟩ => rfl)
  rw [val_main_v16_apply, val_main_v15_apply, hs, hg]
  rfl

/-! ## The 128 rows of an expert -/

theorem rows128 (X : (⟨S16x128x2048, .bf16⟩ : BufTy).Contents (Elt Ideal)) (e : Fin 16) (b : Fin 4) (r : Fin 32) (j : Fin 2048) :
    val_main_v18 (F := Ideal) X (ix4 e b r j) = X (ix3 e (row (n := 128) (k := 32) rfl b r) j) := by
  rw [val_main_v18_apply, val_main_v17_apply]
  show X _ = _
  refine congrArg X (funext fun a => Fin.ext ?_)
  have he := e.isLt; have hb := b.isLt; have hr := r.isLt; have hj := j.isLt
  match a with
  | ⟨0, _⟩ => show (((e.val * 4 + b.val) * 32 + r.val) * 2048 + j.val) / 262144 = e.val; omega
  | ⟨1, _⟩ => show (((e.val * 4 + b.val) * 32 + r.val) * 2048 + j.val) / 2048 % 128 = 32 * b.val + r.val; omega
  | ⟨2, _⟩ => show (((e.val * 4 + b.val) * 32 + r.val) * 2048 + j.val) % 2048 = j.val; omega

/-- A hidden unit of the reference. -/
theorem hid128 (X : (⟨S16x128x2048, .bf16⟩ : BufTy).Contents (Elt Ideal)) (W1 W3 : (⟨S4x16x2048x1024, .f32⟩ : BufTy).Contents (Elt Ideal)) (e : Fin 16) (b : Fin 4) (r : Fin 32) (f : Fin 1024) :
    val_main_v26 (F := Ideal) X W1 W3 (ix4 e b r f) = hidAt (n := 128) X W1 W3 e (row (n := 128) (k := 32) rfl b r) f := by
  have h1 : val_main_v21 (F := Ideal) X W1 (ix4 e b r f) = ∑ j : Fin 2048, X (ix3 e (row (n := 128) (k := 32) rfl b r) j) * W1 (ix4 0 e j f) := by
    rw [val_main_v21_apply]
    refine Finset.sum_congr rfl fun j _ => ?_
    have el : lidx_main_v21 (ix4 e b r f) j = ix4 e b r j := funext fun a => match a with | ⟨0, _⟩ => rfl | ⟨1, _⟩ => rfl | ⟨2, _⟩ => rfl | ⟨3, _⟩ => rfl
    have er : ridx_main_v21 (ix4 e b r f) j = ix3 e j f := funext fun a => match a with | ⟨0, _⟩ => rfl | ⟨1, _⟩ => rfl | ⟨2, _⟩ => rfl
    rw [el, er, rows128, up_v20]
  have h3 : val_main_v25 (F := Ideal) X W3 (ix4 e b r f) = ∑ j : Fin 2048, X (ix3 e (row (n := 128) (k := 32) rfl b r) j) * W3 (ix4 0 e j f) := by
    rw [val_main_v25_apply]
    refine Finset.sum_congr rfl fun j _ => ?_
    have el : lidx_main_v25 (ix4 e b r f) j = ix4 e b r j := funext fun a => match a with | ⟨0, _⟩ => rfl | ⟨1, _⟩ => rfl | ⟨2, _⟩ => rfl | ⟨3, _⟩ => rfl
    have er : ridx_main_v25 (ix4 e b r f) j = ix3 e j f := funext fun a => match a with | ⟨0, _⟩ => rfl | ⟨1, _⟩ => rfl | ⟨2, _⟩ => rfl
    rw [el, er, rows128, up_v24]
  rw [val_main_v26_apply, val_main_v22_apply, val_main_call1_v5_apply, val_main_call1_v4_apply, val_main_call1_cst_0_apply, val_main_call1_v3_apply, val_main_call1_v2_apply,
    val_main_call1_cst_apply, val_main_call1_v1_apply, val_main_call1_v0_apply, h1, h3, oneBits]
  rfl

/-- An entry of the reference's result. -/
theorem result128 (X : (⟨S16x128x2048, .bf16⟩ : BufTy).Contents (Elt Ideal)) (g : (⟨S4x16x32x1, .f32⟩ : BufTy).Contents (Elt Ideal)) (W1 W3 : (⟨S4x16x2048x1024, .f32⟩ : BufTy).Contents (Elt Ideal))
    (W2 : (⟨S4x16x1024x2048, .f32⟩ : BufTy).Contents (Elt Ideal)) (b : Fin 4) (e : Fin 16) (r : Fin 32) (d : Fin 2048) :
    val_main_v33 (F := Ideal) X g W1 W3 W2 (ix4 b e r d) = resultAt (n := 128) (k := 32) rfl X g W1 W3 W2 b e r d := by
  have hs : val_main_v30 (F := Ideal) X W1 W3 W2 (ix4 b e r d) = sumAt (n := 128) X W1 W3 W2 e (row (n := 128) (k := 32) rfl b r) d := by
    have et : idx_main_v30 (ix4 b e r d) = ix4 e d b r := funext fun a => match a with | ⟨0, _⟩ => rfl | ⟨1, _⟩ => rfl | ⟨2, _⟩ => rfl | ⟨3, _⟩ => rfl
    rw [val_main_v30_apply, et, val_main_v29_apply]
    refine Finset.sum_congr rfl fun f _ => ?_
    have el : lidx_main_v29 (ix4 e d b r) f = ix3 e f d := funext fun a => match a with | ⟨0, _⟩ => rfl | ⟨1, _⟩ => rfl | ⟨2, _⟩ => rfl
    have er : ridx_main_v29 (ix4 e d b r) f = ix4 e b r f := funext fun a => match a with | ⟨0, _⟩ => rfl | ⟨1, _⟩ => rfl | ⟨2, _⟩ => rfl | ⟨3, _⟩ => rfl
    rw [el, er, hid128, down_v28]
    exact mul_comm (G := EReal) _ _
  have hg : val_main_v31 (F := Ideal) g (ix4 b e r d) = g (ix4 b e r 0) := by
    rw [val_main_v31_apply]
    exact congrArg g (funext fun a => match a with | ⟨0, _⟩ => rfl | ⟨1, _⟩ => rfl | ⟨2, _⟩ => rfl | ⟨3, _⟩ => rfl)
  rw [val_main_v33_apply, val_main_v32_apply, hs, hg]
  rfl

end Cert.FfnRef

end
-- ==== Proof.FfnClaim.lean ====
/-
  The claims on the expert feed-forward: what each program leaves unchanged, and that kernel and reference compute the same two arrays.
-/
module

public import proofs.«01_k».proof.Proof.FfnRef
public import proofs.«01_k».proof.Proof.Gen.Kernel3.Frame
public import proofs.«01_k».proof.Defs
public import Idealize.ShloMosaic.Lib.Claim

@[expose] public section

set_option maxRecDepth 16384

noncomputable section

namespace Cert.Proof.Ffn

open Idealize.ShloMosaic Idealize.ShloMosaic.TcCoe Idealize.ShloMosaic.ValueIdx
open Idealize.SL.Sem
open Cert.Kernel3Ideal.FfnKernel Cert.FfnRef

theorem frame_p : Cert.quiescent_Kernel3 := fun m ρ _ => Cert.Kernel3.Gen.frame m ρ
theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := fun m ρ m' ρ' _ hag =>
  ⟨fun c => G m c, fun c => Gc m c, run m ρ, (θ_run Cert.Reference3Ideal.defs _ _).mono (fun _ h c => ⟨(h c).1.trans (by
      rw [Cert.Reference3Ideal.Read.val_main_v16_eq]
      obtain ⟨e0, e1, e2, e3, e4, e5, e6⟩ := hag c
      rw [e0, e1, e4, e5, e6]
      funext i
      exact (congrArg _ (eq_ix4 i)).trans (result1024 _ _ _ _ _ (i 0) (i 1) (i 2) (i 3))), (h c).2.1.trans (by
      rw [Cert.Reference3Ideal.Read.val_main_v33_eq]
      obtain ⟨e0, e1, e2, e3, e4, e5, e6⟩ := hag c
      rw [e2, e3, e4, e5, e6]
      funext i
      exact (congrArg _ (eq_ix4 i)).trans (result128 _ _ _ _ _ (i 0) (i 1) (i 2) (i 3))), (h c).2.2⟩)
    (Cert.Reference3Ideal.Value.run (F := Ideal) m' ρ')⟩

end Cert.Proof.Ffn

end
-- ==== Proof.ScatterPay.lean ====
/-
  The scatter's arithmetic at one grid point, entry by entry: which packed rows a token takes, the part a group of packed
  rows adds, and the two results stored at the last group.
-/
module

public import proofs.«01_k».proof.Proof.Gen.Kernel4Ideal.Frame
public import Idealize.ShloMosaic.Lib.MatmulPlain
public import Idealize.ShloMosaic.Lib.ValueLayout
public import Idealize.ShloMosaic.Lib.ValueLayoutCasts
public import Idealize.ShloMosaic.Lib.IdealHost

@[expose] public section

set_option maxRecDepth 16384

noncomputable section

namespace Cert.Kernel4Ideal.ScatterPay

open Cert.Kernel4Ideal Cert.Kernel4Ideal.Gen Idealize.ShloMosaic.TcCoe Idealize.ShloMosaic.ValueIdx
open Idealize.ShloMosaic
open scoped BigOperators

/-! ## The words -/

/-- The expert of a packed row within its group, as the kernel computes it. -/
def groupWord : IVec S128x1024 32 :=
  select (andi k0_pay8 (cmpi .ne (remsi (iota .tc S128x1024 32 [1] iota_S128x1024_d1_w32) (broadcast S128x1024 256#32)) (broadcast S128x1024 0#32)))
    (subi k0_pay7 (broadcast S128x1024 1#32)) k0_pay7

theorem groupWord_apply (l : Fin 128) (c : Fin 1024) : groupWord (ix2 l c) = BitVec.ofNat 32 (c.val / 256) :=
  (show groupWord (ix2 l c) = groupWord (ix2 0 c) from rfl).trans ((by decide +kernel : ∀ c : Fin 1024, groupWord (ix2 0 c) = BitVec.ofNat 32 (c.val / 256)) c)

/-- The slot of a packed row, as the kernel computes it. -/
def slotWord : IVec S512x1024 32 :=
  have w : IVec S512x1024 32 := remsi (iota .tc S512x1024 32 [1] iota_S512x1024_d1_w32) (broadcast S512x1024 (Scalar.select (Scalar.cmpi .eq 256#32 0#32) 1#32 256#32))
  select (andi (xori (cmpi .slt w (broadcast S512x1024 0#32)) (broadcastTo S512x1024 (broadcast S512x1024 (Scalar.cmpi .slt (Scalar.select (Scalar.cmpi .eq 256#32 0#32) 1#32 256#32) 0#32)) broadcasts_S512x1024_S512x1024))
      (cmpi .ne w (broadcast S512x1024 0#32)))
    (addi w (broadcast S512x1024 (Scalar.select (Scalar.cmpi .eq 256#32 0#32) 1#32 256#32))) w

theorem slotWord_apply (r : Fin 512) (c : Fin 1024) : slotWord (ix2 r c) = BitVec.ofNat 32 (c.val % 256) :=
  (show slotWord (ix2 r c) = slotWord (ix2 0 c) from rfl).trans ((by decide +kernel : ∀ c : Fin 1024, slotWord (ix2 0 c) = BitVec.ofNat 32 (c.val % 256)) c)

/-! ## What a group of packed rows adds -/

/-- The expert of packed row `c` of the group whose first expert is `e`, as a lane of the slot block. -/
abbrev lane (e : Fin 16) (c : Fin 1024) : Fin 128 := ⟨e.val + c.val / 256, by have := e.isLt; have := c.isLt; omega⟩
/-- A slot number as a float. -/
abbrev slotVal (s : ℕ) : EReal := (((BitVec.ofNat 32 s).toInt : ℝ) : EReal)
/-- Whether a token sits in a packed row's slot: one or zero. -/
def hit (x : S1x512x128.Idx → EReal) (e : Fin 16) (r : Fin 512) (c : Fin 1024) : EReal := if x (ix3 0 r (lane e c)) = slotVal (c.val % 256) then 1 else 0
/-- What a group adds to a row. -/
def part (x : S1x512x128.Idx → EReal) (e : Fin 16) (y : S1x1024x2048.Idx → EReal) (r : Fin 512) (d : Fin 2048) : EReal :=
  ∑ c : Fin 1024, hit x e r c * y (ix3 0 c d)

theorem zeroBits : (FloatOps.ofBits (F := Ideal) .f32 0x00000000#32 : EReal) = 0 := Ideal.ofBits_zero_f32

/-- A product onto zero. -/
theorem dot_apply {n k p : ℕ} (x : (⟨2, ![n, k]⟩ : Shape).Idx → EReal) (w : (⟨2, ![k, p]⟩ : Shape).Idx → EReal) (r : Fin n) (d : Fin p) :
    matmul (F := Ideal) (φ₁ := .bf16) (φ₂ := .bf16) (DotDims.plain n k p) none x w (constant _ .f32 0x00000000#32) (ix2 r d)
      = ∑ e : Fin k, x (ix2 r e) * w (ix2 e d) := by
  show FloatOps.matmul (DotDims.plain n k p) none _ _ _ (ix2 r d) = _
  rw [Ideal.matmul_plain_apply]
  show FloatOps.ofBits (F := Ideal) .f32 0x00000000#32 + _ = _
  rw [zeroBits, zero_add]

/-- A comparison's bit as a float. -/
theorem bit_val (p : Prop) [Decidable p] : ((((BitVec.ofBool (decide p)).setWidth 32).toInt : ℝ) : EReal) = if p then 1 else 0 := by
  by_cases h : p <;> simp [h]

/-- The kernel's table of the group's experts: one where a lane is the packed row's expert. -/
def table (q : BitVec 32) : FVec Ideal S128x1024 .bf16 :=
  truncf (F := Ideal) .bf16 (sitofp (F := Ideal) .f32 (extui 32 (cmpi .eq (iota .tc S128x1024 32 [0] iota_S128x1024_d0_w32) (addi (broadcast S128x1024 q) groupWord)) natLt_1_32)) bitsLt_bf16_f32

theorem table_apply (e : Fin 16) (l : Fin 128) (c : Fin 1024) : table (BitVec.ofNat 32 e.val) (ix2 l c) = if l = lane e c then 1 else 0 := by
  have hl : iota .tc S128x1024 32 [0] iota_S128x1024_d0_w32 (ix2 l c) = BitVec.ofNat 32 l.val := by
    show BitVec.ofNat 32 (0 * 128 + l.val) = _
    rw [Nat.zero_mul, Nat.zero_add]
  show ((((BitVec.ofBool (decide (iota .tc S128x1024 32 [0] iota_S128x1024_d0_w32 (ix2 l c) = BitVec.ofNat 32 e.val + groupWord (ix2 l c)))).setWidth 32).toInt : ℝ) : EReal) = _
  rw [hl, groupWord_apply]
  have hc : c.val / 256 < 4 := by have := c.isLt; omega
  have h : (BitVec.ofNat 32 l.val = BitVec.ofNat 32 e.val + BitVec.ofNat 32 (c.val / 256)) ↔ l = lane e c := by
    rw [← BitVec.ofNat_add]
    constructor
    · intro h
      have := congrArg BitVec.toNat h
      simp only [BitVec.toNat_ofNat] at this
      apply Fin.ext
      have hl := l.isLt
      have he := e.isLt
      show l.val = e.val + c.val / 256
      omega
    · intro h
      rw [h]
  refine (bit_val (BitVec.ofNat 32 l.val = BitVec.ofNat 32 e.val + BitVec.ofNat 32 (c.val / 256))).trans ?_
  simp only [h]

/-- The kernel's test of a group: one where a token's slot for the packed row's expert is the row's slot. -/
def test (x : S512x128.Idx → EReal) (q : BitVec 32) : FVec Ideal S512x1024 .bf16 :=
  truncf (F := Ideal) .bf16 (sitofp (F := Ideal) .f32 (extui 32 (cmpf (F := Ideal) (φ := .f32) .oeq
    (matmul (F := Ideal) (φ₁ := .bf16) (φ₂ := .bf16) dot_S512x128_S128x1024_S512x1024_1_0_0_1_n_n none x (table q) (constant S512x1024 .f32 0x00000000#32))
    (sitofp (F := Ideal) .f32 slotWord)) natLt_1_32)) bitsLt_bf16_f32

theorem test_apply (x : Vec Ideal S1x512x128 .f32) (e : Fin 16) (r : Fin 512) (c : Fin 1024) :
    test (k0_pay6 (F := Ideal) x) (BitVec.ofNat 32 e.val) (ix2 r c) = hit x e r c := by
  have hm : matmul (F := Ideal) (φ₁ := .bf16) (φ₂ := .bf16) dot_S512x128_S128x1024_S512x1024_1_0_0_1_n_n none (k0_pay6 (F := Ideal) x) (table (BitVec.ofNat 32 e.val)) (constant S512x1024 .f32 0x00000000#32) (ix2 r c)
      = x (ix3 0 r (lane e c)) := by
    refine (dot_apply _ _ r c).trans ?_
    have hx : ∀ l : Fin 128, k0_pay6 (F := Ideal) x (ix2 r l) = x (ix3 0 r l) := fun l => shapeCast_1ab_ab_apply x _ r l
    simp only [table_apply, hx, mul_ite, mul_one, mul_zero]
    exact Finset.sum_ite_eq' _ _ _ |>.trans (if_pos (Finset.mem_univ _))
  show ((((BitVec.ofBool (decide (matmul (F := Ideal) (φ₁ := .bf16) (φ₂ := .bf16) dot_S512x128_S128x1024_S512x1024_1_0_0_1_n_n none (k0_pay6 (F := Ideal) x) (table (BitVec.ofNat 32 e.val)) (constant S512x1024 .f32 0x00000000#32) (ix2 r c)
    = (((slotWord (ix2 r c)).toInt : ℝ) : EReal)))).setWidth 32).toInt : ℝ) : EReal) = _
  rw [hm, slotWord_apply, bit_val]
  rfl

/-- The product of a test with a group of packed rows is the group's part. -/
theorem part_apply (x : Vec Ideal S1x512x128 .f32) (e : Fin 16) (y : Vec Ideal S1x1024x2048 .bf16) (r : Fin 512) (d : Fin 2048) :
    matmul (F := Ideal) (φ₁ := .bf16) (φ₂ := .bf16) dot_S512x1024_S1024x2048_S512x2048_1_0_0_1_n_n none (test (k0_pay6 (F := Ideal) x) (BitVec.ofNat 32 e.val))
      (shapeCast S1024x2048 y shapeCasts_S1x1024x2048_S1024x2048) (constant S512x2048 .f32 0x00000000#32) (ix2 r d) = part x e y r d := by
  refine (dot_apply _ _ r d).trans (Finset.sum_congr rfl fun c _ => ?_)
  rw [test_apply, shapeCast_1ab_ab_apply]

/-- The first product of a point. -/
theorem pay9_apply (x : Vec Ideal S1x512x128 .f32) (q : BitVec 32) (e : Fin 16) (hq : q = BitVec.ofNat 32 e.val) (y : Vec Ideal S1x1024x2048 .bf16) (r : Fin 512) (d : Fin 2048) :
    k0_pay9 (F := Ideal) (k0_pay6 x) q (iota .tc S128x1024 32 [1] iota_S128x1024_d1_w32) (iota .tc S128x1024 32 [0] iota_S128x1024_d0_w32) 256#32 k0_pay7 k0_pay8 y (ix2 r d) = part x e y r d := by
  subst hq
  exact part_apply x e y r d

/-- The second group's table, from the word of its first expert. -/
theorem pay10_eq (v w q : BitVec 32)
    (hq : Scalar.select (Scalar.andi (Scalar.cmpi .ne (Scalar.subi (Scalar.extui (Scalar.cmpi .sgt v 0#32)) (Scalar.extui (Scalar.cmpi .slt v 0#32))) (Scalar.subi (Scalar.extui (Scalar.cmpi .sgt 256#32 0#32)) (Scalar.extui (Scalar.cmpi .slt 256#32 0#32))))
      (Scalar.cmpi .ne (Scalar.remsi v 256#32) 0#32)) (Scalar.subi w 1#32) w = q) :
    k0_pay10 (F := Ideal) v 256#32 w 0#32 = table q := by
  subst hq
  rfl

theorem select_apply {S : Shape} (z : BitVec 1) (u v : S.Idx → EReal) (y : S.Idx) : Scalar.select z u v y = Scalar.select z (u y) (v y) := by
  unfold Scalar.select; split <;> rfl

/-- The accumulator after a point: the parts of its two groups alone at the first half (`z` set), added to what was there otherwise. -/
def step (z : BitVec 1) (x : S1x512x128.Idx → EReal) (e₀ e₁ : Fin 16) (y₀ y₁ : S1x1024x2048.Idx → EReal) (acc : S512x2048.Idx → EReal) : S512x2048.Idx → EReal := fun j =>
  Scalar.select z (part x e₀ y₀ (j 0) (j 1) + part x e₁ y₁ (j 0) (j 1)) (acc j + (part x e₀ y₀ (j 0) (j 1) + part x e₁ y₁ (j 0) (j 1)))

theorem pay12_eq (a : BitVec 32) (x : Vec Ideal S1x512x128 .f32) (P : FVec Ideal S512x2048 .f32) (e₀ e₁ : Fin 16) (y₀ y₁ : Vec Ideal S1x1024x2048 .bf16)
    (hP : ∀ r d, P (ix2 r d) = part x e₀ y₀ r d) (acc : Vec Ideal S512x2048 .f32) :
    k0_pay12 (F := Ideal) a (k0_pay6 x) P (table (BitVec.ofNat 32 e₁.val)) y₁ acc = step (Scalar.cmpi .eq a 0#32) x e₀ e₁ y₀ y₁ acc := by
  funext j
  obtain ⟨r, d, rfl⟩ : ∃ (r : Fin 512) (d : Fin 2048), j = ix2 r d := ⟨j 0, j 1, eq_ix2 j⟩
  unfold k0_pay12
  dsimp only
  refine (select_apply _ _ _ _).trans ?_
  exact congrArg₂ (fun p q : EReal => Scalar.select (Scalar.cmpi .eq a 0#32) (p + q) (acc (ix2 r d) + (p + q))) (hP r d) (part_apply x e₁ y₁ r d)

/-! ## The two results -/

/-- The residual: the rows with the gated accumulator added. -/
def resid (x : S1x512x2048.Idx → EReal) (g : S1x1x2048.Idx → EReal) (acc : S512x2048.Idx → EReal) (r : Fin 512) (d : Fin 2048) : EReal := x (ix3 0 r d) + g (ix3 0 0 d) * acc (ix2 r d)

/-- A row vector spread over the rows. -/
theorem spread_apply (g : S1x2048.Idx → EReal) (r : Fin 512) (d : Fin 2048) : broadcastTo S512x2048 g broadcasts_S1x2048_S512x2048 (ix2 r d) = g (ix2 0 d) :=
  broadcastTo_apply _ broadcasts_S1x2048_S512x2048 (ix2 r d) (ix2 0 d) fun a => match a with
    | ⟨0, _⟩ => rfl
    | ⟨1, _⟩ => rfl

theorem pay3_apply (x : Vec Ideal S1x512x2048 .f32) (g : Vec Ideal S1x1x2048 .f32) (acc : Vec Ideal S512x2048 .f32) (r : Fin 512) (d : Fin 2048) :
    k0_pay3 (F := Ideal) x g acc (ix2 r d) = resid x g acc r d := by
  unfold k0_pay3
  refine congrArg₂ (fun p q : EReal => p + q * acc (ix2 r d)) (shapeCast_1ab_ab_apply x _ r d) ?_
  exact (spread_apply _ r d).trans (shapeCast_1ab_ab_apply g _ 0 d)

/-- The reciprocal root of a row's mean square. -/
def scale (z : Fin 2048 → EReal) : EReal :=
  Ideal.rsqrt (Ideal.div (∑ k : Fin 2048, z k * z k) (FloatOps.ofBits (F := Ideal) .f32 0x45000000#32 : EReal) + (FloatOps.ofBits (F := Ideal) .f32 0x358637BD#32 : EReal))

/-- The sum of a row's squares, as the kernel takes it. -/
theorem rowSquares (hφ : FKind.Formats .f32) (hacc) (z : FVec Ideal S512x2048 .f32) (r : Fin 512) :
    shapeCast S512x1 (multiReduction (F := Ideal) .add [1] S512 (mulf (F := Ideal) z z) 0x00000000#32 reduces_S512x2048_S512 hφ hacc) shapeCasts_S512_S512x1 (ix2 r 0)
      = ∑ k : Fin 2048, (z (ix2 r k) : EReal) * z (ix2 r k) := by
  rw [shapeCast_a_a1_apply, Ideal.multiReduction_add_single]
  refine Finset.sum_congr rfl fun k _ => congrArg (fun j => (z j : EReal) * z j) ?_
  funext a; apply Fin.ext
  match a with
  | ⟨0, _⟩ => rfl
  | ⟨1, _⟩ => rfl

theorem oneBits : (FloatOps.ofBits (F := Ideal) .f32 0x3F800000#32 : EReal) = 1 := Ideal.ofBits_one_f32

theorem pay5_apply (x : Vec Ideal S1x512x2048 .f32) (g : Vec Ideal S1x1x2048 .f32) (acc : Vec Ideal S512x2048 .f32) (w : Vec Ideal S1x2048 .f32) (u v : Vec Ideal S1x1x2048 .f32) (r : Fin 512) (d : Fin 2048) :
    k0_pay5 (F := Ideal) x g acc w u v (ix2 r d)
      = resid x g acc r d * scale (resid x g acc r) * w (ix2 0 d) * (1 + u (ix3 0 0 d)) + v (ix3 0 0 d) := by
  unfold k0_pay5
  dsimp only
  refine congrArg₂ (α := EReal) (β := EReal) (γ := EReal) (fun p q => p + q) (congrArg₂ (α := EReal) (β := EReal) (γ := EReal) (fun p q => p * q) (congrArg₂ (α := EReal) (β := EReal) (γ := EReal) (fun p q => p * q)
    (congrArg₂ (α := EReal) (β := EReal) (γ := EReal) (fun p q => p * q) (pay3_apply x g acc r d) ?_) ?_) ?_) ?_
  · refine (broadcastTo_apply _ broadcasts_S512x1_S512x2048 (ix2 r d) (ix2 r 0) fun a => match a with
      | ⟨0, _⟩ => rfl
      | ⟨1, _⟩ => rfl).trans ?_
    unfold scale
    have h := rowSquares (.inl rfl) rfl (k0_pay3 (F := Ideal) x g acc) r
    simp only [pay3_apply] at h
    exact congrArg (fun p : EReal => Ideal.rsqrt (Ideal.div p (FloatOps.ofBits (F := Ideal) .f32 0x45000000#32 : EReal) + (FloatOps.ofBits (F := Ideal) .f32 0x358637BD#32 : EReal))) h
  · exact (spread_apply _ r d).trans (by rw [shapeCast_self])
  · refine (spread_apply _ r d).trans ?_
    exact congrArg₂ (α := EReal) (β := EReal) (γ := EReal) (fun p q => p + q) oneBits (shapeCast_1ab_ab_apply u _ 0 d)
  · exact (spread_apply _ r d).trans (shapeCast_1ab_ab_apply v _ 0 d)

end Cert.Kernel4Ideal.ScatterPay

end
-- ==== Proof.ScatterBlock.lean ====
/-
  What the scatter writes at one grid point. The accumulator steps by the parts of the point's two groups of packed rows; at
  the second half of the packed rows the outputs take the residual and its normalised rows.
-/
module

public import proofs.«01_k».proof.Proof.ScatterPay
public import Idealize.ShloMosaic.Lib.Pipeline.ReadBack

@[expose] public section

set_option maxRecDepth 16384

noncomputable section

namespace Cert.Kernel4Ideal.ScatterBlock

open Cert.Kernel4Ideal Cert.Kernel4Ideal.Gen Idealize.ShloMosaic.TcCoe Idealize.ShloMosaic.ValueIdx
open Idealize.ShloMosaic Idealize.ShloMosaic.Tactic
open Cert.Kernel4Ideal.ScatterPay
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- The first half's test. -/
abbrev first (i : grid0.Coords) : BitVec 1 := Scalar.cmpi .eq (BitVec.ofNat 32 (i 2).val) 0#32
/-- The first expert of each of a point's two groups of packed rows. -/
abbrev lo (i : grid0.Coords) : Fin 16 := ⟨8 * (i 2).val, by have : (i 2).val < 2 := (i 2).isLt; omega⟩
abbrev hi (i : grid0.Coords) : Fin 16 := ⟨8 * (i 2).val + 4, by have : (i 2).val < 2 := (i 2).isLt; omega⟩
/-- The two groups of a point's packed rows. -/
def rows (y : S1x2048x2048.Idx → EReal) (o : Fin 2) : S1x1024x2048.Idx → EReal := fun j => y (ix3 0 ⟨1024 * o.val + (j 1).val, by have : (j 1).val < 1024 := (j 1).isLt; have := o.isLt; omega⟩ (j 2))

theorem ld_rows (y : S1x2048x2048.Idx → EReal) (o : Fin 2) (p : ℕ) (hp : p = 1024 * o.val) (inb : ∀ a, (![0, p, 0] : Fin 3 → ℕ) a + (![1, 1024, 2048] : Fin 3 → ℕ) a ≤ S1x2048x2048.size a) :
    View.ld (Val := Elt Ideal) (e' := .bf16) y (Rect.unit (s := S1x2048x2048) ![0, p, 0] ![1, 1024, 2048] inb) = rows y o := by
  subst hp
  funext j
  refine congrArg y (funext fun a => Fin.ext ?_)
  match a with
  | ⟨0, _⟩ => show 0 + 1 * (j 0).val = 0; have : (j 0).val < 1 := (j 0).isLt; omega
  | ⟨1, _⟩ => show 1024 * o.val + 1 * (j 1).val = 1024 * o.val + (j 1).val; omega
  | ⟨2, _⟩ => show 0 + 1 * (j 2).val = (j 2).val; omega

/-- The accumulator's step at a point. -/
abbrev stepAt (i : grid0.Coords) (x : S1x512x128.Idx → EReal) (y : S1x2048x2048.Idx → EReal) (acc : S512x2048.Idx → EReal) : S512x2048.Idx → EReal :=
  step (first i) x (lo i) (hi i) (rows y 0) (rows y 1) acc

/-- The kernel's words for a point's two groups. -/
theorem lo_word : ∀ k : Fin 2, Scalar.select (Scalar.andi (Scalar.cmpi .ne (Scalar.subi (Scalar.extui (Scalar.cmpi .sgt (Scalar.addi (Scalar.muli (BitVec.ofNat 32 k.val) 2048#32) 0#32) 0#32)) (Scalar.extui (Scalar.cmpi .slt (Scalar.addi (Scalar.muli (BitVec.ofNat 32 k.val) 2048#32) 0#32) 0#32))) (Scalar.subi (Scalar.extui (Scalar.cmpi .sgt 256#32 0#32)) (Scalar.extui (Scalar.cmpi .slt 256#32 0#32))))
      (Scalar.cmpi .ne (Scalar.remsi (Scalar.addi (Scalar.muli (BitVec.ofNat 32 k.val) 2048#32) 0#32) 256#32) 0#32)) (Scalar.subi (Scalar.divsi (Scalar.addi (Scalar.muli (BitVec.ofNat 32 k.val) 2048#32) 0#32) 256#32) 1#32) (Scalar.divsi (Scalar.addi (Scalar.muli (BitVec.ofNat 32 k.val) 2048#32) 0#32) 256#32)
    = BitVec.ofNat 32 (8 * k.val) := by decide +kernel
theorem hi_word : ∀ k : Fin 2, Scalar.select (Scalar.andi (Scalar.cmpi .ne (Scalar.subi (Scalar.extui (Scalar.cmpi .sgt (Scalar.addi (Scalar.muli (BitVec.ofNat 32 k.val) 2048#32) 1024#32) 0#32)) (Scalar.extui (Scalar.cmpi .slt (Scalar.addi (Scalar.muli (BitVec.ofNat 32 k.val) 2048#32) 1024#32) 0#32))) (Scalar.subi (Scalar.extui (Scalar.cmpi .sgt 256#32 0#32)) (Scalar.extui (Scalar.cmpi .slt 256#32 0#32))))
      (Scalar.cmpi .ne (Scalar.remsi (Scalar.addi (Scalar.muli (BitVec.ofNat 32 k.val) 2048#32) 1024#32) 256#32) 0#32)) (Scalar.subi (Scalar.divsi (Scalar.addi (Scalar.muli (BitVec.ofNat 32 k.val) 2048#32) 1024#32) 256#32) 1#32) (Scalar.divsi (Scalar.addi (Scalar.muli (BitVec.ofNat 32 k.val) 2048#32) 1024#32) 256#32)
    = BitVec.ofNat 32 (8 * k.val + 4) := by decide +kernel

/-- The stored accumulator. -/
theorem acc_eq (i : grid0.Coords) (x : Vec Ideal S1x512x128 .f32) (y : Vec Ideal S1x2048x2048 .bf16) (y₀ y₁ : Vec Ideal S1x1024x2048 .bf16) (h₀ : y₀ = rows y 0) (h₁ : y₁ = rows y 1) (acc : Vec Ideal S512x2048 .f32)
    (q : BitVec 32) (hq : q = BitVec.ofNat 32 (8 * (i 2).val)) :
    k0_pay1 (F := Ideal) (k0_pay12 (F := Ideal) (BitVec.ofNat 32 (i 2).val) (k0_pay6 x)
      (k0_pay9 (F := Ideal) (k0_pay6 x) q (iota .tc S128x1024 32 [1] iota_S128x1024_d1_w32) (iota .tc S128x1024 32 [0] iota_S128x1024_d0_w32) 256#32 k0_pay7 k0_pay8 y₀)
      (k0_pay10 (F := Ideal) (Scalar.addi (Scalar.muli (BitVec.ofNat 32 (i 2).val) 2048#32) 1024#32) 256#32 (Scalar.divsi (Scalar.addi (Scalar.muli (BitVec.ofNat 32 (i 2).val) 2048#32) 1024#32) 256#32) 0#32) y₁ acc)
      = stepAt i x y acc := by
  subst h₀ h₁
  rw [pay10_eq _ _ _ (hi_word (i 2))]
  unfold k0_pay1
  dsimp only
  rw [shapeCast_self]
  exact pay12_eq _ x _ (lo i) (hi i) _ _ (fun r d => pay9_apply x q (lo i) hq _ r d) acc

/-- At the first half what was there does not matter. -/
theorem step_first (z : BitVec 1) (hz : z = 1#1) (x : S1x512x128.Idx → EReal) (e₀ e₁ : Fin 16) (y₀ y₁ : S1x1024x2048.Idx → EReal) (a b : S512x2048.Idx → EReal) : step z x e₀ e₁ y₀ y₁ a = step z x e₀ e₁ y₀ y₁ b := by
  subst hz
  funext y
  rfl

/-- The point that clears the accumulator stands at a first half. -/
theorem first_of_clear (i : grid0.Coords) (h : cond0_0 i) : first i = 1#1 := by
  revert h
  unfold cond0_0 first
  generalize Scalar.cmpi .eq (BitVec.ofNat 32 (i 2).val) 0#32 = q
  generalize Scalar.cmpi .eq (BitVec.ofNat 32 (i 1).val) 0#32 = p
  generalize Scalar.cmpi .eq (BitVec.ofNat 32 (i 0).val) 0#32 = o
  revert o p q
  decide

variable (c : Dev nD) (i : grid0.Coords) (arg3 : Memref sig .tc .vmem S1x512x128 .f32) (harg3 : arg3.IsWhole) (arg4 : Memref sig .tc .vmem S1x2048x2048 .bf16) (harg4 : arg4.IsWhole) (arg5 : Memref sig .tc .vmem S1x512x2048 .f32) (harg5 : arg5.IsWhole) (arg6 : Memref sig .tc .vmem S1x1x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x512x2048 .f32) (harg10 : arg10.IsWhole) (arg11 : Memref sig .tc .vmem S1x512x2048 .f32) (harg11 : arg11.IsWhole) (arg12 : Memref sig .tc .vmem S512x2048 .f32) (harg12 : arg12.IsWhole)
variable (x0 : Vec Ideal S1x512x128 .f32) (x1 : Vec Ideal S1x2048x2048 .bf16) (x2 : Vec Ideal S1x512x2048 .f32) (x3 : Vec Ideal S1x1x2048 .f32) (x4 : Vec Ideal S1x2048 .f32) (x5 : Vec Ideal S1x1x2048 .f32) (x6 : Vec Ideal S1x1x2048 .f32)

/-- The accumulator at the first point. -/
theorem sout_A_0 (hc0 : cond0_0 i) (hc1 : ¬cond0_1 i) (acc : Vec Ideal S512x2048 .f32) : sout0_A_0 c i arg3 harg3 arg4 harg4 arg5 harg5 arg6 harg6 arg7 harg7 arg8 harg8 arg9 harg9 arg10 harg10 arg11 harg11 arg12 harg12 hc0 hc1 x0 x1 x2 x3 x4 x5 x6 = stepAt i x0 x1 acc := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S1x512x128) hz3, View.ld_unit_zero (S := S1x512x2048) hz3, View.ld_unit_zero (S := S1x1x2048) hz3, View.ld_unit_zero (S := S1x2048) hz2, View.ld_unit_zero (S := S512x2048) hz2]
  rw [View.canon_cons_unit_zero (S := S512x2048) hz2]
  refine (acc_eq i x0 x1 _ _ (ld_rows x1 0 0 rfl _) (ld_rows x1 1 1024 rfl _) _ _ ?_).trans (step_first _ (first_of_clear i hc0) _ _ _ _ _ _ _)
  exact lo_word (i 2)

/-- The accumulator at another first half. -/
theorem sout_C_0 (hc0 : ¬cond0_0 i) (hc1 : ¬cond0_1 i) (xs0 : Vec Ideal S512x2048 .f32) : sout0_C_0 c i arg3 harg3 arg4 harg4 arg5 harg5 arg6 harg6 arg7 harg7 arg8 harg8 arg9 harg9 arg10 harg10 arg11 harg11 arg12 harg12 hc0 hc1 x0 x1 x2 x3 x4 x5 x6 xs0 = stepAt i x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S1x512x128) hz3, View.ld_unit_zero (S := S1x512x2048) hz3, View.ld_unit_zero (S := S1x1x2048) hz3, View.ld_unit_zero (S := S1x2048) hz2, View.ld_unit_zero (S := S512x2048) hz2]
  rw [View.canon_cons_unit_zero (S := S512x2048) hz2]
  refine acc_eq i x0 x1 _ _ (ld_rows x1 0 0 rfl _) (ld_rows x1 1 1024 rfl _) _ _ ?_
  exact lo_word (i 2)

/-- The accumulator at a second half. -/
theorem sout_B_0 (hc0 : ¬cond0_0 i) (hc1 : cond0_1 i) (xs0 : Vec Ideal S512x2048 .f32) : sout0_B_0 c i arg3 harg3 arg4 harg4 arg5 harg5 arg6 harg6 arg7 harg7 arg8 harg8 arg9 harg9 arg10 harg10 arg11 harg11 arg12 harg12 hc0 hc1 x0 x1 x2 x3 x4 x5 x6 xs0 = stepAt i x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S1x512x128) hz3, View.ld_unit_zero (S := S1x512x2048) hz3, View.ld_unit_zero (S := S1x1x2048) hz3, View.ld_unit_zero (S := S1x2048) hz2, View.ld_unit_zero (S := S512x2048) hz2]
  rw [View.canon_cons_unit_zero (S := S512x2048) hz2]
  refine acc_eq i x0 x1 _ _ (ld_rows x1 0 0 rfl _) (ld_rows x1 1 1024 rfl _) _ _ ?_
  exact lo_word (i 2)

/-- Stored rows read back whole. -/
theorem reread (f : S512x2048.Idx → EReal) : (fun j : S512x2048.Idx => f ((Rect.unit (s := S512x2048) ![0, 0] S512x2048.size inb_S512x2048_S512x2048_0_0).toLoadRect.idx j)) = f :=
  View.ld_unit_zero (Val := Elt Ideal) (e := .f32) (S := S512x2048) hz2 inb_S512x2048_S512x2048_0_0 f

/-- The residual's block, as a function of the accumulator. -/
def residBlock (x : S1x512x2048.Idx → EReal) (g : S1x1x2048.Idx → EReal) (acc : S512x2048.Idx → EReal) : S1x512x2048.Idx → EReal := fun j => resid x g acc (j 1) (j 2)
/-- The normalised rows' block. -/
def normBlock (x : S1x512x2048.Idx → EReal) (g : S1x1x2048.Idx → EReal) (w : S1x2048.Idx → EReal) (u v : S1x1x2048.Idx → EReal) (acc : S512x2048.Idx → EReal) : S1x512x2048.Idx → EReal := fun j =>
  resid x g acc (j 1) (j 2) * scale (resid x g acc (j 1)) * w (ix2 0 (j 2)) * (1 + u (ix3 0 0 (j 2))) + v (ix3 0 0 (j 2))

theorem unit3 {a b : ℕ} (y : (⟨3, ![1, a, b]⟩ : Shape).Idx) : y = ix3 0 (y 1) (y 2) := by
  funext i
  match i with
  | ⟨0, _⟩ => exact Subsingleton.elim (α := Fin 1) _ _
  | ⟨1, _⟩ => rfl
  | ⟨2, _⟩ => rfl

theorem pay4_eq (x : Vec Ideal S1x512x2048 .f32) (g : Vec Ideal S1x1x2048 .f32) (acc : Vec Ideal S512x2048 .f32) : k0_pay4 (F := Ideal) x g acc = residBlock x g acc := by
  funext j
  obtain ⟨r, d, rfl⟩ : ∃ (r : Fin 512) (d : Fin 2048), j = ix3 0 r d := ⟨j 1, j 2, unit3 j⟩
  unfold k0_pay4
  rw [shapeCast_ab_1ab_apply]
  exact pay3_apply x g acc r d
theorem pay2_eq (x : Vec Ideal S1x512x2048 .f32) (g : Vec Ideal S1x1x2048 .f32) (acc : Vec Ideal S512x2048 .f32) (w : Vec Ideal S1x2048 .f32) (u v : Vec Ideal S1x1x2048 .f32) :
    k0_pay2 (F := Ideal) (k0_pay5 (F := Ideal) x g acc w u v) = normBlock x g w u v acc := by
  funext j
  obtain ⟨r, d, rfl⟩ : ∃ (r : Fin 512) (d : Fin 2048), j = ix3 0 r d := ⟨j 1, j 2, unit3 j⟩
  unfold k0_pay2
  rw [shapeCast_ab_1ab_apply]
  exact pay5_apply x g acc w u v r d

/-- The residual's block at a second half. -/
theorem out_B_7 (hc0 : ¬cond0_0 i) (hc1 : cond0_1 i) (xs0 : Vec Ideal S512x2048 .f32) : out0_B_7 c i arg3 harg3 arg4 harg4 arg5 harg5 arg6 harg6 arg7 harg7 arg8 harg8 arg9 harg9 arg10 harg10 arg11 harg11 arg12 harg12 hc0 hc1 x0 x1 x2 x3 x4 x5 x6 xs0 = residBlock x2 x3 (stepAt i x0 x1 xs0) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S1x512x128) hz3, View.ld_unit_zero (S := S1x512x2048) hz3, View.ld_unit_zero (S := S1x1x2048) hz3, View.ld_unit_zero (S := S1x2048) hz2, View.ld_unit_zero (S := S512x2048) hz2]
  rw [View.canon_cons_unit_zero (S := S1x512x2048) hz3]
  simp only [View.readCov_eq_canon', View.canon_cons_unit_zero (S := S512x2048) hz2]
  refine (pay4_eq _ _ _).trans (congrArg (residBlock x2 x3) ((reread _).trans (acc_eq i x0 x1 _ _ (ld_rows x1 0 0 rfl _) (ld_rows x1 1 1024 rfl _) _ _ ?_)))
  exact lo_word (i 2)

/-- The normalised rows' block at a second half. -/
theorem out_B_8 (hc0 : ¬cond0_0 i) (hc1 : cond0_1 i) (xs0 : Vec Ideal S512x2048 .f32) : out0_B_8 c i arg3 harg3 arg4 harg4 arg5 harg5 arg6 harg6 arg7 harg7 arg8 harg8 arg9 harg9 arg10 harg10 arg11 harg11 arg12 harg12 hc0 hc1 x0 x1 x2 x3 x4 x5 x6 xs0 = normBlock x2 x3 x4 x6 x5 (stepAt i x0 x1 xs0) := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, View.ld_unit_zero (S := S1x512x128) hz3, View.ld_unit_zero (S := S1x512x2048) hz3, View.ld_unit_zero (S := S1x1x2048) hz3, View.ld_unit_zero (S := S1x2048) hz2, View.ld_unit_zero (S := S512x2048) hz2]
  rw [View.canon_cons_unit_zero (S := S1x512x2048) hz3]
  simp only [View.readCov_eq_canon', View.canon_cons_unit_zero (S := S512x2048) hz2]
  refine (pay2_eq _ _ _ _ _ _).trans (congrArg (normBlock x2 x3 x4 x6 x5) ((reread _).trans (acc_eq i x0 x1 _ _ (ld_rows x1 0 0 rfl _) (ld_rows x1 1 1024 rfl _) _ _ ?_)))
  exact lo_word (i 2)

end Cert.Kernel4Ideal.ScatterBlock

end
-- ==== Proof.ScatterKernel.lean ====
/-
  The scatter's two result arrays, entry by entry. The grid runs over the batches, the blocks of 512 tokens and the two
  halves of the packed rows; the accumulator after a point holds the sum over the halves so far (`held`), and the blocks
  stored at the second halves tile the results (`run`).
-/
module

public import proofs.«01_k».proof.Proof.ScatterBlock
public import proofs.«01_k».proof.Proof.Gen.Kernel4Ideal.Value
public import Idealize.ShloMosaic.Lib.Claim

@[expose] public section

set_option maxRecDepth 16384

noncomputable section

namespace Cert.Kernel4Ideal.ScatterKernel

open Cert.Kernel4Ideal Cert.Kernel4Ideal.Gen Idealize.ShloMosaic.TcCoe Idealize.ShloMosaic.ValueIdx
open Idealize.ShloMosaic
open Idealize.SL Idealize.SL.Sem
open Idealize.ShloMosaic.Pipeline (Dat)
open Cert.Kernel4Ideal.ScatterPay Cert.Kernel4Ideal.ScatterBlock
open scoped BigOperators

variable (m : (ℓ : Loc nD τ sig) → Buf (Elt Ideal) ℓ) (ρ : Dev nD → PrngReg)

/-! ## The results as formulas -/

/-- Argument arrays as functions of an index. -/
abbrev argS (c : Dev nD) : S4x2048x128.Idx → EReal := m ((c : Thread nD τ).loc main_arg0)
abbrev argY (c : Dev nD) : S4x16x256x2048.Idx → EReal := m ((c : Thread nD τ).loc main_arg2)
abbrev argX (c : Dev nD) : S4x2048x2048.Idx → EReal := m ((c : Thread nD τ).loc main_arg3)
abbrev argG (c : Dev nD) : S4x1x2048.Idx → EReal := m ((c : Thread nD τ).loc main_arg4)
abbrev argW (c : Dev nD) : S2048.Idx → EReal := m ((c : Thread nD τ).loc main_arg5)

/-- The lane of an expert in a token's slots. -/
abbrev laneOf (e : Fin 16) : Fin 128 := ⟨e.val, by have := e.isLt; omega⟩
/-- What slot `s` of expert `e` brings a token. -/
def slotPart (S : S4x2048x128.Idx → EReal) (Y : S4x16x256x2048.Idx → EReal) (b : Fin 4) (t d : Fin 2048) (e : Fin 16) (s : Fin 256) : EReal :=
  (if S (ix3 b t (laneOf e)) = slotVal s.val then 1 else 0) * Y (ix4 b e s d)
/-- What all the slots bring a token. -/
def routed (S : S4x2048x128.Idx → EReal) (Y : S4x16x256x2048.Idx → EReal) (b : Fin 4) (t d : Fin 2048) : EReal :=
  ∑ e : Fin 16, ∑ s : Fin 256, slotPart S Y b t d e s
/-- The first result: the activations with the gated routed outputs added. -/
def newAt (S : S4x2048x128.Idx → EReal) (Y : S4x16x256x2048.Idx → EReal) (X : S4x2048x2048.Idx → EReal) (g : S4x1x2048.Idx → EReal) (b : Fin 4) (t d : Fin 2048) : EReal :=
  X (ix3 b t d) + g (ix3 b 0 d) * routed S Y b t d
/-- The second: its rows over their root mean square, times the gain. -/
def normAt (S : S4x2048x128.Idx → EReal) (Y : S4x16x256x2048.Idx → EReal) (X : S4x2048x2048.Idx → EReal) (g : S4x1x2048.Idx → EReal) (w : S2048.Idx → EReal) (b : Fin 4) (t d : Fin 2048) : EReal :=
  newAt S Y X g b t d * scale (newAt S Y X g b t) * w (ix1 d)

/-! ## Four groups of packed rows -/

/-- The expert and the slot of packed row `c` of group `q`. -/
abbrev expertOf (q : Fin 4) (c : Fin 1024) : Fin 16 := ⟨4 * q.val + c.val / 256, by have := q.isLt; have := c.isLt; omega⟩
abbrev slotOf (c : Fin 1024) : Fin 256 := ⟨c.val % 256, Nat.mod_lt _ (by decide)⟩
/-- What group `q` brings a token. -/
def groupAt (S : S4x2048x128.Idx → EReal) (Y : S4x16x256x2048.Idx → EReal) (b : Fin 4) (q : Fin 4) (t d : Fin 2048) : EReal :=
  ∑ c : Fin 1024, slotPart S Y b t d (expertOf q c) (slotOf c)
/-- The sum over the halves up to half `k`. -/
def upto (S : S4x2048x128.Idx → EReal) (Y : S4x16x256x2048.Idx → EReal) (b : Fin 4) (k : ℕ) (t d : Fin 2048) : EReal :=
  match k with
  | 0 => groupAt S Y b 0 t d + groupAt S Y b 1 t d
  | _ + 1 => groupAt S Y b 0 t d + groupAt S Y b 1 t d + (groupAt S Y b 2 t d + groupAt S Y b 3 t d)

/-- A sum over experts and slots, group by group. -/
theorem sum_groups (F : Fin 16 → Fin 256 → EReal) :
    ∑ e : Fin 16, ∑ s : Fin 256, F e s = ∑ q : Fin 4, ∑ c : Fin 1024, F (expertOf q c) (slotOf c) := by
  have hg : ∀ q : Fin 4, (∑ c : Fin 1024, F (expertOf q c) (slotOf c)) = ∑ j : Fin 4, ∑ s : Fin 256, F ⟨4 * q.val + j.val, by have := q.isLt; have := j.isLt; omega⟩ s := by
    intro q
    rw [← Fintype.sum_prod_type' (fun (j : Fin 4) (s : Fin 256) => F ⟨4 * q.val + j.val, by have := q.isLt; have := j.isLt; omega⟩ s)]
    refine (Fintype.sum_equiv (finProdFinEquiv (m := 4) (n := 256)) _ _ fun p => ?_).symm
    have hp : (finProdFinEquiv (m := 4) (n := 256) p).val = p.2.val + 256 * p.1.val := rfl
    have h2 := p.2.isLt
    refine congrArg₂ F (Fin.ext ?_) (Fin.ext ?_)
    · show 4 * q.val + p.1.val = 4 * q.val + (finProdFinEquiv (m := 4) (n := 256) p).val / 256
      omega
    · show p.2.val = (finProdFinEquiv (m := 4) (n := 256) p).val % 256
      omega
  simp only [hg]
  rw [← Fintype.sum_prod_type' (fun (q j : Fin 4) => ∑ s : Fin 256, F ⟨4 * q.val + j.val, by have := q.isLt; have := j.isLt; omega⟩ s)]
  refine (Fintype.sum_equiv (finProdFinEquiv (m := 4) (n := 4)) _ _ fun p => ?_).symm
  exact congrArg (fun e : Fin 16 => ∑ s : Fin 256, F e s) (Fin.ext (Nat.add_comm _ _))

/-- The two halves make the whole sum. -/
theorem routed_eq (S : S4x2048x128.Idx → EReal) (Y : S4x16x256x2048.Idx → EReal) (b : Fin 4) (t d : Fin 2048) : routed S Y b t d = upto S Y b 1 t d := by
  unfold routed
  rw [sum_groups, Fin.sum_univ_four]
  exact add_assoc _ _ _

/-! ## The blocks of the arguments -/

theorem V_0 (c : Dev nD) : V m c main_v0 = (broadcastInDim S4x1x2048 ![] bcast_S_S4x1x2048 (constant (F := Ideal) S_ .f32 0x00000000#32) : S4x1x2048.Idx → EReal) := by entry_read; rfl
theorem V_1 (c : Dev nD) : V m c main_v1 = shapeCast S4x4096x2048 (argY m c) shapeCasts_S4x16x256x2048_S4x4096x2048 := by entry_read; rfl
theorem V_2 (c : Dev nD) : V m c main_v2 = shapeCast S1x2048 (argW m c) shapeCasts_S2048_S1x2048 := by entry_read; rfl

theorem tlt (t : Fin cfg0.N) : t.val < 32 := by have := t.isLt; have : cfg0.N = 32 := N_0; omega

/-- The batch of a point, and a token of its block. -/
abbrev batch (t : Fin cfg0.N) : Fin 4 := ⟨t.val / 8, by have := tlt t; omega⟩
abbrev token (t : Fin cfg0.N) (r : Fin 512) : Fin 2048 := ⟨512 * (t.val / 2 % 4) + r.val, by have := r.isLt; omega⟩
/-- A point's two groups. -/
abbrev group (t : Fin cfg0.N) (o : Fin 2) : Fin 4 := ⟨2 * (t.val % 2) + o.val, by have := o.isLt; omega⟩

theorem idx_0 : ∀ t : Fin cfg0.N, win0_0.index t 0 = t.val / 8 ∧ win0_0.index t 1 = t.val / 2 % 4 ∧ win0_0.index t 2 = 0 :=
  (by decide +kernel : ∀ t : Fin grid0.N, _)
theorem blk_0 (c : Dev nD) (t : Fin cfg0.N) (r : Fin 512) (l : Fin 128) : iblk m c 0 t (ix3 (0 : Fin 1) r l) = argS m c (ix3 (batch t) (token t r) l) := by
  unfold iblk
  rw [View.read_apply]
  show V m c main_arg0 _ = m ((c : Thread nD τ).loc main_arg0) _
  rw [V_main_arg0]
  refine congrArg _ (funext fun a => Fin.ext ?_)
  obtain ⟨h0, h1, h2⟩ := idx_0 t
  match a with
  | ⟨0, _⟩ => show win0_0.index t 0 * 1 + 1 * 0 = t.val / 8; omega
  | ⟨1, _⟩ => show win0_0.index t 1 * 512 + 1 * r.val = 512 * (t.val / 2 % 4) + r.val; omega
  | ⟨2, _⟩ => show win0_0.index t 2 * 128 + 1 * l.val = l.val; omega
theorem idx_1 : ∀ t : Fin cfg0.N, win0_1.index t 0 = t.val / 8 ∧ win0_1.index t 1 = t.val % 2 ∧ win0_1.index t 2 = 0 :=
  (by decide +kernel : ∀ t : Fin grid0.N, _)
theorem blk_1 (c : Dev nD) (t : Fin cfg0.N) (o : Fin 2) (k : Fin 1024) (d : Fin 2048) :
    rows (iblk m c 1 t) o (ix3 0 k d) = argY m c (ix4 (batch t) (expertOf (group t o) k) (slotOf k) d) := by
  unfold rows iblk
  rw [View.read_apply]
  show V m c main_v1 _ = _
  rw [V_1]
  obtain ⟨h0, h1, h2⟩ := idx_1 t
  have hk : k.val < 1024 := k.isLt
  have ho : o.val < 2 := o.isLt
  refine (congrArg _ (funext fun a => Fin.ext ?_)).trans (shapeCast_apply (argY m c) shapeCasts_S4x16x256x2048_S4x4096x2048 (ix3 (batch t) (⟨2048 * (t.val % 2) + 1024 * o.val + k.val, by omega⟩ : Fin 4096) d) (ix4 (batch t) (expertOf (group t o) k) (slotOf k) d) ?_)
  · match a with
    | ⟨0, _⟩ => show win0_1.index t 0 * 1 + 1 * 0 = t.val / 8; omega
    | ⟨1, _⟩ => show win0_1.index t 1 * 2048 + 1 * (1024 * o.val + k.val) = 2048 * (t.val % 2) + 1024 * o.val + k.val; omega
    | ⟨2, _⟩ => show win0_1.index t 2 * 2048 + 1 * d.val = d.val; omega
  · rw [Shape.rowMajor_val_four, Shape.rowMajor_val_three]
    show ((t.val / 8 * 16 + (4 * (2 * (t.val % 2) + o.val) + k.val / 256)) * 256 + k.val % 256) * 2048 + d.val = (t.val / 8 * 4096 + (2048 * (t.val % 2) + 1024 * o.val + k.val)) * 2048 + d.val
    omega
theorem idx_2 : ∀ t : Fin cfg0.N, win0_2.index t 0 = t.val / 8 ∧ win0_2.index t 1 = t.val / 2 % 4 ∧ win0_2.index t 2 = 0 :=
  (by decide +kernel : ∀ t : Fin grid0.N, _)
theorem blk_2 (c : Dev nD) (t : Fin cfg0.N) (r : Fin 512) (d : Fin 2048) : iblk m c 2 t (ix3 (0 : Fin 1) r d) = argX m c (ix3 (batch t) (token t r) d) := by
  unfold iblk
  rw [View.read_apply]
  show V m c main_arg3 _ = m ((c : Thread nD τ).loc main_arg3) _
  rw [V_main_arg3]
  refine congrArg _ (funext fun a => Fin.ext ?_)
  obtain ⟨h0, h1, h2⟩ := idx_2 t
  match a with
  | ⟨0, _⟩ => show win0_2.index t 0 * 1 + 1 * 0 = t.val / 8; omega
  | ⟨1, _⟩ => show win0_2.index t 1 * 512 + 1 * r.val = 512 * (t.val / 2 % 4) + r.val; omega
  | ⟨2, _⟩ => show win0_2.index t 2 * 2048 + 1 * d.val = d.val; omega
theorem idx_3 : ∀ t : Fin cfg0.N, win0_3.index t 0 = t.val / 8 ∧ win0_3.index t 1 = 0 ∧ win0_3.index t 2 = 0 :=
  (by decide +kernel : ∀ t : Fin grid0.N, _)
theorem blk_3 (c : Dev nD) (t : Fin cfg0.N) (d : Fin 2048) : iblk m c 3 t (ix3 (0 : Fin 1) (0 : Fin 1) d) = argG m c (ix3 (batch t) 0 d) := by
  unfold iblk
  rw [View.read_apply]
  show V m c main_arg4 _ = m ((c : Thread nD τ).loc main_arg4) _
  rw [V_main_arg4]
  refine congrArg _ (funext fun a => Fin.ext ?_)
  obtain ⟨h0, h1, h2⟩ := idx_3 t
  match a with
  | ⟨0, _⟩ => show win0_3.index t 0 * 1 + 1 * 0 = t.val / 8; omega
  | ⟨1, _⟩ => show win0_3.index t 1 * 1 + 1 * 0 = 0; omega
  | ⟨2, _⟩ => show win0_3.index t 2 * 2048 + 1 * d.val = d.val; omega
theorem idx_4 : ∀ t : Fin cfg0.N, win0_4.index t 0 = 0 ∧ win0_4.index t 1 = 0 :=
  (by decide +kernel : ∀ t : Fin grid0.N, _)
theorem blk_4 (c : Dev nD) (t : Fin cfg0.N) (d : Fin 2048) : iblk m c 4 t (ix2 (0 : Fin 1) d) = argW m c (ix1 d) := by
  unfold iblk
  rw [View.read_apply]
  show V m c main_v2 _ = _
  rw [V_2]
  obtain ⟨h0, h1⟩ := idx_4 t
  refine (congrArg _ (funext fun a => Fin.ext ?_)).trans (shapeCast_apply (argW m c) shapeCasts_S2048_S1x2048 (ix2 (0 : Fin 1) d) (ix1 d) ?_)
  · match a with
    | ⟨0, _⟩ => show win0_4.index t 0 * 1 + 1 * 0 = 0; omega
    | ⟨1, _⟩ => show win0_4.index t 1 * 2048 + 1 * d.val = d.val; omega
  · rw [Shape.rowMajor_val_one, Shape.rowMajor_val_two]
    show d.val = 0 * 2048 + d.val
    omega
/-- The shift and the scale are zero. -/
theorem blk_5 (c : Dev nD) (t : Fin cfg0.N) (y : S1x1x2048.Idx) : iblk m c 5 t y = (0 : EReal) := by
  unfold iblk
  rw [View.read_apply]
  show V m c main_v0 _ = _
  rw [V_0]
  exact zeroBits
theorem blk_6 (c : Dev nD) (t : Fin cfg0.N) (y : S1x1x2048.Idx) : iblk m c 6 t y = (0 : EReal) := by
  unfold iblk
  rw [View.read_apply]
  show V m c main_v0 _ = _
  rw [V_0]
  exact zeroBits
theorem idx_7 : ∀ t : Fin cfg0.N, win0_7.index t 0 = t.val / 8 ∧ win0_7.index t 1 = t.val / 2 % 4 ∧ win0_7.index t 2 = 0 :=
  (by decide +kernel : ∀ t : Fin grid0.N, _)
theorem idx_8 : ∀ t : Fin cfg0.N, win0_8.index t 0 = t.val / 8 ∧ win0_8.index t 1 = t.val / 2 % 4 ∧ win0_8.index t 2 = 0 :=
  (by decide +kernel : ∀ t : Fin grid0.N, _)

theorem first_at : ∀ t : Fin cfg0.N, first (grid0.coords t) = if t.val % 2 = 0 then 1#1 else 0#1 :=
  (by decide +kernel : ∀ t : Fin grid0.N, _)
theorem half_at : ∀ t : Fin cfg0.N, (grid0.coords t 2).val = t.val % 2 :=
  (by decide +kernel : ∀ t : Fin grid0.N, _)

/-- A point's part of a row is its group's. -/
theorem part_at (c : Dev nD) (t : Fin cfg0.N) (o : Fin 2) (e : Fin 16) (he : e.val = 8 * (t.val % 2) + 4 * o.val) (r : Fin 512) (d : Fin 2048) :
    part (iblk m c 0 t) e (rows (iblk m c 1 t) o) r d = groupAt (argS m c) (argY m c) (batch t) (group t o) (token t r) d := by
  unfold part groupAt
  refine Finset.sum_congr rfl fun k _ => ?_
  unfold hit slotPart
  rw [blk_1 m c t o k d]
  have hl : lane e k = laneOf (expertOf (group t o) k) := Fin.ext (by
    show e.val + k.val / 256 = 4 * (2 * (t.val % 2) + o.val) + k.val / 256
    omega)
  rw [hl]
  exact congrArg (fun p : EReal => (if p = slotVal (k.val % 256) then (1 : EReal) else 0) * argY m c (ix4 (batch t) (expertOf (group t o) k) (slotOf k) d)) (blk_0 m c t r _)

/-- A step takes the sum over the halves so far one half on. -/
theorem step_at (c : Dev nD) (t : Fin cfg0.N) (acc : S512x2048.Idx → EReal)
    (ha : t.val % 2 ≠ 0 → acc = fun y => upto (argS m c) (argY m c) (batch t) 0 (token t (y 0)) (y 1)) :
    stepAt (grid0.coords t) (iblk m c 0 t) (iblk m c 1 t) acc = fun y => upto (argS m c) (argY m c) (batch t) (t.val % 2) (token t (y 0)) (y 1) := by
  funext y
  have hh := half_at t
  unfold stepAt step
  rw [part_at m c t 0 _ (by show 8 * (grid0.coords t 2).val = _; rw [hh]; rfl) (y 0) (y 1),
    part_at m c t 1 _ (by show 8 * (grid0.coords t 2).val + 4 = _; rw [hh]; rfl) (y 0) (y 1), first_at]
  by_cases h0 : t.val % 2 = 0
  · rw [if_pos h0, h0]
    have e0 : group t 0 = 0 := Fin.ext (by show 2 * (t.val % 2) + 0 = 0; omega)
    have e1 : group t 1 = 1 := Fin.ext (by show 2 * (t.val % 2) + 1 = 1; omega)
    rw [e0, e1]
    rfl
  · have h1 : t.val % 2 = 1 := by omega
    rw [if_neg h0, ha h0, h1]
    have e0 : group t 0 = 2 := Fin.ext (by show 2 * (t.val % 2) + 0 = 2; omega)
    have e1 : group t 1 = 3 := Fin.ext (by show 2 * (t.val % 2) + 1 = 3; omega)
    rw [e0, e1]
    rfl

/-! ## The accumulator -/

/-- What the accumulator holds after point `t`. -/
abbrev accAt (c : Dev nD) (t : Fin cfg0.N) : S512x2048.Idx → EReal := fun y => upto (argS m c) (argY m c) (batch t) (t.val % 2) (token t (y 0)) (y 1)

/-- After every point the accumulator holds the sum over the halves so far, and after a second half the output blocks are its. -/
theorem held (c : Dev nD) (n : ℕ) : ∀ h : n < cfg0.N,
    (outsAt0 m c n h).2.2 = accAt m c ⟨n, h⟩
    ∧ (n % 2 = 1 → (outsAt0 m c n h).1 = residBlock (iblk m c 2 ⟨n, h⟩) (iblk m c 3 ⟨n, h⟩) (accAt m c ⟨n, h⟩)
        ∧ (outsAt0 m c n h).2.1 = normBlock (iblk m c 2 ⟨n, h⟩) (iblk m c 3 ⟨n, h⟩) (iblk m c 4 ⟨n, h⟩) (iblk m c 6 ⟨n, h⟩) (iblk m c 5 ⟨n, h⟩) (accAt m c ⟨n, h⟩)) := by
  induction n with
  | zero =>
    intro h
    have e := outsAt0_A m c ⟨0, h⟩ rfl (by show ¬0 % 2 = 1; decide)
    rw [show outsAt0 m c 0 h = _ from e]
    dsimp only
    refine ⟨?_, fun h3 => absurd h3 (by decide)⟩
    rw [sout_A_0 (acc := fun _ => (0 : EReal))]
    exact step_at m c ⟨0, h⟩ _ (fun hn => absurd rfl hn)
  | succ n ih =>
    intro h
    have hN : cfg0.N = 32 := N_0
    obtain ⟨ih1, -⟩ := ih (Nat.lt_of_succ_lt h)
    have a1 : (n + 1) % 2 ≠ 0 → (outsAt0 m c (n + 1 - 1) (Nat.lt_of_le_of_lt (Nat.sub_le _ _) h)).2.2 = (fun y => upto (argS m c) (argY m c) (batch ⟨n + 1, h⟩) 0 (token ⟨n + 1, h⟩ (y 0)) (y 1)) := by
      intro h0
      refine ih1.trans (funext fun y => ?_)
      have e1 : batch ⟨n, Nat.lt_of_succ_lt h⟩ = batch ⟨n + 1, h⟩ := Fin.ext (by show n / 8 = (n + 1) / 8; omega)
      have e2 : token ⟨n, Nat.lt_of_succ_lt h⟩ (y 0) = token ⟨n + 1, h⟩ (y 0) := Fin.ext (by show 512 * (n / 2 % 4) + _ = 512 * ((n + 1) / 2 % 4) + _; omega)
      have e3 : n % 2 = 0 := by omega
      show upto _ _ (batch ⟨n, Nat.lt_of_succ_lt h⟩) (n % 2) (token ⟨n, Nat.lt_of_succ_lt h⟩ (y 0)) (y 1) = _
      rw [e1, e2, e3]
    have s1 := step_at m c ⟨n + 1, h⟩ _ a1
    by_cases h3 : (n + 1) % 2 = 1
    · have e := outsAt0_B m c ⟨n + 1, h⟩ (by show ¬(n + 1) % 32 = 0; omega) h3
      rw [show outsAt0 m c (n + 1) h = _ from e]
      dsimp only
      refine ⟨?_, fun _ => ⟨?_, ?_⟩⟩
      · rw [sout_B_0]; exact s1
      · rw [out_B_7]; exact congrArg (residBlock (iblk m c 2 ⟨n + 1, h⟩) (iblk m c 3 ⟨n + 1, h⟩)) s1
      · rw [out_B_8]; exact congrArg (normBlock (iblk m c 2 ⟨n + 1, h⟩) (iblk m c 3 ⟨n + 1, h⟩) (iblk m c 4 ⟨n + 1, h⟩) (iblk m c 6 ⟨n + 1, h⟩) (iblk m c 5 ⟨n + 1, h⟩)) s1
    · have e := outsAt0_C m c ⟨n + 1, h⟩ (by show ¬(n + 1) % 32 = 0; omega) h3
      rw [show outsAt0 m c (n + 1) h = _ from e]
      dsimp only
      refine ⟨?_, fun hh => absurd hh h3⟩
      rw [sout_C_0]; exact s1

/-! ## The whole arrays -/

/-- The two result arrays' contents. -/
def G (c : Dev nD) : Buf (Elt Ideal) ((c : Thread nD τ).loc main_v3_0) := fun i =>
  newAt (argS m c) (argY m c) (argX m c) (argG m c) (i 0) (i 1) (i 2)
def Gn (c : Dev nD) : Buf (Elt Ideal) ((c : Thread nD τ).loc main_v3_1) := fun i =>
  normAt (argS m c) (argY m c) (argX m c) (argG m c) (argW m c) (i 0) (i 1) (i 2)

theorem flush_7 : ∀ t : Fin cfg0.N, (cfg0.win 7).flush t = true → t.val % 2 = 1 := (by decide +kernel : ∀ t : Fin grid0.N, _)
theorem flush_8 : ∀ t : Fin cfg0.N, (cfg0.win 8).flush t = true → t.val % 2 = 1 := (by decide +kernel : ∀ t : Fin grid0.N, _)

/-- A stored row at a second half. -/
theorem resid_at (c : Dev nD) (t : Fin cfg0.N) (ht : t.val % 2 = 1) (r : Fin 512) (d : Fin 2048) :
    resid (iblk m c 2 t) (iblk m c 3 t) (accAt m c t) r d = newAt (argS m c) (argY m c) (argX m c) (argG m c) (batch t) (token t r) d := by
  unfold resid newAt
  rw [routed_eq]
  have ha : accAt m c t (ix2 r d) = upto (argS m c) (argY m c) (batch t) 1 (token t r) d := by
    show upto _ _ _ (t.val % 2) _ _ = _
    rw [ht]
  rw [ha]
  exact congrArg₂ (α := EReal) (β := EReal) (γ := EReal) (fun p q => p + q * upto (argS m c) (argY m c) (batch t) 1 (token t r) d) (blk_2 m c t r d) (blk_3 m c t d)

theorem flushed_eq7 (c : Dev nD) (t : Fin cfg0.N) (hf : (cfg0.win 7).flush t = true) :
    (dats m 0 c).flushed 7 t = ((cfg0.win 7).blk t).view.read (Elt Ideal) (G m c) := by
  have ht : t.val % 2 = 1 := flush_7 t hf
  rw [Value.flushed7, ((held m c t.val t.isLt).2 ht).1]
  funext y
  rw [View.read_apply]
  obtain ⟨h0, h1, h2⟩ := idx_7 t
  obtain ⟨r, d, rfl⟩ : ∃ (r : Fin 512) (d : Fin 2048), y = ix3 (0 : Fin 1) r d := ⟨y 1, y 2, unit3 y⟩
  have e : ((cfg0.win 7).blk t).view.emb (ix3 (0 : Fin 1) r d) = ix3 (batch t) (token t r) d := by
    funext a; apply Fin.ext
    match a with
    | ⟨0, _⟩ => show win0_7.index t 0 * 1 + 1 * 0 = t.val / 8; omega
    | ⟨1, _⟩ => show win0_7.index t 1 * 512 + 1 * r.val = 512 * (t.val / 2 % 4) + r.val; omega
    | ⟨2, _⟩ => show win0_7.index t 2 * 2048 + 1 * d.val = d.val; omega
  show resid (iblk m c 2 t) (iblk m c 3 t) (accAt m c t) r d = G m c (((cfg0.win 7).blk t).view.emb (ix3 (0 : Fin 1) r d))
  rw [e]
  exact resid_at m c t ht r d

theorem final_eq7 (c : Dev nD) : (dats m 0 c).arrAt 7 cfg0.N = G m c :=
  (dats m 0 c).arrAt_eq_of_cover 7 (G m c) (flushed_eq7 m c) fun i =>
    (Value.covered_iff7 i).2 ⟨Nat.zero_le _, (i 0).isLt, Nat.zero_le _, (i 1).isLt, Nat.zero_le _, (i 2).isLt⟩

theorem flushed_eq8 (c : Dev nD) (t : Fin cfg0.N) (hf : (cfg0.win 8).flush t = true) :
    (dats m 0 c).flushed 8 t = ((cfg0.win 8).blk t).view.read (Elt Ideal) (Gn m c) := by
  have ht : t.val % 2 = 1 := flush_8 t hf
  rw [Value.flushed8, ((held m c t.val t.isLt).2 ht).2]
  funext y
  rw [View.read_apply]
  obtain ⟨h0, h1, h2⟩ := idx_8 t
  obtain ⟨r, d, rfl⟩ : ∃ (r : Fin 512) (d : Fin 2048), y = ix3 (0 : Fin 1) r d := ⟨y 1, y 2, unit3 y⟩
  have e : ((cfg0.win 8).blk t).view.emb (ix3 (0 : Fin 1) r d) = ix3 (batch t) (token t r) d := by
    funext a; apply Fin.ext
    match a with
    | ⟨0, _⟩ => show win0_8.index t 0 * 1 + 1 * 0 = t.val / 8; omega
    | ⟨1, _⟩ => show win0_8.index t 1 * 512 + 1 * r.val = 512 * (t.val / 2 % 4) + r.val; omega
    | ⟨2, _⟩ => show win0_8.index t 2 * 2048 + 1 * d.val = d.val; omega
  show resid (iblk m c 2 t) (iblk m c 3 t) (accAt m c t) r d * scale (resid (iblk m c 2 t) (iblk m c 3 t) (accAt m c t) r) * iblk m c 4 t (ix2 (0 : Fin 1) d)
      * (1 + iblk m c 6 t (ix3 (0 : Fin 1) (0 : Fin 1) d)) + iblk m c 5 t (ix3 (0 : Fin 1) (0 : Fin 1) d) = Gn m c (((cfg0.win 8).blk t).view.emb (ix3 (0 : Fin 1) r d))
  rw [e, blk_5, blk_6, add_zero, add_zero, mul_one, funext (resid_at m c t ht r)]
  exact congrArg (newAt (argS m c) (argY m c) (argX m c) (argG m c) (batch t) (token t r) d * scale (newAt (argS m c) (argY m c) (argX m c) (argG m c) (batch t) (token t r)) * ·) (blk_4 m c t d)

theorem final_eq8 (c : Dev nD) : (dats m 0 c).arrAt 8 cfg0.N = Gn m c :=
  (dats m 0 c).arrAt_eq_of_cover 8 (Gn m c) (flushed_eq8 m c) fun i =>
    (Value.covered_iff8 i).2 ⟨Nat.zero_le _, (i 0).isLt, Nat.zero_le _, (i 1).isLt, Nat.zero_le _, (i 2).isLt⟩

/-- The run: the result arrays at `G` and `Gn`, the arguments unchanged. -/
theorem run : θ_run defs (onTc (τ := τ) (main (F := Ideal))) ⟨m, fun _ => 0, ρ⟩ fun r => ∀ c : Dev nD,
      r.2.mem ((c : Thread nD τ).loc main_v3_0) = G m c
      ∧ r.2.mem ((c : Thread nD τ).loc main_v3_1) = Gn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ h c => ⟨(h c).1.trans (final_eq7 m c), (h c).2.1.trans (final_eq8 m c), (h c).2.2⟩) (Value.run_blocks m ρ)

end Cert.Kernel4Ideal.ScatterKernel

end
-- ==== Proof.ScatterRef.lean ====
/-
  The scatter reference, entry by entry: each token receives the outputs of the slots that chose it (`scattered`), and the
  two results follow (`new_apply`, `norm_apply`).
-/
module

public import proofs.«01_k».proof.Proof.Gen.Reference4Ideal.Read
public import proofs.«01_k».proof.Proof.ScatterKernel
public import Idealize.ShloMosaic.Lib.KernelVsHost

@[expose] public section

set_option maxRecDepth 16384

noncomputable section

namespace Cert.ScatterRef

open Cert.Reference4Ideal Cert.Reference4Ideal.Read Cert.Reference4Ideal.Gen Idealize.ShloMosaic Idealize.ShloMosaic.TcCoe Idealize.ShloMosaic.ValueIdx
open Cert.Kernel4Ideal.ScatterPay (scale slotVal zeroBits)
open Cert.Kernel4Ideal.ScatterKernel (slotPart routed newAt normAt laneOf)
open scoped BigOperators

variable (I : S4x16x256.Idx → BitVec 32) (Y : S4x16x256x2048.Idx → EReal) (X : S4x2048x2048.Idx → EReal) (g : S4x1x2048.Idx → EReal) (w : S2048.Idx → EReal)

/-! ## Where an update lands -/

/-- The batch component of a start index. -/
theorem start_batch (b : Fin 4) (e : Fin 16) (s : Fin 256) : val_main_v17 (F := Ideal) I (ix4 b e s (0 : Fin 2)) = BitVec.ofNat 32 b.val := by
  unfold val_main_v17
  rw [concatenate_pair_apply_left (t := S4x16x256x2) (s₁ := S4x16x256x1) (s₂ := S4x16x256x1) 3 _ _ _ _ rfl (ix4 b e s (0 : Fin 1))
    (fun a => match a with | ⟨0, _⟩ => rfl | ⟨1, _⟩ => rfl | ⟨2, _⟩ => rfl | ⟨3, _⟩ => rfl), val_main_v15_apply, val_main_v14_apply]
  exact (by decide +kernel : ∀ b : Fin 4, Scalar.select (IntOp.cmpi .slt (BitVec.ofNat 32 b.val) 0#32) (IntOp.addi (BitVec.ofNat 32 b.val) 4#32) (BitVec.ofNat 32 b.val) = BitVec.ofNat 32 b.val) b

/-- The token component, for a chosen token that is not negative. -/
theorem start_token (hI : ∀ i, IntOp.cmpi .sge (I i) 0#32 = 1#1) (b : Fin 4) (e : Fin 16) (s : Fin 256) : val_main_v17 (F := Ideal) I (ix4 b e s (1 : Fin 2)) = I (ix3 b e s) := by
  unfold val_main_v17
  rw [concatenate_pair_apply_right (t := S4x16x256x2) (s₁ := S4x16x256x1) (s₂ := S4x16x256x1) 3 _ _ _ _ rfl rfl (ix4 b e s (0 : Fin 1))
    (fun a ha => match a with | ⟨0, _⟩ => rfl | ⟨1, _⟩ => rfl | ⟨2, _⟩ => rfl | ⟨3, _⟩ => absurd rfl ha) rfl, val_main_v16_apply]
  have e1 : idx_main_v16 (ix4 b e s (0 : Fin 1)) = ix3 b e s := funext fun a => match a with | ⟨0, _⟩ => rfl | ⟨1, _⟩ => rfl | ⟨2, _⟩ => rfl
  rw [e1]
  show Scalar.select (IntOp.cmpi .slt (I (ix3 b e s)) 0#32) _ (I (ix3 b e s)) = _
  have h := hI (ix3 b e s)
  generalize I (ix3 b e s) = v at h ⊢
  have h0 : IntOp.cmpi .slt v 0#32 = 0#1 := by
    revert h
    show BitVec.ofBool (BitVec.sle 0#32 v) = 1#1 → BitVec.ofBool (BitVec.slt v 0#32) = 0#1
    simp only [BitVec.sle, BitVec.slt]
    intro h
    by_cases hv : (0#32).toInt ≤ v.toInt
    · rw [decide_eq_false (by omega)]; rfl
    · rw [decide_eq_false hv] at h; exact absurd h (by decide)
  rw [h0]
  rfl

/-- The scatter's dimensions. -/
abbrev dims : ScatterDims S4x2048x2048 S4x16x256x2 S4x16x256x2048 := scatter_S4x2048x2048_S4x16x256x2_S4x16x256x2048_3_01_01_3

theorem start_0 (j : S4x16x256x2048.Idx) : dims.start j (val_main_v17 (F := Ideal) I) 0 = ((j 0).val : ℤ) := by
  unfold ScatterDims.start
  rw [dif_pos (by decide)]
  have e : dims.siIdx j ⟨dims.scatterDimsToOperandDims.idxOf 0, by decide⟩ = ix4 (j 0) (j 1) (j 2) (0 : Fin 2) := by
    funext a
    match a with
    | ⟨0, _⟩ => rfl
    | ⟨1, _⟩ => rfl
    | ⟨2, _⟩ => rfl
    | ⟨3, _⟩ => rfl
  refine (congrArg (fun i => (val_main_v17 (F := Ideal) I i).toInt) e).trans ?_
  exact (congrArg BitVec.toInt (start_batch I (j 0) (j 1) (j 2))).trans ((by decide +kernel : ∀ b : Fin 4, (BitVec.ofNat 32 b.val).toInt = (b.val : ℤ)) (j 0))

theorem start_1 (hI : ∀ i, IntOp.cmpi .sge (I i) 0#32 = 1#1) (j : S4x16x256x2048.Idx) : dims.start j (val_main_v17 (F := Ideal) I) 1 = (I (ix3 (j 0) (j 1) (j 2))).toInt := by
  unfold ScatterDims.start
  rw [dif_pos (by decide)]
  have e : dims.siIdx j ⟨dims.scatterDimsToOperandDims.idxOf 1, by decide⟩ = ix4 (j 0) (j 1) (j 2) (1 : Fin 2) := by
    funext a
    match a with
    | ⟨0, _⟩ => rfl
    | ⟨1, _⟩ => rfl
    | ⟨2, _⟩ => rfl
    | ⟨3, _⟩ => rfl
  refine (congrArg (fun i => (val_main_v17 (F := Ideal) I i).toInt) e).trans ?_
  exact congrArg BitVec.toInt (start_token I hI (j 0) (j 1) (j 2))

theorem start_2 (j : S4x16x256x2048.Idx) : dims.start j (val_main_v17 (F := Ideal) I) 2 = 0 := by
  unfold ScatterDims.start
  rw [dif_neg (by decide)]

theorem window_0 (j : S4x16x256x2048.Idx) : dims.window j 0 = 0 := by unfold ScatterDims.window; rw [dif_neg (by decide)]
theorem window_1 (j : S4x16x256x2048.Idx) : dims.window j 1 = 0 := by unfold ScatterDims.window; rw [dif_neg (by decide)]
theorem window_2 (j : S4x16x256x2048.Idx) : dims.window j 2 = (j 3).val := by unfold ScatterDims.window; rw [dif_pos (by decide)]; rfl

/-- A word read as a token's number is the token's word. -/
theorem word_iff (v : BitVec 32) (t : Fin 2048) : v = BitVec.ofNat 32 t.val ↔ v.toInt = (t.val : ℤ) := by
  have ht : (BitVec.ofNat 32 t.val).toInt = (t.val : ℤ) := by
    have := t.isLt
    have hn : (BitVec.ofNat 32 t.val).toNat = t.val := by rw [BitVec.toNat_ofNat]; omega
    rw [BitVec.toInt_eq_toNat_of_lt (by omega), hn]
  rw [← ht]
  exact BitVec.toInt_inj.symm

/-- An update lands at a token's entry when its slot chose the token. -/
theorem lands (hI : ∀ i, IntOp.cmpi .sge (I i) 0#32 = 1#1) (j : S4x16x256x2048.Idx) (b : Fin 4) (t d : Fin 2048) :
    dims.resultIdx? j (val_main_v17 (F := Ideal) I) = some (ix3 b t d) ↔ j 0 = b ∧ I (ix3 (j 0) (j 1) (j 2)) = BitVec.ofNat 32 t.val ∧ j 3 = d := by
  have s0 := start_0 I j
  have s1 := start_1 I hI j
  have s2 := start_2 I j
  have w0 := window_0 j
  have w1 := window_1 j
  have w2 := window_2 j
  have hb : (j 0).val < 4 := (j 0).isLt
  have hd : (j 3).val < 2048 := (j 3).isLt
  have ht := t.isLt
  rw [word_iff]
  unfold ScatterDims.resultIdx?
  constructor
  · intro h
    split at h
    · rename_i hin
      have h' := Option.some.inj h
      have g0 := congrArg (fun i : S4x2048x2048.Idx => (i 0).val) h'
      have g1 := congrArg (fun i : S4x2048x2048.Idx => (i 1).val) h'
      have g2 := congrArg (fun i : S4x2048x2048.Idx => (i 2).val) h'
      have i1 := hin 1
      change (dims.start j (val_main_v17 (F := Ideal) I) 0 + dims.window j 0).toNat = b.val at g0
      change (dims.start j (val_main_v17 (F := Ideal) I) 1 + dims.window j 1).toNat = t.val at g1
      change (dims.start j (val_main_v17 (F := Ideal) I) 2 + dims.window j 2).toNat = d.val at g2
      rw [s0, w0] at g0
      rw [s1, w1] at g1 i1
      rw [s2, w2] at g2
      exact ⟨Fin.ext (by omega), by omega, Fin.ext (by omega)⟩
    · exact absurd h (by simp)
  · rintro ⟨h0, h1, h2⟩
    rw [h1] at s1
    have v0 : (j 0).val = b.val := congrArg Fin.val h0
    have v2 : (j 3).val = d.val := congrArg Fin.val h2
    have hin : ∀ a, 0 ≤ dims.start j (val_main_v17 (F := Ideal) I) a + dims.window j a ∧ dims.start j (val_main_v17 (F := Ideal) I) a + dims.window j a < S4x2048x2048.size a := by
      intro a
      match a with
      | ⟨0, _⟩ =>
        show 0 ≤ dims.start j (val_main_v17 (F := Ideal) I) 0 + dims.window j 0 ∧ dims.start j (val_main_v17 (F := Ideal) I) 0 + dims.window j 0 < (4 : ℕ)
        rw [s0, w0]; omega
      | ⟨1, _⟩ =>
        show 0 ≤ dims.start j (val_main_v17 (F := Ideal) I) 1 + dims.window j 1 ∧ dims.start j (val_main_v17 (F := Ideal) I) 1 + dims.window j 1 < (2048 : ℕ)
        rw [s1, w1]; omega
      | ⟨2, _⟩ =>
        show 0 ≤ dims.start j (val_main_v17 (F := Ideal) I) 2 + dims.window j 2 ∧ dims.start j (val_main_v17 (F := Ideal) I) 2 + dims.window j 2 < (2048 : ℕ)
        rw [s2, w2]; omega
    rw [dif_pos hin]
    refine congrArg some (funext fun a => Fin.ext ?_)
    match a with
    | ⟨0, _⟩ => show (dims.start j (val_main_v17 (F := Ideal) I) 0 + dims.window j 0).toNat = b.val; rw [s0, w0]; omega
    | ⟨1, _⟩ => show (dims.start j (val_main_v17 (F := Ideal) I) 1 + dims.window j 1).toNat = t.val; rw [s1, w1]; omega
    | ⟨2, _⟩ => show (dims.start j (val_main_v17 (F := Ideal) I) 2 + dims.window j 2).toNat = d.val; rw [s2, w2]; omega

/-- Each token receives the outputs of the slots that chose it. -/
theorem scattered (hI : ∀ i, IntOp.cmpi .sge (I i) 0#32 = 1#1) (b : Fin 4) (t d : Fin 2048) :
    val_main_v18 (F := Ideal) I Y (ix3 b t d) = ∑ e : Fin 16, ∑ s : Fin 256, if I (ix3 b e s) = BitVec.ofNat 32 t.val then Y (ix4 b e s d) else 0 := by
  rw [← Fintype.sum_prod_type' (fun (e : Fin 16) (s : Fin 256) => if I (ix3 b e s) = BitVec.ofNat 32 t.val then Y (ix4 b e s d) else 0), ← Finset.sum_filter]
  unfold val_main_v18
  show Ideal.hostScatterAdd dims (val_main_v2 (F := Ideal)) (val_main_v17 (F := Ideal) I) (val_main_v3 (F := Ideal) Y) (ix3 b t d) = _
  unfold Ideal.hostScatterAdd
  have hz : val_main_v2 (F := Ideal) (ix3 b t d) = (0 : EReal) := (val_main_v2_apply _).trans zeroBits
  refine (congrArg (fun p : EReal => p + _) hz).trans ((zero_add _).trans ?_)
  refine Finset.sum_nbij' (fun j => ((j 1, j 2) : Fin 16 × Fin 256)) (fun p => ix4 b p.1 p.2 d) ?_ ?_ ?_ ?_ ?_
  · intro j hj
    obtain ⟨h0, h1, -⟩ := (lands I hI j b t d).1 (Finset.mem_filter.1 hj).2
    refine Finset.mem_filter.2 ⟨Finset.mem_univ _, ?_⟩
    rw [← h0]
    exact h1
  · intro p hp
    exact Finset.mem_filter.2 ⟨Finset.mem_univ _, (lands I hI _ b t d).2 ⟨rfl, (Finset.mem_filter.1 hp).2, rfl⟩⟩
  · intro j hj
    obtain ⟨h0, -, h2⟩ := (lands I hI j b t d).1 (Finset.mem_filter.1 hj).2
    rw [← h0, ← h2]
    exact (eq_ix4 j).symm
  · intro p _
    rfl
  · intro j hj
    obtain ⟨h0, -, h2⟩ := (lands I hI j b t d).1 (Finset.mem_filter.1 hj).2
    rw [← h0, ← h2]
    exact congrArg Y (eq_ix4 j)

/-! ## The two results -/

/-- The slots' test is the choice of the token. -/
theorem routed_apply (S : S4x2048x128.Idx → EReal) (hI : ∀ i, IntOp.cmpi .sge (I i) 0#32 = 1#1)
    (hS : ∀ b t e s, S (ix3 b t (laneOf e)) = slotVal (s : Fin 256).val ↔ I (ix3 b e s) = BitVec.ofNat 32 (t : Fin 2048).val) (b : Fin 4) (t d : Fin 2048) :
    val_main_v18 (F := Ideal) I Y (ix3 b t d) = routed S Y b t d := by
  rw [scattered I Y hI]
  unfold routed slotPart
  refine Finset.sum_congr rfl fun e _ => Finset.sum_congr rfl fun s _ => ?_
  simp only [hS, ite_mul, one_mul, zero_mul]

theorem new_apply (S : S4x2048x128.Idx → EReal) (hI : ∀ i, IntOp.cmpi .sge (I i) 0#32 = 1#1)
    (hS : ∀ b t e s, S (ix3 b t (laneOf e)) = slotVal (s : Fin 256).val ↔ I (ix3 b e s) = BitVec.ofNat 32 (t : Fin 2048).val) (b : Fin 4) (t d : Fin 2048) :
    val_main_v21 (F := Ideal) I Y X g (ix3 b t d) = newAt S Y X g b t d := by
  rw [val_main_v21_apply, val_main_v20_apply, val_main_v19_apply, routed_apply I Y S hI hS]
  refine congrArg (fun i => X (ix3 b t d) + g i * routed S Y b t d) (funext fun a => ?_)
  match a with
  | ⟨0, _⟩ => rfl
  | ⟨1, _⟩ => rfl
  | ⟨2, _⟩ => rfl

theorem norm_apply (S : S4x2048x128.Idx → EReal) (hI : ∀ i, IntOp.cmpi .sge (I i) 0#32 = 1#1)
    (hS : ∀ b t e s, S (ix3 b t (laneOf e)) = slotVal (s : Fin 256).val ↔ I (ix3 b e s) = BitVec.ofNat 32 (t : Fin 2048).val) (b : Fin 4) (t d : Fin 2048) :
    val_main_v34 (F := Ideal) I Y X g w (ix3 b t d) = normAt S Y X g w b t d := by
  have hsq : ∀ k : Fin 2048, val_main_v22 (F := Ideal) I Y X g (idx_main_v23 (ix2 b t) k) = newAt S Y X g b t k * newAt S Y X g b t k := by
    intro k
    have e : idx_main_v23 (ix2 b t) k = ix3 b t k := funext fun a => match a with | ⟨0, _⟩ => rfl | ⟨1, _⟩ => rfl | ⟨2, _⟩ => rfl
    rw [e, val_main_v22_apply, new_apply I Y X g S hI hS]
    rfl
  have hsum : val_main_v23 (F := Ideal) I Y X g (ix2 b t) = ∑ k : Fin 2048, newAt S Y X g b t k * newAt S Y X g b t k := by
    rw [val_main_v23_apply]
    simp only [hsq]
    exact (congrArg (fun p : EReal => p + _) zeroBits).trans (zero_add _)
  have h24 : val_main_v24 (F := Ideal) I Y X g (ix3 b t (0 : Fin 1)) = ∑ k : Fin 2048, newAt S Y X g b t k * newAt S Y X g b t k := by
    rw [val_main_v24_apply]
    refine Eq.trans (congrArg _ (funext fun a => ?_)) hsum
    match a with
    | ⟨0, _⟩ => rfl
    | ⟨1, _⟩ => rfl
  have h30 : val_main_v30 (F := Ideal) I Y X g (ix3 b t d) = scale (newAt S Y X g b t) := by
    rw [val_main_v30_apply]
    have e : idx_main_v30 (ix3 b t d) = ix3 b t (0 : Fin 1) := funext fun a => match a with | ⟨0, _⟩ => rfl | ⟨1, _⟩ => rfl | ⟨2, _⟩ => rfl
    rw [e]
    unfold scale
    exact congrArg (fun p : EReal => Ideal.rsqrt (Ideal.div p (FloatOps.ofBits (F := Ideal) .f32 0x45000000#32 : EReal) + (FloatOps.ofBits (F := Ideal) .f32 0x358637BD#32 : EReal))) h24
  have h33 : val_main_v33 (F := Ideal) w (ix3 b t d) = w (ix1 d) := by
    rw [val_main_v33_apply, val_main_v32_apply]
    exact congrArg w (funext fun a => match a with | ⟨0, _⟩ => rfl)
  rw [val_main_v34_apply, val_main_v31_apply, h30, h33, new_apply I Y X g S hI hS]
  rfl

end Cert.ScatterRef

end
-- ==== Proof.ScatterClaim.lean ====
/-
  The scatter claims: the precondition read as "a token's slot for an expert is `s` exactly when that slot chose the token",
  and the kernel's results the reference's.
-/
module

public import proofs.«01_k».proof.Defs
public import proofs.«01_k».proof.Proof.ScatterRef
public import proofs.«01_k».proof.Proof.Gen.Pre_slots_match
public import proofs.«01_k».proof.Proof.Gen.Kernel4.Frame
public import Idealize.ShloMosaic.Lib.Claim

@[expose] public section

set_option maxRecDepth 16384

noncomputable section

namespace Cert.Proof.Scatter

open Idealize.ShloMosaic Idealize.ShloMosaic.TcCoe Idealize.ShloMosaic.ValueIdx
open Idealize.SL.Sem
open Cert.Kernel4Ideal.ScatterPay (slotVal)
open Cert.Kernel4Ideal.ScatterKernel Cert.ScatterRef

/-- Two tests whose bits agree agree. -/
theorem tests_agree (x y : EReal) (v u : BitVec 32) (h : IntOp.cmpi .eq (Ideal.cmp .oeq x y) (IntOp.cmpi .eq v u) = 1#1) : x = y ↔ v = u := by
  have hx : Ideal.cmp .oeq x y = BitVec.ofBool (decide (x = y)) := rfl
  have hv : IntOp.cmpi .eq v u = BitVec.ofBool (decide (v = u)) := rfl
  rw [hx, hv] at h
  by_cases p : x = y <;> by_cases q : v = u <;> simp_all [IntOp.cmpi]

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_pre : Cert.quiescent_Kernel4Ideal_pre_slots_match := fun m ρ _ => Cert.Kernel4Ideal.Gen.frame m ρ

theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)
theorem frame_ri_pre : Cert.quiescent_Reference4Ideal_pre_slots_match := fun m ρ _ => frame_ri m ρ trivial

theorem preserves : Cert.preserves_Kernel4_Kernel4Ideal := trivial

section
variable (m : (ℓ : Loc Cert.Kernel4Ideal.nD Cert.Kernel4Ideal.τ Cert.Kernel4Ideal.sig) → Buf (Elt Ideal) ℓ) (hpre : Cert.Pre_Kernel4Ideal_slots_match m) (c : Dev Cert.Kernel4Ideal.nD)

/-- The chosen tokens as a function of an index. -/
abbrev argI : Cert.Kernel4Ideal.S4x16x256.Idx → BitVec 32 := m ((c : Thread Cert.Kernel4Ideal.nD Cert.Kernel4Ideal.τ).loc Cert.Kernel4Ideal.main_arg1)

include hpre in
/-- No chosen token is negative. -/
theorem chosen_nonneg (i : Cert.Kernel4Ideal.S4x16x256.Idx) : IntOp.cmpi .sge (argI m c i) 0#32 = 1#1 := congrFun (hpre c).2 i

include hpre in
/-- A token's slot is the one that chose it. -/
theorem slot_iff (b : Fin 4) (t : Fin 2048) (e : Fin 16) (s : Fin 256) : argS m c (ix3 b t (laneOf e)) = slotVal s.val ↔ argI m c (ix3 b e s) = BitVec.ofNat 32 t.val := by
  refine tests_agree _ _ _ _ (Eq.trans ?_ (congrFun (hpre c).1 (ix4 b t e s)))
  refine congrArg₂ (IntOp.cmpi .eq) (congrArg₂ (Ideal.cmp .oeq) (congrArg (argS m c) (funext fun a => Fin.ext ?_)) rfl) (congrArg₂ (IntOp.cmpi .eq) (congrArg (argI m c) (funext fun a => Fin.ext ?_)) rfl)
  · match a with
    | ⟨0, _⟩ => exact (Nat.zero_add _).symm
    | ⟨1, _⟩ => exact (Nat.zero_add _).symm
    | ⟨2, _⟩ => exact (Nat.zero_add _).symm
  · match a with
    | ⟨0, _⟩ => rfl
    | ⟨1, _⟩ => rfl
    | ⟨2, _⟩ => rfl

end

theorem algebraic : Cert.algebraic_Kernel4Ideal_Reference4Ideal_pre_slots_match := fun m ρ m' ρ' hpre hag =>
  ⟨fun c => G m c, fun c => Gn m c, run m ρ, (θ_run Cert.Reference4Ideal.defs _ _).mono (fun _ h c => ⟨(h c).1.trans (by
      rw [Cert.Reference4Ideal.Read.val_main_v21_eq]
      obtain ⟨e0, e1, e2, e3, e4, e5⟩ := hag c
      rw [e1, e2, e3, e4]
      funext i
      exact (congrArg _ (eq_ix3 i)).trans (new_apply _ _ _ _ _ (chosen_nonneg m hpre c) (slot_iff m hpre c) (i 0) (i 1) (i 2))), (h c).2.1.trans (by
      rw [Cert.Reference4Ideal.Read.val_main_v34_eq]
      obtain ⟨e0, e1, e2, e3, e4, e5⟩ := hag c
      rw [e1, e2, e3, e4, e5]
      funext i
      exact (congrArg _ (eq_ix3 i)).trans (norm_apply _ _ _ _ _ _ (chosen_nonneg m hpre c) (slot_iff m hpre c) (i 0) (i 1) (i 2))), (h c).2.2⟩)
    (Cert.Reference4Ideal.Value.run (F := Ideal) m' ρ')⟩

end Cert.Proof.Scatter

end
-- ==== Proof.HyenaProj.lean ====
/-
  The input projection of the Hyena branch: each row block of the tokens times the branch's columns of the combined
  projection. The columns are stored once per column block, at its first row block, and kept in scratch (`held`); the
  output blocks tile the array (`run`), and the reference's entry is the same sum (`result_apply`).
-/
module

public import proofs.«01_k».proof.Proof.MergeKernel
public import proofs.«01_k».proof.Proof.Gen.Kernel5Ideal.Value
public import proofs.«01_k».proof.Proof.Gen.Kernel5.Frame
public import proofs.«01_k».proof.Proof.Gen.Reference5Ideal.Read
public import proofs.«01_k».proof.Defs
public import Idealize.ShloMosaic.Lib.KernelVsHost
public import Idealize.ShloMosaic.Lib.Claim

@[expose] public section

set_option maxRecDepth 16384

noncomputable section

namespace Cert.Kernel5Ideal.HyenaProj

open Cert.Kernel5Ideal Cert.Kernel5Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.Kernel2Ideal.MergeKernel (batch token flat_rows)
open scoped BigOperators

/-! ## The value of a block -/

/-- A row block against the cached columns. -/
def dotted (x : S1024x2048.Idx → EReal) (W : S768x2048.Idx → EReal) : S1024x768.Idx → EReal := fun y =>
  ∑ e : Fin 2048, x (ix2 (y 0) e) * W (ix2 (y 1) e)

/-- The column block without its leading axis: what the scratch is filled with. -/
def flat (w : S1x768x2048.Idx → EReal) : S768x2048.Idx → EReal := fun y => w (ix3 0 (y 0) (y 1))

theorem pay_flat (w : Vec Ideal S1x768x2048 .f32) : k0_pay1 (F := Ideal) w = flat w := by
  unfold k0_pay1
  dsimp only
  rw [shapeCast_self]
  funext y
  refine (congrArg _ (eq_ix2 y)).trans ?_
  exact shapeCast_1ab_ab_apply w _ (y 0) (y 1)

theorem pay_dotted (x : Vec Ideal S1024x2048 .bf16) (W : Vec Ideal S768x2048 .bf16) : k0_pay2 (F := Ideal) x W = dotted x W := by
  unfold k0_pay2
  rw [shapeCast_self]
  funext y
  obtain ⟨r, d, rfl⟩ : ∃ (r : Fin 1024) (d : Fin 768), y = ix2 r d := ⟨y 0, y 1, eq_ix2 y⟩
  show FloatOps.matmul (DotDims.transposedRhs 1024 2048 768) none _ _ _ (ix2 r d) = _
  rw [Ideal.matmul_transposedRhs_apply]
  show FloatOps.ofBits (F := Ideal) .f32 0x00000000#32 + _ = _
  rw [show (FloatOps.ofBits (F := Ideal) .f32 0x00000000#32 : EReal) = 0 from Ideal.ofBits_zero_f32, zero_add]
  rfl

/-! ## The run's pieces read back -/

theorem hz2 : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (arg2 : Memref sig .tc .vmem S1024x2048 .bf16) (harg2 : arg2.IsWhole) (arg3 : Memref sig .tc .vmem S1x768x2048 .f32) (harg3 : arg3.IsWhole) (arg4 : Memref sig .tc .vmem S1024x768 .f32) (harg4 : arg4.IsWhole) (arg5 : Memref sig .tc .vmem S768x2048 .bf16) (harg5 : arg5.IsWhole)
variable (x0 : Vec Ideal S1024x2048 .bf16) (x1 : Vec Ideal S1x768x2048 .f32)

/-- A point that finds the columns cached. -/
theorem out_B (hc0 : ¬cond0_0 i) (xs0 : Vec Ideal S768x2048 .bf16) :
    out0_B_2 c i arg2 harg2 arg3 harg3 arg4 harg4 arg5 harg5 hc0 x0 x1 xs0 = dotted x0 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_cons_unit_zero (S := S1024x768) hz2]
  simp only [View.readAt_eq_ld, harg2.read_unread, harg5.read_unread, View.ld_unit_zero (S := S1024x2048) hz2, View.ld_unit_zero (S := S768x2048) hz2]
  exact pay_dotted x0 xs0

/-- A point that fills the cache. -/
theorem sout_A (hc0 : cond0_0 i) : sout0_A_0 c i arg2 harg2 arg3 harg3 arg4 harg4 arg5 harg5 hc0 x0 x1 = flat x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero (S := S768x2048) hz2]
  simp only [View.readAt_eq_ld, harg3.read_unread, View.ld_unit_zero (S := S1x768x2048) hz3]
  exact pay_flat x1

/-- A point that fills the cache, then uses it. -/
theorem out_A (hc0 : cond0_0 i) : out0_A_2 c i arg2 harg2 arg3 harg3 arg4 harg4 arg5 harg5 hc0 x0 x1 = dotted x0 (flat x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1024x768) hz2]
  simp only [View.readAt_eq_ld, harg2.read_unread, harg3.read_unread, View.ld_unit_zero (S := S1024x2048) hz2, View.ld_unit_zero (S := S1x768x2048) hz3]
  simp only [View.readCov_eq_canon']
  rw [View.canon_unit_zero (S := S768x2048) hz2, pay_flat]
  have hW : (fun j => flat x1 ((Rect.unit ![0, 0] ![768, 2048] inb_S768x2048_S768x2048_0_0).idx j)) = flat x1 := funext fun j => congrArg (flat x1) (funext fun a => Fin.ext (by
    match a with
    | ⟨0, _⟩ => show 0 + 1 * (j 0).val = (j 0).val; omega
    | ⟨1, _⟩ => show 0 + 1 * (j 1).val = (j 1).val; omega))
  rw [hW]
  exact pay_dotted x0 (flat x1)

end Points

/-! ## The blocks of the arguments -/

variable (m : (ℓ : Loc nD τ sig) → Buf (Elt Ideal) ℓ) (ρ : Dev nD → PrngReg)

abbrev argX (c : Dev nD) : S4x2048x2048.Idx → EReal := m ((c : Thread nD τ).loc main_arg0)
abbrev argIn (c : Dev nD) : S4x2048x12448.Idx → EReal := m ((c : Thread nD τ).loc main_arg1)

/-- The column of the combined projection for column `d` of the branch. -/
abbrev col (d : Fin 1536) : Fin 12448 := ⟨1696 + d.val, by have := d.isLt; omega⟩

/-- The projection of a token to column `d` of the branch. -/
def projAt (X : S4x2048x2048.Idx → EReal) (W : S4x2048x12448.Idx → EReal) (b : Fin 4) (s : Fin 2048) (d : Fin 1536) : EReal :=
  ∑ e : Fin 2048, X (ix3 b s e) * W (ix3 0 e (col d))

theorem tlt (t : Fin cfg0.N) : t.val < 16 := by have := t.isLt; have : cfg0.N = 16 := N_0; omega

/-- The row of a point's row `r`, and the column of a point's column `d`. -/
abbrev row (t : Fin cfg0.N) (r : Fin 1024) : Fin 8192 := ⟨1024 * (t.val % 8) + r.val, by have := r.isLt; omega⟩
abbrev chan (j : Fin 2) (d : Fin 768) : Fin 1536 := ⟨768 * j.val + d.val, by have := j.isLt; have := d.isLt; omega⟩
/-- The column block of a point. -/
abbrev tile (t : Fin cfg0.N) : Fin 2 := ⟨t.val / 8, by have := tlt t; omega⟩

theorem idx_0 : ∀ t : Fin cfg0.N, win0_0.index t 0 = t.val % 8 ∧ win0_0.index t 1 = 0 :=
  (by decide +kernel : ∀ t : Fin grid0.N, _)
theorem idx_1 : ∀ t : Fin cfg0.N, win0_1.index t 0 = 0 ∧ win0_1.index t 1 = 1696 + 768 * (t.val / 8) ∧ win0_1.index t 2 = 0 :=
  (by decide +kernel : ∀ t : Fin grid0.N, _)
theorem idx_2 : ∀ t : Fin cfg0.N, win0_2.index t 0 = t.val % 8 ∧ win0_2.index t 1 = t.val / 8 :=
  (by decide +kernel : ∀ t : Fin grid0.N, _)

theorem V_0 (c : Dev nD) : V m c main_v0 = shapeCast S8192x2048 (argX m c) shapeCasts_S4x2048x2048_S8192x2048 := by entry_read; rfl
theorem V_1 (c : Dev nD) : V m c main_v1 = transpose S4x12448x2048 [0, 2, 1] (argIn m c) transposes_S4x2048x12448_S4x12448x2048_0_2_1 := by entry_read; rfl

theorem blk_0 (c : Dev nD) (t : Fin cfg0.N) (r : Fin 1024) (e : Fin 2048) :
    iblk m c 0 t (ix2 r e) = argX m c (ix3 (batch (row t r)) (token (row t r)) e) := by
  unfold iblk
  rw [View.read_apply]
  show V m c main_v0 _ = _
  rw [V_0]
  refine Eq.trans (congrArg _ ?_) (flat_rows (argX m c) _ (row t r) e)
  funext a; apply Fin.ext
  obtain ⟨h0, h1⟩ := idx_0 t
  match a with
  | ⟨0, _⟩ => show win0_0.index t 0 * 1024 + 1 * r.val = 1024 * (t.val % 8) + r.val; omega
  | ⟨1, _⟩ => show win0_0.index t 1 * 2048 + 1 * e.val = e.val; omega

theorem blk_1 (c : Dev nD) (t : Fin cfg0.N) (d : Fin 768) (e : Fin 2048) :
    iblk m c 1 t (ix3 (0 : Fin 1) d e) = argIn m c (ix3 0 e (col (chan (tile t) d))) := by
  unfold iblk
  rw [View.read_apply]
  show V m c main_v1 _ = _
  rw [V_1]
  refine Eq.trans (congrArg _ ?_) (transpose_ix3_021_apply (argIn m c) _ 0 (col (chan (tile t) d)) e)
  funext a; apply Fin.ext
  obtain ⟨h0, h1, h2⟩ := idx_1 t
  match a with
  | ⟨0, _⟩ => show win0_1.index t 0 + 1 * 0 = 0; omega
  | ⟨1, _⟩ => show win0_1.index t 1 + 1 * d.val = 1696 + (768 * (t.val / 8) + d.val); omega
  | ⟨2, _⟩ => show win0_1.index t 2 + 1 * e.val = e.val; omega

/-! ## The columns kept in scratch -/

/-- The columns of column block `j`. -/
def cached (c : Dev nD) (j : Fin 2) : S768x2048.Idx → EReal := fun y => argIn m c (ix3 0 (y 1) (col (chan j (y 0))))

theorem flat_eq (c : Dev nD) (t : Fin cfg0.N) : flat (iblk m c 1 t) = cached m c (tile t) :=
  funext fun y => blk_1 m c t (y 0) (y 1)

/-- After every point the scratch holds the columns of the point's column block, and the output block the products with them. -/
theorem held (c : Dev nD) (n : ℕ) : ∀ h : n < cfg0.N,
    (outsAt0 m c n h).1 = dotted (iblk m c 0 ⟨n, h⟩) (cached m c (tile ⟨n, h⟩)) ∧ (outsAt0 m c n h).2 = cached m c (tile ⟨n, h⟩) := by
  induction n with
  | zero =>
    intro h
    rw [show outsAt0 m c 0 h = _ from outsAt0_A m c ⟨0, h⟩ rfl]
    dsimp only
    rw [out_A, sout_A, flat_eq]
    exact ⟨rfl, rfl⟩
  | succ n ih =>
    intro h
    by_cases h0 : (n + 1) % 8 = 0
    · rw [show outsAt0 m c (n + 1) h = _ from outsAt0_A m c ⟨n + 1, h⟩ h0]
      dsimp only
      rw [out_A, sout_A, flat_eq]
      exact ⟨rfl, rfl⟩
    · obtain ⟨-, ih⟩ := ih (Nat.lt_of_succ_lt h)
      have ht : tile ⟨n, Nat.lt_of_succ_lt h⟩ = tile ⟨n + 1, h⟩ := Fin.ext (by show n / 8 = (n + 1) / 8; omega)
      rw [ht] at ih
      rw [show outsAt0 m c (n + 1) h = _ from outsAt0_B m c ⟨n + 1, h⟩ h0]
      dsimp only
      rw [out_B]
      have e1 : (outsAt0 m c (n + 1 - 1) (Nat.lt_of_le_of_lt (Nat.sub_le _ _) h)).2 = cached m c (tile ⟨n + 1, h⟩) := ih
      rw [e1]
      exact ⟨rfl, rfl⟩

/-! ## The whole array -/

/-- The result array's contents. -/
def G (c : Dev nD) : Buf (Elt Ideal) ((c : Thread nD τ).loc main_v2) := fun i =>
  projAt (argX m c) (argIn m c) (batch (i 0)) (token (i 0)) (i 1)

/-- A point's block is the array's block there. -/
theorem block_at (c : Dev nD) (t : Fin cfg0.N) (r : Fin 1024) (d : Fin 768) :
    dotted (iblk m c 0 t) (cached m c (tile t)) (ix2 r d) = projAt (argX m c) (argIn m c) (batch (row t r)) (token (row t r)) (chan (tile t) d) :=
  Finset.sum_congr rfl fun e _ => congrArg (· * argIn m c (ix3 0 e (col (chan (tile t) d)))) (blk_0 m c t r e)

theorem flushed_eq (c : Dev nD) (t : Fin cfg0.N) (_ : (cfg0.win 2).flush t = true) :
    (dats m 0 c).flushed 2 t = ((cfg0.win 2).blk t).view.read (Elt Ideal) (G m c) := by
  rw [Value.flushed2, (held m c t.val t.isLt).1]
  funext y
  rw [View.read_apply]
  obtain ⟨h0, h1⟩ := idx_2 t
  obtain ⟨r, d, rfl⟩ : ∃ (r : Fin 1024) (d : Fin 768), y = ix2 r d := ⟨y 0, y 1, eq_ix2 y⟩
  refine (block_at m c t r d).trans ?_
  have e0 : row t r = ((cfg0.win 2).blk t).view.emb (ix2 r d) 0 := Fin.ext (by show 1024 * (t.val % 8) + r.val = win0_2.index t 0 * 1024 + 1 * r.val; omega)
  have e1 : chan (tile t) d = ((cfg0.win 2).blk t).view.emb (ix2 r d) 1 := Fin.ext (by show 768 * (t.val / 8) + d.val = win0_2.index t 1 * 768 + 1 * d.val; omega)
  rw [e0, e1]
  rfl

theorem final_eq (c : Dev nD) : (dats m 0 c).arrAt 2 cfg0.N = G m c :=
  (dats m 0 c).arrAt_eq_of_cover 2 (G m c) (flushed_eq m c) fun i => (Value.covered_iff2 i).2 (by
    have i0 : (i 0 : Nat) < 8192 := (i 0).isLt
    have i1 : (i 1 : Nat) < 1536 := (i 1).isLt
    omega)

/-- The run: the result array at `G`, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final_eq m c), (h c).2⟩) (Value.run_blocks m ρ)

/-! ## The reference -/

open Cert.Reference5Ideal.Read in
/-- The reference's entry at row `r` and column `d` is the same sum. -/
theorem result_apply (X : S4x2048x2048.Idx → EReal) (W : S4x2048x12448.Idx → EReal) (r : Fin 8192) (d : Fin 1536) :
    val_main_v5 (F := Ideal) X W (ix2 r d) = projAt X W (batch r) (token r) d := by
  rw [val_main_v5_apply, val_main_v4_apply, val_main_v3_apply]
  refine Finset.sum_congr rfl fun e _ => ?_
  rw [val_main_v0_apply, val_main_v2_apply, val_main_v1_apply]
  have hr := r.isLt; have hd := d.isLt; have he := e.isLt
  refine congrArg₂ (α := EReal) (β := EReal) (γ := EReal) (fun a b => a * b) (congrArg X ?_) (congrArg W ?_)
  · funext a; apply Fin.ext
    match a with
    | ⟨0, _⟩ => show (r.val * 1536 + d.val) / 3145728 = r.val / 2048; omega
    | ⟨1, _⟩ => show (r.val * 1536 + d.val) / 1536 % 2048 = r.val % 2048; omega
    | ⟨2, _⟩ => rfl
  · funext a; apply Fin.ext
    match a with
    | ⟨0, _⟩ => rfl
    | ⟨1, _⟩ => show (e.val * 12448 + (1696 + (r.val * 1536 + d.val) % 1536)) / 12448 % 2048 = e.val; omega
    | ⟨2, _⟩ => show (e.val * 12448 + (1696 + (r.val * 1536 + d.val) % 1536)) % 12448 = 1696 + d.val; omega

end Cert.Kernel5Ideal.HyenaProj

namespace Cert.Proof.HyenaProj

open Idealize.ShloMosaic Idealize.ShloMosaic.TcCoe Idealize.ShloMosaic.ValueIdx
open Idealize.SL.Sem
open Cert.Kernel5Ideal.HyenaProj

theorem frame_p : Cert.quiescent_Kernel5 := fun m ρ _ => Cert.Kernel5.Gen.frame m ρ
theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := fun m ρ m' ρ' _ hag =>
  ⟨fun c => G m c, run m ρ, (θ_run Cert.Reference5Ideal.defs _ _).mono (fun _ h c => ⟨(h c).1.trans (by
      rw [Cert.Reference5Ideal.Read.val_main_v5_eq]
      obtain ⟨e0, e1⟩ := hag c
      rw [e0, e1]
      funext i
      exact (congrArg _ (eq_ix2 i)).trans (result_apply _ _ (i 0) (i 1))), (h c).2⟩)
    (Cert.Reference5Ideal.Value.run (F := Ideal) m' ρ')⟩

end Cert.Proof.HyenaProj

end
-- ==== Proof.ConvProj.lean ====
/-
  The input projection of the Conformer branch: each row block of the tokens times the branch's columns of the combined
  projection. The columns are stored once per column block, at its first row block, and kept in scratch (`held`); the
  output blocks tile the array (`run`), and the reference's entry is the same sum (`result_apply`).
-/
module

public import proofs.«01_k».proof.Proof.MergeKernel
public import proofs.«01_k».proof.Proof.Gen.Kernel6Ideal.Value
public import proofs.«01_k».proof.Proof.Gen.Kernel6.Frame
public import proofs.«01_k».proof.Proof.Gen.Reference6Ideal.Read
public import proofs.«01_k».proof.Defs
public import Idealize.ShloMosaic.Lib.KernelVsHost
public import Idealize.ShloMosaic.Lib.Claim

@[expose] public section

set_option maxRecDepth 16384

noncomputable section

namespace Cert.Kernel6Ideal.ConvProj

open Cert.Kernel6Ideal Cert.Kernel6Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.Kernel2Ideal.MergeKernel (batch token flat_rows)
open scoped BigOperators

/-! ## The value of a block -/

/-- A row block against the cached columns. -/
def dotted (x : S1024x2048.Idx → EReal) (W : S1024x2048.Idx → EReal) : S1024x1024.Idx → EReal := fun y =>
  ∑ e : Fin 2048, x (ix2 (y 0) e) * W (ix2 (y 1) e)

/-- The column block without its leading axis: what the scratch is filled with. -/
def flat (w : S1x1024x2048.Idx → EReal) : S1024x2048.Idx → EReal := fun y => w (ix3 0 (y 0) (y 1))

theorem pay_flat (w : Vec Ideal S1x1024x2048 .f32) : k0_pay1 (F := Ideal) w = flat w := by
  unfold k0_pay1
  dsimp only
  rw [shapeCast_self]
  funext y
  refine (congrArg _ (eq_ix2 y)).trans ?_
  exact shapeCast_1ab_ab_apply w _ (y 0) (y 1)

theorem pay_dotted (x : Vec Ideal S1024x2048 .bf16) (W : Vec Ideal S1024x2048 .bf16) : k0_pay2 (F := Ideal) x W = dotted x W := by
  unfold k0_pay2
  rw [shapeCast_self]
  funext y
  obtain ⟨r, d, rfl⟩ : ∃ (r : Fin 1024) (d : Fin 1024), y = ix2 r d := ⟨y 0, y 1, eq_ix2 y⟩
  show FloatOps.matmul (DotDims.transposedRhs 1024 2048 1024) none _ _ _ (ix2 r d) = _
  rw [Ideal.matmul_transposedRhs_apply]
  show FloatOps.ofBits (F := Ideal) .f32 0x00000000#32 + _ = _
  rw [show (FloatOps.ofBits (F := Ideal) .f32 0x00000000#32 : EReal) = 0 from Ideal.ofBits_zero_f32, zero_add]
  rfl

/-! ## The run's pieces read back -/

theorem hz2 : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1024x1024 .f32) (harg4 : arg4.IsWhole) (arg5 : Memref sig .tc .vmem S1024x2048 .bf16) (harg5 : arg5.IsWhole)
variable (x0 : Vec Ideal S1024x2048 .bf16) (x1 : Vec Ideal S1x1024x2048 .f32)

/-- A point that finds the columns cached. -/
theorem out_B (hc0 : ¬cond0_0 i) (xs0 : Vec Ideal S1024x2048 .bf16) :
    out0_B_2 c i arg2 harg2 arg3 harg3 arg4 harg4 arg5 harg5 hc0 x0 x1 xs0 = dotted x0 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_cons_unit_zero (S := S1024x1024) hz2]
  simp only [View.readAt_eq_ld, harg2.read_unread, harg5.read_unread, View.ld_unit_zero (S := S1024x2048) hz2, View.ld_unit_zero (S := S1024x2048) hz2]
  exact pay_dotted x0 xs0

/-- A point that fills the cache. -/
theorem sout_A (hc0 : cond0_0 i) : sout0_A_0 c i arg2 harg2 arg3 harg3 arg4 harg4 arg5 harg5 hc0 x0 x1 = flat x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero (S := S1024x2048) hz2]
  simp only [View.readAt_eq_ld, harg3.read_unread, View.ld_unit_zero (S := S1x1024x2048) hz3]
  exact pay_flat x1

/-- A point that fills the cache, then uses it. -/
theorem out_A (hc0 : cond0_0 i) : out0_A_2 c i arg2 harg2 arg3 harg3 arg4 harg4 arg5 harg5 hc0 x0 x1 = dotted x0 (flat x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1024x1024) hz2]
  simp only [View.readAt_eq_ld, harg2.read_unread, harg3.read_unread, View.ld_unit_zero (S := S1024x2048) hz2, View.ld_unit_zero (S := S1x1024x2048) hz3]
  simp only [View.readCov_eq_canon']
  rw [View.canon_unit_zero (S := S1024x2048) hz2, pay_flat]
  have hW : (fun j => flat x1 ((Rect.unit ![0, 0] ![1024, 2048] inb_S1024x2048_S1024x2048_0_0).idx j)) = flat x1 := funext fun j => congrArg (flat x1) (funext fun a => Fin.ext (by
    match a with
    | ⟨0, _⟩ => show 0 + 1 * (j 0).val = (j 0).val; omega
    | ⟨1, _⟩ => show 0 + 1 * (j 1).val = (j 1).val; omega))
  rw [hW]
  exact pay_dotted x0 (flat x1)

end Points

/-! ## The blocks of the arguments -/

variable (m : (ℓ : Loc nD τ sig) → Buf (Elt Ideal) ℓ) (ρ : Dev nD → PrngReg)

abbrev argX (c : Dev nD) : S4x2048x2048.Idx → EReal := m ((c : Thread nD τ).loc main_arg0)
abbrev argIn (c : Dev nD) : S4x2048x12448.Idx → EReal := m ((c : Thread nD τ).loc main_arg1)

/-- The column of the combined projection for column `d` of the branch. -/
abbrev col (d : Fin 1024) : Fin 12448 := ⟨3232 + d.val, by have := d.isLt; omega⟩

/-- The projection of a token to column `d` of the branch. -/
def projAt (X : S4x2048x2048.Idx → EReal) (W : S4x2048x12448.Idx → EReal) (b : Fin 4) (s : Fin 2048) (d : Fin 1024) : EReal :=
  ∑ e : Fin 2048, X (ix3 b s e) * W (ix3 0 e (col d))

theorem tlt (t : Fin cfg0.N) : t.val < 8 := by have := t.isLt; have : cfg0.N = 8 := N_0; omega

/-- The row of a point's row `r`, and the column of a point's column `d`. -/
abbrev row (t : Fin cfg0.N) (r : Fin 1024) : Fin 8192 := ⟨1024 * (t.val % 8) + r.val, by have := r.isLt; omega⟩
abbrev chan (j : Fin 1) (d : Fin 1024) : Fin 1024 := ⟨1024 * j.val + d.val, by have := j.isLt; have := d.isLt; omega⟩
/-- The column block of a point. -/
abbrev tile (t : Fin cfg0.N) : Fin 1 := ⟨t.val / 8, by have := tlt t; omega⟩

theorem idx_0 : ∀ t : Fin cfg0.N, win0_0.index t 0 = t.val % 8 ∧ win0_0.index t 1 = 0 :=
  (by decide +kernel : ∀ t : Fin grid0.N, _)
theorem idx_1 : ∀ t : Fin cfg0.N, win0_1.index t 0 = 0 ∧ win0_1.index t 1 = 3232 + 1024 * (t.val / 8) ∧ win0_1.index t 2 = 0 :=
  (by decide +kernel : ∀ t : Fin grid0.N, _)
theorem idx_2 : ∀ t : Fin cfg0.N, win0_2.index t 0 = t.val % 8 ∧ win0_2.index t 1 = t.val / 8 :=
  (by decide +kernel : ∀ t : Fin grid0.N, _)

theorem V_0 (c : Dev nD) : V m c main_v0 = shapeCast S8192x2048 (argX m c) shapeCasts_S4x2048x2048_S8192x2048 := by entry_read; rfl
theorem V_1 (c : Dev nD) : V m c main_v1 = transpose S4x12448x2048 [0, 2, 1] (argIn m c) transposes_S4x2048x12448_S4x12448x2048_0_2_1 := by entry_read; rfl

theorem blk_0 (c : Dev nD) (t : Fin cfg0.N) (r : Fin 1024) (e : Fin 2048) :
    iblk m c 0 t (ix2 r e) = argX m c (ix3 (batch (row t r)) (token (row t r)) e) := by
  unfold iblk
  rw [View.read_apply]
  show V m c main_v0 _ = _
  rw [V_0]
  refine Eq.trans (congrArg _ ?_) (flat_rows (argX m c) _ (row t r) e)
  funext a; apply Fin.ext
  obtain ⟨h0, h1⟩ := idx_0 t
  match a with
  | ⟨0, _⟩ => show win0_0.index t 0 * 1024 + 1 * r.val = 1024 * (t.val % 8) + r.val; omega
  | ⟨1, _⟩ => show win0_0.index t 1 * 2048 + 1 * e.val = e.val; omega

theorem blk_1 (c : Dev nD) (t : Fin cfg0.N) (d : Fin 1024) (e : Fin 2048) :
    iblk m c 1 t (ix3 (0 : Fin 1) d e) = argIn m c (ix3 0 e (col (chan (tile t) d))) := by
  unfold iblk
  rw [View.read_apply]
  show V m c main_v1 _ = _
  rw [V_1]
  refine Eq.trans (congrArg _ ?_) (transpose_ix3_021_apply (argIn m c) _ 0 (col (chan (tile t) d)) e)
  funext a; apply Fin.ext
  obtain ⟨h0, h1, h2⟩ := idx_1 t
  match a with
  | ⟨0, _⟩ => show win0_1.index t 0 + 1 * 0 = 0; omega
  | ⟨1, _⟩ => show win0_1.index t 1 + 1 * d.val = 3232 + (1024 * (t.val / 8) + d.val); omega
  | ⟨2, _⟩ => show win0_1.index t 2 + 1 * e.val = e.val; omega

/-! ## The columns kept in scratch -/

/-- The columns of column block `j`. -/
def cached (c : Dev nD) (j : Fin 1) : S1024x2048.Idx → EReal := fun y => argIn m c (ix3 0 (y 1) (col (chan j (y 0))))

theorem flat_eq (c : Dev nD) (t : Fin cfg0.N) : flat (iblk m c 1 t) = cached m c (tile t) :=
  funext fun y => blk_1 m c t (y 0) (y 1)

/-- After every point the scratch holds the columns of the point's column block, and the output block the products with them. -/
theorem held (c : Dev nD) (n : ℕ) : ∀ h : n < cfg0.N,
    (outsAt0 m c n h).1 = dotted (iblk m c 0 ⟨n, h⟩) (cached m c (tile ⟨n, h⟩)) ∧ (outsAt0 m c n h).2 = cached m c (tile ⟨n, h⟩) := by
  induction n with
  | zero =>
    intro h
    rw [show outsAt0 m c 0 h = _ from outsAt0_A m c ⟨0, h⟩ rfl]
    dsimp only
    rw [out_A, sout_A, flat_eq]
    exact ⟨rfl, rfl⟩
  | succ n ih =>
    intro h
    by_cases h0 : (n + 1) % 8 = 0
    · rw [show outsAt0 m c (n + 1) h = _ from outsAt0_A m c ⟨n + 1, h⟩ h0]
      dsimp only
      rw [out_A, sout_A, flat_eq]
      exact ⟨rfl, rfl⟩
    · obtain ⟨-, ih⟩ := ih (Nat.lt_of_succ_lt h)
      have ht : tile ⟨n, Nat.lt_of_succ_lt h⟩ = tile ⟨n + 1, h⟩ := Fin.ext (by show n / 8 = (n + 1) / 8; omega)
      rw [ht] at ih
      rw [show outsAt0 m c (n + 1) h = _ from outsAt0_B m c ⟨n + 1, h⟩ h0]
      dsimp only
      rw [out_B]
      have e1 : (outsAt0 m c (n + 1 - 1) (Nat.lt_of_le_of_lt (Nat.sub_le _ _) h)).2 = cached m c (tile ⟨n + 1, h⟩) := ih
      rw [e1]
      exact ⟨rfl, rfl⟩

/-! ## The whole array -/

/-- The result array's contents. -/
def G (c : Dev nD) : Buf (Elt Ideal) ((c : Thread nD τ).loc main_v2) := fun i =>
  projAt (argX m c) (argIn m c) (batch (i 0)) (token (i 0)) (i 1)

/-- A point's block is the array's block there. -/
theorem block_at (c : Dev nD) (t : Fin cfg0.N) (r : Fin 1024) (d : Fin 1024) :
    dotted (iblk m c 0 t) (cached m c (tile t)) (ix2 r d) = projAt (argX m c) (argIn m c) (batch (row t r)) (token (row t r)) (chan (tile t) d) :=
  Finset.sum_congr rfl fun e _ => congrArg (· * argIn m c (ix3 0 e (col (chan (tile t) d)))) (blk_0 m c t r e)

theorem flushed_eq (c : Dev nD) (t : Fin cfg0.N) (_ : (cfg0.win 2).flush t = true) :
    (dats m 0 c).flushed 2 t = ((cfg0.win 2).blk t).view.read (Elt Ideal) (G m c) := by
  rw [Value.flushed2, (held m c t.val t.isLt).1]
  funext y
  rw [View.read_apply]
  obtain ⟨h0, h1⟩ := idx_2 t
  obtain ⟨r, d, rfl⟩ : ∃ (r : Fin 1024) (d : Fin 1024), y = ix2 r d := ⟨y 0, y 1, eq_ix2 y⟩
  refine (block_at m c t r d).trans ?_
  have e0 : row t r = ((cfg0.win 2).blk t).view.emb (ix2 r d) 0 := Fin.ext (by show 1024 * (t.val % 8) + r.val = win0_2.index t 0 * 1024 + 1 * r.val; omega)
  have e1 : chan (tile t) d = ((cfg0.win 2).blk t).view.emb (ix2 r d) 1 := Fin.ext (by show 1024 * (t.val / 8) + d.val = win0_2.index t 1 * 1024 + 1 * d.val; omega)
  rw [e0, e1]
  rfl

theorem final_eq (c : Dev nD) : (dats m 0 c).arrAt 2 cfg0.N = G m c :=
  (dats m 0 c).arrAt_eq_of_cover 2 (G m c) (flushed_eq m c) fun i => (Value.covered_iff2 i).2 (by
    have i0 : (i 0 : Nat) < 8192 := (i 0).isLt
    have i1 : (i 1 : Nat) < 1024 := (i 1).isLt
    omega)

/-- The run: the result array at `G`, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (final_eq m c), (h c).2⟩) (Value.run_blocks m ρ)

/-! ## The reference -/

open Cert.Reference6Ideal.Read in
/-- The reference's entry at row `r` and column `d` is the same sum. -/
theorem result_apply (X : S4x2048x2048.Idx → EReal) (W : S4x2048x12448.Idx → EReal) (r : Fin 8192) (d : Fin 1024) :
    val_main_v5 (F := Ideal) X W (ix2 r d) = projAt X W (batch r) (token r) d := by
  rw [val_main_v5_apply, val_main_v4_apply, val_main_v3_apply]
  refine Finset.sum_congr rfl fun e _ => ?_
  rw [val_main_v0_apply, val_main_v2_apply, val_main_v1_apply]
  have hr := r.isLt; have hd := d.isLt; have he := e.isLt
  refine congrArg₂ (α := EReal) (β := EReal) (γ := EReal) (fun a b => a * b) (congrArg X ?_) (congrArg W ?_)
  · funext a; apply Fin.ext
    match a with
    | ⟨0, _⟩ => show (r.val * 1024 + d.val) / 2097152 = r.val / 2048; omega
    | ⟨1, _⟩ => show (r.val * 1024 + d.val) / 1024 % 2048 = r.val % 2048; omega
    | ⟨2, _⟩ => rfl
  · funext a; apply Fin.ext
    match a with
    | ⟨0, _⟩ => rfl
    | ⟨1, _⟩ => show (e.val * 12448 + (3232 + (r.val * 1024 + d.val) % 1024)) / 12448 % 2048 = e.val; omega
    | ⟨2, _⟩ => show (e.val * 12448 + (3232 + (r.val * 1024 + d.val) % 1024)) % 12448 = 3232 + d.val; omega

end Cert.Kernel6Ideal.ConvProj

namespace Cert.Proof.ConvProj

open Idealize.ShloMosaic Idealize.ShloMosaic.TcCoe Idealize.ShloMosaic.ValueIdx
open Idealize.SL.Sem
open Cert.Kernel6Ideal.ConvProj

theorem frame_p : Cert.quiescent_Kernel6 := fun m ρ _ => Cert.Kernel6.Gen.frame m ρ
theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := fun m ρ m' ρ' _ hag =>
  ⟨fun c => G m c, run m ρ, (θ_run Cert.Reference6Ideal.defs _ _).mono (fun _ h c => ⟨(h c).1.trans (by
      rw [Cert.Reference6Ideal.Read.val_main_v5_eq]
      obtain ⟨e0, e1⟩ := hag c
      rw [e0, e1]
      funext i
      exact (congrArg _ (eq_ix2 i)).trans (result_apply _ _ (i 0) (i 1))), (h c).2⟩)
    (Cert.Reference6Ideal.Value.run (F := Ideal) m' ρ')⟩

end Cert.Proof.ConvProj

end
-- ==== Proof.MlaBlock.lean ====
/-
  What the latent attention's call writes at one grid point. Its point is the grouped-query attention's but for the scale,
  `1 / (√96 · log 2)`: the scores and the row tops are that kernel's, the weights and the output rows are read off here.
-/
module

public import proofs.«01_k».proof.Proof.AttentionBlock
public import proofs.«01_k».proof.Proof.Gen.Kernel7Ideal.Frame

@[expose] public section

set_option maxRecDepth 16384

noncomputable section

namespace Cert.Kernel7Ideal.MlaBlock

open Cert.Kernel7Ideal Cert.Kernel7Ideal.Gen Idealize.ShloMosaic.TcCoe Idealize.ShloMosaic.ValueIdx
open Idealize.ShloMosaic
open Idealize.SL Idealize.SL.Sem
open Cert.AttentionMath
open Cert.KernelIdeal.AttentionBlock (zeroBits score rowSum spread_apply rowTop)
open scoped BigOperators

/-- The scale named in the kernel: `1 / (√96 · log 2)`. -/
def c2 : EReal := (((Real.sqrt 96)⁻¹ * (Real.log 2)⁻¹ : ℝ) : EReal)

theorem scale_eq : (Named.named (F := Ideal) κ "scale_log2e" (φ := .f32) 0x3E16C740#32 : EReal) = c2 :=
  IdealRules.named_const.ideal_named_scalar κ "scale_log2e" _ c2 rfl

variable (q : Vec Ideal S1x256x128 .bf16) (kx vx : Vec Ideal S1x2048x128 .bf16) (kc vc : Vec Ideal S1x256x128 .bf16)

theorem score_x (r : Fin 256) (k : Fin 2048) : k0_pay3 (F := Ideal) q kx (ix2 r k) = score q kx r k :=
  Cert.KernelIdeal.AttentionBlock.score_x q kx r k

theorem score_c (r : Fin 256) (k : Fin 256) : k0_pay4 (F := Ideal) q kc (ix2 r k) = score q kc r k :=
  Cert.KernelIdeal.AttentionBlock.score_c q kc r k

theorem top_apply (r : Fin 256) (u : Fin 1) : k0_pay5 (F := Ideal) q kx kc (ix2 r u) = rowTop q kx kc r :=
  Cert.KernelIdeal.AttentionBlock.top_apply q kx kc r u

theorem weight_x (r : Fin 256) (k : Fin 2048) :
    k0_pay6 (F := Ideal) q kx kc (ix2 r k) = Ideal.exp2 ((score q kx r k - rowTop q kx kc r) * c2) := by
  unfold k0_pay6
  show Ideal.exp2 ((k0_pay3 q kx (ix2 r k) - broadcastTo S256x2048 (k0_pay5 q kx kc) broadcasts_S256x1_S256x2048 (ix2 r k)) * Named.named (F := Ideal) κ "scale_log2e" (φ := .f32) 0x3E16C740#32) = _
  rw [score_x, spread_apply, top_apply, scale_eq]

theorem weight_c (r : Fin 256) (k : Fin 256) :
    k0_pay9 (F := Ideal) q kx kc (ix2 r k) = Ideal.exp2 ((score q kc r k - rowTop q kx kc r) * c2) := by
  unfold k0_pay9
  show Ideal.exp2 ((k0_pay4 q kc (ix2 r k) - broadcastTo S256x256 (k0_pay5 q kx kc) broadcasts_S256x1_S256x256 (ix2 r k)) * Named.named (F := Ideal) κ "scale_log2e" (φ := .f32) 0x3E16C740#32) = _
  rw [score_c, spread_apply, top_apply, scale_eq]

/-- What the kernel stores for 256 query rows. -/
def rows : Vec Ideal S1x256x128 .bf16 :=
  k0_pay12 (F := Ideal) (k0_pay7 q kx kc) (k0_pay8 q kx kc vx) (k0_pay10 q kx kc) (k0_pay11 q kx kc) vc

/-- One entry of it: the softmax of the row's scores over both groups of keys, against column `d` of the values. -/
theorem rows_apply (u : Fin 1) (r : Fin 256) (d : Fin 128) :
    rows q kx vx kc vc (ix3 u r d)
      = fused c2 (score q kx r) (fun k => vx (ix3 0 k d)) (score q kc r) (fun k => vc (ix3 0 k d)) := by
  unfold rows k0_pay12
  rw [shapeCast_ab_1ab_apply]
  show Ideal.div (k0_pay8 q kx kc vx (ix2 r d) + FloatOps.matmul (DotDims.plain 256 256 128) none (k0_pay11 q kx kc) _ _ (ix2 r d)) (broadcastTo S256x128 (addf (k0_pay7 q kx kc) (k0_pay10 q kx kc)) broadcasts_S256x1_S256x128 (ix2 r d)) = _
  rw [spread_apply, Ideal.matmul_plain_apply]
  show Ideal.div (k0_pay8 q kx kc vx (ix2 r d) + (FloatOps.ofBits (F := Ideal) .f32 0x00000000#32 + _)) (k0_pay7 q kx kc (ix2 r 0) + k0_pay10 q kx kc (ix2 r 0)) = _
  unfold k0_pay8 k0_pay7 k0_pay10 k0_pay11 fused
  rw [show (matmul (F := Ideal) dot_S256x2048_S2048x128_S256x128_1_0_0_1_n_n none (truncf .bf16 (k0_pay6 q kx kc) bitsLt_bf16_f32) (shapeCast S2048x128 vx shapeCasts_S1x2048x128_S2048x128) (constant S256x128 .f32 0x00000000#32) (ix2 r d))
      = FloatOps.matmul (F := Ideal) (DotDims.plain 256 2048 128) none (truncf .bf16 (k0_pay6 q kx kc) bitsLt_bf16_f32) (shapeCast S2048x128 vx shapeCasts_S1x2048x128_S2048x128) (constant S256x128 .f32 0x00000000#32) (ix2 r d) from rfl]
  rw [Ideal.matmul_plain_apply]
  show Ideal.div ((FloatOps.ofBits (F := Ideal) .f32 0x00000000#32 + ∑ k : Fin 2048, k0_pay6 q kx kc (ix2 r k) * _) + (FloatOps.ofBits (F := Ideal) .f32 0x00000000#32 + ∑ k : Fin 256, k0_pay9 q kx kc (ix2 r k) * _)) _ = _
  rw [zeroBits, zero_add, zero_add]
  congr 1
  · congr 1
    · refine Finset.sum_congr rfl fun k _ => ?_
      rw [weight_x, shapeCast_1ab_ab_apply]; rfl
    · refine Finset.sum_congr rfl fun k _ => ?_
      rw [weight_c, shapeCast_1ab_ab_apply]; rfl
  · congr 1
    · refine (rowSum _ _ _ _ _ r 0).trans (Finset.sum_congr rfl fun k _ => ?_)
      rw [weight_x]; rfl
    · refine (rowSum _ _ _ _ _ r 0).trans (Finset.sum_congr rfl fun k _ => ?_)
      rw [weight_c]; rfl

end Cert.Kernel7Ideal.MlaBlock

end
-- ==== Proof.MlaKernel.lean ====
/-
  The latent attention's result array, entry by entry. The host widens each 96-wide head of the queries and keys to 128
  lanes with zeros; those lanes add nothing to a score (`score_padded`), so a point's scores are those of the heads
  themselves (`block_at`), and the sixteen output blocks tile the array (`run`).
-/
module

public import proofs.«01_k».proof.Proof.MlaBlock
public import proofs.«01_k».proof.Proof.Gen.Kernel7Ideal.Value
public import Idealize.ShloMosaic.Lib.KernelVsHost
public import Idealize.ShloMosaic.Lib.Claim

@[expose] public section

set_option maxRecDepth 16384

noncomputable section

namespace Cert.Kernel7Ideal.MlaKernel

open Cert.Kernel7Ideal Cert.Kernel7Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.AttentionMath Cert.Kernel7Ideal.MlaBlock
open Cert.KernelIdeal.AttentionBlock (score)
open scoped BigOperators

/-! ## One grid point -/

variable (x0 x1 x2 : Vec Ideal S1x2048x128 .bf16) (x3 x4 : Vec Ideal S1x256x128 .bf16)

/-- What a point's output block holds at an index. -/
def block : Vec Ideal S1x2048x128 .bf16 := fun y =>
  fused c2 (score x0 x1 (y 1)) (fun k => x2 (ix3 0 k (y 2))) (score x0 x3 (y 1)) (fun k => x4 (ix3 0 k (y 2)))

/-- A store of `rows` for the query rows from `o` on is a block of it. -/
theorem rows_piece (o : ℕ) (inb : ∀ a, (![0, o, 0] : Fin 3 → ℕ) a + S1x256x128.size a ≤ S1x2048x128.size a) (x : S1x256x128.Idx) :
    rows (View.ld x0 (Rect.unit (s := S1x2048x128) ![0, o, 0] S1x256x128.size inb)) x1 x2 x3 x4 x
      = block x0 x1 x2 x3 x4 ((Rect.unit (s := S1x2048x128) ![0, o, 0] S1x256x128.size inb).emb x) := by
  have hx : x = ix3 (x 0) (x 1) (x 2) := eq_ix3 x
  have hr : ∀ e : Fin 128, (Rect.unit (s := S1x2048x128) ![0, o, 0] S1x256x128.size inb).idx (ix3 (0 : Fin 1) (x 1) e)
      = ix3 (0 : Fin 1) ((Rect.unit (s := S1x2048x128) ![0, o, 0] S1x256x128.size inb).emb x 1) e := by
    intro e; funext a; apply Fin.ext
    match a with
    | ⟨0, _⟩ => rfl
    | ⟨1, _⟩ => rfl
    | ⟨2, _⟩ => show 0 + 1 * e.val = e.val; omega
  have hd : (Rect.unit (s := S1x2048x128) ![0, o, 0] S1x256x128.size inb).emb x 2 = x 2 := Fin.ext (by show 0 + 1 * (x 2).val = (x 2).val; omega)
  refine (congrArg _ hx).trans ((rows_apply _ _ _ _ _ (x 0) (x 1) (x 2)).trans ?_)
  unfold block
  rw [hd]
  have hs : ∀ {b : ℕ} (K : (⟨3, ![1, b, 128]⟩ : Shape).Idx → EReal),
      score (View.ld x0 (Rect.unit (s := S1x2048x128) ![0, o, 0] S1x256x128.size inb)) K (x 1)
        = score x0 K ((Rect.unit (s := S1x2048x128) ![0, o, 0] S1x256x128.size inb).emb x 1) := by
    intro b K; funext k
    refine Finset.sum_congr rfl fun e _ => ?_
    show x0 ((Rect.unit (s := S1x2048x128) ![0, o, 0] S1x256x128.size inb).idx (ix3 (0 : Fin 1) (x 1) e)) * _ = _
    rw [hr e]; rfl
  exact congrArg₂ (fun s t => fused c2 s (fun k => x2 (ix3 0 k (x 2))) t (fun k => x4 (ix3 0 k (x 2)))) (hs x1) (hs x3)

theorem hz : (![0, 0, 0] : Fin 3 → Nat) = fun _ => 0 := funext fun a => by fin_cases a <;> rfl

theorem block_eq : out0_5 x0 x1 x2 x3 x4 = block x0 x1 x2 x3 x4 := by
  unfold out0_5
  rw [show View.ld x1 r0_1 = x1 from View.ld_unit_zero (S := S1x2048x128) hz _ x1, show View.ld x2 r0_1 = x2 from View.ld_unit_zero (S := S1x2048x128) hz _ x2,
    show View.ld x3 r0_2 = x3 from View.ld_unit_zero (S := S1x256x128) hz _ x3, show View.ld x4 r0_2 = x4 from View.ld_unit_zero (S := S1x256x128) hz _ x4]
  funext y
  have h := View.canon_append_of_piecesOf (Val := Elt Ideal) (block x0 x1 x2 x3 x4) []
    [⟨r0_9, rows (View.ld x0 r0_9) x1 x2 x3 x4⟩, ⟨r0_8, rows (View.ld x0 r0_8) x1 x2 x3 x4⟩, ⟨r0_7, rows (View.ld x0 r0_7) x1 x2 x3 x4⟩,
      ⟨r0_6, rows (View.ld x0 r0_6) x1 x2 x3 x4⟩, ⟨r0_5, rows (View.ld x0 r0_5) x1 x2 x3 x4⟩, ⟨r0_4, rows (View.ld x0 r0_4) x1 x2 x3 x4⟩,
      ⟨r0_3, rows (View.ld x0 r0_3) x1 x2 x3 x4⟩, ⟨r0_0, rows (View.ld x0 r0_0) x1 x2 x3 x4⟩]
    ⟨rows_piece x0 x1 x2 x3 x4 _ _, rows_piece x0 x1 x2 x3 x4 _ _, rows_piece x0 x1 x2 x3 x4 _ _, rows_piece x0 x1 x2 x3 x4 _ _,
      rows_piece x0 x1 x2 x3 x4 _ _, rows_piece x0 x1 x2 x3 x4 _ _, rows_piece x0 x1 x2 x3 x4 _ _, rows_piece x0 x1 x2 x3 x4 _ _, trivial⟩ y (cover0_5 _ _ _ _ _ _ _ _ y)
  rw [List.append_nil] at h
  exact h

/-! ## Heads widened with zeros -/

/-- The head of lane `z`. -/
abbrev head (z : Fin 512) : Fin 4 := ⟨z.val / 128, by have := z.isLt; omega⟩

/-- The heads side by side, each widened from 96 to 128 lanes with zeros. -/
def padded {n : ℕ} (X : (⟨4, ![4, n, 4, 96]⟩ : Shape).Idx → EReal) : (⟨3, ![4, n, 512]⟩ : Shape).Idx → EReal := fun i =>
  if h : (i 2).val % 128 < 96 then X (ix4 (i 0) (i 1) (head (i 2)) ⟨(i 2).val % 128, h⟩) else 0

/-- What the host's pad and reshape hold. -/
theorem lanes_apply {n : ℕ} {u : Shape} (X : (⟨4, ![4, n, 4, 96]⟩ : Shape).Idx → EReal) (v : u.Idx → EReal)
    (hp : (⟨4, ![4, n, 4, 96]⟩ : Shape).Pads (![0, 0, 0, 0] : Fin 4 → Nat) ![0, 0, 0, 32] ![0, 0, 0, 0] ⟨4, ![4, n, 4, 128]⟩) (hu : 0 < u.numel)
    (hc : (⟨4, ![4, n, 4, 128]⟩ : Shape).ShapeCasts ⟨3, ![4, n, 512]⟩) (hv : v (Shape.Idx.first hu) = 0) (i : (⟨3, ![4, n, 512]⟩ : Shape).Idx) :
    shapeCast ⟨3, ![4, n, 512]⟩ (pad ⟨4, ![4, n, 4, 128]⟩ ![0, 0, 0, 0] ![0, 0, 0, 32] ![0, 0, 0, 0] X v hp hu) hc i = padded X i := by
  obtain ⟨b, k, z, rfl⟩ : ∃ (b : Fin 4) (k : Fin n) (z : Fin 512), i = ix3 b k z := ⟨i 0, i 1, i 2, eq_ix3 i⟩
  have hz := z.isLt
  rw [shapeCast_apply _ hc (ix3 b k z) (ix4 b k (head z) (⟨z.val % 128, Nat.mod_lt _ (by decide)⟩ : Fin 128)) (by
    rewrite [Shape.rowMajor_val_three, Shape.rowMajor_val_four]
    show ((b.val * n + k.val) * 4 + z.val / 128) * 128 + z.val % 128 = (b.val * n + k.val) * 512 + z.val
    omega)]
  unfold padded
  by_cases h : z.val % 128 < 96
  · rw [dif_pos (show ((ix3 b k z : (⟨3, ![4, n, 512]⟩ : Shape).Idx) 2).val % 128 < 96 from h)]
    refine pad_apply_of_inside _ _ _ X v hp hu _ (ix4 b k (head z) ⟨z.val % 128, h⟩) fun a => ?_
    match a with
    | ⟨0, _⟩ => show b.val = 0 + b.val * (0 + 1); omega
    | ⟨1, _⟩ => show k.val = 0 + k.val * (0 + 1); omega
    | ⟨2, _⟩ => show z.val / 128 = 0 + z.val / 128 * (0 + 1); omega
    | ⟨3, _⟩ => show z.val % 128 = 0 + z.val % 128 * (0 + 1); omega
  · rw [dif_neg (show ¬((ix3 b k z : (⟨3, ![4, n, 512]⟩ : Shape).Idx) 2).val % 128 < 96 from h)]
    refine (pad_apply_of_not_inside _ _ _ X v hp hu _ 3 fun ⟨_, _, h3⟩ => h ?_).trans hv
    have h3 : (z.val % 128 - 0) / (0 + 1) < 96 := h3
    omega

/-- Query `(b, r)` of the head of lane `z` against key `k` of `n` keys. -/
def headScore {n : ℕ} (Q : S4x2048x4x96.Idx → EReal) (K : (⟨4, ![4, n, 4, 96]⟩ : Shape).Idx → EReal) (b : Fin 4) (r : Fin 2048) (h : Fin 4) (k : Fin n) : EReal :=
  ∑ e : Fin 96, Q (ix4 b r h e) * K (ix4 b k h e)

/-- The zero lanes add nothing to a score. -/
theorem score_padded {n : ℕ} (Q : S4x2048x4x96.Idx → EReal) (K : (⟨4, ![4, n, 4, 96]⟩ : Shape).Idx → EReal) (b : Fin 4) (r : Fin 2048) (h : Fin 4) (k : Fin n) :
    ∑ e : Fin 128, padded Q (ix3 b r (⟨128 * h.val + e.val, by have := h.isLt; have := e.isLt; omega⟩ : Fin 512)) * padded K (ix3 b k (⟨128 * h.val + e.val, by have := h.isLt; have := e.isLt; omega⟩ : Fin 512))
      = headScore Q K b r h k := by
  have inside : ∀ {l : ℕ} (X : (⟨4, ![4, l, 4, 96]⟩ : Shape).Idx → EReal) (s : Fin l) (e : Fin 96),
      padded X (ix3 b s (⟨128 * h.val + e.val, by have := h.isLt; have := e.isLt; omega⟩ : Fin 512)) = X (ix4 b s h e) := by
    intro l X s e
    have he := e.isLt
    have hm : (128 * h.val + e.val) % 128 = e.val := by omega
    unfold padded
    refine (dif_pos (show (128 * h.val + e.val) % 128 < 96 by omega)).trans (congrArg X ?_)
    funext a; apply Fin.ext
    match a with
    | ⟨0, _⟩ => rfl
    | ⟨1, _⟩ => rfl
    | ⟨2, _⟩ => show (128 * h.val + e.val) / 128 = h.val; omega
    | ⟨3, _⟩ => exact hm
  have outside : ∀ {l : ℕ} (X : (⟨4, ![4, l, 4, 96]⟩ : Shape).Idx → EReal) (s : Fin l) (e : Fin 32),
      padded X (ix3 b s (⟨128 * h.val + (96 + e.val), by have := h.isLt; have := e.isLt; omega⟩ : Fin 512)) = 0 := by
    intro l X s e
    have he := e.isLt
    exact dif_neg (show ¬(128 * h.val + (96 + e.val)) % 128 < 96 by omega)
  refine (Fin.sum_univ_add (a := 96) (b := 32) _).trans ?_
  refine (congrArg₂ (fun a b : EReal => a + b) (Finset.sum_congr rfl fun e _ => ?_) (Finset.sum_eq_zero fun e _ => ?_)).trans (add_zero _)
  · exact congrArg₂ (α := EReal) (β := EReal) (γ := EReal) (fun a b => a * b) (inside Q r e) (inside K k e)
  · exact (congrArg₂ (α := EReal) (β := EReal) (γ := EReal) (fun a b => a * b) (outside Q r e) (outside K k e)).trans (mul_zero _)

/-! ## The blocks of the arguments -/

variable (m : (ℓ : Loc nD τ sig) → Buf (Elt Ideal) ℓ) (ρ : Dev nD → PrngReg)

/-- Argument arrays as functions of an index. -/
abbrev argQ (c : Dev nD) : S4x2048x4x96.Idx → EReal := m ((c : Thread nD τ).loc main_arg0)
abbrev argKx (c : Dev nD) : S4x2048x4x96.Idx → EReal := m ((c : Thread nD τ).loc main_arg1)
abbrev argVx (c : Dev nD) : S4x2048x512.Idx → EReal := m ((c : Thread nD τ).loc main_arg2)
abbrev argKc (c : Dev nD) : S4x256x4x96.Idx → EReal := m ((c : Thread nD τ).loc main_arg3)
abbrev argVc (c : Dev nD) : S4x256x512.Idx → EReal := m ((c : Thread nD τ).loc main_arg4)

/-- The batch of a point, and the lane of a point's lane `e`. -/
abbrev batch (t : Fin cfg0.N) : Fin 4 := ⟨t.val / 4, by have := t.isLt; have : cfg0.N = 16 := N_0; omega⟩
abbrev lane (t : Fin cfg0.N) (e : Fin 128) : Fin 512 := ⟨128 * (t.val % 4) + e.val, by have := e.isLt; omega⟩

/-- The whole result: at batch `b`, query `r`, lane `z`, the softmax over the token keys and the context keys. -/
def result (Q Kx : S4x2048x4x96.Idx → EReal) (Vx : S4x2048x512.Idx → EReal) (Kc : S4x256x4x96.Idx → EReal) (Vc : S4x256x512.Idx → EReal) (b : Fin 4) (r : Fin 2048) (z : Fin 512) : EReal :=
  fused c2 (headScore Q Kx b r (head z)) (fun k => Vx (ix3 b k z)) (headScore Q Kc b r (head z)) (fun k => Vc (ix3 b k z))

theorem idx_q : ∀ t : Fin cfg0.N, win0_0.index t 0 = t.val / 4 ∧ win0_0.index t 1 = 0 ∧ win0_0.index t 2 = t.val % 4 :=
  (by decide +kernel : ∀ t : Fin grid0.N, _)
theorem idx_kx : ∀ t : Fin cfg0.N, win0_1.index t 0 = t.val / 4 ∧ win0_1.index t 1 = 0 ∧ win0_1.index t 2 = t.val % 4 :=
  (by decide +kernel : ∀ t : Fin grid0.N, _)
theorem idx_vx : ∀ t : Fin cfg0.N, win0_2.index t 0 = t.val / 4 ∧ win0_2.index t 1 = 0 ∧ win0_2.index t 2 = t.val % 4 :=
  (by decide +kernel : ∀ t : Fin grid0.N, _)
theorem idx_kc : ∀ t : Fin cfg0.N, win0_3.index t 0 = t.val / 4 ∧ win0_3.index t 1 = 0 ∧ win0_3.index t 2 = t.val % 4 :=
  (by decide +kernel : ∀ t : Fin grid0.N, _)
theorem idx_vc : ∀ t : Fin cfg0.N, win0_4.index t 0 = t.val / 4 ∧ win0_4.index t 1 = 0 ∧ win0_4.index t 2 = t.val % 4 :=
  (by decide +kernel : ∀ t : Fin grid0.N, _)
theorem idx_o : ∀ t : Fin cfg0.N, win0_5.index t 0 = t.val / 4 ∧ win0_5.index t 1 = 0 ∧ win0_5.index t 2 = t.val % 4 :=
  (by decide +kernel : ∀ t : Fin grid0.N, _)

theorem sitofp_zero : (sitofp (F := Ideal) .bf16 (constantI S_ 32 0#32) : S_.Idx → EReal) (Shape.Idx.first h_S_) = 0 :=
  Idealize.ShloMosaic.sitofp_zero

theorem V_q (c : Dev nD) : V m c main_v1 = shapeCast S4x2048x512 (pad S4x2048x4x128 ![0, 0, 0, 0] ![0, 0, 0, 32] ![0, 0, 0, 0] (argQ m c) (sitofp (F := Ideal) .bf16 (constantI S_ 32 0#32)) pads_S4x2048x4x96_S4x2048x4x128_000_000_000_0320 h_S_) shapeCasts_S4x2048x4x128_S4x2048x512 := by entry_read; rfl
theorem V_kx (c : Dev nD) : V m c main_v3 = shapeCast S4x2048x512 (pad S4x2048x4x128 ![0, 0, 0, 0] ![0, 0, 0, 32] ![0, 0, 0, 0] (argKx m c) (sitofp (F := Ideal) .bf16 (constantI S_ 32 0#32)) pads_S4x2048x4x96_S4x2048x4x128_000_000_000_0320 h_S_) shapeCasts_S4x2048x4x128_S4x2048x512 := by entry_read; rfl
theorem V_kc (c : Dev nD) : V m c main_v5 = shapeCast S4x256x512 (pad S4x256x4x128 ![0, 0, 0, 0] ![0, 0, 0, 32] ![0, 0, 0, 0] (argKc m c) (sitofp (F := Ideal) .bf16 (constantI S_ 32 0#32)) pads_S4x256x4x96_S4x256x4x128_000_000_000_0320 h_S_) shapeCasts_S4x256x4x128_S4x256x512 := by entry_read; rfl

theorem blk_q (c : Dev nD) (t : Fin cfg0.N) (r : Fin 2048) (e : Fin 128) :
    iblk m c 0 t (ix3 (0 : Fin 1) r e) = padded (argQ m c) (ix3 (batch t) r (lane t e)) := by
  unfold iblk
  rw [View.read_apply]
  show V m c main_v1 _ = _
  rw [V_q]
  refine Eq.trans (congrArg _ ?_) (lanes_apply (argQ m c) _ _ _ _ sitofp_zero _)
  funext a; apply Fin.ext
  obtain ⟨h0, h1, h2⟩ := idx_q t
  match a with
  | ⟨0, _⟩ => show win0_0.index t 0 * 1 + 1 * 0 = t.val / 4; omega
  | ⟨1, _⟩ => show win0_0.index t 1 * 2048 + 1 * r.val = r.val; omega
  | ⟨2, _⟩ => show win0_0.index t 2 * 128 + 1 * e.val = 128 * (t.val % 4) + e.val; omega

theorem blk_kx (c : Dev nD) (t : Fin cfg0.N) (k : Fin 2048) (e : Fin 128) :
    iblk m c 1 t (ix3 (0 : Fin 1) k e) = padded (argKx m c) (ix3 (batch t) k (lane t e)) := by
  unfold iblk
  rw [View.read_apply]
  show V m c main_v3 _ = _
  rw [V_kx]
  refine Eq.trans (congrArg _ ?_) (lanes_apply (argKx m c) _ _ _ _ sitofp_zero _)
  funext a; apply Fin.ext
  obtain ⟨h0, h1, h2⟩ := idx_kx t
  match a with
  | ⟨0, _⟩ => show win0_1.index t 0 * 1 + 1 * 0 = t.val / 4; omega
  | ⟨1, _⟩ => show win0_1.index t 1 * 2048 + 1 * k.val = k.val; omega
  | ⟨2, _⟩ => show win0_1.index t 2 * 128 + 1 * e.val = 128 * (t.val % 4) + e.val; omega

theorem blk_vx (c : Dev nD) (t : Fin cfg0.N) (k : Fin 2048) (e : Fin 128) :
    iblk m c 2 t (ix3 (0 : Fin 1) k e) = argVx m c (ix3 (batch t) k (lane t e)) := by
  unfold iblk
  rw [View.read_apply]
  show V m c main_arg2 _ = _
  rw [V_main_arg2]
  refine congrArg (argVx m c) ?_
  funext a; apply Fin.ext
  obtain ⟨h0, h1, h2⟩ := idx_vx t
  match a with
  | ⟨0, _⟩ => show win0_2.index t 0 * 1 + 1 * 0 = t.val / 4; omega
  | ⟨1, _⟩ => show win0_2.index t 1 * 2048 + 1 * k.val = k.val; omega
  | ⟨2, _⟩ => show win0_2.index t 2 * 128 + 1 * e.val = 128 * (t.val % 4) + e.val; omega

theorem blk_kc (c : Dev nD) (t : Fin cfg0.N) (k : Fin 256) (e : Fin 128) :
    iblk m c 3 t (ix3 (0 : Fin 1) k e) = padded (argKc m c) (ix3 (batch t) k (lane t e)) := by
  unfold iblk
  rw [View.read_apply]
  show V m c main_v5 _ = _
  rw [V_kc]
  refine Eq.trans (congrArg _ ?_) (lanes_apply (argKc m c) _ _ _ _ sitofp_zero _)
  funext a; apply Fin.ext
  obtain ⟨h0, h1, h2⟩ := idx_kc t
  match a with
  | ⟨0, _⟩ => show win0_3.index t 0 * 1 + 1 * 0 = t.val / 4; omega
  | ⟨1, _⟩ => show win0_3.index t 1 * 256 + 1 * k.val = k.val; omega
  | ⟨2, _⟩ => show win0_3.index t 2 * 128 + 1 * e.val = 128 * (t.val % 4) + e.val; omega

theorem blk_vc (c : Dev nD) (t : Fin cfg0.N) (k : Fin 256) (e : Fin 128) :
    iblk m c 4 t (ix3 (0 : Fin 1) k e) = argVc m c (ix3 (batch t) k (lane t e)) := by
  unfold iblk
  rw [View.read_apply]
  show V m c main_arg4 _ = _
  rw [V_main_arg4]
  refine congrArg (argVc m c) ?_
  funext a; apply Fin.ext
  obtain ⟨h0, h1, h2⟩ := idx_vc t
  match a with
  | ⟨0, _⟩ => show win0_4.index t 0 * 1 + 1 * 0 = t.val / 4; omega
  | ⟨1, _⟩ => show win0_4.index t 1 * 256 + 1 * k.val = k.val; omega
  | ⟨2, _⟩ => show win0_4.index t 2 * 128 + 1 * e.val = 128 * (t.val % 4) + e.val; omega

/-! ## The whole array -/

/-- The result array's contents. -/
def G (c : Dev nD) : Buf (Elt Ideal) ((c : Thread nD τ).loc main_v6) := fun i =>
  result (argQ m c) (argKx m c) (argVx m c) (argKc m c) (argVc m c) (i 0) (i 1) (i 2)

/-- A point's block is the array's block there. -/
theorem block_at (c : Dev nD) (t : Fin cfg0.N) (y : S1x2048x128.Idx) (i : S4x2048x512.Idx)
    (h0 : (i 0).val = t.val / 4) (h1 : (i 1).val = (y 1).val) (h2 : (i 2).val = 128 * (t.val % 4) + (y 2).val) :
    block (iblk m c 0 t) (iblk m c 1 t) (iblk m c 2 t) (iblk m c 3 t) (iblk m c 4 t) y
      = result (argQ m c) (argKx m c) (argVx m c) (argKc m c) (argVc m c) (i 0) (i 1) (i 2) := by
  have hy : (y 2).val < 128 := (y 2).isLt
  have hb : batch t = i 0 := Fin.ext h0.symm
  have hr : (y 1 : Fin 2048) = i 1 := Fin.ext h1.symm
  have hh : (⟨t.val % 4, Nat.mod_lt _ (by decide)⟩ : Fin 4) = head (i 2) := Fin.ext (by show t.val % 4 = (i 2).val / 128; omega)
  have hl : lane t (y 2) = i 2 := Fin.ext h2.symm
  unfold block result
  have e1 : score (iblk m c 0 t) (iblk m c 1 t) (y 1) = headScore (argQ m c) (argKx m c) (i 0) (i 1) (head (i 2)) := by
    funext k
    rw [← hb, ← hr, ← hh]
    exact (Finset.sum_congr rfl fun e _ => congrArg₂ (α := EReal) (β := EReal) (γ := EReal) (fun a b => a * b) (blk_q m c t (y 1) e) (blk_kx m c t k e)).trans
      (score_padded (argQ m c) (argKx m c) (batch t) (y 1) ⟨t.val % 4, Nat.mod_lt _ (by decide)⟩ k)
  have e2 : score (iblk m c 0 t) (iblk m c 3 t) (y 1) = headScore (argQ m c) (argKc m c) (i 0) (i 1) (head (i 2)) := by
    funext k
    rw [← hb, ← hr, ← hh]
    exact (Finset.sum_congr rfl fun e _ => congrArg₂ (α := EReal) (β := EReal) (γ := EReal) (fun a b => a * b) (blk_q m c t (y 1) e) (blk_kc m c t k e)).trans
      (score_padded (argQ m c) (argKc m c) (batch t) (y 1) ⟨t.val % 4, Nat.mod_lt _ (by decide)⟩ k)
  have e3 : (fun k : Fin 2048 => iblk m c 2 t (ix3 (0 : Fin 1) k (y 2))) = fun k => argVx m c (ix3 (i 0) k (i 2)) := by
    funext k
    refine (blk_vx m c t k (y 2)).trans ?_
    rw [hb, hl]
  have e4 : (fun k : Fin 256 => iblk m c 4 t (ix3 (0 : Fin 1) k (y 2))) = fun k => argVc m c (ix3 (i 0) k (i 2)) := by
    funext k
    refine (blk_vc m c t k (y 2)).trans ?_
    rw [hb, hl]
  rw [← e1, ← e2, ← e3, ← e4]

theorem flushed_eq (c : Dev nD) (t : Fin cfg0.N) (_ : (cfg0.win 5).flush t = true) :
    (dats m 0 c).flushed 5 t = ((cfg0.win 5).blk t).view.read (Elt Ideal) (G m c) := by
  rw [Value.flushed5, block_eq]
  funext y
  rw [View.read_apply]
  obtain ⟨h0, h1, h2⟩ := idx_o t
  refine block_at m c t y _ ?_ ?_ ?_
  · show win0_5.index t 0 * 1 + 1 * (y 0).val = t.val / 4
    have : (y 0).val < 1 := (y 0).isLt
    omega
  · show win0_5.index t 1 * 2048 + 1 * (y 1).val = (y 1).val; omega
  · show win0_5.index t 2 * 128 + 1 * (y 2).val = 128 * (t.val % 4) + (y 2).val; omega

theorem final_eq (c : Dev nD) : (dats m 0 c).arrAt 5 cfg0.N = G m c :=
  (dats m 0 c).arrAt_eq_of_cover 5 (G m c) (flushed_eq m c) fun i => by
    have i0 : (i 0 : Nat) < 4 := (i 0).isLt
    have i1 : (i 1 : Nat) < 2048 := (i 1).isLt
    have i2 : (i 2 : Nat) < 512 := (i 2).isLt
    have hN : cfg0.N = 16 := N_0
    have hf : ∀ t : Fin cfg0.N, (cfg0.win 5).flush t = true := (by decide +kernel : ∀ t : Fin grid0.N, _)
    obtain ⟨t, ht⟩ : ∃ t : Fin cfg0.N, t.val = 4 * (i 0).val + (i 2).val / 128 := ⟨⟨4 * (i 0).val + (i 2).val / 128, by omega⟩, rfl⟩
    refine ⟨t, hf t, ?_⟩
    show i ∈ ((View.whole main_v6).slice (win0_5.rect t)).set
    rw [View.set_slice_whole, Rect.mem_set_unit]
    obtain ⟨h0, h1, h2⟩ := idx_o t
    intro a
    match a with
    | ⟨0, _⟩ => show win0_5.index t 0 * 1 ≤ (i 0 : Nat) ∧ (i 0 : Nat) < win0_5.index t 0 * 1 + 1; omega
    | ⟨1, _⟩ => show win0_5.index t 1 * 2048 ≤ (i 1 : Nat) ∧ (i 1 : Nat) < win0_5.index t 1 * 2048 + 2048; omega
    | ⟨2, _⟩ => show win0_5.index t 2 * 128 ≤ (i 2 : Nat) ∧ (i 2 : Nat) < win0_5.index t 2 * 128 + 128; omega

/-- The run: the result array at `G`, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun _ h c => ⟨(h c).1.trans (final_eq m c), (h c).2⟩) (Value.run_blocks m ρ)

end Cert.Kernel7Ideal.MlaKernel

end
-- ==== Proof.MlaRef.lean ====
/-
  The latent attention's reference, entry by entry: at batch `b`, query `s`, lane `z` its result is the textbook softmax
  of the head's scores divided by `√96`, over the token keys followed by the context keys (`result_apply`).
-/
module

public import proofs.«01_k».proof.Proof.Gen.Reference7Ideal.Read
public import proofs.«01_k».proof.Proof.MlaKernel

@[expose] public section

set_option maxRecDepth 16384

noncomputable section

namespace Cert.MlaRef

open Cert.Reference7Ideal Cert.Reference7Ideal.Read Cert.Reference7Ideal.Gen Idealize.ShloMosaic.TcCoe Idealize.ShloMosaic.ValueIdx
open Idealize.ShloMosaic
open Cert.AttentionMath
open Cert.KernelIdeal.AttentionBlock (negInf zeroBits)
open Cert.Kernel7Ideal.MlaKernel (headScore head)
open scoped BigOperators

variable (Q Kx : S4x2048x4x96.Idx → EReal) (Vx : S4x2048x512.Idx → EReal) (Kc : S4x256x4x96.Idx → EReal) (Vc : S4x256x512.Idx → EReal)

/-- The place of lane `z` in its head. -/
abbrev place (z : Fin 512) : Fin 128 := ⟨z.val % 128, Nat.mod_lt _ (by decide)⟩

/-! ## The joined keys and values -/

theorem keys_x (b : Fin 4) (k : Fin 2048) (h : Fin 4) (e : Fin 96) :
    val_main_v2 (F := Ideal) Kx Kc (ix4 b (Fin.castAdd 256 k : Fin 2304) h e) = Kx (ix4 b k h e) := by
  unfold val_main_v2
  rw [concatenate_pair_apply_left (t := S4x2304x4x96) (s₁ := S4x2048x4x96) (s₂ := S4x256x4x96) 1 _ _ _ _ rfl (ix4 b k h e)
    (fun a => match a with | ⟨0, _⟩ => rfl | ⟨1, _⟩ => rfl | ⟨2, _⟩ => rfl | ⟨3, _⟩ => rfl), val_main_v0_apply]
  rfl

theorem keys_c (b : Fin 4) (k : Fin 256) (h : Fin 4) (e : Fin 96) :
    val_main_v2 (F := Ideal) Kx Kc (ix4 b (Fin.natAdd 2048 k : Fin 2304) h e) = Kc (ix4 b k h e) := by
  unfold val_main_v2
  rw [concatenate_pair_apply_right (t := S4x2304x4x96) (s₁ := S4x2048x4x96) (s₂ := S4x256x4x96) 1 _ _ _ _ rfl rfl (ix4 b k h e)
    (fun a h => match a with | ⟨0, _⟩ => rfl | ⟨1, _⟩ => absurd rfl h | ⟨2, _⟩ => rfl | ⟨3, _⟩ => rfl)
    (by show k.val + 2048 = 2048 + k.val; omega), val_main_v1_apply]
  rfl

theorem values_x (b : Fin 4) (k : Fin 2048) (z : Fin 512) :
    val_main_v7 (F := Ideal) Vx Vc (ix4 b (Fin.castAdd 256 k : Fin 2304) (head z) (place z)) = Vx (ix3 b k z) := by
  unfold val_main_v7
  rw [concatenate_pair_apply_left (t := S4x2304x4x128) (s₁ := S4x2048x4x128) (s₂ := S4x256x4x128) 1 _ _ _ _ rfl (ix4 b k (head z) (place z))
    (fun a => match a with | ⟨0, _⟩ => rfl | ⟨1, _⟩ => rfl | ⟨2, _⟩ => rfl | ⟨3, _⟩ => rfl), val_main_v4_apply, val_main_v3_apply]
  show Vx _ = _
  congr 1; funext a; apply Fin.ext
  have hb := b.isLt; have hk := k.isLt; have hz := z.isLt
  match a with
  | ⟨0, _⟩ => show (((b.val * 2048 + k.val) * 4 + z.val / 128) * 128 + z.val % 128) / 1048576 = b.val; omega
  | ⟨1, _⟩ => show (((b.val * 2048 + k.val) * 4 + z.val / 128) * 128 + z.val % 128) / 512 % 2048 = k.val; omega
  | ⟨2, _⟩ => show (((b.val * 2048 + k.val) * 4 + z.val / 128) * 128 + z.val % 128) % 512 = z.val; omega

theorem values_c (b : Fin 4) (k : Fin 256) (z : Fin 512) :
    val_main_v7 (F := Ideal) Vx Vc (ix4 b (Fin.natAdd 2048 k : Fin 2304) (head z) (place z)) = Vc (ix3 b k z) := by
  unfold val_main_v7
  rw [concatenate_pair_apply_right (t := S4x2304x4x128) (s₁ := S4x2048x4x128) (s₂ := S4x256x4x128) 1 _ _ _ _ rfl rfl (ix4 b k (head z) (place z))
    (fun a h => match a with | ⟨0, _⟩ => rfl | ⟨1, _⟩ => absurd rfl h | ⟨2, _⟩ => rfl | ⟨3, _⟩ => rfl)
    (by show k.val + 2048 = 2048 + k.val; omega), val_main_v6_apply, val_main_v5_apply]
  show Vc _ = _
  congr 1; funext a; apply Fin.ext
  have hb := b.isLt; have hk := k.isLt; have hz := z.isLt
  match a with
  | ⟨0, _⟩ => show (((b.val * 256 + k.val) * 4 + z.val / 128) * 128 + z.val % 128) / 131072 = b.val; omega
  | ⟨1, _⟩ => show (((b.val * 256 + k.val) * 4 + z.val / 128) * 128 + z.val % 128) / 512 % 256 = k.val; omega
  | ⟨2, _⟩ => show (((b.val * 256 + k.val) * 4 + z.val / 128) * 128 + z.val % 128) % 512 = z.val; omega

/-! ## The scaled scores -/

theorem bits96 : (FloatOps.ofBits (F := Ideal) .f32 0x42C00000#32 : EReal) = ((96 : ℝ) : EReal) := by
  show Ideal.ofBits .f32 0x42C00000#32 = _
  simp [Ideal.ofBits, Ideal.ieee, -EReal.coe_mul]; norm_num

theorem root : FloatOps.hostUnary (F := Ideal) (φ := .f32) .sqrt (FloatOps.ofBits .f32 0x42C00000#32) = ((Real.sqrt 96 : ℝ) : EReal) := by
  rw [bits96, Ideal.hostUnary_sqrt_def, Ideal.sqrt_coe, if_neg (by norm_num)]

theorem div_root (x : EReal) : Ideal.div x ((Real.sqrt 96 : ℝ) : EReal) = x * (((Real.sqrt 96)⁻¹ : ℝ) : EReal) := by
  rw [Ideal.div_coe (by positivity), one_div]

/-- The scores over the joined keys. -/
def joinedScore (b : Fin 4) (s : Fin 2048) (h : Fin 4) : Fin (2048 + 256) → EReal :=
  Fin.addCases (headScore Q Kx b s h) (headScore Q Kc b s h)

def joinedValue (b : Fin 4) (z : Fin 512) : Fin (2048 + 256) → EReal :=
  Fin.addCases (fun k => Vx (ix3 b k z)) (fun k => Vc (ix3 b k z))

theorem dot_apply (b : Fin 4) (s : Fin 2048) (h : Fin 4) (k : Fin (2048 + 256)) :
    val_main_v9 (F := Ideal) Q Kx Kc (ix4 b h s k) = joinedScore Q Kx Kc b s h k := by
  have hl : ∀ e : Fin 96, lidx_main_v9 (ix4 b h s k) e = ix4 b s h e := fun e => by
    funext a; match a with | ⟨0, _⟩ => rfl | ⟨1, _⟩ => rfl | ⟨2, _⟩ => rfl | ⟨3, _⟩ => rfl
  have hr : ∀ e : Fin 96, ridx_main_v9 (ix4 b h s k) e = ix4 b k h e := fun e => by
    funext a; match a with | ⟨0, _⟩ => rfl | ⟨1, _⟩ => rfl | ⟨2, _⟩ => rfl | ⟨3, _⟩ => rfl
  rw [val_main_v9_apply]
  unfold joinedScore
  induction k using Fin.addCases with
  | left k =>
    rw [Fin.addCases_left]
    refine Finset.sum_congr rfl fun e _ => ?_
    rw [hl, hr, keys_x, val_main_v8_apply]
    rfl
  | right k =>
    rw [Fin.addCases_right]
    refine Finset.sum_congr rfl fun e _ => ?_
    rw [hl, hr, keys_c, val_main_v8_apply]
    rfl

/-- The scaled score. -/
theorem scaled_apply (b : Fin 4) (s : Fin 2048) (h : Fin 4) (k : Fin (2048 + 256)) :
    val_main_v12 (F := Ideal) Q Kx Kc (ix4 b h s k) = joinedScore Q Kx Kc b s h k * (((Real.sqrt 96)⁻¹ : ℝ) : EReal) := by
  rw [val_main_v12_apply, val_main_v11_apply, val_main_v10_apply, val_main_cst_apply]
  show Ideal.div _ _ = _
  rw [root, div_root, dot_apply]

/-! ## The row's maximum and sum -/

theorem red : S4x4x2048x2304.Reduces [3] S4x4x2048 := by decide

theorem rowTop_apply (b : Fin 4) (s : Fin 2048) (h : Fin 4) :
    val_main_v15 (F := Ideal) Q Kx Kc (ix3 b h s)
      = (Finset.univ : Finset (Fin (2048 + 256))).fold max ⊥ (fun k => joinedScore Q Kx Kc b s h k * (((Real.sqrt 96)⁻¹ : ℝ) : EReal)) := by
  rw [val_main_v15_apply, val_main_v14_apply, val_main_cst_1_apply]
  show max (FloatOps.ofBits (F := Ideal) .f32 0xFF800000#32 : EReal) _ = _
  rw [negInf, max_eq_right bot_le]
  unfold val_main_v13 val_main_cst_0
  refine (congrFun (hostReduce_maximumf_eq_multiReduction (F := Ideal) (φ := .f32) (s := S4x4x2048x2304) (t := S4x4x2048) (u := S_)
    (val_main_v12 (F := Ideal) Q Kx Kc) 0xFF800000#32 reducesTo_S4x4x2048x2304_S4x4x2048_d3 h_S_ red (.inl rfl) rfl) _).trans ?_
  refine (Ideal.multiReduction_maximumf_single (φ := .f32) (s := S4x4x2048x2304) (t := S4x4x2048) (a := 3) _ _ red _ _ _).trans ?_
  rw [negInf]
  refine congrArg (fun f => (Finset.univ : Finset (Fin 2304)).fold max ⊥ f) (funext fun k => ?_)
  refine Eq.trans ?_ (scaled_apply Q Kx Kc b s h k)
  refine congrArg (val_main_v12 (F := Ideal) Q Kx Kc) ?_
  funext a; apply Fin.ext
  match a with
  | ⟨0, _⟩ => rfl
  | ⟨1, _⟩ => rfl
  | ⟨2, _⟩ => rfl
  | ⟨3, _⟩ => rfl

theorem weight_apply (b : Fin 4) (s : Fin 2048) (h : Fin 4) (k : Fin (2048 + 256)) :
    val_main_v19 (F := Ideal) Q Kx Kc (ix4 b h s k)
      = Ideal.exp (joinedScore Q Kx Kc b s h k * (((Real.sqrt 96)⁻¹ : ℝ) : EReal)
          - (Finset.univ : Finset (Fin (2048 + 256))).fold max ⊥ (fun k => joinedScore Q Kx Kc b s h k * (((Real.sqrt 96)⁻¹ : ℝ) : EReal))) := by
  rw [val_main_v19_apply, val_main_v18_apply, val_main_v17_apply, val_main_v16_apply]
  show Ideal.exp (_ - _) = _
  rw [scaled_apply, ← rowTop_apply]
  refine congrArg (fun j => Ideal.exp (_ - val_main_v15 (F := Ideal) Q Kx Kc j)) ?_
  funext a
  match a with
  | ⟨0, _⟩ => rfl
  | ⟨1, _⟩ => rfl
  | ⟨2, _⟩ => rfl

theorem sum_apply (b : Fin 4) (s : Fin 2048) (h : Fin 4) (k : Fin (2048 + 256)) :
    val_main_v22 (F := Ideal) Q Kx Kc (ix4 b h s k)
      = ∑ k : Fin (2048 + 256), val_main_v19 (F := Ideal) Q Kx Kc (ix4 b h s k) := by
  rw [val_main_v22_apply, val_main_v21_apply, val_main_v20_apply, val_main_cst_2_apply]
  show (FloatOps.ofBits (F := Ideal) .f32 0x00000000#32 : EReal) + _ = _
  rw [zeroBits, zero_add]
  refine Finset.sum_congr rfl fun k' _ => congrArg (val_main_v19 (F := Ideal) Q Kx Kc) ?_
  funext a
  match a with
  | ⟨0, _⟩ => rfl
  | ⟨1, _⟩ => rfl
  | ⟨2, _⟩ => rfl
  | ⟨3, _⟩ => rfl

/-- The reference's result at batch `b`, query `s`, lane `z`. -/
theorem result_apply (b : Fin 4) (s : Fin 2048) (z : Fin 512) :
    val_main_v27 (F := Ideal) Q Kx Vx Kc Vc (ix3 b s z)
      = softmaxSum (fun k => joinedScore Q Kx Kc b s (head z) k * (((Real.sqrt 96)⁻¹ : ℝ) : EReal)) (joinedValue Vx Vc b z) := by
  have hi : idx_main_v25 (idx_main_v26 (ix3 b s z)) = ix4 b (head z) (place z) s := by
    have hb := b.isLt; have hs := s.isLt; have hz := z.isLt
    funext a; apply Fin.ext
    match a with
    | ⟨0, _⟩ => show ((b.val * 2048 + s.val) * 512 + z.val) / 1048576 = b.val; omega
    | ⟨1, _⟩ => show ((b.val * 2048 + s.val) * 512 + z.val) / 128 % 4 = z.val / 128; omega
    | ⟨2, _⟩ => show ((b.val * 2048 + s.val) * 512 + z.val) % 128 = z.val % 128; omega
    | ⟨3, _⟩ => show ((b.val * 2048 + s.val) * 512 + z.val) / 512 % 2048 = s.val; omega
  rw [val_main_v27_apply]
  show val_main_v26 (F := Ideal) Q Kx Vx Kc Vc (ix3 b s z) = _
  rw [val_main_v26_apply, val_main_v25_apply, hi, val_main_v24_apply]
  unfold softmaxSum
  refine Finset.sum_congr rfl fun k _ => ?_
  have hl : lidx_main_v24 (ix4 b (head z) (place z) s) k = ix4 b k (head z) (place z) := by
    funext a; match a with | ⟨0, _⟩ => rfl | ⟨1, _⟩ => rfl | ⟨2, _⟩ => rfl | ⟨3, _⟩ => rfl
  have hr : ridx_main_v24 (ix4 b (head z) (place z) s) k = ix4 b (head z) s k := by
    funext a; match a with | ⟨0, _⟩ => rfl | ⟨1, _⟩ => rfl | ⟨2, _⟩ => rfl | ⟨3, _⟩ => rfl
  rw [hl, hr, val_main_v23_apply]
  show _ * Ideal.div _ _ = _
  rw [sum_apply]
  simp only [weight_apply]
  refine congrArg (· * _) ?_
  unfold joinedValue
  induction k using Fin.addCases (m := 2048) (n := 256) with
  | left k => rw [Fin.addCases_left]; exact values_x Vx Vc b k z
  | right k => rw [Fin.addCases_right]; exact values_c Vx Vc b k z

end Cert.MlaRef

end
-- ==== Proof.MlaClaim.lean ====
/-
  The latent attention's claims: the precondition read as "every query and key entry is a real number", the scores then
  real, and the kernel's result the reference's.
-/
module

public import proofs.«01_k».proof.Defs
public import proofs.«01_k».proof.Proof.MlaRef
public import proofs.«01_k».proof.Proof.AttentionClaim
public import proofs.«01_k».proof.Proof.Gen.Pre_finite_mla_scores
public import proofs.«01_k».proof.Proof.Gen.Kernel7.Frame
public import Idealize.ShloMosaic.Lib.Claim

@[expose] public section

set_option maxRecDepth 16384

noncomputable section

namespace Cert.Proof.Mla

open Idealize.ShloMosaic Idealize.ShloMosaic.TcCoe Idealize.ShloMosaic.ValueIdx
open Idealize.SL.Sem
open Cert.AttentionMath Cert.Kernel7Ideal.MlaBlock Cert.Kernel7Ideal.MlaKernel Cert.MlaRef
open Cert.Proof.Attention (real_of_lt)
open scoped BigOperators

/-- The two-part softmax of the kernel is the reference's, once every query and key entry is a real number. -/
theorem result_eq (Q Kx : (⟨4, ![4, 2048, 4, 96]⟩ : Shape).Idx → EReal) (Vx : (⟨3, ![4, 2048, 512]⟩ : Shape).Idx → EReal) (Kc : (⟨4, ![4, 256, 4, 96]⟩ : Shape).Idx → EReal) (Vc : (⟨3, ![4, 256, 512]⟩ : Shape).Idx → EReal)
    (hq : ∀ i, Q i = ((Q i).toReal : EReal)) (hx : ∀ i, Kx i = ((Kx i).toReal : EReal)) (hc : ∀ i, Kc i = ((Kc i).toReal : EReal))
    (b : Fin 4) (s : Fin 2048) (z : Fin 512) :
    result Q Kx Vx Kc Vc b s z = Cert.Reference7Ideal.Read.val_main_v27 (F := Ideal) Q Kx Vx Kc Vc (ix3 b s z) := by
  rw [Cert.MlaRef.result_apply]
  have real : ∀ {n : ℕ} (K : (⟨4, ![4, n, 4, 96]⟩ : Shape).Idx → EReal), (∀ i, K i = ((K i).toReal : EReal)) → ∀ k : Fin n,
      headScore Q K b s (head z) k = ((∑ e : Fin 96, (Q (ix4 b s (head z) e)).toReal * (K (ix4 b k (head z) e)).toReal : ℝ) : EReal) := by
    intro n K hK k
    unfold headScore
    rw [coe_sum]
    refine Finset.sum_congr rfl fun e _ => ?_
    rw [EReal.coe_mul, ← hq, ← hK]
  let S : Fin (2048 + 256) → ℝ := Fin.addCases
    (fun k => ∑ e : Fin 96, (Q (ix4 b s (head z) e)).toReal * (Kx (ix4 b k (head z) e)).toReal)
    (fun k => ∑ e : Fin 96, (Q (ix4 b s (head z) e)).toReal * (Kc (ix4 b k (head z) e)).toReal)
  have hS : ∀ k, joinedScore Q Kx Kc b s (head z) k = ((S k : ℝ) : EReal) := by
    intro k
    unfold joinedScore
    induction k using Fin.addCases with
    | left k => simp only [S, Fin.addCases_left]; exact real Kx hx k
    | right k => simp only [S, Fin.addCases_right]; exact real Kc hc k
  have main := fused_eq_softmaxSum (m := 2048) (n := 256) (c := (Real.sqrt 96)⁻¹) (by positivity) S (joinedValue Vx Vc b z)
  have e1 : headScore Q Kx b s (head z) = fun k => ((S (Fin.castAdd 256 k) : ℝ) : EReal) := funext fun k =>
    (real Kx hx k).trans (by simp only [S, Fin.addCases_left])
  have e2 : headScore Q Kc b s (head z) = fun k => ((S (Fin.natAdd 2048 k) : ℝ) : EReal) := funext fun k =>
    (real Kc hc k).trans (by simp only [S, Fin.addCases_right])
  simp only [hS]
  refine Eq.trans ?_ main
  unfold result joinedValue
  simp only [Fin.addCases_left, Fin.addCases_right]
  rw [e1, e2]
  rfl

theorem frame_p : Cert.quiescent_Kernel7 := fun m ρ _ => Cert.Kernel7.Gen.frame m ρ
theorem frame_pi : Cert.quiescent_Kernel7Ideal := fun m ρ _ => Cert.Kernel7Ideal.Gen.frame m ρ
theorem frame_pi_pre : Cert.quiescent_Kernel7Ideal_pre_finite_mla_scores := fun m ρ _ => Cert.Kernel7Ideal.Gen.frame m ρ

theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem frame_ri_pre : Cert.quiescent_Reference7Ideal_pre_finite_mla_scores := fun m ρ _ => frame_ri m ρ trivial

/-- The one named constant: the kernel's scale `1 / (√96 · log 2)`. -/
theorem preserves : Cert.preserves_Kernel7_Kernel7Ideal :=
  IdealRules.named_const.statement Cert.Kernel7Ideal.κ "scale_log2e" .f32 0x3E16C740#32 (((Real.sqrt 96)⁻¹ * (Real.log 2)⁻¹ : ℝ) : EReal) rfl

theorem algebraic : Cert.algebraic_Kernel7Ideal_Reference7Ideal_pre_finite_mla_scores := fun m ρ m' ρ' hpre hag =>
  ⟨fun c => G m c, run m ρ, (θ_run Cert.Reference7Ideal.defs _ _).mono (fun _ h c => ⟨(h c).1.trans (by
      rw [Cert.Reference7Ideal.Read.val_main_v27_eq]
      obtain ⟨e0, e1, e2, e3, e4⟩ := hag c
      rw [e0, e1, e2, e3, e4]
      obtain ⟨p0, p1, p2⟩ := hpre c
      funext i
      refine (congrArg _ (eq_ix3 i)).trans (result_eq _ _ _ _ _ (fun i => real_of_lt _ (congrFun p0 i)) (fun i => real_of_lt _ (congrFun p1 i))
        (fun i => real_of_lt _ (congrFun p2 i)) (i 0) (i 1) (i 2)).symm), (h c).2⟩)
    (Cert.Reference7Ideal.Value.run (F := Ideal) m' ρ')⟩

end Cert.Proof.Mla

end
-- ==== Proof.RouterMath.lean ====
/-
  The arithmetic of the router: a row scaled by the reciprocal root of its mean square is real whatever the row holds
  (`normed_real`); the four products of the two halves of two real numbers are their one product (`split_sum`); lanes
  masked with `-∞` leave a softmax as it is without them (`softmax_masked`).
-/
module

public import proofs.«01_k».proof.Proof.ScatterPay
public import Idealize.ShloMosaic.PureOps.Ideal

@[expose] public section

noncomputable section

namespace Cert.RouterMath

open Idealize.ShloMosaic
open Cert.Kernel4Ideal.ScatterPay (scale)
open scoped BigOperators

/-! ## Real entries -/

/-- A value that is a real number. -/
def IsReal (x : EReal) : Prop := ∃ a : ℝ, x = (a : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.one : IsReal 1 := ⟨1, EReal.coe_one.symm⟩

theorem IsReal.sub_self {x : EReal} (hx : IsReal x) : x - x = 0 := by
  obtain ⟨a, rfl⟩ := hx
  rw [← EReal.coe_sub, _root_.sub_self, EReal.coe_zero]

theorem IsReal.of_ne {x : EReal} (h : x ≠ ⊤) (h' : x ≠ ⊥) : IsReal x := ⟨x.toReal, (EReal.coe_toReal h h').symm⟩

/-! ## The norm -/

theorem width : (FloatOps.ofBits (F := Ideal) .f32 0x45000000#32 : EReal) = ((2048 : ℝ) : EReal) := by
  show Ideal.ofBits .f32 0x45000000#32 = _
  simp [Ideal.ofBits, Ideal.ieee, -EReal.coe_mul]; norm_num

theorem eps : ∃ e : ℝ, 0 < e ∧ (FloatOps.ofBits (F := Ideal) .f32 0x358637BD#32 : EReal) = (e : EReal) := by
  refine ⟨8796093 * (2 : ℝ) ^ (-43 : ℤ), by positivity, ?_⟩
  show Ideal.ofBits .f32 0x358637BD#32 = _
  simp [Ideal.ofBits, Ideal.ieee, -EReal.coe_mul]

theorem square_nonneg (x : EReal) : 0 ≤ x * x := by
  rcases le_total 0 x with h | h
  · exact mul_nonneg h h
  · rw [← neg_mul_neg]
    exact mul_nonneg (EReal.neg_nonneg.2 h) (EReal.neg_nonneg.2 h)

/-- A row with an infinite entry is scaled by zero; any other row is real and scaled by a real. -/
theorem normed_real (z : Fin 2048 → EReal) (d : Fin 2048) : IsReal (z d * scale z) := by
  obtain ⟨e, he, hb⟩ := eps
  have hs : 0 ≤ ∑ k : Fin 2048, z k * z k := Finset.sum_nonneg fun k _ => square_nonneg _
  unfold scale
  rw [width, hb, Ideal.div_coe (by norm_num)]
  by_cases ht : ∑ k : Fin 2048, z k * z k = ⊤
  · rw [ht, EReal.top_mul_coe_of_pos (by norm_num), EReal.top_add_coe, Ideal.rsqrt_top, mul_zero]
    exact ⟨0, EReal.coe_zero.symm⟩
  · have hd : z d * z d ≤ ∑ k : Fin 2048, z k * z k := Finset.single_le_sum (f := fun k => z k * z k) (fun k _ => square_nonneg _) (Finset.mem_univ d)
    have hz : IsReal (z d) := by
      refine IsReal.of_ne ?_ ?_
      · intro h; rw [h, EReal.top_mul_top] at hd; exact ht (top_le_iff.1 hd)
      · intro h; rw [h, EReal.bot_mul_bot] at hd; exact ht (top_le_iff.1 hd)
    obtain ⟨s, hS⟩ := IsReal.of_ne ht (fun h => by rw [h] at hs; exact absurd hs (by simp))
    rw [hS] at hs ⊢
    have hs' : 0 ≤ s := EReal.coe_nonneg.1 hs
    have hp : 0 < s * (1 / 2048) + e := by positivity
    rw [← EReal.coe_mul, ← EReal.coe_add, Ideal.rsqrt_coe, if_neg (not_lt.2 hp.le), if_neg hp.ne']
    exact hz.mul ⟨_, rfl⟩

/-! ## The split product -/

/-- A value and what its leading half leaves, against a weight and what its leading half leaves. -/
theorem split_sum {n : ℕ} (h w : Fin n → EReal) (hh : ∀ d, IsReal (h d)) (hw : ∀ d, IsReal (w d)) :
    (∑ d, h d * w d) + ((∑ d, (h d - h d) * w d) + ∑ d, h d * (w d - w d)) = ∑ d, h d * w d := by
  have h1 : ∑ d, (h d - h d) * w d = 0 := Finset.sum_eq_zero fun d _ => by rw [(hh d).sub_self, zero_mul]
  have h2 : ∑ d, h d * (w d - w d) = 0 := Finset.sum_eq_zero fun d _ => by rw [(hw d).sub_self, mul_zero]
  rw [h1, h2, add_zero, add_zero]

/-! ## The masked softmax -/

/-- The softmax of a row at one entry. -/
def softmaxAt {n : ℕ} (f : Fin n → EReal) (l : Fin n) : EReal :=
  Ideal.div (Ideal.exp (f l - (Finset.univ : Finset (Fin n)).fold max ⊥ f)) (∑ k : Fin n, Ideal.exp (f k - (Finset.univ : Finset (Fin n)).fold max ⊥ f))

/-- The sixteen lanes that carry an expert each. -/
abbrev lane (l : Fin 16) : Fin 128 := ⟨l.val, by have := l.isLt; omega⟩

/-- A row of lanes with `-∞` outside the sixteen. -/
def masked (f : Fin 128 → EReal) (l : Fin 128) : EReal := if l.val < 16 then f l else ⊥

theorem masked_lane (f : Fin 128 → EReal) (l : Fin 16) : masked f (lane l) = f (lane l) := if_pos l.isLt

theorem masked_max (f : Fin 128 → EReal) : (Finset.univ : Finset (Fin 128)).fold max ⊥ (masked f) = (Finset.univ : Finset (Fin 16)).fold max ⊥ (fun k => f (lane k)) := by
  refine le_antisymm ((Finset.fold_max_le _).2 ⟨bot_le, fun k _ => ?_⟩) ((Finset.fold_max_le _).2 ⟨bot_le, fun k _ => ?_⟩)
  · unfold masked
    split_ifs with h
    · exact (Finset.le_fold_max _).2 (.inr ⟨⟨k.val, h⟩, Finset.mem_univ _, le_rfl⟩)
    · exact bot_le
  · exact (Finset.le_fold_max _).2 (.inr ⟨lane k, Finset.mem_univ _, (masked_lane f k).ge⟩)

theorem masked_sum (f : Fin 128 → EReal) (t : EReal) : ∑ k : Fin 128, Ideal.exp (masked f k - t) = ∑ k : Fin 16, Ideal.exp (f (lane k) - t) := by
  refine (Fin.sum_univ_add (a := 16) (b := 112) fun k => Ideal.exp (masked f k - t)).trans ?_
  have h2 : ∑ k : Fin 112, Ideal.exp (masked f (Fin.natAdd 16 k) - t) = 0 := Finset.sum_eq_zero fun k _ => by
    rw [show masked f (Fin.natAdd 16 k) = ⊥ from if_neg (by show ¬(16 + k.val < 16); omega), EReal.bot_sub, Ideal.exp_bot]
  rw [h2, add_zero]
  exact Finset.sum_congr rfl fun k _ => congrArg (fun x => Ideal.exp (x - t)) (masked_lane f k)

theorem softmax_masked (f : Fin 128 → EReal) (l : Fin 16) : softmaxAt (masked f) (lane l) = softmaxAt (fun k => f (lane k)) l := by
  unfold softmaxAt
  rw [masked_max, masked_sum, masked_lane]

end Cert.RouterMath

end
-- ==== Proof.RouterBlock.lean ====
/-
  What the output projection and router writes at one grid point. Its two groups of 256 rows are printed differently and
  compute the same; each stored entry is given here as a function of the rows and of the point's weights: the residual
  `newRow`, its norm and modulation `modRow`, and the softmax of the sixteen router lanes.
-/
module

public import proofs.«01_k».proof.Proof.Gen.Kernel8Ideal.Frame
public import proofs.«01_k».proof.Proof.AttentionBlock
public import proofs.«01_k».proof.Proof.ScatterPay
public import proofs.«01_k».proof.Proof.RouterMath

@[expose] public section

set_option maxRecDepth 16384

noncomputable section

namespace Cert.Kernel8Ideal.RouterBlock

open Cert.Kernel8Ideal Cert.Kernel8Ideal.Gen Idealize.ShloMosaic.TcCoe Idealize.ShloMosaic.ValueIdx
open Idealize.ShloMosaic
open Idealize.SL Idealize.SL.Sem
open Cert.KernelIdeal.AttentionBlock (rowMax rowSum)
open Cert.Kernel4Ideal.ScatterPay (scale oneBits dot_apply)
open Cert.RouterMath
open scoped BigOperators

/-! ## The rows -/

/-- The residual row: the row with its gated projection added. -/
def newRow {n : ℕ} (x : (⟨3, ![1, n, 2048]⟩ : Shape).Idx → EReal) (g : S1x1x2048.Idx → EReal) (a : (⟨3, ![1, n, 2048]⟩ : Shape).Idx → EReal) (w : S1x2048x2048.Idx → EReal)
    (r : Fin n) (d : Fin 2048) : EReal :=
  x (ix3 0 r d) + g (ix3 0 0 d) * ∑ e : Fin 2048, a (ix3 0 r e) * w (ix3 0 e d)

/-- A row normed, weighted, scaled and shifted. -/
def modRow (z gain sc sh : Fin 2048 → EReal) (d : Fin 2048) : EReal := z d * scale z * gain d * (1 + sc d) + sh d

/-- The modulated row of the point. -/
abbrev hRow {n : ℕ} (x : (⟨3, ![1, n, 2048]⟩ : Shape).Idx → EReal) (g : S1x1x2048.Idx → EReal) (a : (⟨3, ![1, n, 2048]⟩ : Shape).Idx → EReal) (w : S1x2048x2048.Idx → EReal)
    (gain : S1x2048.Idx → EReal) (sc sh : S1x1x2048.Idx → EReal) (r : Fin n) : Fin 2048 → EReal :=
  modRow (newRow x g a w r) (fun d => gain (ix2 0 d)) (fun d => sc (ix3 0 0 d)) (fun d => sh (ix3 0 0 d))

/-- The router's score of a row on a lane, from the two halves of the row and of the weights. -/
def splitScore (h : Fin 2048 → EReal) (wr : S2048x128.Idx → EReal) (l : Fin 128) : EReal :=
  (∑ d, h d * wr (ix2 d l)) + ((∑ d, (h d - h d) * wr (ix2 d l)) + ∑ d, h d * (wr (ix2 d l) - wr (ix2 d l)))

variable (x : Vec Ideal S1x256x2048 .f32) (g : Vec Ideal S1x1x2048 .f32) (a : Vec Ideal S1x256x2048 .bf16) (w : Vec Ideal S1x2048x2048 .bf16)
  (gain : Vec Ideal S1x2048 .f32) (sc sh : Vec Ideal S1x1x2048 .f32) (wr : Vec Ideal S2048x128 .f32)

/-- A row vector spread over the rows. -/
theorem spread_row (v : S1x2048.Idx → EReal) (r : Fin 256) (d : Fin 2048) : broadcastTo S256x2048 v broadcasts_S1x2048_S256x2048 (ix2 r d) = v (ix2 0 d) :=
  broadcastTo_apply _ broadcasts_S1x2048_S256x2048 (ix2 r d) (ix2 0 d) fun a => match a with
    | ⟨0, _⟩ => rfl
    | ⟨1, _⟩ => rfl

theorem pay8_apply (r : Fin 256) (d : Fin 2048) : k0_pay8 (F := Ideal) x g a w (ix2 r d) = newRow x g a w r d := by
  unfold k0_pay8
  refine congrArg₂ (α := EReal) (β := EReal) (γ := EReal) (fun p q => p + q) (shapeCast_1ab_ab_apply x _ r d)
    (congrArg₂ (α := EReal) (β := EReal) (γ := EReal) (fun p q => p * q) ((spread_row _ r d).trans (shapeCast_1ab_ab_apply g _ 0 d)) ?_)
  refine (dot_apply _ _ r d).trans (Finset.sum_congr rfl fun e _ => ?_)
  rw [shapeCast_1ab_ab_apply, shapeCast_1ab_ab_apply]

/-- The residual rows as stored. -/
theorem pay9_apply (u : Fin 1) (r : Fin 256) (d : Fin 2048) : k0_pay9 (F := Ideal) x g a w (ix3 u r d) = newRow x g a w r d := by
  unfold k0_pay9
  rw [shapeCast_ab_1ab_apply]
  exact pay8_apply x g a w r d

theorem pay10_apply (r : Fin 256) (d : Fin 2048) : k0_pay10 (F := Ideal) x g a w (ix2 r d) = newRow x g a w r d * scale (newRow x g a w r) := by
  unfold k0_pay10
  refine congrArg₂ (α := EReal) (β := EReal) (γ := EReal) (fun p q => p * q) (pay8_apply x g a w r d) ?_
  refine (Cert.KernelIdeal.AttentionBlock.spread_apply _ broadcasts_S256x1_S256x2048 r d).trans ?_
  unfold scale
  have h := rowSum (n := 2048) reduces_S256x2048_S256 shapeCasts_S256_S256x1 (mulf (F := Ideal) (k0_pay8 (F := Ideal) x g a w) (k0_pay8 (F := Ideal) x g a w)) (.inl rfl) rfl r 0
  refine congrArg (fun p : EReal => Ideal.rsqrt (Ideal.div p (FloatOps.ofBits (F := Ideal) .f32 0x45000000#32 : EReal) + (FloatOps.ofBits (F := Ideal) .f32 0x358637BD#32 : EReal))) (h.trans ?_)
  refine Finset.sum_congr rfl fun k _ => ?_
  exact congrArg₂ (α := EReal) (β := EReal) (γ := EReal) (fun p q => p * q) (pay8_apply x g a w r k) (pay8_apply x g a w r k)

theorem pay12_apply (r : Fin 256) (d : Fin 2048) :
    k0_pay12 (F := Ideal) (k0_pay10 x g a w) (k0_pay11 gain) sc sh (ix2 r d) = hRow x g a w gain sc sh r d := by
  unfold k0_pay12 k0_pay11
  refine congrArg₂ (α := EReal) (β := EReal) (γ := EReal) (fun p q => p + q) (congrArg₂ (α := EReal) (β := EReal) (γ := EReal) (fun p q => p * q)
    (congrArg₂ (α := EReal) (β := EReal) (γ := EReal) (fun p q => p * q) (pay10_apply x g a w r d) ?_) ?_) ?_
  · exact (spread_row _ r d).trans (by rw [shapeCast_self])
  · refine (spread_row _ r d).trans ?_
    exact congrArg₂ (α := EReal) (β := EReal) (γ := EReal) (fun p q => p + q) oneBits (shapeCast_1ab_ab_apply sc _ 0 d)
  · exact (spread_row _ r d).trans (shapeCast_1ab_ab_apply sh _ 0 d)

/-- The modulated rows as stored. -/
theorem pay14_apply (u : Fin 1) (r : Fin 256) (d : Fin 2048) :
    k0_pay14 (F := Ideal) (k0_pay10 x g a w) (k0_pay11 gain) sc sh (ix3 u r d) = hRow x g a w gain sc sh r d := by
  unfold k0_pay14 k0_pay13
  rw [shapeCast_ab_1ab_apply]
  exact pay12_apply x g a w gain sc sh r d

/-! ## The router's softmax -/

/-- The value named for a lane that carries no expert. -/
theorem mask_eq : (Named.named (F := Ideal) κ "mask" (φ := .f32) 0xF149F2CA#32 : EReal) = ⊥ :=
  IdealRules.named_const.ideal_named_scalar κ "mask" _ ⊥ rfl

/-- Which lanes carry an expert, as the kernel tests it. -/
def laneTest : IVec S256x128 1 := cmpi .slt (iota .tc S256x128 32 [1] iota_S256x128_d1_w32) (broadcast S256x128 16#32)

theorem laneTest_apply (r : Fin 256) (l : Fin 128) : laneTest (ix2 r l) = if l.val < 16 then 1#1 else 0#1 :=
  (show laneTest (ix2 r l) = laneTest (ix2 0 l) from rfl).trans ((by decide +kernel : ∀ l : Fin 128, laneTest (ix2 0 l) = if l.val < 16 then 1#1 else 0#1) l)

/-- A row of scores on the sixteen lanes, the others masked. -/
theorem mask_apply (s : FVec Ideal S256x128 .f32) (r : Fin 256) (l : Fin 128) :
    select (cmpi .slt (iota .tc S256x128 32 [1] iota_S256x128_d1_w32) (broadcast S256x128 16#32)) s (broadcast S256x128 (Named.named (F := Ideal) κ "mask" (φ := .f32) 0xF149F2CA#32)) (ix2 r l)
      = masked (fun k => s (ix2 r k)) l := by
  show Scalar.select (laneTest (ix2 r l)) (s (ix2 r l)) (Named.named (F := Ideal) κ "mask" (φ := .f32) 0xF149F2CA#32) = _
  rw [laneTest_apply, mask_eq]
  unfold masked
  split_ifs <;> rfl

/-- A score the kernel makes of four products of halves. -/
theorem score_apply (h : FVec Ideal S256x2048 .f32) (r : Fin 256) (l : Fin 128) :
    addf (matmul dot_S256x2048_S2048x128_S256x128_1_0_0_1_n_n none (truncf .bf16 h bitsLt_bf16_f32) (k0_pay6 (F := Ideal) wr) (constant S256x128 .f32 0x00000000#32))
      (addf (matmul dot_S256x2048_S2048x128_S256x128_1_0_0_1_n_n none (truncf .bf16 (subf h (extf .f32 (truncf .bf16 h bitsLt_bf16_f32) bitsLt_bf16_f32)) bitsLt_bf16_f32) (k0_pay6 (F := Ideal) wr) (constant S256x128 .f32 0x00000000#32))
        (matmul dot_S256x2048_S2048x128_S256x128_1_0_0_1_n_n none (truncf .bf16 h bitsLt_bf16_f32) (k0_pay7 (F := Ideal) wr) (constant S256x128 .f32 0x00000000#32))) (ix2 r l)
      = splitScore (fun d => h (ix2 r d)) wr l := by
  have e6 : k0_pay6 (F := Ideal) wr = wr := by
    unfold k0_pay6 k0_pay5
    dsimp only
    rw [shapeCast_self]; rfl
  have e7 : k0_pay7 (F := Ideal) wr = fun j => (wr j : EReal) - wr j := by
    unfold k0_pay7
    dsimp only
    rw [e6]
    unfold k0_pay5
    dsimp only
    rw [shapeCast_self]; rfl
  rw [e6, e7]
  unfold splitScore
  exact congrArg₂ (α := EReal) (β := EReal) (γ := EReal) (fun p q => p + q) (dot_apply _ _ r l) (congrArg₂ (α := EReal) (β := EReal) (γ := EReal) (fun p q => p + q) (dot_apply _ _ r l) (dot_apply _ _ r l))

/-- A row's softmax as the kernel takes it. -/
theorem softmax_apply (s : FVec Ideal S256x128 .f32) (hφ hφ' : FKind.Formats .f32) (ha ha') (r : Fin 256) (l : Fin 128) :
    divf (exp (subf s (broadcastTo S256x128 (shapeCast S256x1 (multiReduction .maximumf [1] S256 s 0xFF800000#32 reduces_S256x128_S256 hφ ha) shapeCasts_S256_S256x1) broadcasts_S256x1_S256x128)))
      (broadcastTo S256x128 (shapeCast S256x1 (multiReduction .add [1] S256 (exp (subf s (broadcastTo S256x128 (shapeCast S256x1 (multiReduction .maximumf [1] S256 s 0xFF800000#32 reduces_S256x128_S256 hφ ha) shapeCasts_S256_S256x1) broadcasts_S256x1_S256x128))) 0x00000000#32 reduces_S256x128_S256 hφ' ha') shapeCasts_S256_S256x1) broadcasts_S256x1_S256x128) (ix2 r l)
      = softmaxAt (fun k => (s (ix2 r k) : EReal)) l := by
  have ht : ∀ k : Fin 128, broadcastTo S256x128 (shapeCast S256x1 (multiReduction (F := Ideal) .maximumf [1] S256 s 0xFF800000#32 reduces_S256x128_S256 hφ ha) shapeCasts_S256_S256x1) broadcasts_S256x1_S256x128 (ix2 r k)
      = (Finset.univ : Finset (Fin 128)).fold max ⊥ (fun k => (s (ix2 r k) : EReal)) := fun k =>
    (Cert.KernelIdeal.AttentionBlock.spread_apply _ broadcasts_S256x1_S256x128 r k).trans (rowMax _ _ s hφ ha r 0)
  have he : ∀ k : Fin 128, exp (F := Ideal) (subf s (broadcastTo S256x128 (shapeCast S256x1 (multiReduction (F := Ideal) .maximumf [1] S256 s 0xFF800000#32 reduces_S256x128_S256 hφ ha) shapeCasts_S256_S256x1) broadcasts_S256x1_S256x128)) (ix2 r k)
      = Ideal.exp ((s (ix2 r k) : EReal) - (Finset.univ : Finset (Fin 128)).fold max ⊥ (fun k => (s (ix2 r k) : EReal))) := fun k =>
    congrArg (fun t : EReal => Ideal.exp ((s (ix2 r k) : EReal) - t)) (ht k)
  unfold softmaxAt
  refine congrArg₂ (α := EReal) (β := EReal) (γ := EReal) Ideal.div (he l) ?_
  refine (Cert.KernelIdeal.AttentionBlock.spread_apply _ broadcasts_S256x1_S256x128 r l).trans ((rowSum _ _ _ hφ' ha' r 0).trans ?_)
  exact Finset.sum_congr rfl fun k _ => he k

/-- The router's rows as stored. -/
theorem pay16_apply (u : Fin 1) (r : Fin 256) (l : Fin 128) :
    k0_pay16 (F := Ideal) (k0_pay15 (k0_pay6 wr) (k0_pay7 wr) (k0_pay10 x g a w) (k0_pay11 gain) sc sh) (ix3 u r l)
      = softmaxAt (masked (splitScore (hRow x g a w gain sc sh r) wr)) l := by
  unfold k0_pay16 k0_pay15 k0_pay13
  dsimp only
  rw [shapeCast_ab_1ab_apply]
  refine (softmax_apply _ _ _ _ _ r l).trans ?_
  refine congrArg (fun f => softmaxAt f l) (funext fun k => (mask_apply _ r k).trans (congrArg (fun f => masked f k) (funext fun j => ?_)))
  rw [score_apply]
  exact congrArg (fun h => splitScore h wr j) (funext fun d => pay12_apply x g a w gain sc sh r d)

end Cert.Kernel8Ideal.RouterBlock

end
-- ==== Proof.RouterKernel.lean ====
/-
  The three result arrays of the output projection and router, entry by entry: what one grid point leaves in its output
  blocks is a function of the input blocks, the input blocks are the arguments read at the point's place (batch `t / 4`,
  the 512 tokens from `512 * (t % 4)` on), the sixteen blocks tile each array, and the host's last line keeps sixteen of
  the router's 128 lanes (`run`).
-/
module

public import proofs.«01_k».proof.Proof.RouterBlock
public import Idealize.ShloMosaic.Lib.Claim
public import Idealize.ShloMosaic.Lib.KernelVsHost

@[expose] public section

set_option maxRecDepth 16384

noncomputable section

namespace Cert.Kernel8Ideal.RouterKernel

open Cert.Kernel8Ideal Cert.Kernel8Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.RouterMath Cert.Kernel8Ideal.RouterBlock
open scoped BigOperators

/-! ## One grid point -/

variable (x0 : Vec Ideal S1x512x2048 .bf16) (x1 : Vec Ideal S1x2048x2048 .bf16) (x2 : Vec Ideal S1x512x2048 .f32) (x3 : Vec Ideal S1x1x2048 .f32)
  (x4 : Vec Ideal S1x2048 .f32) (x5 x6 : Vec Ideal S1x1x2048 .f32) (x7 : Vec Ideal S2048x128 .f32)

/-- What a point's three output blocks hold at an index. -/
def blockX : Vec Ideal S1x512x2048 .f32 := fun y => newRow x2 x3 x0 x1 (y 1) (y 2)
@[inherit_doc blockX] def blockH : Vec Ideal S1x512x2048 .bf16 := fun y => hRow x2 x3 x0 x1 x4 x6 x5 (y 1) (y 2)
@[inherit_doc blockX] def blockA : Vec Ideal S1x512x128 .f32 := fun y => softmaxAt (masked (splitScore (hRow x2 x3 x0 x1 x4 x6 x5 (y 1)) x7)) (y 2)

section piece

variable (o : ℕ) (inb : ∀ a, (![0, o, 0] : Fin 3 → ℕ) a + S1x256x2048.size a ≤ S1x512x2048.size a)
  (inb' : ∀ a, (![0, o, 0] : Fin 3 → ℕ) a + S1x256x128.size a ≤ S1x512x128.size a)

/-- The 256 rows from `o` on of a block of rows. -/
abbrev rowsOf : Rect S1x512x2048 := Rect.unit (s := S1x512x2048) ![0, o, 0] S1x256x2048.size inb
@[inherit_doc rowsOf] abbrev lanesOf : Rect S1x512x128 := Rect.unit (s := S1x512x128) ![0, o, 0] S1x256x128.size inb'

theorem rowsOf_idx (r : Fin 256) (R : Fin 512) (hR : R.val = o + r.val) (e : Fin 2048) :
    (rowsOf o inb).idx (ix3 (0 : Fin 1) r e) = ix3 (0 : Fin 1) R e := by
  funext a; apply Fin.ext
  match a with
  | ⟨0, _⟩ => rfl
  | ⟨1, _⟩ => show o + 1 * r.val = R.val; omega
  | ⟨2, _⟩ => show 0 + 1 * e.val = e.val; omega

theorem newRow_ld (r : Fin 256) (R : Fin 512) (hR : R.val = o + r.val) :
    newRow (View.ld x2 (rowsOf o inb)) x3 (View.ld x0 (rowsOf o inb)) x1 r = newRow x2 x3 x0 x1 R := by
  funext d
  refine congrArg₂ (α := EReal) (β := EReal) (γ := EReal) (fun p q => p + x3 (ix3 0 0 d) * q) (congrArg x2 (rowsOf_idx o inb r R hR d)) ?_
  exact Finset.sum_congr rfl fun e _ => congrArg (fun p : EReal => p * x1 (ix3 0 e d)) (congrArg x0 (rowsOf_idx o inb r R hR e))

theorem hRow_ld (r : Fin 256) (R : Fin 512) (hR : R.val = o + r.val) :
    hRow (View.ld x2 (rowsOf o inb)) x3 (View.ld x0 (rowsOf o inb)) x1 x4 x6 x5 r = hRow x2 x3 x0 x1 x4 x6 x5 R :=
  congrArg (fun z => modRow z (fun d => x4 (ix2 0 d)) (fun d => x6 (ix3 0 0 d)) (fun d => x5 (ix3 0 0 d))) (newRow_ld x0 x1 x2 x3 o inb r R hR)

/-- A group's three stores are blocks of them. -/
theorem new_piece (x : S1x256x2048.Idx) :
    k0_pay9 (F := Ideal) (View.ld x2 (rowsOf o inb)) x3 (View.ld x0 (rowsOf o inb)) x1 x = blockX x0 x1 x2 x3 ((rowsOf o inb).emb x) := by
  have hx : x = ix3 (x 0) (x 1) (x 2) := eq_ix3 x
  have hd : (rowsOf o inb).emb x 2 = x 2 := Fin.ext (by show 0 + 1 * (x 2).val = (x 2).val; omega)
  refine (congrArg _ hx).trans ((pay9_apply _ _ _ _ (x 0) (x 1) (x 2)).trans ?_)
  unfold blockX
  rw [hd]
  exact congrFun (newRow_ld x0 x1 x2 x3 o inb (x 1) ((rowsOf o inb).emb x 1) (by show o + 1 * (x 1).val = o + (x 1).val; omega)) (x 2)

@[inherit_doc new_piece] theorem mod_piece (x : S1x256x2048.Idx) :
    k0_pay14 (F := Ideal) (k0_pay10 (View.ld x2 (rowsOf o inb)) x3 (View.ld x0 (rowsOf o inb)) x1) (k0_pay11 x4) x6 x5 x
      = blockH x0 x1 x2 x3 x4 x5 x6 ((rowsOf o inb).emb x) := by
  have hx : x = ix3 (x 0) (x 1) (x 2) := eq_ix3 x
  have hd : (rowsOf o inb).emb x 2 = x 2 := Fin.ext (by show 0 + 1 * (x 2).val = (x 2).val; omega)
  refine (congrArg _ hx).trans ((pay14_apply _ _ _ _ _ _ _ (x 0) (x 1) (x 2)).trans ?_)
  unfold blockH
  rw [hd]
  exact congrFun (hRow_ld x0 x1 x2 x3 x4 x5 x6 o inb (x 1) ((rowsOf o inb).emb x 1) (by show o + 1 * (x 1).val = o + (x 1).val; omega)) (x 2)

@[inherit_doc new_piece] theorem aff_piece (x : S1x256x128.Idx) :
    k0_pay16 (F := Ideal) (k0_pay15 (k0_pay6 x7) (k0_pay7 x7) (k0_pay10 (View.ld x2 (rowsOf o inb)) x3 (View.ld x0 (rowsOf o inb)) x1) (k0_pay11 x4) x6 x5) x
      = blockA x0 x1 x2 x3 x4 x5 x6 x7 ((lanesOf o inb').emb x) := by
  have hx : x = ix3 (x 0) (x 1) (x 2) := eq_ix3 x
  have hd : (lanesOf o inb').emb x 2 = x 2 := Fin.ext (by show 0 + 1 * (x 2).val = (x 2).val; omega)
  refine (congrArg _ hx).trans ((pay16_apply _ _ _ _ _ _ _ _ (x 0) (x 1) (x 2)).trans ?_)
  unfold blockA
  rw [hd]
  exact congrArg (fun h => softmaxAt (masked (splitScore h x7)) (x 2))
    (hRow_ld x0 x1 x2 x3 x4 x5 x6 o inb (x 1) ((lanesOf o inb').emb x 1) (by show o + 1 * (x 1).val = o + (x 1).val; omega))

end piece

theorem hz3 : (![0, 0, 0] : Fin 3 → Nat) = fun _ => 0 := funext fun a => by fin_cases a <;> rfl
theorem hz2 : (![0, 0] : Fin 2 → Nat) = fun _ => 0 := funext fun a => by fin_cases a <;> rfl

theorem ld_row (v : Vec Ideal S1x1x2048 .f32) : View.ld v r0_2 = v := View.ld_unit_zero (S := S1x1x2048) hz3 _ v
theorem ld_w (v : Vec Ideal S1x2048x2048 .bf16) : View.ld v r0_3 = v := View.ld_unit_zero (S := S1x2048x2048) hz3 _ v
theorem ld_gain (v : Vec Ideal S1x2048 .f32) : View.ld v r0_4 = v := View.ld_unit_zero (S := S1x2048) hz2 _ v
theorem ld_wr (v : Vec Ideal S2048x128 .f32) : View.ld v r0_0 = v := View.ld_unit_zero (S := S2048x128) hz2 _ v

theorem block_eqX : out0_8 x0 x1 x2 x3 x4 x5 x6 x7 = blockX x0 x1 x2 x3 := by
  unfold out0_8
  rw [ld_row, ld_w]
  funext y
  have h := View.canon_append_of_piecesOf (Val := Elt Ideal) (blockX x0 x1 x2 x3) []
    [⟨r0_6, k0_pay9 (F := Ideal) (View.ld x2 r0_6) x3 (View.ld x0 r0_6) x1⟩, ⟨r0_1, k0_pay9 (F := Ideal) (View.ld x2 r0_1) x3 (View.ld x0 r0_1) x1⟩]
    ⟨new_piece x0 x1 x2 x3 _ _, new_piece x0 x1 x2 x3 _ _, trivial⟩ y (cover0_8 _ _ y)
  rw [List.append_nil] at h
  exact h

theorem block_eqH : out0_9 x0 x1 x2 x3 x4 x5 x6 x7 = blockH x0 x1 x2 x3 x4 x5 x6 := by
  unfold_out out0_9
  rw [ld_row, ld_row, ld_row, ld_w, ld_gain]
  funext y
  have h := View.canon_append_of_piecesOf (Val := Elt Ideal) (blockH x0 x1 x2 x3 x4 x5 x6) []
    [⟨r0_6, k0_pay14 (F := Ideal) (k0_pay10 (View.ld x2 r0_6) x3 (View.ld x0 r0_6) x1) (k0_pay11 x4) x6 x5⟩,
      ⟨r0_1, k0_pay14 (F := Ideal) (k0_pay10 (View.ld x2 r0_1) x3 (View.ld x0 r0_1) x1) (k0_pay11 x4) x6 x5⟩]
    ⟨mod_piece x0 x1 x2 x3 x4 x5 x6 _ _, mod_piece x0 x1 x2 x3 x4 x5 x6 _ _, trivial⟩ y (cover0_9 _ _ y)
  rw [List.append_nil] at h
  exact h

theorem block_eqA : out0_10 x0 x1 x2 x3 x4 x5 x6 x7 = blockA x0 x1 x2 x3 x4 x5 x6 x7 := by
  unfold_out out0_10
  rw [ld_row, ld_row, ld_row, ld_w, ld_gain, ld_wr]
  funext y
  have h := View.canon_append_of_piecesOf (Val := Elt Ideal) (blockA x0 x1 x2 x3 x4 x5 x6 x7) []
    [⟨r0_7, k0_pay16 (F := Ideal) (k0_pay15 (k0_pay6 x7) (k0_pay7 x7) (k0_pay10 (View.ld x2 r0_6) x3 (View.ld x0 r0_6) x1) (k0_pay11 x4) x6 x5)⟩,
      ⟨r0_5, k0_pay16 (F := Ideal) (k0_pay15 (k0_pay6 x7) (k0_pay7 x7) (k0_pay10 (View.ld x2 r0_1) x3 (View.ld x0 r0_1) x1) (k0_pay11 x4) x6 x5)⟩]
    ⟨aff_piece x0 x1 x2 x3 x4 x5 x6 x7 _ _ inb_S1x512x128_S1x256x128_0_256_0, aff_piece x0 x1 x2 x3 x4 x5 x6 x7 _ _ inb_S1x512x128_S1x256x128_0_0_0, trivial⟩ y (cover0_10 _ _ y)
  rw [List.append_nil] at h
  exact h

/-! ## The blocks of the arguments -/

variable (m : (ℓ : Loc nD τ sig) → Buf (Elt Ideal) ℓ) (ρ : Dev nD → PrngReg)

/-- Argument arrays as functions of an index. -/
abbrev argA (c : Dev nD) : S4x2048x2048.Idx → EReal := m ((c : Thread nD τ).loc main_arg0)
abbrev argW (c : Dev nD) : S4x2048x2048.Idx → EReal := m ((c : Thread nD τ).loc main_arg1)
abbrev argX (c : Dev nD) : S4x2048x2048.Idx → EReal := m ((c : Thread nD τ).loc main_arg2)
abbrev argG (c : Dev nD) : S4x1x2048.Idx → EReal := m ((c : Thread nD τ).loc main_arg3)
abbrev argGain (c : Dev nD) : S4x2048.Idx → EReal := m ((c : Thread nD τ).loc main_arg4)
abbrev argSh (c : Dev nD) : S4x1x2048.Idx → EReal := m ((c : Thread nD τ).loc main_arg5)
abbrev argSc (c : Dev nD) : S4x1x2048.Idx → EReal := m ((c : Thread nD τ).loc main_arg6)
abbrev argR (c : Dev nD) : S4x2048x16.Idx → EReal := m ((c : Thread nD τ).loc main_arg7)

/-- The residual of token `(b, r)`. -/
def newAt (A W X : S4x2048x2048.Idx → EReal) (G : S4x1x2048.Idx → EReal) (b : Fin 4) (r d : Fin 2048) : EReal :=
  X (ix3 b r d) + G (ix3 b 0 d) * ∑ e : Fin 2048, A (ix3 b r e) * W (ix3 0 e d)

/-- Its norm, weighted, scaled and shifted. -/
def modAt (A W X : S4x2048x2048.Idx → EReal) (G : S4x1x2048.Idx → EReal) (gain : S4x2048.Idx → EReal) (sh sc : S4x1x2048.Idx → EReal) (b : Fin 4) (r : Fin 2048) :
    Fin 2048 → EReal :=
  modRow (newAt A W X G b r) (fun d => gain (ix2 0 d)) (fun d => sc (ix3 b 0 d)) (fun d => sh (ix3 b 0 d))

/-- The first layer's router weights in 128 lanes, zero beyond the sixteen. -/
def padded (R : S4x2048x16.Idx → EReal) : S2048x128.Idx → EReal := fun i => if h : (i 1).val < 16 then R (ix3 0 (i 0) ⟨(i 1).val, h⟩) else 0

theorem padded_lane (R : S4x2048x16.Idx → EReal) (d : Fin 2048) (l : Fin 16) : padded R (ix2 d (lane l)) = R (ix3 0 d l) := dif_pos l.isLt

theorem V_w (c : Dev nD) : V m c main_v0 = argW m c := by entry_read; rfl
theorem V_gain (c : Dev nD) : V m c main_v6 = shapeCast S1x2048 (shapeCast S2048 (extractStridedSlice S1x2048 ![0, 0] (argGain m c) slices_S4x2048_S1x2048_0_0) shapeCasts_S1x2048_S2048) shapeCasts_S2048_S1x2048 := by
  entry_read; rfl
theorem V_wr (c : Dev nD) : V m c main_v5 = pad S2048x128 ![0, 0] ![0, 112] ![0, 0]
    (shapeCast S2048x16 (extractStridedSlice S1x2048x16 ![0, 0, 0] (argR m c) slices_S4x2048x16_S1x2048x16_0_0_0) shapeCasts_S1x2048x16_S2048x16)
    (sitofp (F := Ideal) .f32 (constantI S_ 32 0#32)) pads_S2048x16_S2048x128_000_01120 h_S_ := by
  entry_read; rfl

/-- The weight of the second norm, as the point reads it. -/
theorem gain_apply (X : S4x2048.Idx → EReal) (d : Fin 2048) :
    shapeCast S1x2048 (shapeCast S2048 (extractStridedSlice S1x2048 ![0, 0] X slices_S4x2048_S1x2048_0_0) shapeCasts_S1x2048_S2048) shapeCasts_S2048_S1x2048 (ix2 0 d)
      = X (ix2 0 d) := by
  rw [shapeCast_apply _ shapeCasts_S2048_S1x2048 (ix2 0 d) (ix1 d) (by
      rewrite [Shape.rowMajor_val_one, Shape.rowMajor_val_two]
      show d.val = 0 * 2048 + d.val; omega),
    shapeCast_apply _ shapeCasts_S1x2048_S2048 (ix1 d) (ix2 0 d) (by
      rewrite [Shape.rowMajor_val_one, Shape.rowMajor_val_two]
      show 0 * 2048 + d.val = d.val; omega)]
  exact extractStridedSlice_apply ![0, 0] X slices_S4x2048_S1x2048_0_0 (ix2 0 d) (ix2 0 d) (fun a => match a with
    | ⟨0, _⟩ => by show 0 = 0 + 0; omega
    | ⟨1, _⟩ => by show d.val = 0 + d.val; omega)

/-- What the host's slice, reshape and pad of the router weights hold. -/
theorem pad_apply (R : S4x2048x16.Idx → EReal) (v : S_.Idx → EReal) (hv : v (Shape.Idx.first h_S_) = 0) (d : Fin 2048) (l : Fin 128) :
    pad S2048x128 ![0, 0] ![0, 112] ![0, 0]
      (shapeCast S2048x16 (extractStridedSlice S1x2048x16 ![0, 0, 0] R slices_S4x2048x16_S1x2048x16_0_0_0) shapeCasts_S1x2048x16_S2048x16) v
      pads_S2048x16_S2048x128_000_01120 h_S_ (ix2 d l) = padded R (ix2 d l) := by
  unfold padded
  by_cases h : l.val < 16
  · rw [dif_pos (show ((ix2 d l : S2048x128.Idx) 1).val < 16 from h)]
    refine (pad_apply_of_inside _ _ _ _ v pads_S2048x16_S2048x128_000_01120 h_S_ (ix2 d l) (ix2 d ⟨l.val, h⟩) fun a => ?_).trans ?_
    · match a with
      | ⟨0, _⟩ => show d.val = 0 + d.val * (0 + 1); omega
      | ⟨1, _⟩ => show l.val = 0 + l.val * (0 + 1); omega
    · rw [shapeCast_apply _ shapeCasts_S1x2048x16_S2048x16 (ix2 d ⟨l.val, h⟩) (ix3 0 d ⟨l.val, h⟩) (by
        rewrite [Shape.rowMajor_val_two, Shape.rowMajor_val_three]
        show (0 * 2048 + d.val) * 16 + l.val = d.val * 16 + l.val; omega)]
      exact extractStridedSlice_apply ![0, 0, 0] R slices_S4x2048x16_S1x2048x16_0_0_0 (ix3 0 d ⟨l.val, h⟩) (ix3 0 d ⟨l.val, h⟩) (fun a => match a with
        | ⟨0, _⟩ => by show 0 = 0 + 0; omega
        | ⟨1, _⟩ => by show d.val = 0 + d.val; omega
        | ⟨2, _⟩ => by show l.val = 0 + l.val; omega)
  · rw [dif_neg (show ¬((ix2 d l : S2048x128.Idx) 1).val < 16 from h)]
    refine (pad_apply_of_not_inside _ _ _ _ v pads_S2048x16_S2048x128_000_01120 h_S_ _ 1 fun ⟨_, _, h3⟩ => h ?_).trans hv
    have h3 : (l.val - 0) / (0 + 1) < 16 := h3
    omega

theorem fill_zero : (sitofp (F := Ideal) .f32 (constantI S_ 32 0#32) : S_.Idx → EReal) (Shape.Idx.first h_S_) = 0 :=
  Idealize.ShloMosaic.sitofp_zero

/-- The batch of a grid point, and its row `r` as a token of the batch. -/
abbrev batch (t : Fin cfg0.N) : Fin 4 := ⟨t.val / 4, by have := t.isLt; have hN : cfg0.N = 16 := N_0; omega⟩
@[inherit_doc batch] abbrev token (t : Fin cfg0.N) (r : Fin 512) : Fin 2048 := ⟨512 * (t.val % 4) + r.val, by have := r.isLt; omega⟩

theorem idx_A : ∀ t : Fin cfg0.N, win0_0.index t 0 = t.val / 4 ∧ win0_0.index t 1 = t.val % 4 ∧ win0_0.index t 2 = 0 := (by decide +kernel : ∀ t : Fin grid0.N, _)
theorem idx_W : ∀ t : Fin cfg0.N, win0_1.index t 0 = 0 ∧ win0_1.index t 1 = 0 ∧ win0_1.index t 2 = 0 := (by decide +kernel : ∀ t : Fin grid0.N, _)
theorem idx_X : ∀ t : Fin cfg0.N, win0_2.index t 0 = t.val / 4 ∧ win0_2.index t 1 = t.val % 4 ∧ win0_2.index t 2 = 0 := (by decide +kernel : ∀ t : Fin grid0.N, _)
theorem idx_G : ∀ t : Fin cfg0.N, win0_3.index t 0 = t.val / 4 ∧ win0_3.index t 1 = 0 ∧ win0_3.index t 2 = 0 := (by decide +kernel : ∀ t : Fin grid0.N, _)
theorem idx_gain : ∀ t : Fin cfg0.N, win0_4.index t 0 = 0 ∧ win0_4.index t 1 = 0 := (by decide +kernel : ∀ t : Fin grid0.N, _)
theorem idx_sh : ∀ t : Fin cfg0.N, win0_5.index t 0 = t.val / 4 ∧ win0_5.index t 1 = 0 ∧ win0_5.index t 2 = 0 := (by decide +kernel : ∀ t : Fin grid0.N, _)
theorem idx_sc : ∀ t : Fin cfg0.N, win0_6.index t 0 = t.val / 4 ∧ win0_6.index t 1 = 0 ∧ win0_6.index t 2 = 0 := (by decide +kernel : ∀ t : Fin grid0.N, _)
theorem idx_wr : ∀ t : Fin cfg0.N, win0_7.index t 0 = 0 ∧ win0_7.index t 1 = 0 := (by decide +kernel : ∀ t : Fin grid0.N, _)
theorem idx_8 : ∀ t : Fin cfg0.N, win0_8.index t 0 = t.val / 4 ∧ win0_8.index t 1 = t.val % 4 ∧ win0_8.index t 2 = 0 := (by decide +kernel : ∀ t : Fin grid0.N, _)
theorem idx_9 : ∀ t : Fin cfg0.N, win0_9.index t 0 = t.val / 4 ∧ win0_9.index t 1 = t.val % 4 ∧ win0_9.index t 2 = 0 := (by decide +kernel : ∀ t : Fin grid0.N, _)
theorem idx_10 : ∀ t : Fin cfg0.N, win0_10.index t 0 = t.val / 4 ∧ win0_10.index t 1 = t.val % 4 ∧ win0_10.index t 2 = 0 := (by decide +kernel : ∀ t : Fin grid0.N, _)

theorem blk_A (c : Dev nD) (t : Fin cfg0.N) (r : Fin 512) (e : Fin 2048) : iblk m c 0 t (ix3 (0 : Fin 1) r e) = argA m c (ix3 (batch t) (token t r) e) := by
  unfold iblk
  rw [View.read_apply]
  show V m c main_arg0 _ = _
  rw [V_main_arg0]
  refine congrArg (argA m c) ?_
  funext a; apply Fin.ext
  obtain ⟨h0, h1, h2⟩ := idx_A t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 2048 + 1 * e.val = e.val; omega

theorem blk_W (c : Dev nD) (t : Fin cfg0.N) (e d : Fin 2048) : iblk m c 1 t (ix3 (0 : Fin 1) e d) = argW m c (ix3 0 e d) := by
  unfold iblk
  rw [View.read_apply]
  show V m c main_v0 _ = _
  rw [V_w]
  refine congrArg (argW m c) ?_
  funext a; apply Fin.ext
  obtain ⟨h0, h1, h2⟩ := idx_W t
  match a with
  | ⟨0, _⟩ => show win0_1.index t 0 * 1 + 1 * 0 = 0; omega
  | ⟨1, _⟩ => show win0_1.index t 1 * 2048 + 1 * e.val = e.val; omega
  | ⟨2, _⟩ => show win0_1.index t 2 * 2048 + 1 * d.val = d.val; omega

theorem blk_X (c : Dev nD) (t : Fin cfg0.N) (r : Fin 512) (e : Fin 2048) : iblk m c 2 t (ix3 (0 : Fin 1) r e) = argX m c (ix3 (batch t) (token t r) e) := by
  unfold iblk
  rw [View.read_apply]
  show V m c main_arg2 _ = _
  rw [V_main_arg2]
  refine congrArg (argX m c) ?_
  funext a; apply Fin.ext
  obtain ⟨h0, h1, h2⟩ := idx_X t
  match a with
  | ⟨0, _⟩ => show win0_2.index t 0 * 1 + 1 * 0 = t.val / 4; omega
  | ⟨1, _⟩ => show win0_2.index t 1 * 512 + 1 * r.val = 512 * (t.val % 4) + r.val; omega
  | ⟨2, _⟩ => show win0_2.index t 2 * 2048 + 1 * e.val = e.val; omega

theorem blk_G (c : Dev nD) (t : Fin cfg0.N) (d : Fin 2048) : iblk m c 3 t (ix3 (0 : Fin 1) 0 d) = argG m c (ix3 (batch t) 0 d) := by
  unfold iblk
  rw [View.read_apply]
  show V m c main_arg3 _ = _
  rw [V_main_arg3]
  refine congrArg (argG m c) ?_
  funext a; apply Fin.ext
  obtain ⟨h0, h1, h2⟩ := idx_G t
  match a with
  | ⟨0, _⟩ => show win0_3.index t 0 * 1 + 1 * 0 = t.val / 4; omega
  | ⟨1, _⟩ => show win0_3.index t 1 * 1 + 1 * 0 = 0; omega
  | ⟨2, _⟩ => show win0_3.index t 2 * 2048 + 1 * d.val = d.val; omega

theorem blk_gain (c : Dev nD) (t : Fin cfg0.N) (d : Fin 2048) : iblk m c 4 t (ix2 (0 : Fin 1) d) = argGain m c (ix2 0 d) := by
  unfold iblk
  rw [View.read_apply]
  show V m c main_v6 _ = _
  rw [V_gain]
  refine (congrArg _ ?_).trans (gain_apply (argGain m c) d)
  funext a; apply Fin.ext
  obtain ⟨h0, h1⟩ := idx_gain t
  match a with
  | ⟨0, _⟩ => show win0_4.index t 0 * 1 + 1 * 0 = 0; omega
  | ⟨1, _⟩ => show win0_4.index t 1 * 2048 + 1 * d.val = d.val; omega

theorem blk_sh (c : Dev nD) (t : Fin cfg0.N) (d : Fin 2048) : iblk m c 5 t (ix3 (0 : Fin 1) 0 d) = argSh m c (ix3 (batch t) 0 d) := by
  unfold iblk
  rw [View.read_apply]
  show V m c main_arg5 _ = _
  rw [V_main_arg5]
  refine congrArg (argSh m c) ?_
  funext a; apply Fin.ext
  obtain ⟨h0, h1, h2⟩ := idx_sh t
  match a with
  | ⟨0, _⟩ => show win0_5.index t 0 * 1 + 1 * 0 = t.val / 4; omega
  | ⟨1, _⟩ => show win0_5.index t 1 * 1 + 1 * 0 = 0; omega
  | ⟨2, _⟩ => show win0_5.index t 2 * 2048 + 1 * d.val = d.val; omega

theorem blk_sc (c : Dev nD) (t : Fin cfg0.N) (d : Fin 2048) : iblk m c 6 t (ix3 (0 : Fin 1) 0 d) = argSc m c (ix3 (batch t) 0 d) := by
  unfold iblk
  rw [View.read_apply]
  show V m c main_arg6 _ = _
  rw [V_main_arg6]
  refine congrArg (argSc m c) ?_
  funext a; apply Fin.ext
  obtain ⟨h0, h1, h2⟩ := idx_sc t
  match a with
  | ⟨0, _⟩ => show win0_6.index t 0 * 1 + 1 * 0 = t.val / 4; omega
  | ⟨1, _⟩ => show win0_6.index t 1 * 1 + 1 * 0 = 0; omega
  | ⟨2, _⟩ => show win0_6.index t 2 * 2048 + 1 * d.val = d.val; omega

theorem blk_wr (c : Dev nD) (t : Fin cfg0.N) : iblk m c 7 t = padded (argR m c) := by
  funext i
  have hi : i = ix2 (i 0) (i 1) := eq_ix2 i
  unfold iblk
  rw [View.read_apply]
  show V m c main_v5 _ = _
  rw [V_wr]
  refine (congrArg _ ?_).trans ((pad_apply (argR m c) _ fill_zero (i 0) (i 1)).trans (congrArg _ hi.symm))
  funext a; apply Fin.ext
  obtain ⟨h0, h1⟩ := idx_wr t
  match a with
  | ⟨0, _⟩ => show win0_7.index t 0 * 2048 + 1 * (i 0).val = (i 0).val; omega
  | ⟨1, _⟩ => show win0_7.index t 1 * 128 + 1 * (i 1).val = (i 1).val; omega

theorem new_blk (c : Dev nD) (t : Fin cfg0.N) (r : Fin 512) :
    newRow (iblk m c 2 t) (iblk m c 3 t) (iblk m c 0 t) (iblk m c 1 t) r = newAt (argA m c) (argW m c) (argX m c) (argG m c) (batch t) (token t r) := by
  funext d
  refine congrArg₂ (α := EReal) (β := EReal) (γ := EReal) (fun p q => p + q) (blk_X m c t r d)
    (congrArg₂ (α := EReal) (β := EReal) (γ := EReal) (fun p q => p * q) (blk_G m c t d) ?_)
  exact Finset.sum_congr rfl fun e _ => congrArg₂ (α := EReal) (β := EReal) (γ := EReal) (fun p q => p * q) (blk_A m c t r e) (blk_W m c t e d)

theorem mod_blk (c : Dev nD) (t : Fin cfg0.N) (r : Fin 512) :
    hRow (iblk m c 2 t) (iblk m c 3 t) (iblk m c 0 t) (iblk m c 1 t) (iblk m c 4 t) (iblk m c 6 t) (iblk m c 5 t) r
      = modAt (argA m c) (argW m c) (argX m c) (argG m c) (argGain m c) (argSh m c) (argSc m c) (batch t) (token t r) := by
  have h4 : (fun d : Fin 2048 => (iblk m c 4 t : S1x2048.Idx → EReal) (ix2 0 d)) = fun d => argGain m c (ix2 0 d) := funext fun d => blk_gain m c t d
  have h5 : (fun d : Fin 2048 => (iblk m c 5 t : S1x1x2048.Idx → EReal) (ix3 0 0 d)) = fun d => argSh m c (ix3 (batch t) 0 d) := funext fun d => blk_sh m c t d
  have h6 : (fun d : Fin 2048 => (iblk m c 6 t : S1x1x2048.Idx → EReal) (ix3 0 0 d)) = fun d => argSc m c (ix3 (batch t) 0 d) := funext fun d => blk_sc m c t d
  unfold modAt
  exact congr (congr (congr (congrArg modRow (new_blk m c t r)) h4) h6) h5

/-! ## The result arrays -/

/-- The new residual stream, its modulated norm, and the router's softmax in 128 lanes. -/
def GX (c : Dev nD) : S4x2048x2048.Idx → EReal := fun i => newAt (argA m c) (argW m c) (argX m c) (argG m c) (i 0) (i 1) (i 2)
@[inherit_doc GX] def GH (c : Dev nD) : S4x2048x2048.Idx → EReal := fun i =>
  modAt (argA m c) (argW m c) (argX m c) (argG m c) (argGain m c) (argSh m c) (argSc m c) (i 0) (i 1) (i 2)
@[inherit_doc GX] def GLanes (c : Dev nD) : S4x2048x128.Idx → EReal := fun i =>
  softmaxAt (masked (splitScore (modAt (argA m c) (argW m c) (argX m c) (argG m c) (argGain m c) (argSh m c) (argSc m c) (i 0) (i 1)) (padded (argR m c)))) (i 2)

theorem flushed8 (c : Dev nD) (t : Fin cfg0.N) (_ : (cfg0.win 8).flush t = true) : (dats m 0 c).flushed 8 t = ((cfg0.win 8).blk t).view.read (Elt Ideal) (GX m c) := by
  show (cfg0.win 8).cut (grid0.coords t) ((dats m 0 c).after 8 t) = _
  rw [after0_8, block_eqX]
  funext y
  rw [View.read_apply]
  obtain ⟨h0, h1, h2⟩ := idx_8 t
  refine (congrFun (new_blk m c t (y 1)) (y 2)).trans ?_
  unfold GX
  have y0 : (y 0).val < 1 := (y 0).isLt
  have e0 : batch t = (((cfg0.win 8).blk t).view.emb y) 0 := Fin.ext (by show t.val / 4 = win0_8.index t 0 * 1 + 1 * (y 0).val; omega)
  have e1 : token t (y 1) = (((cfg0.win 8).blk t).view.emb y) 1 := Fin.ext (by show 512 * (t.val % 4) + (y 1).val = win0_8.index t 1 * 512 + 1 * (y 1).val; omega)
  have e2 : (y 2 : Fin 2048) = (((cfg0.win 8).blk t).view.emb y) 2 := Fin.ext (by show (y 2).val = win0_8.index t 2 * 2048 + 1 * (y 2).val; omega)
  exact congr (congr (congrArg (newAt (argA m c) (argW m c) (argX m c) (argG m c)) e0) e1) e2

theorem flushed9 (c : Dev nD) (t : Fin cfg0.N) (_ : (cfg0.win 9).flush t = true) : (dats m 0 c).flushed 9 t = ((cfg0.win 9).blk t).view.read (Elt Ideal) (GH m c) := by
  show (cfg0.win 9).cut (grid0.coords t) ((dats m 0 c).after 9 t) = _
  rw [after0_9, block_eqH]
  funext y
  rw [View.read_apply]
  obtain ⟨h0, h1, h2⟩ := idx_9 t
  refine (congrFun (mod_blk m c t (y 1)) (y 2)).trans ?_
  unfold GH
  have y0 : (y 0).val < 1 := (y 0).isLt
  have e0 : batch t = (((cfg0.win 9).blk t).view.emb y) 0 := Fin.ext (by show t.val / 4 = win0_9.index t 0 * 1 + 1 * (y 0).val; omega)
  have e1 : token t (y 1) = (((cfg0.win 9).blk t).view.emb y) 1 := Fin.ext (by show 512 * (t.val % 4) + (y 1).val = win0_9.index t 1 * 512 + 1 * (y 1).val; omega)
  have e2 : (y 2 : Fin 2048) = (((cfg0.win 9).blk t).view.emb y) 2 := Fin.ext (by show (y 2).val = win0_9.index t 2 * 2048 + 1 * (y 2).val; omega)
  exact congr (congr (congrArg (modAt (argA m c) (argW m c) (argX m c) (argG m c) (argGain m c) (argSh m c) (argSc m c)) e0) e1) e2

theorem flushed10 (c : Dev nD) (t : Fin cfg0.N) (_ : (cfg0.win 10).flush t = true) : (dats m 0 c).flushed 10 t = ((cfg0.win 10).blk t).view.read (Elt Ideal) (GLanes m c) := by
  show (cfg0.win 10).cut (grid0.coords t) ((dats m 0 c).after 10 t) = _
  rw [after0_10, block_eqA]
  funext y
  rw [View.read_apply]
  obtain ⟨h0, h1, h2⟩ := idx_10 t
  refine (congr (congrArg (fun h w => softmaxAt (masked (splitScore h w)) (y 2)) (mod_blk m c t (y 1))) (blk_wr m c t)).trans ?_
  unfold GLanes
  have y0 : (y 0).val < 1 := (y 0).isLt
  have e0 : batch t = (((cfg0.win 10).blk t).view.emb y) 0 := Fin.ext (by show t.val / 4 = win0_10.index t 0 * 1 + 1 * (y 0).val; omega)
  have e1 : token t (y 1) = (((cfg0.win 10).blk t).view.emb y) 1 := Fin.ext (by show 512 * (t.val % 4) + (y 1).val = win0_10.index t 1 * 512 + 1 * (y 1).val; omega)
  have e2 : (y 2 : Fin 128) = (((cfg0.win 10).blk t).view.emb y) 2 := Fin.ext (by show (y 2).val = win0_10.index t 2 * 128 + 1 * (y 2).val; omega)
  exact congr (congr (congrArg (fun b r l => softmaxAt (masked (splitScore
    (modAt (argA m c) (argW m c) (argX m c) (argG m c) (argGain m c) (argSh m c) (argSc m c) b r) (padded (argR m c)))) l) e0) e1) e2

/-- The grid point that writes a token's row. -/
theorem point_of (b : Fin 4) (r : Fin 2048) : ∃ t : Fin cfg0.N, t.val = 4 * b.val + r.val / 512 := by
  have := b.isLt; have := r.isLt; have hN : cfg0.N = 16 := N_0
  exact ⟨⟨4 * b.val + r.val / 512, by omega⟩, rfl⟩

theorem final8 (c : Dev nD) : (dats m 0 c).arrAt 8 cfg0.N = GX m c :=
  (dats m 0 c).arrAt_eq_of_cover 8 (GX m c) (flushed8 m c) fun i => by
    have i0 : (i 0 : Nat) < 4 := (i 0).isLt
    have i1 : (i 1 : Nat) < 2048 := (i 1).isLt
    have i2 : (i 2 : Nat) < 2048 := (i 2).isLt
    have hf : ∀ t : Fin cfg0.N, (cfg0.win 8).flush t = true := (by decide +kernel : ∀ t : Fin grid0.N, _)
    obtain ⟨t, ht⟩ := point_of (i 0) (i 1)
    refine ⟨t, hf t, ?_⟩
    show i ∈ ((View.whole main_v7_0).slice (win0_8.rect t)).set
    rw [View.set_slice_whole, Rect.mem_set_unit]
    obtain ⟨h0, h1, h2⟩ := idx_8 t
    intro a
    match a with
    | ⟨0, _⟩ => show win0_8.index t 0 * 1 ≤ (i 0 : Nat) ∧ (i 0 : Nat) < win0_8.index t 0 * 1 + 1; omega
    | ⟨1, _⟩ => show win0_8.index t 1 * 512 ≤ (i 1 : Nat) ∧ (i 1 : Nat) < win0_8.index t 1 * 512 + 512; omega
    | ⟨2, _⟩ => show win0_8.index t 2 * 2048 ≤ (i 2 : Nat) ∧ (i 2 : Nat) < win0_8.index t 2 * 2048 + 2048; omega

theorem final9 (c : Dev nD) : (dats m 0 c).arrAt 9 cfg0.N = GH m c :=
  (dats m 0 c).arrAt_eq_of_cover 9 (GH m c) (flushed9 m c) fun i => by
    have i0 : (i 0 : Nat) < 4 := (i 0).isLt
    have i1 : (i 1 : Nat) < 2048 := (i 1).isLt
    have i2 : (i 2 : Nat) < 2048 := (i 2).isLt
    have hf : ∀ t : Fin cfg0.N, (cfg0.win 9).flush t = true := (by decide +kernel : ∀ t : Fin grid0.N, _)
    obtain ⟨t, ht⟩ := point_of (i 0) (i 1)
    refine ⟨t, hf t, ?_⟩
    show i ∈ ((View.whole main_v7_1).slice (win0_9.rect t)).set
    rw [View.set_slice_whole, Rect.mem_set_unit]
    obtain ⟨h0, h1, h2⟩ := idx_9 t
    intro a
    match a with
    | ⟨0, _⟩ => show win0_9.index t 0 * 1 ≤ (i 0 : Nat) ∧ (i 0 : Nat) < win0_9.index t 0 * 1 + 1; omega
    | ⟨1, _⟩ => show win0_9.index t 1 * 512 ≤ (i 1 : Nat) ∧ (i 1 : Nat) < win0_9.index t 1 * 512 + 512; omega
    | ⟨2, _⟩ => show win0_9.index t 2 * 2048 ≤ (i 2 : Nat) ∧ (i 2 : Nat) < win0_9.index t 2 * 2048 + 2048; omega

theorem final10 (c : Dev nD) : (dats m 0 c).arrAt 10 cfg0.N = GLanes m c :=
  (dats m 0 c).arrAt_eq_of_cover 10 (GLanes m c) (flushed10 m c) fun i => by
    have i0 : (i 0 : Nat) < 4 := (i 0).isLt
    have i1 : (i 1 : Nat) < 2048 := (i 1).isLt
    have i2 : (i 2 : Nat) < 128 := (i 2).isLt
    have hf : ∀ t : Fin cfg0.N, (cfg0.win 10).flush t = true := (by decide +kernel : ∀ t : Fin grid0.N, _)
    obtain ⟨t, ht⟩ := point_of (i 0) (i 1)
    refine ⟨t, hf t, ?_⟩
    show i ∈ ((View.whole main_v7_2).slice (win0_10.rect t)).set
    rw [View.set_slice_whole, Rect.mem_set_unit]
    obtain ⟨h0, h1, h2⟩ := idx_10 t
    intro a
    match a with
    | ⟨0, _⟩ => show win0_10.index t 0 * 1 ≤ (i 0 : Nat) ∧ (i 0 : Nat) < win0_10.index t 0 * 1 + 1; omega
    | ⟨1, _⟩ => show win0_10.index t 1 * 512 ≤ (i 1 : Nat) ∧ (i 1 : Nat) < win0_10.index t 1 * 512 + 512; omega
    | ⟨2, _⟩ => show win0_10.index t 2 * 128 ≤ (i 2 : Nat) ∧ (i 2 : Nat) < win0_10.index t 2 * 128 + 128; omega

/-- The sixteen lanes the host keeps. -/
def GA (c : Dev nD) : S4x2048x16.Idx → EReal := fun i => GLanes m c (ix3 (i 0) (i 1) (lane (i 2)))

theorem kept (X : S4x2048x128.Idx → EReal) (i : S4x2048x16.Idx) :
    extractStridedSlice S4x2048x16 ![0, 0, 0] X slices_S4x2048x128_S4x2048x16_0_0_0 i = X (ix3 (i 0) (i 1) (lane (i 2))) :=
  extractStridedSlice_apply ![0, 0, 0] X slices_S4x2048x128_S4x2048x16_0_0_0 i (ix3 (i 0) (i 1) (lane (i 2))) (fun a => match a with
    | ⟨0, _⟩ => by show (i 0).val = 0 + (i 0).val; omega
    | ⟨1, _⟩ => by show (i 1).val = 0 + (i 1).val; omega
    | ⟨2, _⟩ => by show (i 2).val = 0 + (i 2).val; omega)

theorem tail_eq (c : Dev nD) : Pipeline.afterTail₀ cfgs (dats m) 0 (V0 m) [hostOps1] c main_v8 = GA m c := by
  unfold Pipeline.afterTail₀
  simp only [hostOps1, List.flatten_cons, List.flatten_nil, List.append_nil]
  after_results
  refine Eq.trans ?_ (funext fun i => kept (GLanes m c) i)
  refine congrArg (fun v : S4x2048x128.Idx → EReal => extractStridedSlice S4x2048x16 ![0, 0, 0] v slices_S4x2048x128_S4x2048x16_0_0_0) ?_
  exact (Pipeline.withArrays_arr spec0 (by decide : Function.Injective (Pipeline.arrRef spec0)) c (V0 m c) _ 10).trans (final10 m c)

/-- The run: the result arrays at `GX`, `GH` and `GA`, the arguments unchanged. -/
theorem run : θ_run defs (onTc (τ := τ) (main (F := Ideal))) ⟨m, fun _ => 0, ρ⟩ fun r => ∀ c : Dev nD,
      (r.2.mem ((c : Thread nD τ).loc main_v7_0) = GX m c ∧ r.2.mem ((c : Thread nD τ).loc main_v7_1) = GH m c ∧ r.2.mem ((c : Thread nD τ).loc main_v8) = GA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨⟨((h c).1 8).trans (final8 m c), ((h c).1 9).trans (final9 m c),
      ((h c).2 main_v8 (Pipeline.mem_restRefs_of main_v8 (by decide) (by decide))).trans (tail_eq m c)⟩,
    ((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    (((h c).2 main_arg4 (Pipeline.mem_restRefs_of main_arg4 (by decide) (by decide))).trans (W_main_arg4 m (dats m) c)),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    (((h c).2 main_arg7 (Pipeline.mem_restRefs_of main_arg7 (by decide) (by decide))).trans (W_main_arg7 m (dats m) c))⟩) (Gen.run_main m ρ)

end Cert.Kernel8Ideal.RouterKernel

end
-- ==== Proof.RouterRef.lean ====
/-
  The output projection and router's reference, entry by entry: the residual (`new_apply`), its norm, modulated
  (`mod_apply`), and the softmax of the sixteen router scores (`aff_apply`).
-/
module

public import proofs.«01_k».proof.Proof.Gen.Reference8Ideal.Read
public import proofs.«01_k».proof.Proof.RouterKernel
public import Idealize.ShloMosaic.Lib.KernelVsHost

@[expose] public section

set_option maxRecDepth 16384

noncomputable section

namespace Cert.RouterRef

open Cert.Reference8Ideal Cert.Reference8Ideal.Read Cert.Reference8Ideal.Gen Idealize.ShloMosaic Idealize.ShloMosaic.TcCoe Idealize.ShloMosaic.ValueIdx
open Cert.Kernel4Ideal.ScatterPay (scale zeroBits oneBits)
open Cert.KernelIdeal.AttentionBlock (negInf)
open Cert.RouterMath (softmaxAt)
open Cert.Kernel8Ideal.RouterKernel (newAt modAt)
open scoped BigOperators

variable (A W X : S4x2048x2048.Idx → EReal) (g : S4x1x2048.Idx → EReal) (gain : S4x2048.Idx → EReal) (sh sc : S4x1x2048.Idx → EReal) (R : S4x2048x16.Idx → EReal)

theorem weight_apply (e d : Fin 2048) : val_main_v2 (F := Ideal) W (ix2 e d) = W (ix3 0 e d) := by
  rw [val_main_v2_apply, val_main_v1_apply]
  refine congrArg W (funext fun a => Fin.ext ?_)
  have he := e.isLt; have hd := d.isLt
  match a with
  | ⟨0, _⟩ => rfl
  | ⟨1, _⟩ => show (e.val * 2048 + d.val) / 2048 % 2048 = e.val; omega
  | ⟨2, _⟩ => show (e.val * 2048 + d.val) % 2048 = d.val; omega

theorem new_apply (b : Fin 4) (r d : Fin 2048) : val_main_v6 (F := Ideal) A W X g (ix3 b r d) = newAt A W X g b r d := by
  rw [val_main_v6_apply, val_main_v5_apply, val_main_v4_apply, val_main_v3_apply]
  refine congrArg₂ (α := EReal) (β := EReal) (γ := EReal) (fun p q => X (ix3 b r d) + p * q) (congrArg g (funext fun a => match a with | ⟨0, _⟩ => rfl | ⟨1, _⟩ => rfl | ⟨2, _⟩ => rfl)) ?_
  refine Finset.sum_congr rfl fun e _ => congrArg₂ (α := EReal) (β := EReal) (γ := EReal) (fun p q => p * q) ?_ ?_
  · exact congrArg A (funext fun a => match a with | ⟨0, _⟩ => rfl | ⟨1, _⟩ => rfl | ⟨2, _⟩ => rfl)
  · exact (congrArg _ (funext fun a => match a with | ⟨0, _⟩ => rfl | ⟨1, _⟩ => rfl)).trans (weight_apply W e d)

theorem scale_apply (b : Fin 4) (r d : Fin 2048) : val_main_v15 (F := Ideal) A W X g (ix3 b r d) = scale (newAt A W X g b r) := by
  have hsq : ∀ k : Fin 2048, val_main_v7 (F := Ideal) A W X g (idx_main_v8 (ix2 b r) k) = newAt A W X g b r k * newAt A W X g b r k := by
    intro k
    have e : idx_main_v8 (ix2 b r) k = ix3 b r k := funext fun a => match a with | ⟨0, _⟩ => rfl | ⟨1, _⟩ => rfl | ⟨2, _⟩ => rfl
    rw [e, val_main_v7_apply, new_apply]
    rfl
  have hsum : val_main_v8 (F := Ideal) A W X g (ix2 b r) = ∑ k : Fin 2048, newAt A W X g b r k * newAt A W X g b r k := by
    rw [val_main_v8_apply]
    simp only [hsq]
    exact (congrArg (fun p : EReal => p + _) zeroBits).trans (zero_add _)
  have h9 : val_main_v9 (F := Ideal) A W X g (ix3 b r (0 : Fin 1)) = ∑ k : Fin 2048, newAt A W X g b r k * newAt A W X g b r k := by
    rw [val_main_v9_apply]
    refine Eq.trans (congrArg _ (funext fun a => ?_)) hsum
    match a with
    | ⟨0, _⟩ => rfl
    | ⟨1, _⟩ => rfl
  rw [val_main_v15_apply]
  have e : idx_main_v15 (ix3 b r d) = ix3 b r (0 : Fin 1) := funext fun a => match a with | ⟨0, _⟩ => rfl | ⟨1, _⟩ => rfl | ⟨2, _⟩ => rfl
  rw [e]
  unfold scale
  exact congrArg (fun p : EReal => Ideal.rsqrt (Ideal.div p (FloatOps.ofBits (F := Ideal) .f32 0x45000000#32 : EReal) + (FloatOps.ofBits (F := Ideal) .f32 0x358637BD#32 : EReal))) h9

theorem gain_apply (b : Fin 4) (r d : Fin 2048) : val_main_v20 (F := Ideal) gain (ix3 b r d) = gain (ix2 0 d) := by
  rw [val_main_v20_apply, val_main_v19_apply, val_main_v18_apply, val_main_v17_apply]
  refine congrArg gain (funext fun a => Fin.ext ?_)
  have hd := d.isLt
  match a with
  | ⟨0, _⟩ => rfl
  | ⟨1, _⟩ => show d.val % 2048 = d.val; omega

theorem mod_apply (b : Fin 4) (r d : Fin 2048) : val_main_v27 (F := Ideal) A W X g gain sh sc (ix3 b r d) = modAt A W X g gain sh sc b r d := by
  have h16 : val_main_v16 (F := Ideal) A W X g (ix3 b r d) = newAt A W X g b r d * scale (newAt A W X g b r) := by
    rw [val_main_v16_apply, new_apply, scale_apply]
    rfl
  have h24 : val_main_v24 (F := Ideal) sc (ix3 b r d) = 1 + sc (ix3 b 0 d) := by
    rw [val_main_v24_apply, val_main_v23_apply]
    refine congrArg₂ (α := EReal) (β := EReal) (γ := EReal) (fun p q => p + q) ?_ (congrArg sc (funext fun a => match a with | ⟨0, _⟩ => rfl | ⟨1, _⟩ => rfl | ⟨2, _⟩ => rfl))
    exact oneBits
  have h26 : val_main_v26 (F := Ideal) sh (ix3 b r d) = sh (ix3 b 0 d) := by
    rw [val_main_v26_apply]
    exact congrArg sh (funext fun a => match a with | ⟨0, _⟩ => rfl | ⟨1, _⟩ => rfl | ⟨2, _⟩ => rfl)
  rw [val_main_v27_apply, val_main_v25_apply, val_main_v21_apply, h16, h24, h26, gain_apply]
  rfl

theorem router_apply (d : Fin 2048) (l : Fin 16) : val_main_v29 (F := Ideal) R (ix2 d l) = R (ix3 0 d l) := by
  rw [val_main_v29_apply, val_main_v28_apply]
  refine congrArg R (funext fun a => Fin.ext ?_)
  have hd := d.isLt; have hl := l.isLt
  match a with
  | ⟨0, _⟩ => rfl
  | ⟨1, _⟩ => show (d.val * 16 + l.val) / 16 % 2048 = d.val; omega
  | ⟨2, _⟩ => show (d.val * 16 + l.val) % 16 = l.val; omega

/-- A token's score for an expert. -/
def scoreAt (b : Fin 4) (r : Fin 2048) (l : Fin 16) : EReal := ∑ d : Fin 2048, modAt A W X g gain sh sc b r d * R (ix3 0 d l)

theorem score_apply (b : Fin 4) (r : Fin 2048) (l : Fin 16) : val_main_v30 (F := Ideal) A W X g gain sh sc R (ix3 b r l) = scoreAt A W X g gain sh sc R b r l := by
  rw [val_main_v30_apply]
  refine Finset.sum_congr rfl fun d _ => congrArg₂ (α := EReal) (β := EReal) (γ := EReal) (fun p q => p * q) ?_ ?_
  · exact (congrArg _ (funext fun a => match a with | ⟨0, _⟩ => rfl | ⟨1, _⟩ => rfl | ⟨2, _⟩ => rfl)).trans (mod_apply A W X g gain sh sc b r d)
  · exact (congrArg _ (funext fun a => match a with | ⟨0, _⟩ => rfl | ⟨1, _⟩ => rfl)).trans (router_apply R d l)

theorem red : S4x2048x16.Reduces [2] S4x2048 := by decide

theorem rowTop_apply (b : Fin 4) (r : Fin 2048) :
    val_main_v33 (F := Ideal) A W X g gain sh sc R (ix2 b r) = (Finset.univ : Finset (Fin 16)).fold max ⊥ (scoreAt A W X g gain sh sc R b r) := by
  rw [val_main_v33_apply, val_main_v32_apply]
  show max (FloatOps.ofBits (F := Ideal) .f32 0xFF800000#32 : EReal) _ = _
  rw [negInf, max_eq_right bot_le]
  unfold val_main_v31 val_main_cst_3
  refine (congrFun (hostReduce_maximumf_eq_multiReduction (F := Ideal) (φ := .f32) (s := S4x2048x16) (t := S4x2048) (u := S_)
    (val_main_v30 (F := Ideal) A W X g gain sh sc R) 0xFF800000#32 reducesTo_S4x2048x16_S4x2048_d2 h_S_ red (.inl rfl) rfl) _).trans ?_
  refine (Ideal.multiReduction_maximumf_single (φ := .f32) (s := S4x2048x16) (t := S4x2048) (a := 2) _ _ red _ _ _).trans ?_
  rw [negInf]
  refine congrArg (fun f => (Finset.univ : Finset (Fin 16)).fold max ⊥ f) (funext fun k => ?_)
  refine Eq.trans ?_ (score_apply A W X g gain sh sc R b r k)
  refine congrArg (val_main_v30 (F := Ideal) A W X g gain sh sc R) ?_
  funext a; apply Fin.ext
  match a with
  | ⟨0, _⟩ => rfl
  | ⟨1, _⟩ => rfl
  | ⟨2, _⟩ => rfl

theorem exp_apply (b : Fin 4) (r : Fin 2048) (l : Fin 16) :
    val_main_v37 (F := Ideal) A W X g gain sh sc R (ix3 b r l)
      = Ideal.exp (scoreAt A W X g gain sh sc R b r l - (Finset.univ : Finset (Fin 16)).fold max ⊥ (scoreAt A W X g gain sh sc R b r)) := by
  rw [val_main_v37_apply, val_main_v36_apply, val_main_v35_apply, val_main_v34_apply]
  show Ideal.exp (_ - _) = _
  rw [score_apply, ← rowTop_apply]
  refine congrArg (fun j => Ideal.exp (_ - val_main_v33 (F := Ideal) A W X g gain sh sc R j)) ?_
  funext a
  match a with
  | ⟨0, _⟩ => rfl
  | ⟨1, _⟩ => rfl

theorem sum_apply (b : Fin 4) (r : Fin 2048) (l : Fin 16) :
    val_main_v40 (F := Ideal) A W X g gain sh sc R (ix3 b r l) = ∑ k : Fin 16, val_main_v37 (F := Ideal) A W X g gain sh sc R (ix3 b r k) := by
  rw [val_main_v40_apply, val_main_v39_apply, val_main_v38_apply]
  refine ((congrArg (fun p : EReal => p + _) zeroBits).trans (zero_add _)).trans ?_
  refine Finset.sum_congr rfl fun k' _ => congrArg (val_main_v37 (F := Ideal) A W X g gain sh sc R) ?_
  funext a
  match a with
  | ⟨0, _⟩ => rfl
  | ⟨1, _⟩ => rfl
  | ⟨2, _⟩ => rfl

theorem aff_apply (b : Fin 4) (r : Fin 2048) (l : Fin 16) :
    val_main_v41 (F := Ideal) A W X g gain sh sc R (ix3 b r l) = softmaxAt (scoreAt A W X g gain sh sc R b r) l := by
  rw [val_main_v41_apply, sum_apply]
  show Ideal.div _ _ = _
  simp only [exp_apply]
  rfl

end Cert.RouterRef

end
-- ==== Proof.RouterClaim.lean ====
/-
  The claims of the output projection and router: with the norm's weight, the scale, the shift and the router's weights
  finite, every entry of the modulated norm is a real number, so the two halves of a product add up to the product and the
  masked softmax over 128 lanes is the softmax over the sixteen experts.
-/
module

public import proofs.«01_k».proof.Defs
public import proofs.«01_k».proof.Proof.RouterRef
public import proofs.«01_k».proof.Proof.AttentionClaim
public import proofs.«01_k».proof.Proof.Gen.Pre_finite_router
public import proofs.«01_k».proof.Proof.Gen.Kernel8.Frame
public import Idealize.ShloMosaic.Lib.Claim

@[expose] public section

set_option maxRecDepth 16384

noncomputable section

namespace Cert.Proof.Router

open Idealize.ShloMosaic Idealize.ShloMosaic.TcCoe Idealize.ShloMosaic.ValueIdx
open Idealize.SL.Sem
open Cert.RouterMath Cert.Kernel8Ideal.RouterBlock Cert.Kernel8Ideal.RouterKernel Cert.RouterRef
open Cert.Proof.Attention (real_of_lt)
open scoped BigOperators

theorem frame_p : Cert.quiescent_Kernel8 := fun m ρ _ => Cert.Kernel8.Gen.frame m ρ
theorem frame_pi : Cert.quiescent_Kernel8Ideal := fun m ρ _ => Cert.Kernel8Ideal.Gen.frame m ρ
theorem frame_pi_pre : Cert.quiescent_Kernel8Ideal_pre_finite_router := fun m ρ _ => Cert.Kernel8Ideal.Gen.frame m ρ

theorem frame_ri : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)
theorem frame_ri_pre : Cert.quiescent_Reference8Ideal_pre_finite_router := fun m ρ _ => frame_ri m ρ trivial

/-- The one named constant: what the lanes without an expert hold, `-∞`. -/
theorem preserves : Cert.preserves_Kernel8_Kernel8Ideal :=
  IdealRules.named_const.statement Cert.Kernel8Ideal.κ "mask" .f32 0xF149F2CA#32 ⊥ rfl

/-- A modulated row is real: its norm is real whatever the row holds. -/
theorem modRow_real (z gain sc sh : Fin 2048 → EReal) (hg : ∀ d, IsReal (gain d)) (hc : ∀ d, IsReal (sc d)) (hs : ∀ d, IsReal (sh d)) (d : Fin 2048) :
    IsReal (modRow z gain sc sh d) :=
  (((normed_real z d).mul (hg d)).mul (IsReal.one.add (hc d))).add (hs d)

/-- The kernel's sixteen lanes are the reference's softmax. -/
theorem aff_eq (A W X : (⟨3, ![4, 2048, 2048]⟩ : Shape).Idx → EReal) (g : (⟨3, ![4, 1, 2048]⟩ : Shape).Idx → EReal) (gain : (⟨2, ![4, 2048]⟩ : Shape).Idx → EReal)
    (sh sc : (⟨3, ![4, 1, 2048]⟩ : Shape).Idx → EReal) (R : (⟨3, ![4, 2048, 16]⟩ : Shape).Idx → EReal)
    (hg : ∀ d : Fin 2048, IsReal (gain (ix2 0 d))) (hc : ∀ i, IsReal (sc i)) (hs : ∀ i, IsReal (sh i)) (hR : ∀ (d : Fin 2048) (l : Fin 16), IsReal (R (ix3 0 d l)))
    (b : Fin 4) (r : Fin 2048) (l : Fin 16) :
    softmaxAt (masked (splitScore (modAt A W X g gain sh sc b r) (padded R))) (lane l) = softmaxAt (scoreAt A W X g gain sh sc R b r) l := by
  rw [softmax_masked]
  refine congrArg (fun f => softmaxAt f l) (funext fun k => ?_)
  unfold splitScore scoreAt
  simp only [padded_lane]
  exact split_sum _ _ (fun d => modRow_real _ _ _ _ hg (fun d => hc _) (fun d => hs _) d) (fun d => hR d k)

/-- The weight of the second norm, as the precondition reads it. -/
theorem gain_read (gain : (⟨2, ![4, 2048]⟩ : Shape).Idx → EReal) (d : Fin 2048) : Cert.Reference8Ideal.Read.val_main_v18 (F := Ideal) gain (ix1 d) = gain (ix2 0 d) := by
  rw [Cert.Reference8Ideal.Read.val_main_v18_apply, Cert.Reference8Ideal.Read.val_main_v17_apply]
  refine congrArg gain (funext fun a => Fin.ext ?_)
  have hd := d.isLt
  match a with
  | ⟨0, _⟩ => rfl
  | ⟨1, _⟩ => show d.val % 2048 = d.val; omega

theorem real_read {x y : EReal} (e : x = y) (h : x = ((x.toReal : ℝ) : EReal)) : IsReal y := e ▸ ⟨_, h⟩

theorem algebraic : Cert.algebraic_Kernel8Ideal_Reference8Ideal_pre_finite_router := fun m ρ m' ρ' hpre hag =>
  ⟨fun c => GX m c, fun c => GH m c, fun c => GA m c,
    (θ_run Cert.Kernel8Ideal.defs _ _).mono (fun _ h c => ⟨(h c).1.1, (h c).1.2.1, (h c).1.2.2, (h c).2⟩) (run m ρ),
    (θ_run Cert.Reference8Ideal.defs _ _).mono (fun _ h c => ⟨(h c).1.trans (by
      rw [Cert.Reference8Ideal.Read.val_main_v6_eq]
      obtain ⟨e0, e1, e2, e3, e4, e5, e6, e7⟩ := hag c
      rw [e0, e1, e2, e3]
      funext i
      exact (congrArg _ (eq_ix3 i)).trans (new_apply _ _ _ _ (i 0) (i 1) (i 2))), (h c).2.1.trans (by
      rw [Cert.Reference8Ideal.Read.val_main_v42_eq]
      obtain ⟨e0, e1, e2, e3, e4, e5, e6, e7⟩ := hag c
      rw [e0, e1, e2, e3, e4, e5, e6]
      funext i
      exact (congrArg _ (eq_ix3 i)).trans (mod_apply _ _ _ _ _ _ _ (i 0) (i 1) (i 2))), (h c).2.2.1.trans (by
      rw [Cert.Reference8Ideal.Read.val_main_v41_eq]
      obtain ⟨e0, e1, e2, e3, e4, e5, e6, e7⟩ := hag c
      rw [e0, e1, e2, e3, e4, e5, e6, e7]
      obtain ⟨p0, p1, p2, p3⟩ := hpre c
      funext i
      refine (congrArg _ (eq_ix3 i)).trans ((aff_apply _ _ _ _ _ _ _ _ (i 0) (i 1) (i 2)).trans (aff_eq _ _ _ _ _ _ _ _ (fun d => ?_)
        (fun j => ⟨_, real_of_lt _ (congrFun p2 j)⟩) (fun j => ⟨_, real_of_lt _ (congrFun p1 j)⟩) (fun d l => ?_) (i 0) (i 1) (i 2)).symm)
      · exact real_read (gain_read (argGain m c) d) (real_of_lt _ (congrFun p0 (ix1 d)))
      · exact real_read (router_apply (argR m c) d l) (real_of_lt _ (congrFun p3 (ix2 d l)))), (h c).2.2.2⟩)
    (Cert.Reference8Ideal.Value.run (F := Ideal) m' ρ')⟩

end Cert.Proof.Router

end
-- ==== Proof.NormMod.lean ====
/-
  The norm and modulation before the first mixer: 256 tokens at a point, each row scaled by the reciprocal root of its mean
  square, weighted, scaled and shifted (`pay_apply`); the thirty-two blocks tile the array (`run`), and the reference's entry
  is the same (`mod_apply`).
-/
module

public import proofs.«01_k».proof.Proof.RouterKernel
public import proofs.«01_k».proof.Proof.Gen.Kernel9Ideal.Value
public import proofs.«01_k».proof.Proof.Gen.Kernel9.Frame
public import proofs.«01_k».proof.Proof.Gen.Reference9Ideal.Read
public import proofs.«01_k».proof.Defs
public import Idealize.ShloMosaic.Lib.KernelVsHost
public import Idealize.ShloMosaic.Lib.Claim

@[expose] public section

set_option maxRecDepth 16384

noncomputable section

namespace Cert.Kernel9Ideal.NormMod

open Cert.Kernel9Ideal Cert.Kernel9Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.KernelIdeal.AttentionBlock (rowSum spread_apply)
open Cert.Kernel4Ideal.ScatterPay (scale zeroBits oneBits)
open Cert.Kernel8Ideal.RouterBlock (modRow spread_row)
open Cert.Kernel8Ideal.RouterKernel (gain_apply)
open scoped BigOperators

/-! ## One grid point -/

variable (x0 : Vec Ideal S1x256x2048 .f32) (x1 : Vec Ideal S1x2048 .f32) (x2 x3 : Vec Ideal S1x1x2048 .f32)

/-- A row of the point, modulated. -/
def row (r : Fin 256) : Fin 2048 → EReal := modRow (fun d => x0 (ix3 0 r d)) (fun d => x1 (ix2 0 d)) (fun d => x3 (ix3 0 0 d)) (fun d => x2 (ix3 0 0 d))

theorem pay_apply (u : Fin 1) (r : Fin 256) (d : Fin 2048) : k0_pay1 (F := Ideal) x0 x1 x3 x2 (ix3 u r d) = row x0 x1 x2 x3 r d := by
  unfold k0_pay1
  rw [shapeCast_ab_1ab_apply]
  have hx : ∀ k : Fin 2048, shapeCast S256x2048 x0 shapeCasts_S1x256x2048_S256x2048 (ix2 r k) = x0 (ix3 0 r k) := fun k => shapeCast_1ab_ab_apply x0 _ r k
  refine congrArg₂ (α := EReal) (β := EReal) (γ := EReal) (fun p q => p + q) (congrArg₂ (α := EReal) (β := EReal) (γ := EReal) (fun p q => p * q)
    (congrArg₂ (α := EReal) (β := EReal) (γ := EReal) (fun p q => p * q) (congrArg₂ (α := EReal) (β := EReal) (γ := EReal) (fun p q => p * q) (hx d) ?_) ?_) ?_) ?_
  · refine (spread_apply _ broadcasts_S256x1_S256x2048 r d).trans ?_
    unfold scale
    have h := rowSum (n := 2048) reduces_S256x2048_S256 shapeCasts_S256_S256x1
      (mulf (F := Ideal) (shapeCast S256x2048 x0 shapeCasts_S1x256x2048_S256x2048) (shapeCast S256x2048 x0 shapeCasts_S1x256x2048_S256x2048)) (.inl rfl) rfl r 0
    refine congrArg (fun p : EReal => Ideal.rsqrt (Ideal.div p (FloatOps.ofBits (F := Ideal) .f32 0x45000000#32 : EReal) + (FloatOps.ofBits (F := Ideal) .f32 0x358637BD#32 : EReal))) (h.trans ?_)
    exact Finset.sum_congr rfl fun k _ => congrArg₂ (α := EReal) (β := EReal) (γ := EReal) (fun p q => p * q) (hx k) (hx k)
  · exact (spread_row _ r d).trans (by rw [shapeCast_self])
  · refine (spread_row _ r d).trans ?_
    exact congrArg₂ (α := EReal) (β := EReal) (γ := EReal) (fun p q => p + q) oneBits (shapeCast_1ab_ab_apply x3 _ 0 d)
  · exact (spread_row _ r d).trans (shapeCast_1ab_ab_apply x2 _ 0 d)

theorem hz2 : (![0, 0] : Fin 2 → Nat) = fun _ => 0 := funext fun a => by fin_cases a <;> rfl
theorem hz3 : (![0, 0, 0] : Fin 3 → Nat) = fun _ => 0 := funext fun a => by fin_cases a <;> rfl

theorem block_eq : out0_4 x0 x1 x2 x3 = fun y => row x0 x1 x2 x3 (y 1) (y 2) := by
  unfold out0_4
  rw [View.canon_unit_zero (S := S1x256x2048) hz3, show View.ld x0 r0_0 = x0 from View.ld_unit_zero (S := S1x256x2048) hz3 _ x0,
    show View.ld x1 r0_1 = x1 from View.ld_unit_zero (S := S1x2048) hz2 _ x1, show View.ld x2 r0_2 = x2 from View.ld_unit_zero (S := S1x1x2048) hz3 _ x2,
    show View.ld x3 r0_2 = x3 from View.ld_unit_zero (S := S1x1x2048) hz3 _ x3]
  funext y
  exact (congrArg _ (eq_ix3 y)).trans (pay_apply x0 x1 x2 x3 (y 0) (y 1) (y 2))

/-! ## The blocks of the arguments -/

variable (m : (ℓ : Loc nD τ sig) → Buf (Elt Ideal) ℓ) (ρ : Dev nD → PrngReg)

abbrev argX (c : Dev nD) : S4x2048x2048.Idx → EReal := m ((c : Thread nD τ).loc main_arg0)
abbrev argGain (c : Dev nD) : S4x2048.Idx → EReal := m ((c : Thread nD τ).loc main_arg1)
abbrev argSh (c : Dev nD) : S4x1x2048.Idx → EReal := m ((c : Thread nD τ).loc main_arg2)
abbrev argSc (c : Dev nD) : S4x1x2048.Idx → EReal := m ((c : Thread nD τ).loc main_arg3)

/-- Token `(b, r)`, normed, weighted with the first layer's weight, scaled and shifted. -/
def modAt (X : S4x2048x2048.Idx → EReal) (gain : S4x2048.Idx → EReal) (sh sc : S4x1x2048.Idx → EReal) (b : Fin 4) (r : Fin 2048) : Fin 2048 → EReal :=
  modRow (fun d => X (ix3 b r d)) (fun d => gain (ix2 0 d)) (fun d => sc (ix3 b 0 d)) (fun d => sh (ix3 b 0 d))

theorem V_gain (c : Dev nD) : V m c main_v2 = shapeCast S1x2048 (shapeCast S2048 (extractStridedSlice S1x2048 ![0, 0] (argGain m c) slices_S4x2048_S1x2048_0_0) shapeCasts_S1x2048_S2048) shapeCasts_S2048_S1x2048 := by
  entry_read; rfl

/-- The batch of a grid point, and its row `r` as a token of the batch. -/
abbrev batch (t : Fin cfg0.N) : Fin 4 := ⟨t.val / 8, by have := t.isLt; have hN : cfg0.N = 32 := N_0; omega⟩
@[inherit_doc batch] abbrev token (t : Fin cfg0.N) (r : Fin 256) : Fin 2048 := ⟨256 * (t.val % 8) + r.val, by have := r.isLt; omega⟩

theorem idx_X : ∀ t : Fin cfg0.N, win0_0.index t 0 = t.val / 8 ∧ win0_0.index t 1 = t.val % 8 ∧ win0_0.index t 2 = 0 := (by decide +kernel : ∀ t : Fin grid0.N, _)
theorem idx_gain : ∀ t : Fin cfg0.N, win0_1.index t 0 = 0 ∧ win0_1.index t 1 = 0 := (by decide +kernel : ∀ t : Fin grid0.N, _)
theorem idx_sh : ∀ t : Fin cfg0.N, win0_2.index t 0 = t.val / 8 ∧ win0_2.index t 1 = 0 ∧ win0_2.index t 2 = 0 := (by decide +kernel : ∀ t : Fin grid0.N, _)
theorem idx_sc : ∀ t : Fin cfg0.N, win0_3.index t 0 = t.val / 8 ∧ win0_3.index t 1 = 0 ∧ win0_3.index t 2 = 0 := (by decide +kernel : ∀ t : Fin grid0.N, _)
theorem idx_o : ∀ t : Fin cfg0.N, win0_4.index t 0 = t.val / 8 ∧ win0_4.index t 1 = t.val % 8 ∧ win0_4.index t 2 = 0 := (by decide +kernel : ∀ t : Fin grid0.N, _)

theorem blk_X (c : Dev nD) (t : Fin cfg0.N) (r : Fin 256) (e : Fin 2048) : iblk m c 0 t (ix3 (0 : Fin 1) r e) = argX m c (ix3 (batch t) (token t r) e) := by
  unfold iblk
  rw [View.read_apply]
  show V m c main_arg0 _ = _
  rw [V_main_arg0]
  refine congrArg (argX m c) ?_
  funext a; apply Fin.ext
  obtain ⟨h0, h1, h2⟩ := idx_X t
  match a with
  | ⟨0, _⟩ => show win0_0.index t 0 * 1 + 1 * 0 = t.val / 8; omega
  | ⟨1, _⟩ => show win0_0.index t 1 * 256 + 1 * r.val = 256 * (t.val % 8) + r.val; omega
  | ⟨2, _⟩ => show win0_0.index t 2 * 2048 + 1 * e.val = e.val; omega

theorem blk_gain (c : Dev nD) (t : Fin cfg0.N) (d : Fin 2048) : iblk m c 1 t (ix2 (0 : Fin 1) d) = argGain m c (ix2 0 d) := by
  unfold iblk
  rw [View.read_apply]
  show V m c main_v2 _ = _
  rw [V_gain]
  refine (congrArg _ ?_).trans (gain_apply (argGain m c) d)
  funext a; apply Fin.ext
  obtain ⟨h0, h1⟩ := idx_gain t
  match a with
  | ⟨0, _⟩ => show win0_1.index t 0 * 1 + 1 * 0 = 0; omega
  | ⟨1, _⟩ => show win0_1.index t 1 * 2048 + 1 * d.val = d.val; omega

theorem blk_sh (c : Dev nD) (t : Fin cfg0.N) (d : Fin 2048) : iblk m c 2 t (ix3 (0 : Fin 1) 0 d) = argSh m c (ix3 (batch t) 0 d) := by
  unfold iblk
  rw [View.read_apply]
  show V m c main_arg2 _ = _
  rw [V_main_arg2]
  refine congrArg (argSh m c) ?_
  funext a; apply Fin.ext
  obtain ⟨h0, h1, h2⟩ := idx_sh t
  match a with
  | ⟨0, _⟩ => show win0_2.index t 0 * 1 + 1 * 0 = t.val / 8; omega
  | ⟨1, _⟩ => show win0_2.index t 1 * 1 + 1 * 0 = 0; omega
  | ⟨2, _⟩ => show win0_2.index t 2 * 2048 + 1 * d.val = d.val; omega

theorem blk_sc (c : Dev nD) (t : Fin cfg0.N) (d : Fin 2048) : iblk m c 3 t (ix3 (0 : Fin 1) 0 d) = argSc m c (ix3 (batch t) 0 d) := by
  unfold iblk
  rw [View.read_apply]
  show V m c main_arg3 _ = _
  rw [V_main_arg3]
  refine congrArg (argSc m c) ?_
  funext a; apply Fin.ext
  obtain ⟨h0, h1, h2⟩ := idx_sc t
  match a with
  | ⟨0, _⟩ => show win0_3.index t 0 * 1 + 1 * 0 = t.val / 8; omega
  | ⟨1, _⟩ => show win0_3.index t 1 * 1 + 1 * 0 = 0; omega
  | ⟨2, _⟩ => show win0_3.index t 2 * 2048 + 1 * d.val = d.val; omega

theorem row_blk (c : Dev nD) (t : Fin cfg0.N) (r : Fin 256) :
    row (iblk m c 0 t) (iblk m c 1 t) (iblk m c 2 t) (iblk m c 3 t) r = modAt (argX m c) (argGain m c) (argSh m c) (argSc m c) (batch t) (token t r) := by
  unfold row modAt
  exact congr (congr (congr (congrArg modRow (funext fun d => blk_X m c t r d)) (funext fun d => blk_gain m c t d)) (funext fun d => blk_sc m c t d)) (funext fun d => blk_sh m c t d)

/-! ## The result array -/

/-- The modulated tokens. -/
def G (c : Dev nD) : S4x2048x2048.Idx → EReal := fun i => modAt (argX m c) (argGain m c) (argSh m c) (argSc m c) (i 0) (i 1) (i 2)

theorem flushed_eq (c : Dev nD) (t : Fin cfg0.N) (_ : (cfg0.win 4).flush t = true) : (dats m 0 c).flushed 4 t = ((cfg0.win 4).blk t).view.read (Elt Ideal) (G m c) := by
  rw [Value.flushed4, block_eq]
  funext y
  rw [View.read_apply]
  obtain ⟨h0, h1, h2⟩ := idx_o t
  refine (congrFun (row_blk m c t (y 1)) (y 2)).trans ?_
  unfold G
  have y0 : (y 0).val < 1 := (y 0).isLt
  have e0 : batch t = (((cfg0.win 4).blk t).view.emb y) 0 := Fin.ext (by show t.val / 8 = win0_4.index t 0 * 1 + 1 * (y 0).val; omega)
  have e1 : token t (y 1) = (((cfg0.win 4).blk t).view.emb y) 1 := Fin.ext (by show 256 * (t.val % 8) + (y 1).val = win0_4.index t 1 * 256 + 1 * (y 1).val; omega)
  have e2 : (y 2 : Fin 2048) = (((cfg0.win 4).blk t).view.emb y) 2 := Fin.ext (by show (y 2).val = win0_4.index t 2 * 2048 + 1 * (y 2).val; omega)
  exact congr (congr (congrArg (modAt (argX m c) (argGain m c) (argSh m c) (argSc m c)) e0) e1) e2

theorem final_eq (c : Dev nD) : (dats m 0 c).arrAt 4 cfg0.N = G m c :=
  (dats m 0 c).arrAt_eq_of_cover 4 (G m c) (flushed_eq m c) fun i => by
    have i0 : (i 0 : Nat) < 4 := (i 0).isLt
    have i1 : (i 1 : Nat) < 2048 := (i 1).isLt
    have i2 : (i 2 : Nat) < 2048 := (i 2).isLt
    have hN : cfg0.N = 32 := N_0
    have hf : ∀ t : Fin cfg0.N, (cfg0.win 4).flush t = true := (by decide +kernel : ∀ t : Fin grid0.N, _)
    obtain ⟨t, ht⟩ : ∃ t : Fin cfg0.N, t.val = 8 * (i 0 : Nat) + (i 1 : Nat) / 256 := ⟨⟨8 * (i 0 : Nat) + (i 1 : Nat) / 256, by omega⟩, rfl⟩
    refine ⟨t, hf t, ?_⟩
    show i ∈ ((View.whole main_v3).slice (win0_4.rect t)).set
    rw [View.set_slice_whole, Rect.mem_set_unit]
    obtain ⟨h0, h1, h2⟩ := idx_o t
    intro a
    match a with
    | ⟨0, _⟩ => show win0_4.index t 0 * 1 ≤ (i 0 : Nat) ∧ (i 0 : Nat) < win0_4.index t 0 * 1 + 1; omega
    | ⟨1, _⟩ => show win0_4.index t 1 * 256 ≤ (i 1 : Nat) ∧ (i 1 : Nat) < win0_4.index t 1 * 256 + 256; omega
    | ⟨2, _⟩ => show win0_4.index t 2 * 2048 ≤ (i 2 : Nat) ∧ (i 2 : Nat) < win0_4.index t 2 * 2048 + 2048; omega

/-- The run: the result array at `G`, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final_eq m c), (h c).2⟩) (Value.run_blocks m ρ)

/-! ## The reference -/

section reference

open Cert.Reference9Ideal.Read

variable (X : S4x2048x2048.Idx → EReal) (gain : S4x2048.Idx → EReal) (sh sc : S4x1x2048.Idx → EReal)

theorem scale_apply (b : Fin 4) (r d : Fin 2048) : val_main_v8 (F := Ideal) X (ix3 b r d) = scale (fun k => X (ix3 b r k)) := by
  have hsum : val_main_v1 (F := Ideal) X (ix2 b r) = ∑ k : Fin 2048, X (ix3 b r k) * X (ix3 b r k) := by
    rw [val_main_v1_apply]
    refine ((congrArg (fun p : EReal => p + _) zeroBits).trans (zero_add _)).trans ?_
    refine Finset.sum_congr rfl fun k _ => ?_
    have e : idx_main_v1 (ix2 b r) k = ix3 b r k := funext fun a => match a with | ⟨0, _⟩ => rfl | ⟨1, _⟩ => rfl | ⟨2, _⟩ => rfl
    rw [e]
    rfl
  have h2 : val_main_v2 (F := Ideal) X (ix3 b r (0 : Fin 1)) = ∑ k : Fin 2048, X (ix3 b r k) * X (ix3 b r k) := by
    rw [val_main_v2_apply]
    refine Eq.trans (congrArg _ (funext fun a => ?_)) hsum
    match a with
    | ⟨0, _⟩ => rfl
    | ⟨1, _⟩ => rfl
  rw [val_main_v8_apply]
  have e : idx_main_v8 (ix3 b r d) = ix3 b r (0 : Fin 1) := funext fun a => match a with | ⟨0, _⟩ => rfl | ⟨1, _⟩ => rfl | ⟨2, _⟩ => rfl
  rw [e]
  unfold scale
  exact congrArg (fun p : EReal => Ideal.rsqrt (Ideal.div p (FloatOps.ofBits (F := Ideal) .f32 0x45000000#32 : EReal) + (FloatOps.ofBits (F := Ideal) .f32 0x358637BD#32 : EReal))) h2

theorem weight_apply (b : Fin 4) (r d : Fin 2048) : val_main_v13 (F := Ideal) gain (ix3 b r d) = gain (ix2 0 d) := by
  rw [val_main_v13_apply, val_main_v12_apply, val_main_v11_apply, val_main_v10_apply]
  refine congrArg gain (funext fun a => Fin.ext ?_)
  have hd := d.isLt
  match a with
  | ⟨0, _⟩ => rfl
  | ⟨1, _⟩ => show d.val % 2048 = d.val; omega

theorem mod_apply (b : Fin 4) (r d : Fin 2048) : val_main_v21 (F := Ideal) X gain sh sc (ix3 b r d) = modAt X gain sh sc b r d := by
  have h17 : val_main_v17 (F := Ideal) sc (ix3 b r d) = 1 + sc (ix3 b 0 d) := by
    rw [val_main_v17_apply, val_main_v16_apply]
    refine congrArg₂ (α := EReal) (β := EReal) (γ := EReal) (fun p q => p + q) ?_ (congrArg sc (funext fun a => match a with | ⟨0, _⟩ => rfl | ⟨1, _⟩ => rfl | ⟨2, _⟩ => rfl))
    exact oneBits
  have h19 : val_main_v19 (F := Ideal) sh (ix3 b r d) = sh (ix3 b 0 d) := by
    rw [val_main_v19_apply]
    exact congrArg sh (funext fun a => match a with | ⟨0, _⟩ => rfl | ⟨1, _⟩ => rfl | ⟨2, _⟩ => rfl)
  rw [val_main_v21_apply, val_main_v20_apply, val_main_v18_apply, val_main_v14_apply, val_main_v9_apply, scale_apply, h17, h19, weight_apply]
  rfl

end reference

end Cert.Kernel9Ideal.NormMod

namespace Cert.Proof.NormMod

open Idealize.ShloMosaic Idealize.ShloMosaic.TcCoe Idealize.ShloMosaic.ValueIdx
open Idealize.SL.Sem
open Cert.Kernel9Ideal.NormMod

theorem frame_p : Cert.quiescent_Kernel9 := fun m ρ _ => Cert.Kernel9.Gen.frame m ρ
theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal := fun m ρ m' ρ' _ hag =>
  ⟨fun c => G m c, run m ρ, (θ_run Cert.Reference9Ideal.defs _ _).mono (fun _ h c => ⟨(h c).1.trans (by
      rw [Cert.Reference9Ideal.Read.val_main_v21_eq]
      obtain ⟨e0, e1, e2, e3⟩ := hag c
      rw [e0, e1, e2, e3]
      funext i
      exact (congrArg _ (eq_ix3 i)).trans (mod_apply _ _ _ _ (i 0) (i 1) (i 2))), (h c).2⟩)
    (Cert.Reference9Ideal.Value.run (F := Ideal) m' ρ')⟩

end Cert.Proof.NormMod

end
-- ==== Proof.Modulation.lean ====
/-
  The modulation vectors: at each grid point the eight joined rows, each entry times its logistic, go through 1024 columns of
  one layer's matrix, and the bias is added (`pay_apply`). The forty-eight blocks tile the array (`final_eq`), of which the host
  keeps the four samples' rows and the context's (`run`). The reference's entries are the same (`samples_apply`,
  `context_apply`).
-/
module

public import proofs.«01_k».proof.Proof.RouterKernel
public import proofs.«01_k».proof.Proof.Gen.Kernel10Ideal.Frame
public import proofs.«01_k».proof.Proof.Gen.Kernel10.Frame
public import proofs.«01_k».proof.Proof.Gen.Reference10Ideal.Run
public import proofs.«01_k».proof.Proof.Gen.Reference10Ideal.Read
public import proofs.«01_k».proof.Defs
public import Idealize.ShloMosaic.Lib.KernelVsHost
public import Idealize.ShloMosaic.Lib.Claim

@[expose] public section

set_option maxRecDepth 16384

noncomputable section

namespace Cert.Kernel10Ideal.Modulation

open Cert.Kernel10Ideal Cert.Kernel10Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.Kernel4Ideal.ScatterPay (dot_apply oneBits)
open scoped BigOperators

/-! ## One grid point -/

/-- A row, each entry times its logistic, through a column, plus the column's bias. -/
def cell (v w : Fin 2048 → EReal) (b : EReal) : EReal := (∑ k : Fin 2048, (v k * Ideal.logistic (v k)) * w k) + b

variable (x0 : Vec Ideal S8x2048 .f32) (x1 : Vec Ideal S1x2048x1024 .f32) (x2 : Vec Ideal S1x1x1024 .f32)

/-- An entry of the point's block. -/
def entry (r : Fin 8) (d : Fin 1024) : EReal := cell (fun k => x0 (ix2 r k)) (fun k => x1 (ix3 0 k d)) (x2 (ix3 0 0 d))

theorem spread_bias (v : S1x1024.Idx → EReal) (r : Fin 8) (d : Fin 1024) : broadcastTo S8x1024 v broadcasts_S1x1024_S8x1024 (ix2 r d) = v (ix2 0 d) :=
  broadcastTo_apply _ broadcasts_S1x1024_S8x1024 (ix2 r d) (ix2 0 d) fun a => match a with
    | ⟨0, _⟩ => rfl
    | ⟨1, _⟩ => rfl

theorem pay_apply (u : Fin 1) (r : Fin 8) (d : Fin 1024) : k0_pay1 (F := Ideal) x0 x1 x2 (ix3 u r d) = entry x0 x1 x2 r d := by
  unfold k0_pay1
  rw [shapeCast_ab_1ab_apply, shapeCast_self]
  refine congrArg₂ (α := EReal) (β := EReal) (γ := EReal) (fun p q => p + q) ((dot_apply _ _ r d).trans (Finset.sum_congr rfl fun k _ => ?_)) ((spread_bias _ r d).trans (shapeCast_1ab_ab_apply x2 _ 0 d))
  exact congrArg (fun p : EReal => x0 (ix2 r k) * Ideal.logistic (x0 (ix2 r k)) * p) (shapeCast_1ab_ab_apply x1 _ k d)

theorem hz2 : (![0, 0] : Fin 2 → Nat) = fun _ => 0 := funext fun a => by fin_cases a <;> rfl
theorem hz3 : (![0, 0, 0] : Fin 3 → Nat) = fun _ => 0 := funext fun a => by fin_cases a <;> rfl

theorem block_eq : out0_3 x0 x1 x2 = fun y => entry x0 x1 x2 (y 1) (y 2) := by
  unfold out0_3
  rw [View.canon_unit_zero (S := S1x8x1024) hz3, show View.ld x0 r0_0 = x0 from View.ld_unit_zero (S := S8x2048) hz2 _ x0,
    show View.ld x1 r0_1 = x1 from View.ld_unit_zero (S := S1x2048x1024) hz3 _ x1, show View.ld x2 r0_2 = x2 from View.ld_unit_zero (S := S1x1x1024) hz3 _ x2]
  funext y
  exact (congrArg _ (eq_ix3 y)).trans (pay_apply x0 x1 x2 (y 0) (y 1) (y 2))

/-! ## The blocks of the arguments -/

variable (m : (ℓ : Loc nD τ sig) → Buf (Elt Ideal) ℓ) (ρ : Dev nD → PrngReg)

abbrev argC (c : Dev nD) : S4x2048.Idx → EReal := m ((c : Thread nD τ).loc main_arg0)
abbrev argCtx (c : Dev nD) : S2048.Idx → EReal := m ((c : Thread nD τ).loc main_arg1)
abbrev argW (c : Dev nD) : S4x2048x12288.Idx → EReal := m ((c : Thread nD τ).loc main_arg2)
abbrev argB (c : Dev nD) : S4x12288.Idx → EReal := m ((c : Thread nD τ).loc main_arg3)

/-- The eight rows the call takes: the samples, the context, three rows of zeros. -/
def joined (C : S4x2048.Idx → EReal) (ctx : S2048.Idx → EReal) : S8x2048.Idx → EReal :=
  concatenate S8x2048 0 [⟨S4x2048, C⟩, ⟨S1x2048, broadcastInDim S1x2048 ![1] bcast_S2048_S1x2048_1 ctx⟩,
    ⟨S3x2048, broadcastInDim S3x2048 ![] bcast_S_S3x2048 (constant (F := Ideal) S_ .f32 0x00000000#32)⟩] concatenates_S4x2048_S1x2048_S3x2048_S8x2048_d0

theorem joined_sample (C : S4x2048.Idx → EReal) (ctx : S2048.Idx → EReal) (b : Fin 4) (k : Fin 2048) :
    joined C ctx (ix2 ⟨b.val, by have := b.isLt; omega⟩ k) = C (ix2 b k) := by
  unfold joined
  generalize broadcastInDim S1x2048 ![1] bcast_S2048_S1x2048_1 ctx = y
  generalize broadcastInDim S3x2048 ![] bcast_S_S3x2048 (constant (F := Ideal) S_ .f32 0x00000000#32) = z
  fin_cases b <;> exact congrArg C (funext fun a => match a with | ⟨0, _⟩ => rfl | ⟨1, _⟩ => rfl)

theorem joined_context (C : S4x2048.Idx → EReal) (ctx : S2048.Idx → EReal) (k : Fin 2048) : joined C ctx (ix2 4 k) = ctx (ix1 k) := by
  have h : broadcastInDim S1x2048 ![1] bcast_S2048_S1x2048_1 ctx (ix2 0 k) = ctx (ix1 k) :=
    broadcastInDim_apply _ bcast_S2048_S1x2048_1 ctx (ix2 0 k) (ix1 k) (fun a => match a with
      | ⟨0, _⟩ => by show k.val = if (2048 : Nat) = 1 then 0 else k.val; rw [if_neg (by decide)])
  refine Eq.trans ?_ h
  unfold joined
  generalize broadcastInDim S1x2048 ![1] bcast_S2048_S1x2048_1 ctx = y
  generalize broadcastInDim S3x2048 ![] bcast_S_S3x2048 (constant (F := Ideal) S_ .f32 0x00000000#32) = z
  exact congrArg y (funext fun a => match a with | ⟨0, _⟩ => rfl | ⟨1, _⟩ => rfl)

theorem V_rows (c : Dev nD) : V m c main_v2 = joined (argC m c) (argCtx m c) := by
  entry_read; rfl
theorem V_bias (c : Dev nD) : V m c main_v3 = shapeCast S4x1x12288 (argB m c) shapeCasts_S4x12288_S4x1x12288 := by
  entry_read; rfl

theorem bias_apply (B : S4x12288.Idx → EReal) (l : Fin 4) (d : Fin 12288) : shapeCast S4x1x12288 B shapeCasts_S4x12288_S4x1x12288 (ix3 l 0 d) = B (ix2 l d) :=
  shapeCast_apply B shapeCasts_S4x12288_S4x1x12288 (ix3 l 0 d) (ix2 l d) (by
    rw [Shape.rowMajor_val_two, Shape.rowMajor_val_three]
    show l.val * 12288 + d.val = (l.val * 1 + 0) * 12288 + d.val; omega)

/-- The layer of a grid point, and its column `d` as a column of the layer. -/
abbrev layer (t : Fin cfg0.N) : Fin 4 := ⟨t.val / 12, by have := t.isLt; have hN : cfg0.N = 48 := N_0; omega⟩
@[inherit_doc layer] abbrev col (t : Fin cfg0.N) (d : Fin 1024) : Fin 12288 := ⟨1024 * (t.val % 12) + d.val, by have := d.isLt; omega⟩

theorem idx_rows : ∀ t : Fin cfg0.N, win0_0.index t 0 = 0 ∧ win0_0.index t 1 = 0 := (by decide +kernel : ∀ t : Fin grid0.N, _)
theorem idx_W : ∀ t : Fin cfg0.N, win0_1.index t 0 = t.val / 12 ∧ win0_1.index t 1 = 0 ∧ win0_1.index t 2 = t.val % 12 := (by decide +kernel : ∀ t : Fin grid0.N, _)
theorem idx_B : ∀ t : Fin cfg0.N, win0_2.index t 0 = t.val / 12 ∧ win0_2.index t 1 = 0 ∧ win0_2.index t 2 = t.val % 12 := (by decide +kernel : ∀ t : Fin grid0.N, _)
theorem idx_o : ∀ t : Fin cfg0.N, win0_3.index t 0 = t.val / 12 ∧ win0_3.index t 1 = 0 ∧ win0_3.index t 2 = t.val % 12 := (by decide +kernel : ∀ t : Fin grid0.N, _)

theorem blk_rows (c : Dev nD) (t : Fin cfg0.N) (r : Fin 8) (k : Fin 2048) : iblk m c 0 t (ix2 r k) = joined (argC m c) (argCtx m c) (ix2 r k) := by
  unfold iblk
  rw [View.read_apply]
  show V m c main_v2 _ = _
  rw [V_rows]
  refine congrArg (joined (argC m c) (argCtx m c)) ?_
  funext a; apply Fin.ext
  obtain ⟨h0, h1⟩ := idx_rows t
  match a with
  | ⟨0, _⟩ => show win0_0.index t 0 * 8 + 1 * r.val = r.val; omega
  | ⟨1, _⟩ => show win0_0.index t 1 * 2048 + 1 * k.val = k.val; omega

theorem blk_W (c : Dev nD) (t : Fin cfg0.N) (k : Fin 2048) (d : Fin 1024) : iblk m c 1 t (ix3 (0 : Fin 1) k d) = argW m c (ix3 (layer t) k (col t d)) := by
  unfold iblk
  rw [View.read_apply]
  show V m c main_arg2 _ = _
  rw [V_main_arg2]
  refine congrArg (argW m c) ?_
  funext a; apply Fin.ext
  obtain ⟨h0, h1, h2⟩ := idx_W t
  match a with
  | ⟨0, _⟩ => show win0_1.index t 0 * 1 + 1 * 0 = t.val / 12; omega
  | ⟨1, _⟩ => show win0_1.index t 1 * 2048 + 1 * k.val = k.val; omega
  | ⟨2, _⟩ => show win0_1.index t 2 * 1024 + 1 * d.val = 1024 * (t.val % 12) + d.val; omega

theorem blk_B (c : Dev nD) (t : Fin cfg0.N) (d : Fin 1024) : iblk m c 2 t (ix3 (0 : Fin 1) 0 d) = argB m c (ix2 (layer t) (col t d)) := by
  unfold iblk
  rw [View.read_apply]
  show V m c main_v3 _ = _
  rw [V_bias]
  refine (congrArg _ ?_).trans (bias_apply (argB m c) (layer t) (col t d))
  funext a; apply Fin.ext
  obtain ⟨h0, h1, h2⟩ := idx_B t
  match a with
  | ⟨0, _⟩ => show win0_2.index t 0 * 1 + 1 * 0 = t.val / 12; omega
  | ⟨1, _⟩ => show win0_2.index t 1 * 1 + 1 * 0 = 0; omega
  | ⟨2, _⟩ => show win0_2.index t 2 * 1024 + 1 * d.val = 1024 * (t.val % 12) + d.val; omega

/-! ## The result arrays -/

/-- Row `r` through layer `l`'s column `d`. -/
def modAt (R : S8x2048.Idx → EReal) (W : S4x2048x12288.Idx → EReal) (B : S4x12288.Idx → EReal) (l : Fin 4) (r : Fin 8) (d : Fin 12288) : EReal :=
  cell (fun k => R (ix2 r k)) (fun k => W (ix3 l k d)) (B (ix2 l d))

theorem entry_blk (c : Dev nD) (t : Fin cfg0.N) (r : Fin 8) (d : Fin 1024) :
    entry (iblk m c 0 t) (iblk m c 1 t) (iblk m c 2 t) r d = modAt (joined (argC m c) (argCtx m c)) (argW m c) (argB m c) (layer t) r (col t d) := by
  unfold entry modAt
  exact congr (congr (congrArg cell (funext fun k => blk_rows m c t r k)) (funext fun k => blk_W m c t k d)) (blk_B m c t d)

/-- What the call leaves: eight rows for each layer. -/
def G (c : Dev nD) : S4x8x12288.Idx → EReal := fun i => modAt (joined (argC m c) (argCtx m c)) (argW m c) (argB m c) (i 0) (i 1) (i 2)

theorem flushed_eq (c : Dev nD) (t : Fin cfg0.N) (_ : (cfg0.win 3).flush t = true) : (dats m 0 c).flushed 3 t = ((cfg0.win 3).blk t).view.read (Elt Ideal) (G m c) := by
  show (cfg0.win 3).cut (grid0.coords t) ((dats m 0 c).after 3 t) = _
  rw [after0_3, block_eq]
  funext y
  rw [View.read_apply]
  obtain ⟨h0, h1, h2⟩ := idx_o t
  refine (entry_blk m c t (y 1) (y 2)).trans ?_
  unfold G
  have y0 : (y 0).val < 1 := (y 0).isLt
  have e0 : layer t = (((cfg0.win 3).blk t).view.emb y) 0 := Fin.ext (by show t.val / 12 = win0_3.index t 0 * 1 + 1 * (y 0).val; omega)
  have e1 : (y 1 : Fin 8) = (((cfg0.win 3).blk t).view.emb y) 1 := Fin.ext (by show (y 1).val = win0_3.index t 1 * 8 + 1 * (y 1).val; omega)
  have e2 : col t (y 2) = (((cfg0.win 3).blk t).view.emb y) 2 := Fin.ext (by show 1024 * (t.val % 12) + (y 2).val = win0_3.index t 2 * 1024 + 1 * (y 2).val; omega)
  exact congr (congr (congrArg (modAt (joined (argC m c) (argCtx m c)) (argW m c) (argB m c)) e0) e1) e2

theorem final_eq (c : Dev nD) : (dats m 0 c).arrAt 3 cfg0.N = G m c :=
  (dats m 0 c).arrAt_eq_of_cover 3 (G m c) (flushed_eq m c) fun i => by
    have i0 : (i 0 : Nat) < 4 := (i 0).isLt
    have i1 : (i 1 : Nat) < 8 := (i 1).isLt
    have i2 : (i 2 : Nat) < 12288 := (i 2).isLt
    have hN : cfg0.N = 48 := N_0
    have hf : ∀ t : Fin cfg0.N, (cfg0.win 3).flush t = true := (by decide +kernel : ∀ t : Fin grid0.N, _)
    obtain ⟨t, ht⟩ : ∃ t : Fin cfg0.N, t.val = 12 * (i 0 : Nat) + (i 2 : Nat) / 1024 := ⟨⟨12 * (i 0 : Nat) + (i 2 : Nat) / 1024, by omega⟩, rfl⟩
    refine ⟨t, hf t, ?_⟩
    show i ∈ ((View.whole main_v4).slice (win0_3.rect t)).set
    rw [View.set_slice_whole, Rect.mem_set_unit]
    obtain ⟨h0, h1, h2⟩ := idx_o t
    intro a
    match a with
    | ⟨0, _⟩ => show win0_3.index t 0 * 1 ≤ (i 0 : Nat) ∧ (i 0 : Nat) < win0_3.index t 0 * 1 + 1; omega
    | ⟨1, _⟩ => show win0_3.index t 1 * 8 ≤ (i 1 : Nat) ∧ (i 1 : Nat) < win0_3.index t 1 * 8 + 8; omega
    | ⟨2, _⟩ => show win0_3.index t 2 * 1024 ≤ (i 2 : Nat) ∧ (i 2 : Nat) < win0_3.index t 2 * 1024 + 1024; omega

/-- The samples' vectors and the context's, as functions of the arguments. -/
def samples (C : S4x2048.Idx → EReal) (W : S4x2048x12288.Idx → EReal) (B : S4x12288.Idx → EReal) : S4x4x12288.Idx → EReal := fun i =>
  cell (fun k => C (ix2 (i 1) k)) (fun k => W (ix3 (i 0) k (i 2))) (B (ix2 (i 0) (i 2)))
@[inherit_doc samples] def context (ctx : S2048.Idx → EReal) (W : S4x2048x12288.Idx → EReal) (B : S4x12288.Idx → EReal) : S4x12288.Idx → EReal := fun i =>
  cell (fun k => ctx (ix1 k)) (fun k => W (ix3 (i 0) k (i 1))) (B (ix2 (i 0) (i 1)))

theorem kept_samples (X : S4x8x12288.Idx → EReal) (i : S4x4x12288.Idx) :
    extractStridedSlice S4x4x12288 ![0, 0, 0] X slices_S4x8x12288_S4x4x12288_0_0_0 i = X (ix3 (i 0) ⟨(i 1).val, Nat.lt_trans (i 1).isLt (by decide)⟩ (i 2)) :=
  extractStridedSlice_apply ![0, 0, 0] X slices_S4x8x12288_S4x4x12288_0_0_0 i (ix3 (i 0) ⟨(i 1).val, Nat.lt_trans (i 1).isLt (by decide)⟩ (i 2)) (fun a => match a with
    | ⟨0, _⟩ => by show (i 0).val = 0 + (i 0).val; omega
    | ⟨1, _⟩ => by show (i 1).val = 0 + (i 1).val; omega
    | ⟨2, _⟩ => by show (i 2).val = 0 + (i 2).val; omega)

theorem kept_context (X : S4x8x12288.Idx → EReal) (i : S4x12288.Idx) :
    shapeCast S4x12288 (extractStridedSlice S4x1x12288 ![0, 4, 0] X slices_S4x8x12288_S4x1x12288_0_4_0) shapeCasts_S4x1x12288_S4x12288 i = X (ix3 (i 0) 4 (i 1)) := by
  generalize hy : extractStridedSlice S4x1x12288 ![0, 4, 0] X slices_S4x8x12288_S4x1x12288_0_4_0 = Y
  refine (shapeCast_apply Y shapeCasts_S4x1x12288_S4x12288 i (ix3 (i 0) 0 (i 1)) (by
    rw [Shape.rowMajor_val_two, Shape.rowMajor_val_three]
    show ((i 0).val * 1 + 0) * 12288 + (i 1).val = (i 0).val * 12288 + (i 1).val; omega)).trans ?_
  rw [← hy]
  exact extractStridedSlice_apply ![0, 4, 0] X slices_S4x8x12288_S4x1x12288_0_4_0 (ix3 (i 0) 0 (i 1)) (ix3 (i 0) 4 (i 1)) (fun a => match a with
    | ⟨0, _⟩ => by show (i 0).val = 0 + (i 0).val; omega
    | ⟨1, _⟩ => by show 4 = 4 + 0; rfl
    | ⟨2, _⟩ => by show (i 1).val = 0 + (i 1).val; omega)

theorem tail_samples (c : Dev nD) : Pipeline.afterTail₀ cfgs (dats m) 0 (V0 m) [hostOps1] c main_v5 = samples (argC m c) (argW m c) (argB m c) := by
  unfold Pipeline.afterTail₀
  simp only [hostOps1, List.flatten_cons, List.flatten_nil, List.append_nil]
  after_results
  refine Eq.trans ?_ (funext fun i => (kept_samples (G m c) i).trans ?_)
  · refine congrArg (fun v : S4x8x12288.Idx → EReal => extractStridedSlice S4x4x12288 ![0, 0, 0] v slices_S4x8x12288_S4x4x12288_0_0_0) ?_
    exact (Pipeline.withArrays_arr spec0 (by decide : Function.Injective (Pipeline.arrRef spec0)) c (V0 m c) _ 3).trans (final_eq m c)
  unfold G modAt samples
  exact congrArg (fun v => cell v _ _) (funext fun k => joined_sample (argC m c) (argCtx m c) (i 1) k)

theorem tail_context (c : Dev nD) : Pipeline.afterTail₀ cfgs (dats m) 0 (V0 m) [hostOps1] c main_v7 = context (argCtx m c) (argW m c) (argB m c) := by
  unfold Pipeline.afterTail₀
  simp only [hostOps1, List.flatten_cons, List.flatten_nil, List.append_nil]
  after_results
  refine Eq.trans ?_ (funext fun i => (kept_context (G m c) i).trans ?_)
  · refine congrArg (fun v : S4x8x12288.Idx → EReal => shapeCast S4x12288 (extractStridedSlice S4x1x12288 ![0, 4, 0] v slices_S4x8x12288_S4x1x12288_0_4_0) shapeCasts_S4x1x12288_S4x12288) ?_
    exact (Pipeline.withArrays_arr spec0 (by decide : Function.Injective (Pipeline.arrRef spec0)) c (V0 m c) _ 3).trans (final_eq m c)
  unfold G modAt context
  exact congrArg (fun v => cell v _ _) (funext fun k => joined_context (argC m c) (argCtx m c) k)

/-- The run: the result arrays at `samples` and `context`, the arguments unchanged. -/
theorem run : θ_run defs (onTc (τ := τ) (main (F := Ideal))) ⟨m, fun _ => 0, ρ⟩ fun r => ∀ c : Dev nD,
      (r.2.mem ((c : Thread nD τ).loc main_v5) = samples (argC m c) (argW m c) (argB m c) ∧ r.2.mem ((c : Thread nD τ).loc main_v7) = context (argCtx m c) (argW m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨((h c).2 main_v5 (Pipeline.mem_restRefs_of main_v5 (by decide) (by decide))).trans (tail_samples m c),
      ((h c).2 main_v7 (Pipeline.mem_restRefs_of main_v7 (by decide) (by decide))).trans (tail_context m c)⟩,
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 1).trans (((dats m 0 c).arrAt_in 1 rfl _).trans ((A_eq m c 1).trans (V_main_arg2 m c))),
    (((h c).2 main_arg3 (Pipeline.mem_restRefs_of main_arg3 (by decide) (by decide))).trans (W_main_arg3 m (dats m) c))⟩) (Gen.run_main m ρ)

/-! ## The reference -/

section reference

open Cert.Reference10Ideal.Read

variable (C : S4x2048.Idx → EReal) (ctx : S2048.Idx → EReal) (W : S4x2048x12288.Idx → EReal) (B : S4x12288.Idx → EReal)

theorem samples_apply (l b : Fin 4) (d : Fin 12288) : val_main_v5 (F := Ideal) C W B (ix3 l b d) = samples C W B (ix3 l b d) := by
  have hs : ∀ k : Fin 2048, val_main_v0 (F := Ideal) C (ix2 b k) = C (ix2 b k) * Ideal.logistic (C (ix2 b k)) := fun k => by
    rw [val_main_v0_apply, val_main_call0_v5_apply, val_main_call0_v4_apply, val_main_call0_cst_0_apply, val_main_call0_v3_apply, val_main_call0_v2_apply,
      val_main_call0_cst_apply, val_main_call0_v1_apply, val_main_call0_v0_apply, oneBits]
    rfl
  rw [val_main_v5_apply, val_main_v2_apply, val_main_v4_apply, val_main_v3_apply, val_main_v1_apply]
  refine congrArg₂ (α := EReal) (β := EReal) (γ := EReal) (fun p q => p + q) (Finset.sum_congr rfl fun k _ => ?_) (congrArg B (funext fun a => match a with | ⟨0, _⟩ => rfl | ⟨1, _⟩ => rfl))
  have el : lidx_main_v1 (idx_main_v2 (ix3 l b d)) k = ix3 l k d := funext fun a => match a with | ⟨0, _⟩ => rfl | ⟨1, _⟩ => rfl | ⟨2, _⟩ => rfl
  have er : ridx_main_v1 (idx_main_v2 (ix3 l b d)) k = ix2 b k := funext fun a => match a with | ⟨0, _⟩ => rfl | ⟨1, _⟩ => rfl
  rw [el, er, hs]
  exact mul_comm (G := EReal) _ _

theorem context_apply (l : Fin 4) (d : Fin 12288) : val_main_v8 (F := Ideal) ctx W B (ix2 l d) = context ctx W B (ix2 l d) := by
  have hs : ∀ k : Fin 2048, val_main_v6 (F := Ideal) ctx (ix1 k) = ctx (ix1 k) * Ideal.logistic (ctx (ix1 k)) := fun k => by
    rw [val_main_v6_apply, val_main_call1_v5_apply, val_main_call1_v4_apply, val_main_call1_cst_0_apply, val_main_call1_v3_apply, val_main_call1_v2_apply,
      val_main_call1_cst_apply, val_main_call1_v1_apply, val_main_call1_v0_apply, oneBits]
    rfl
  rw [val_main_v8_apply, val_main_v7_apply]
  refine congrArg (fun p : EReal => p + B (ix2 l d)) (Finset.sum_congr rfl fun k _ => ?_)
  have el : lidx_main_v7 (ix2 l d) k = ix1 k := funext fun a => match a with | ⟨0, _⟩ => rfl
  have er : ridx_main_v7 (ix2 l d) k = ix3 l k d := funext fun a => match a with | ⟨0, _⟩ => rfl | ⟨1, _⟩ => rfl | ⟨2, _⟩ => rfl
  rw [el, er, hs]

end reference

end Cert.Kernel10Ideal.Modulation

namespace Cert.Proof.Modulation

open Idealize.ShloMosaic Idealize.ShloMosaic.TcCoe Idealize.ShloMosaic.ValueIdx
open Idealize.SL.Sem
open Cert.Kernel10Ideal.Modulation

theorem frame_p : Cert.quiescent_Kernel10 := fun m ρ _ => Cert.Kernel10.Gen.frame m ρ
theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2.2,
      Idealize.ShloMosaic.sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal := fun m ρ m' ρ' _ hag =>
  ⟨fun c => samples (argC m c) (argW m c) (argB m c), fun c => context (argCtx m c) (argW m c) (argB m c),
    (θ_run Cert.Kernel10Ideal.defs _ _).mono (fun _ h c => ⟨(h c).1.1, (h c).1.2, (h c).2⟩) (run m ρ),
    (θ_run Cert.Reference10Ideal.defs _ _).mono (fun _ h c => ⟨(h c).1.trans (by
      rw [Cert.Reference10Ideal.Read.val_main_v5_eq]
      obtain ⟨e0, e1, e2, e3⟩ := hag c
      rw [e0, e2, e3]
      funext i
      rw [eq_ix3 i]
      exact samples_apply _ _ _ (i 0) (i 1) (i 2)), (h c).2.1.trans (by
      rw [Cert.Reference10Ideal.Read.val_main_v8_eq]
      obtain ⟨e0, e1, e2, e3⟩ := hag c
      rw [e1, e2, e3]
      funext i
      rw [eq_ix2 i]
      exact context_apply _ _ _ (i 0) (i 1)), (h c).2.2⟩)
    (Cert.Reference10Ideal.Value.run (F := Ideal) m' ρ')⟩

end Cert.Proof.Modulation

end
-- ==== Proof.AttnValues.lean ====
/-
  The values of both attentions from the modulated tokens. The grouped attention's values are columns of the combined
  projection; the latent attention's are the latent columns, normed, times the value part of the up-projection. The
  projection's columns are kept in scratch from the first grid point on (`held`), each point writes its 512 tokens in two
  groups of 256, the points tile the arrays (`run`), and the reference's entries are the same expressions.
-/
module

public import proofs.«01_k».proof.Proof.RouterKernel
public import proofs.«01_k».proof.Proof.Gen.Kernel11Ideal.Frame
public import proofs.«01_k».proof.Proof.Gen.Kernel11.Frame
public import proofs.«01_k».proof.Proof.Gen.Reference11Ideal.Read
public import proofs.«01_k».proof.Defs
public import Idealize.ShloMosaic.Lib.KernelVsHost
public import Idealize.ShloMosaic.Lib.Claim

@[expose] public section

set_option maxRecDepth 16384

noncomputable section

namespace Cert.Kernel11Ideal.AttnValues

open Cert.Kernel11Ideal Cert.Kernel11Ideal.Gen Idealize.ShloMosaic.TcCoe Idealize.ShloMosaic.ValueIdx
open Idealize.ShloMosaic Idealize.ShloMosaic.Tactic
open Idealize.SL Idealize.SL.Sem
open Idealize.ShloMosaic.Pipeline (Dat)
open Cert.KernelIdeal.AttentionBlock (rowSum spread_apply)
open Cert.Kernel4Ideal.ScatterPay (dot_apply zeroBits)
open scoped BigOperators

/-! ## The value of a block -/

/-- A latent row over its root mean square, weighted. -/
def normed (z g : Fin 256 → EReal) (k : Fin 256) : EReal :=
  z k * Ideal.rsqrt (Ideal.div (∑ j : Fin 256, z j * z j) (FloatOps.ofBits (F := Ideal) .f32 0x43800000#32 : EReal) + (FloatOps.ofBits (F := Ideal) .f32 0x358637BD#32 : EReal)) * g k

/-- The columns without their leading axis: what the scratch is filled with. -/
def flat (w : S1x896x2048.Idx → EReal) : S896x2048.Idx → EReal := fun y => w (ix3 0 (y 0) (y 1))

/-- Column `256 + k` of the projection is a value, column `512 + k` a latent entry. -/
abbrev vcol (k : Fin 256) : Fin 896 := ⟨256 + k.val, by have := k.isLt; omega⟩
@[inherit_doc vcol] abbrev lcol (k : Fin 256) : Fin 896 := ⟨512 + k.val, by have := k.isLt; omega⟩

/-- A row of `n` rows against a kept column. -/
def proj {n : ℕ} (x : (⟨3, ![1, n, 2048]⟩ : Shape).Idx → EReal) (W : S896x2048.Idx → EReal) (r : Fin n) (k : Fin 896) : EReal :=
  ∑ e : Fin 2048, x (ix3 0 r e) * W (ix2 k e)

/-- A row's values of the latent attention. -/
def mixed {n : ℕ} (x : (⟨3, ![1, n, 2048]⟩ : Shape).Idx → EReal) (W : S896x2048.Idx → EReal) (g : S1x256.Idx → EReal) (B : S256x512.Idx → EReal)
    (r : Fin n) (d : Fin 512) : EReal :=
  ∑ k : Fin 256, normed (fun k => proj x W r (lcol k)) (fun k => g (ix2 0 k)) k * B (ix2 k d)

theorem pay_flat (w : Vec Ideal S1x896x2048 .f32) : k0_pay2 (F := Ideal) w = flat w := by
  unfold k0_pay2
  dsimp only
  rw [shapeCast_self]
  funext y
  refine (congrArg _ (eq_ix2 y)).trans ?_
  exact shapeCast_1ab_ab_apply w _ (y 0) (y 1)

theorem pay_proj (x : Vec Ideal S1x256x2048 .bf16) (W : Vec Ideal S896x2048 .bf16) (r : Fin 256) (k : Fin 896) :
    k0_pay5 (F := Ideal) x W (ix2 r k) = proj x W r k := by
  unfold k0_pay5 k0_pay4
  show FloatOps.matmul (DotDims.transposedRhs 256 2048 896) none _ _ _ (ix2 r k) = _
  rw [Ideal.matmul_transposedRhs_apply]
  show FloatOps.ofBits (F := Ideal) .f32 0x00000000#32 + _ = _
  rw [zeroBits, zero_add]
  exact Finset.sum_congr rfl fun e _ => congrArg (· * W (ix2 k e)) (shapeCast_1ab_ab_apply x _ r e)

theorem value_apply (P : Vec Ideal S256x896 .f32) (u : Fin 1) (r d : Fin 256) : k0_pay20 (F := Ideal) P (ix3 u r d) = P (ix2 r (vcol d)) := by
  unfold k0_pay20
  rw [shapeCast_ab_1ab_apply]
  exact extractStridedSlice_apply ![0, 256] P slices_S256x896_o0_256_S256x256 (ix2 r d) (ix2 r (vcol d)) (fun a => match a with
    | ⟨0, _⟩ => by show r.val = 0 + r.val; omega
    | ⟨1, _⟩ => rfl)

theorem latent_apply (P : Vec Ideal S256x896 .f32) (r k : Fin 256) :
    extractStridedSlice S256x256 ![0, 512] P slices_S256x896_o0_512_S256x256 (ix2 r k) = P (ix2 r (lcol k)) :=
  extractStridedSlice_apply ![0, 512] P slices_S256x896_o0_512_S256x256 (ix2 r k) (ix2 r (lcol k)) (fun a => match a with
    | ⟨0, _⟩ => by show r.val = 0 + r.val; omega
    | ⟨1, _⟩ => rfl)

theorem normed_apply (P : Vec Ideal S256x896 .f32) (g : Vec Ideal S1x256 .f32) (r k : Fin 256) :
    k0_pay29 (F := Ideal) P g (ix2 r k) = normed (fun k => P (ix2 r (lcol k))) (fun k => g (ix2 0 k)) k := by
  unfold k0_pay29 normed
  refine congrArg₂ (α := EReal) (β := EReal) (γ := EReal) (fun p q => p * q)
    (congrArg₂ (α := EReal) (β := EReal) (γ := EReal) (fun p q => p * q) (latent_apply P r k) ?_) ?_
  · refine (spread_apply _ broadcasts_S256x1_S256x256 r k).trans ?_
    have h := rowSum (n := 256) reduces_S256x256_S256 shapeCasts_S256_S256x1
      (mulf (F := Ideal) (extractStridedSlice S256x256 ![0, 512] P slices_S256x896_o0_512_S256x256) (extractStridedSlice S256x256 ![0, 512] P slices_S256x896_o0_512_S256x256)) (.inl rfl) rfl r 0
    refine congrArg (fun p : EReal => Ideal.rsqrt (Ideal.div p (FloatOps.ofBits (F := Ideal) .f32 0x43800000#32 : EReal) + (FloatOps.ofBits (F := Ideal) .f32 0x358637BD#32 : EReal))) (h.trans ?_)
    exact Finset.sum_congr rfl fun j _ => congrArg₂ (α := EReal) (β := EReal) (γ := EReal) (fun p q => p * q) (latent_apply P r j) (latent_apply P r j)
  · refine (broadcastTo_apply _ broadcasts_S1x256_S256x256 (ix2 r k) (ix2 0 k) fun a => match a with
      | ⟨0, _⟩ => rfl
      | ⟨1, _⟩ => rfl).trans ?_
    rw [shapeCast_self]

theorem mixed_apply (x : Vec Ideal S1x256x2048 .bf16) (W : Vec Ideal S896x2048 .bf16) (g : Vec Ideal S1x256 .f32) (B : Vec Ideal S256x512 .f32) (u : Fin 1) (r : Fin 256) (d : Fin 512) :
    k0_pay31 (F := Ideal) (k0_pay5 x W) g B (ix3 u r d) = mixed x W g B r d := by
  unfold k0_pay31
  rw [shapeCast_ab_1ab_apply, shapeCast_self]
  refine (dot_apply (n := 256) (k := 256) (p := 512) _ _ r d).trans ?_
  refine Finset.sum_congr rfl fun k _ => congrArg (· * B (ix2 k d)) ((normed_apply _ g r k).trans ?_)
  exact congrArg (fun z => normed z (fun k => g (ix2 0 k)) k) (funext fun j => pay_proj x W r (lcol j))

/-! ## One grid point's two groups of rows -/

section piece

variable (x0 : Vec Ideal S1x512x2048 .bf16) (W : Vec Ideal S896x2048 .bf16) (g : Vec Ideal S1x256 .f32) (B : Vec Ideal S256x512 .f32)

/-- What a point's two output blocks hold at an index. -/
def blockV : Vec Ideal S1x512x256 .bf16 := fun y => proj x0 W (y 1) (vcol (y 2))
@[inherit_doc blockV] def blockM : Vec Ideal S1x512x512 .bf16 := fun y => mixed x0 W g B (y 1) (y 2)

variable (o : ℕ) (inb : ∀ a, (![0, o, 0] : Fin 3 → ℕ) a + S1x256x2048.size a ≤ S1x512x2048.size a)
  (inbV : ∀ a, (![0, o, 0] : Fin 3 → ℕ) a + S1x256x256.size a ≤ S1x512x256.size a)
  (inbM : ∀ a, (![0, o, 0] : Fin 3 → ℕ) a + S1x256x512.size a ≤ S1x512x512.size a)

/-- The 256 rows from `o` on of a block of rows. -/
abbrev rowsOf : Rect S1x512x2048 := Rect.unit (s := S1x512x2048) ![0, o, 0] S1x256x2048.size inb
@[inherit_doc rowsOf] abbrev rowsV : Rect S1x512x256 := Rect.unit (s := S1x512x256) ![0, o, 0] S1x256x256.size inbV
@[inherit_doc rowsOf] abbrev rowsM : Rect S1x512x512 := Rect.unit (s := S1x512x512) ![0, o, 0] S1x256x512.size inbM

theorem proj_ld (r : Fin 256) (R : Fin 512) (hR : R.val = o + r.val) (k : Fin 896) :
    proj (n := 256) (View.ld x0 (rowsOf o inb)) W r k = proj (n := 512) x0 W R k := by
  refine Finset.sum_congr rfl fun e _ => congrArg (· * W (ix2 k e)) (congrArg x0 (funext fun a => Fin.ext ?_))
  match a with
  | ⟨0, _⟩ => rfl
  | ⟨1, _⟩ => show o + 1 * r.val = R.val; omega
  | ⟨2, _⟩ => show 0 + 1 * e.val = e.val; omega

theorem value_piece (x : S1x256x256.Idx) :
    k0_pay20 (F := Ideal) (k0_pay5 (View.ld x0 (rowsOf o inb)) W) x = blockV x0 W ((rowsV o inbV).emb x) := by
  have hx : x = ix3 (x 0) (x 1) (x 2) := eq_ix3 x
  have hd : (rowsV o inbV).emb x 2 = x 2 := Fin.ext (by show 0 + 1 * (x 2).val = (x 2).val; omega)
  refine (congrArg _ hx).trans ((value_apply _ (x 0) (x 1) (x 2)).trans ((pay_proj _ W (x 1) (vcol (x 2))).trans ?_))
  unfold blockV
  rw [hd]
  exact proj_ld x0 W o inb (x 1) ((rowsV o inbV).emb x 1) (by show o + 1 * (x 1).val = o + (x 1).val; omega) (vcol (x 2))

theorem mixed_piece (x : S1x256x512.Idx) :
    k0_pay31 (F := Ideal) (k0_pay5 (View.ld x0 (rowsOf o inb)) W) g B x = blockM x0 W g B ((rowsM o inbM).emb x) := by
  have hx : x = ix3 (x 0) (x 1) (x 2) := eq_ix3 x
  have hd : (rowsM o inbM).emb x 2 = x 2 := Fin.ext (by show 0 + 1 * (x 2).val = (x 2).val; omega)
  refine (congrArg _ hx).trans ((mixed_apply _ W g B (x 0) (x 1) (x 2)).trans ?_)
  unfold blockM mixed
  rw [hd]
  refine Finset.sum_congr rfl fun k _ => congrArg (· * B (ix2 k (x 2))) ?_
  exact congrArg (fun z => normed z (fun k => g (ix2 0 k)) k) (funext fun j =>
    proj_ld x0 W o inb (x 1) ((rowsM o inbM).emb x 1) (by show o + 1 * (x 1).val = o + (x 1).val; omega) (lcol j))

end piece

theorem hz2 : (![0, 0] : Fin 2 → Nat) = fun _ => 0 := funext fun a => by fin_cases a <;> rfl
theorem hz3 : (![0, 0, 0] : Fin 3 → Nat) = fun _ => 0 := funext fun a => by fin_cases a <;> rfl

section Points

variable  (c : Dev nD) (i : grid0.Coords) (arg2 : Memref sig .tc .vmem S1x512x2048 .bf16) (harg2 : arg2.IsWhole) (arg3 : Memref sig .tc .vmem S1x896x2048 .f32) (harg3 : arg3.IsWhole) (arg4 : Memref sig .tc .vmem S1x896x2048 .f32) (harg4 : arg4.IsWhole) (arg5 : Memref sig .tc .vmem S2x512x128 .f32) (harg5 : arg5.IsWhole) (arg6 : Memref sig .tc .vmem S2x512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S896x2048 .bf16) (harg20 : arg20.IsWhole) (arg21 : Memref sig .tc .vmem S896x2048 .bf16) (harg21 : arg21.IsWhole)
variable (x0 : Vec Ideal S1x512x2048 .bf16) (x1 : Vec Ideal S1x896x2048 .f32) (x2 : Vec Ideal S1x896x2048 .f32) (x3 : Vec Ideal S2x512x128 .f32) (x4 : Vec Ideal S2x512x128 .f32) (x5 : Vec Ideal S1x128 .f32) (x6 : Vec Ideal S1x128 .f32) (x7 : Vec Ideal S1x384 .f32) (x8 : Vec Ideal S1x256 .f32) (x9 : Vec Ideal S384x512 .f32) (x10 : Vec Ideal S256x512 .f32) (x11 : Vec Ideal S256x512 .f32)

/-- The two groups' stores. -/
abbrev storesV (W : Vec Ideal S896x2048 .bf16) : List (View.Piece (Elt Ideal) S1x512x256 .bf16) :=
  [⟨rowsV 256 inb_S1x512x256_S1x256x256_0_256_0, k0_pay63 (F := Ideal) (k0_pay50 (View.ld x0 (rowsOf 256 inb_S1x512x2048_S1x256x2048_0_256_0)) W)⟩,
    ⟨rowsV 0 inb_S1x512x256_S1x256x256_0_0_0, k0_pay20 (F := Ideal) (k0_pay5 (View.ld x0 (rowsOf 0 inb_S1x512x2048_S1x256x2048_0_0_0)) W)⟩]
@[inherit_doc storesV] abbrev storesM (W : Vec Ideal S896x2048 .bf16) : List (View.Piece (Elt Ideal) S1x512x512 .bf16) :=
  [⟨rowsM 256 inb_S1x512x512_S1x256x512_0_256_0, k0_pay86 (F := Ideal) (k0_pay84 (k0_pay50 (View.ld x0 (rowsOf 256 inb_S1x512x2048_S1x256x2048_0_256_0)) W) x8) x11⟩,
    ⟨rowsM 0 inb_S1x512x512_S1x256x512_0_0_0, k0_pay31 (F := Ideal) (k0_pay5 (View.ld x0 (rowsOf 0 inb_S1x512x2048_S1x256x2048_0_0_0)) W) x8 x11⟩]

/-- They make the block. -/
theorem canonV (W : Vec Ideal S896x2048 .bf16) (hc : ∀ y : S1x512x256.Idx, ∃ p ∈ storesV x0 W, y ∈ p.1.set) : View.canon (storesV x0 W) = blockV x0 W := by
  funext y
  have h := View.canon_append_of_piecesOf (Val := Elt Ideal) (blockV x0 W) [] (storesV x0 W)
    ⟨value_piece x0 W 256 inb_S1x512x2048_S1x256x2048_0_256_0 inb_S1x512x256_S1x256x256_0_256_0, value_piece x0 W 0 inb_S1x512x2048_S1x256x2048_0_0_0 inb_S1x512x256_S1x256x256_0_0_0, trivial⟩ y (hc y)
  rw [List.append_nil] at h
  exact h

@[inherit_doc canonV] theorem canonM (W : Vec Ideal S896x2048 .bf16) (hc : ∀ y : S1x512x512.Idx, ∃ p ∈ storesM x0 x8 x11 W, y ∈ p.1.set) :
    View.canon (storesM x0 x8 x11 W) = blockM x0 W x8 x11 := by
  funext y
  have h := View.canon_append_of_piecesOf (Val := Elt Ideal) (blockM x0 W x8 x11) [] (storesM x0 x8 x11 W)
    ⟨mixed_piece x0 W x8 x11 256 inb_S1x512x2048_S1x256x2048_0_256_0 inb_S1x512x512_S1x256x512_0_256_0, mixed_piece x0 W x8 x11 0 inb_S1x512x2048_S1x256x2048_0_0_0 inb_S1x512x512_S1x256x512_0_0_0, trivial⟩ y (hc y)
  rw [List.append_nil] at h
  exact h

/-- The columns read back after the fill. -/
theorem kept (a : Memref sig .tc .vmem S896x2048 .bf16) (w : Vec Ideal S1x896x2048 .f32) :
    a.view.readCov (Val := Elt Ideal) [⟨Rect.unit ![0, 0] ![896, 2048] inb_S896x2048_S896x2048_0_0, k0_pay2 (F := Ideal) w⟩] (Rect.unit ![0, 0] ![896, 2048] inb_S896x2048_S896x2048_0_0).toLoadRect = flat w := by
  rw [View.readCov_eq_canon', View.canon_unit_zero (S := S896x2048) hz2, pay_flat]
  exact funext fun j => congrArg (flat w) (funext fun a => Fin.ext (by
    match a with
    | ⟨0, _⟩ => show 0 + 1 * (j 0).val = (j 0).val; omega
    | ⟨1, _⟩ => show 0 + 1 * (j 1).val = (j 1).val; omega))

theorem coverV (W : Vec Ideal S896x2048 .bf16) (y : S1x512x256.Idx) : ∃ p ∈ storesV x0 W, y ∈ p.1.set := by
  have y0 : (y 0).val < 1 := (y 0).isLt
  have y1 : (y 1).val < 512 := (y 1).isLt
  have y2 : (y 2).val < 256 := (y 2).isLt
  by_cases h : 256 ≤ (y 1).val
  · refine ⟨_, List.mem_cons_self, ?_⟩
    show y ∈ (rowsV 256 inb_S1x512x256_S1x256x256_0_256_0).set
    rw [Rect.mem_set_unit]
    intro a
    match a with
    | ⟨0, _⟩ => show 0 ≤ (y 0).val ∧ (y 0).val < 0 + 1; omega
    | ⟨1, _⟩ => show 256 ≤ (y 1).val ∧ (y 1).val < 256 + 256; omega
    | ⟨2, _⟩ => show 0 ≤ (y 2).val ∧ (y 2).val < 0 + 256; omega
  · refine ⟨_, List.mem_cons_of_mem _ List.mem_cons_self, ?_⟩
    show y ∈ (rowsV 0 inb_S1x512x256_S1x256x256_0_0_0).set
    rw [Rect.mem_set_unit]
    intro a
    match a with
    | ⟨0, _⟩ => show 0 ≤ (y 0).val ∧ (y 0).val < 0 + 1; omega
    | ⟨1, _⟩ => show 0 ≤ (y 1).val ∧ (y 1).val < 0 + 256; omega
    | ⟨2, _⟩ => show 0 ≤ (y 2).val ∧ (y 2).val < 0 + 256; omega

/-- A point that finds the columns kept. -/
theorem outV_B (hc0 : ¬cond0_0 i) (xs0 xs1 : Vec Ideal S896x2048 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 = blockV x0 xs0 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1)]
  unfold kernelRun0_B
  dsimp only
  sl_unfold_words
  simp only [View.readAt_eq_ld, harg2.read_unread, harg3.read_unread, harg10.read_unread, harg13.read_unread, harg20.read_unread, View.ld_unit_zero (S := S896x2048) hz2, View.ld_unit_zero (S := S1x896x2048) hz3, View.ld_unit_zero (S := S1x256) hz2, View.ld_unit_zero (S := S256x512) hz2]
  exact canonV x0 xs0 (coverV x0 _)

/-- A point that fills them, then uses them. -/
theorem outV_A (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = blockV x0 (flat x1) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  simp only [View.readAt_eq_ld, harg2.read_unread, harg3.read_unread, harg10.read_unread, harg13.read_unread, harg20.read_unread, View.ld_unit_zero (S := S896x2048) hz2, View.ld_unit_zero (S := S1x896x2048) hz3, View.ld_unit_zero (S := S1x256) hz2, View.ld_unit_zero (S := S256x512) hz2]
  rw [kept arg20 x1]
  exact canonV x0 (flat x1) (coverV x0 _)

theorem coverM (W : Vec Ideal S896x2048 .bf16) (y : S1x512x512.Idx) : ∃ p ∈ storesM x0 x8 x11 W, y ∈ p.1.set := by
  have y0 : (y 0).val < 1 := (y 0).isLt
  have y1 : (y 1).val < 512 := (y 1).isLt
  have y2 : (y 2).val < 512 := (y 2).isLt
  by_cases h : 256 ≤ (y 1).val
  · refine ⟨_, List.mem_cons_self, ?_⟩
    show y ∈ (rowsM 256 inb_S1x512x512_S1x256x512_0_256_0).set
    rw [Rect.mem_set_unit]
    intro a
    match a with
    | ⟨0, _⟩ => show 0 ≤ (y 0).val ∧ (y 0).val < 0 + 1; omega
    | ⟨1, _⟩ => show 256 ≤ (y 1).val ∧ (y 1).val < 256 + 256; omega
    | ⟨2, _⟩ => show 0 ≤ (y 2).val ∧ (y 2).val < 0 + 512; omega
  · refine ⟨_, List.mem_cons_of_mem _ List.mem_cons_self, ?_⟩
    show y ∈ (rowsM 0 inb_S1x512x512_S1x256x512_0_0_0).set
    rw [Rect.mem_set_unit]
    intro a
    match a with
    | ⟨0, _⟩ => show 0 ≤ (y 0).val ∧ (y 0).val < 0 + 1; omega
    | ⟨1, _⟩ => show 0 ≤ (y 1).val ∧ (y 1).val < 0 + 256; omega
    | ⟨2, _⟩ => show 0 ≤ (y 2).val ∧ (y 2).val < 0 + 512; omega

/-- A point that finds the columns kept. -/
theorem outM_B (hc0 : ¬cond0_0 i) (xs0 xs1 : Vec Ideal S896x2048 .bf16) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1 = blockM x0 xs0 x8 x11 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 xs0 xs1)]
  unfold kernelRun0_B
  dsimp only
  sl_unfold_words
  simp only [View.readAt_eq_ld, harg2.read_unread, harg3.read_unread, harg10.read_unread, harg13.read_unread, harg20.read_unread, View.ld_unit_zero (S := S896x2048) hz2, View.ld_unit_zero (S := S1x896x2048) hz3, View.ld_unit_zero (S := S1x256) hz2, View.ld_unit_zero (S := S256x512) hz2]
  exact canonM x0 x8 x11 xs0 (coverM x0 x8 x11 _)

/-- A point that fills them, then uses them. -/
theorem outM_A (hc0 : cond0_0 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = blockM x0 (flat x1) x8 x11 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  simp only [View.readAt_eq_ld, harg2.read_unread, harg3.read_unread, harg10.read_unread, harg13.read_unread, harg20.read_unread, View.ld_unit_zero (S := S896x2048) hz2, View.ld_unit_zero (S := S1x896x2048) hz3, View.ld_unit_zero (S := S1x256) hz2, View.ld_unit_zero (S := S256x512) hz2]
  rw [kept arg20 x1]
  exact canonM x0 x8 x11 (flat x1) (coverM x0 x8 x11 _)

/-- What a point that fills the scratch leaves there, and what another leaves. -/
theorem sout_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 = flat x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11)]
  unfold kernelRun0_A
  dsimp only
  sl_unfold_words
  rw [View.canon_unit_zero (S := S896x2048) hz2]
  simp only [View.readAt_eq_ld, harg3.read_unread, View.ld_unit_zero (S := S1x896x2048) hz3]
  exact pay_flat x1

end Points

/-! ## The blocks of the arguments -/

variable (m : (ℓ : Loc nD τ sig) → Buf (Elt Ideal) ℓ) (ρ : Dev nD → PrngReg)

abbrev argX (c : Dev nD) : S4x2048x2048.Idx → EReal := m ((c : Thread nD τ).loc main_arg0)
abbrev argIn (c : Dev nD) : S4x2048x12448.Idx → EReal := m ((c : Thread nD τ).loc main_arg1)
abbrev argGain (c : Dev nD) : S4x256.Idx → EReal := m ((c : Thread nD τ).loc main_arg6)
abbrev argB (c : Dev nD) : S4x256x768.Idx → EReal := m ((c : Thread nD τ).loc main_arg7)

/-- A kept column as a column of the combined projection. -/
abbrev wide (k : Fin 896) : Fin 12448 := ⟨k.val, by have := k.isLt; omega⟩
/-- Value column `d` of the latent attention: 64 columns of a head's 192 are its key. -/
abbrev bcol (d : Fin 512) : Fin 768 := ⟨192 * (d.val / 128) + (64 + d.val % 128), by have := d.isLt; omega⟩

/-- The projection of a token to a column. -/
def projAt (X : S4x2048x2048.Idx → EReal) (W : S4x2048x12448.Idx → EReal) (b : Fin 4) (s : Fin 2048) (k : Fin 12448) : EReal :=
  ∑ e : Fin 2048, X (ix3 b s e) * W (ix3 0 e k)

/-- The latent attention's up-projection of a token's normed latent. -/
def mixedAt (X : S4x2048x2048.Idx → EReal) (W : S4x2048x12448.Idx → EReal) (g : S4x256.Idx → EReal) (B : S4x256x768.Idx → EReal) (b : Fin 4) (s : Fin 2048) (j : Fin 768) : EReal :=
  ∑ k : Fin 256, normed (fun k => projAt X W b s (wide (lcol k))) (fun k => g (ix2 0 k)) k * B (ix3 0 k j)

theorem V_in (c : Dev nD) : V m c main_v13 = transpose S4x12448x2048 [0, 2, 1] (argIn m c) transposes_S4x2048x12448_S4x12448x2048_0_2_1 := by entry_read; rfl
theorem V_gain (c : Dev nD) : V m c main_v110 = shapeCast S1x256 (shapeCast S256 (extractStridedSlice S1x256 ![0, 0] (argGain m c) slices_S4x256_S1x256_0_0) shapeCasts_S1x256_S256) shapeCasts_S256_S1x256 := by
  entry_read; rfl
theorem V_b (c : Dev nD) : V m c main_v12 = shapeCast S256x512 (extractStridedSlice S256x4x128 ![0, 0, 64] (shapeCast S256x4x192 (shapeCast S256x768 (extractStridedSlice S1x256x768 ![0, 0, 0] (argB m c) slices_S4x256x768_S1x256x768_0_0_0)
    shapeCasts_S1x256x768_S256x768) shapeCasts_S256x768_S256x4x192) slices_S256x4x192_S256x4x128_0_0_64) shapeCasts_S256x4x128_S256x512 := by
  entry_read; rfl

theorem gain_apply (X : S4x256.Idx → EReal) (k : Fin 256) :
    shapeCast S1x256 (shapeCast S256 (extractStridedSlice S1x256 ![0, 0] X slices_S4x256_S1x256_0_0) shapeCasts_S1x256_S256) shapeCasts_S256_S1x256 (ix2 0 k) = X (ix2 0 k) := by
  rw [shapeCast_apply _ shapeCasts_S256_S1x256 (ix2 0 k) (ix1 k) (by
      rewrite [Shape.rowMajor_val_one, Shape.rowMajor_val_two]
      show k.val = 0 * 256 + k.val; omega),
    shapeCast_apply _ shapeCasts_S1x256_S256 (ix1 k) (ix2 0 k) (by
      rewrite [Shape.rowMajor_val_one, Shape.rowMajor_val_two]
      show 0 * 256 + k.val = k.val; omega)]
  exact extractStridedSlice_apply ![0, 0] X slices_S4x256_S1x256_0_0 (ix2 0 k) (ix2 0 k) (fun a => match a with
    | ⟨0, _⟩ => by show 0 = 0 + 0; omega
    | ⟨1, _⟩ => by show k.val = 0 + k.val; omega)

/-- The value part of the up-projection, cut out by head. -/
theorem cut_apply (X : S4x256x768.Idx → EReal) (k : Fin 256) (d : Fin 512) :
    shapeCast S256x512 (extractStridedSlice S256x4x128 ![0, 0, 64] (shapeCast S256x4x192 (shapeCast S256x768 (extractStridedSlice S1x256x768 ![0, 0, 0] X slices_S4x256x768_S1x256x768_0_0_0)
      shapeCasts_S1x256x768_S256x768) shapeCasts_S256x768_S256x4x192) slices_S256x4x192_S256x4x128_0_0_64) shapeCasts_S256x4x128_S256x512 (ix2 k d) = X (ix3 0 k (bcol d)) := by
  have hd := d.isLt
  let hd4 : Fin 4 := ⟨d.val / 128, by omega⟩
  let e : Fin 128 := ⟨d.val % 128, by omega⟩
  let e' : Fin 192 := ⟨64 + d.val % 128, by omega⟩
  rw [shapeCast_apply _ shapeCasts_S256x4x128_S256x512 (ix2 k d) (ix3 k hd4 e) (by
      rewrite [Shape.rowMajor_val_three, Shape.rowMajor_val_two]
      show (k.val * 4 + d.val / 128) * 128 + d.val % 128 = k.val * 512 + d.val; omega),
    extractStridedSlice_apply ![0, 0, 64] _ slices_S256x4x192_S256x4x128_0_0_64 (ix3 k hd4 e) (ix3 k hd4 e') (fun a => match a with
      | ⟨0, _⟩ => by show k.val = 0 + k.val; omega
      | ⟨1, _⟩ => by show d.val / 128 = 0 + d.val / 128; omega
      | ⟨2, _⟩ => by show 64 + d.val % 128 = 64 + d.val % 128; omega),
    shapeCast_apply _ shapeCasts_S256x768_S256x4x192 (ix3 k hd4 e') (ix2 k (bcol d)) (by
      rewrite [Shape.rowMajor_val_three, Shape.rowMajor_val_two]
      show k.val * 768 + (192 * (d.val / 128) + (64 + d.val % 128)) = (k.val * 4 + d.val / 128) * 192 + (64 + d.val % 128); omega),
    shapeCast_apply _ shapeCasts_S1x256x768_S256x768 (ix2 k (bcol d)) (ix3 0 k (bcol d)) (by
      rewrite [Shape.rowMajor_val_three, Shape.rowMajor_val_two]
      show (0 * 256 + k.val) * 768 + (bcol d).val = k.val * 768 + (bcol d).val; omega)]
  exact extractStridedSlice_apply ![0, 0, 0] X slices_S4x256x768_S1x256x768_0_0_0 (ix3 0 k (bcol d)) (ix3 0 k (bcol d)) (fun a => match a with
    | ⟨0, _⟩ => by show 0 = 0 + 0; omega
    | ⟨1, _⟩ => by show k.val = 0 + k.val; omega
    | ⟨2, _⟩ => by show (bcol d).val = 0 + (bcol d).val; omega)

/-- The batch of a grid point, and its row `r` as a token of the batch. -/
abbrev batch (t : Fin cfg0.N) : Fin 4 := ⟨t.val / 4, by have := t.isLt; have hN : cfg0.N = 16 := N_0; omega⟩
@[inherit_doc batch] abbrev token (t : Fin cfg0.N) (r : Fin 512) : Fin 2048 := ⟨512 * (t.val % 4) + r.val, by have := r.isLt; omega⟩

theorem idx_0 : ∀ t : Fin cfg0.N, win0_0.index t 0 = t.val / 4 ∧ win0_0.index t 1 = t.val % 4 ∧ win0_0.index t 2 = 0 := (by decide +kernel : ∀ t : Fin grid0.N, _)
theorem idx_1 : ∀ t : Fin cfg0.N, win0_1.index t 0 = 0 ∧ win0_1.index t 1 = 0 ∧ win0_1.index t 2 = 0 := (by decide +kernel : ∀ t : Fin grid0.N, _)
theorem idx_8 : ∀ t : Fin cfg0.N, win0_8.index t 0 = 0 ∧ win0_8.index t 1 = 0 := (by decide +kernel : ∀ t : Fin grid0.N, _)
theorem idx_11 : ∀ t : Fin cfg0.N, win0_11.index t 0 = 0 ∧ win0_11.index t 1 = 0 := (by decide +kernel : ∀ t : Fin grid0.N, _)
theorem idx_13 : ∀ t : Fin cfg0.N, win0_13.index t 0 = t.val / 4 ∧ win0_13.index t 1 = t.val % 4 ∧ win0_13.index t 2 = 0 := (by decide +kernel : ∀ t : Fin grid0.N, _)
theorem idx_15 : ∀ t : Fin cfg0.N, win0_15.index t 0 = t.val / 4 ∧ win0_15.index t 1 = t.val % 4 ∧ win0_15.index t 2 = 0 := (by decide +kernel : ∀ t : Fin grid0.N, _)

theorem blk_0 (c : Dev nD) (t : Fin cfg0.N) (r : Fin 512) (e : Fin 2048) : iblk m c 0 t (ix3 (0 : Fin 1) r e) = argX m c (ix3 (batch t) (token t r) e) := by
  unfold iblk
  rw [View.read_apply]
  show V m c main_arg0 _ = _
  rw [V_main_arg0]
  refine congrArg (argX m c) ?_
  funext a; apply Fin.ext
  obtain ⟨h0, h1, h2⟩ := idx_0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 2048 + 1 * e.val = e.val; omega

theorem blk_1 (c : Dev nD) (t : Fin cfg0.N) (k : Fin 896) (e : Fin 2048) : iblk m c 1 t (ix3 (0 : Fin 1) k e) = argIn m c (ix3 0 e (wide k)) := by
  unfold iblk
  rw [View.read_apply]
  show V m c main_v13 _ = _
  rw [V_in]
  refine Eq.trans (congrArg _ ?_) (transpose_ix3_021_apply (argIn m c) _ 0 (wide k) e)
  funext a; apply Fin.ext
  obtain ⟨h0, h1, h2⟩ := idx_1 t
  match a with
  | ⟨0, _⟩ => show win0_1.index t 0 + 1 * 0 = 0; omega
  | ⟨1, _⟩ => show win0_1.index t 1 + 1 * k.val = k.val; omega
  | ⟨2, _⟩ => show win0_1.index t 2 + 1 * e.val = e.val; omega

theorem blk_8 (c : Dev nD) (t : Fin cfg0.N) (k : Fin 256) : iblk m c 8 t (ix2 (0 : Fin 1) k) = argGain m c (ix2 0 k) := by
  unfold iblk
  rw [View.read_apply]
  show V m c main_v110 _ = _
  rw [V_gain]
  refine (congrArg _ ?_).trans (gain_apply (argGain m c) k)
  funext a; apply Fin.ext
  obtain ⟨h0, h1⟩ := idx_8 t
  match a with
  | ⟨0, _⟩ => show win0_8.index t 0 * 1 + 1 * 0 = 0; omega
  | ⟨1, _⟩ => show win0_8.index t 1 * 256 + 1 * k.val = k.val; omega

theorem blk_11 (c : Dev nD) (t : Fin cfg0.N) (k : Fin 256) (d : Fin 512) : iblk m c 11 t (ix2 k d) = argB m c (ix3 0 k (bcol d)) := by
  unfold iblk
  rw [View.read_apply]
  show V m c main_v12 _ = _
  rw [V_b]
  refine (congrArg _ ?_).trans (cut_apply (argB m c) k d)
  funext a; apply Fin.ext
  obtain ⟨h0, h1⟩ := idx_11 t
  match a with
  | ⟨0, _⟩ => show win0_11.index t 0 * 256 + 1 * k.val = k.val; omega
  | ⟨1, _⟩ => show win0_11.index t 1 * 512 + 1 * d.val = d.val; omega

/-! ## The columns kept in scratch -/

/-- The kept columns. -/
def cached (c : Dev nD) : S896x2048.Idx → EReal := fun y => argIn m c (ix3 0 (y 1) (wide (y 0)))

theorem flat_eq (c : Dev nD) (t : Fin cfg0.N) : flat (iblk m c 1 t) = cached m c :=
  funext fun y => blk_1 m c t (y 0) (y 1)

/-- After every point the scratch holds the columns, and the output blocks what is made with them. -/
theorem held (c : Dev nD) (n : ℕ) : ∀ h : n < cfg0.N,
    (outsAt0 m c n h).2.1 = blockV (iblk m c 0 ⟨n, h⟩) (cached m c)
      ∧ (outsAt0 m c n h).2.2.2.1 = blockM (iblk m c 0 ⟨n, h⟩) (cached m c) (iblk m c 8 ⟨n, h⟩) (iblk m c 11 ⟨n, h⟩)
      ∧ (outsAt0 m c n h).2.2.2.2.2.2.1 = cached m c := by
  induction n with
  | zero =>
    intro h
    rw [show outsAt0 m c 0 h = _ from outsAt0_A m c ⟨0, h⟩ rfl]
    dsimp only
    rw [outV_A, outM_A, sout_A, flat_eq]
    exact ⟨rfl, rfl, rfl⟩
  | succ n ih =>
    intro h
    have hN : cfg0.N = 16 := N_0
    obtain ⟨-, -, ih⟩ := ih (Nat.lt_of_succ_lt h)
    rw [show outsAt0 m c (n + 1) h = _ from outsAt0_B m c ⟨n + 1, h⟩ (show ¬(n + 1) % 16 = 0 by omega)]
    dsimp only
    rw [outV_B, outM_B]
    have e1 : (outsAt0 m c (n + 1 - 1) (Nat.lt_of_le_of_lt (Nat.sub_le _ _) h)).2.2.2.2.2.2.1 = cached m c := ih
    rw [e1]
    exact ⟨rfl, rfl, rfl⟩

theorem proj_blk (c : Dev nD) (t : Fin cfg0.N) (r : Fin 512) (k : Fin 896) :
    proj (n := 512) (iblk m c 0 t) (cached m c) r k = projAt (argX m c) (argIn m c) (batch t) (token t r) (wide k) :=
  Finset.sum_congr rfl fun e _ => congrArg (· * argIn m c (ix3 0 e (wide k))) (blk_0 m c t r e)

theorem mixed_blk (c : Dev nD) (t : Fin cfg0.N) (r : Fin 512) (d : Fin 512) :
    mixed (n := 512) (iblk m c 0 t) (cached m c) (iblk m c 8 t) (iblk m c 11 t) r d = mixedAt (argX m c) (argIn m c) (argGain m c) (argB m c) (batch t) (token t r) (bcol d) := by
  refine Finset.sum_congr rfl fun k _ => congrArg₂ (α := EReal) (β := EReal) (γ := EReal) (fun p q => p * q) ?_ (blk_11 m c t k d)
  exact congrFun (congr (congrArg normed (funext fun j => proj_blk m c t r (lcol j))) (funext fun j => blk_8 m c t j)) k

/-! ## The result arrays -/

/-- The grouped attention's values and the latent attention's. -/
def GV (c : Dev nD) : S4x2048x256.Idx → EReal := fun i => projAt (argX m c) (argIn m c) (i 0) (i 1) (wide (vcol (i 2)))
@[inherit_doc GV] def GM (c : Dev nD) : S4x2048x512.Idx → EReal := fun i => mixedAt (argX m c) (argIn m c) (argGain m c) (argB m c) (i 0) (i 1) (bcol (i 2))

theorem flushed13 (c : Dev nD) (t : Fin cfg0.N) (_ : (cfg0.win 13).flush t = true) : (dats m 0 c).flushed 13 t = ((cfg0.win 13).blk t).view.read (Elt Ideal) (GV m c) := by
  show (cfg0.win 13).cut (grid0.coords t) ((dats m 0 c).after 13 t) = _
  rw [after0_13, (held m c t.val t.isLt).1]
  funext y
  rw [View.read_apply]
  obtain ⟨h0, h1, h2⟩ := idx_13 t
  refine (proj_blk m c t (y 1) (vcol (y 2))).trans ?_
  unfold GV
  have y0 : (y 0).val < 1 := (y 0).isLt
  have e0 : batch t = (((cfg0.win 13).blk t).view.emb y) 0 := Fin.ext (by show t.val / 4 = win0_13.index t 0 * 1 + 1 * (y 0).val; omega)
  have e1 : token t (y 1) = (((cfg0.win 13).blk t).view.emb y) 1 := Fin.ext (by show 512 * (t.val % 4) + (y 1).val = win0_13.index t 1 * 512 + 1 * (y 1).val; omega)
  have e2 : (y 2 : Fin 256) = (((cfg0.win 13).blk t).view.emb y) 2 := Fin.ext (by show (y 2).val = win0_13.index t 2 * 256 + 1 * (y 2).val; omega)
  exact congr (congr (congrArg (projAt (argX m c) (argIn m c)) e0) e1) (congrArg (fun d => wide (vcol d)) e2)

theorem flushed15 (c : Dev nD) (t : Fin cfg0.N) (_ : (cfg0.win 15).flush t = true) : (dats m 0 c).flushed 15 t = ((cfg0.win 15).blk t).view.read (Elt Ideal) (GM m c) := by
  show (cfg0.win 15).cut (grid0.coords t) ((dats m 0 c).after 15 t) = _
  rw [after0_15, (held m c t.val t.isLt).2.1]
  funext y
  rw [View.read_apply]
  obtain ⟨h0, h1, h2⟩ := idx_15 t
  refine (mixed_blk m c t (y 1) (y 2)).trans ?_
  unfold GM
  have y0 : (y 0).val < 1 := (y 0).isLt
  have e0 : batch t = (((cfg0.win 15).blk t).view.emb y) 0 := Fin.ext (by show t.val / 4 = win0_15.index t 0 * 1 + 1 * (y 0).val; omega)
  have e1 : token t (y 1) = (((cfg0.win 15).blk t).view.emb y) 1 := Fin.ext (by show 512 * (t.val % 4) + (y 1).val = win0_15.index t 1 * 512 + 1 * (y 1).val; omega)
  have e2 : (y 2 : Fin 512) = (((cfg0.win 15).blk t).view.emb y) 2 := Fin.ext (by show (y 2).val = win0_15.index t 2 * 512 + 1 * (y 2).val; omega)
  exact congr (congr (congrArg (mixedAt (argX m c) (argIn m c) (argGain m c) (argB m c)) e0) e1) (congrArg bcol e2)

/-- The grid point that writes a token's row. -/
theorem point_of (b : Fin 4) (r : Fin 2048) : ∃ t : Fin cfg0.N, t.val = 4 * b.val + r.val / 512 := by
  have := b.isLt; have := r.isLt; have hN : cfg0.N = 16 := N_0
  exact ⟨⟨4 * b.val + r.val / 512, by omega⟩, rfl⟩

theorem final13 (c : Dev nD) : (dats m 0 c).arrAt 13 cfg0.N = GV m c :=
  (dats m 0 c).arrAt_eq_of_cover 13 (GV m c) (flushed13 m c) fun i => by
    have i0 : (i 0 : Nat) < 4 := (i 0).isLt
    have i1 : (i 1 : Nat) < 2048 := (i 1).isLt
    have i2 : (i 2 : Nat) < 256 := (i 2).isLt
    have hf : ∀ t : Fin cfg0.N, (cfg0.win 13).flush t = true := (by decide +kernel : ∀ t : Fin grid0.N, _)
    obtain ⟨t, ht⟩ := point_of (i 0) (i 1)
    refine ⟨t, hf t, ?_⟩
    show i ∈ ((View.whole main_v111_1).slice (win0_13.rect t)).set
    rw [View.set_slice_whole, Rect.mem_set_unit]
    obtain ⟨h0, h1, h2⟩ := idx_13 t
    intro a
    match a with
    | ⟨0, _⟩ => show win0_13.index t 0 * 1 ≤ (i 0 : Nat) ∧ (i 0 : Nat) < win0_13.index t 0 * 1 + 1; omega
    | ⟨1, _⟩ => show win0_13.index t 1 * 512 ≤ (i 1 : Nat) ∧ (i 1 : Nat) < win0_13.index t 1 * 512 + 512; omega
    | ⟨2, _⟩ => show win0_13.index t 2 * 256 ≤ (i 2 : Nat) ∧ (i 2 : Nat) < win0_13.index t 2 * 256 + 256; omega

theorem final15 (c : Dev nD) : (dats m 0 c).arrAt 15 cfg0.N = GM m c :=
  (dats m 0 c).arrAt_eq_of_cover 15 (GM m c) (flushed15 m c) fun i => by
    have i0 : (i 0 : Nat) < 4 := (i 0).isLt
    have i1 : (i 1 : Nat) < 2048 := (i 1).isLt
    have i2 : (i 2 : Nat) < 512 := (i 2).isLt
    have hf : ∀ t : Fin cfg0.N, (cfg0.win 15).flush t = true := (by decide +kernel : ∀ t : Fin grid0.N, _)
    obtain ⟨t, ht⟩ := point_of (i 0) (i 1)
    refine ⟨t, hf t, ?_⟩
    show i ∈ ((View.whole main_v111_3).slice (win0_15.rect t)).set
    rw [View.set_slice_whole, Rect.mem_set_unit]
    obtain ⟨h0, h1, h2⟩ := idx_15 t
    intro a
    match a with
    | ⟨0, _⟩ => show win0_15.index t 0 * 1 ≤ (i 0 : Nat) ∧ (i 0 : Nat) < win0_15.index t 0 * 1 + 1; omega
    | ⟨1, _⟩ => show win0_15.index t 1 * 512 ≤ (i 1 : Nat) ∧ (i 1 : Nat) < win0_15.index t 1 * 512 + 512; omega
    | ⟨2, _⟩ => show win0_15.index t 2 * 512 ≤ (i 2 : Nat) ∧ (i 2 : Nat) < win0_15.index t 2 * 512 + 512; omega

/-- The run: the result arrays at `GV` and `GM`, the arguments unchanged. -/
theorem run : θ_run defs (onTc (τ := τ) (main (F := Ideal))) ⟨m, fun _ => 0, ρ⟩ fun r => ∀ c : Dev nD,
      r.2.mem ((c : Thread nD τ).loc main_v111_1) = GV m c
      ∧ r.2.mem ((c : Thread nD τ).loc main_v111_3) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 13).trans (final13 m c), ((h.1 c).1 15).trans (final15 m c), h.2 c⟩)
    (θ_run_and (Gen.run_main m ρ) (Gen.unchanged m ρ))

/-! ## The reference -/

section reference

open Cert.Reference11Ideal.Read

variable (X : S4x2048x2048.Idx → EReal) (W : S4x2048x12448.Idx → EReal) (g : S4x256.Idx → EReal) (B : S4x256x768.Idx → EReal)

theorem proj_ref (b : Fin 4) (s : Fin 2048) (k : Fin 12448) : val_main_v3 (F := Ideal) X W (ix3 b s k) = projAt X W b s k := by
  rw [val_main_v3_apply]
  refine Finset.sum_congr rfl fun e _ => ?_
  rw [val_main_v0_apply, val_main_v2_apply, val_main_v1_apply]
  have hk := k.isLt; have he := e.isLt
  refine congrArg₂ (α := EReal) (β := EReal) (γ := EReal) (fun p q => p * q) (congrArg X ?_) (congrArg W ?_)
  · funext a
    match a with
    | ⟨0, _⟩ => rfl
    | ⟨1, _⟩ => rfl
    | ⟨2, _⟩ => rfl
  · funext a; apply Fin.ext
    match a with
    | ⟨0, _⟩ => rfl
    | ⟨1, _⟩ => show (e.val * 12448 + k.val) / 12448 % 2048 = e.val; omega
    | ⟨2, _⟩ => show (e.val * 12448 + k.val) % 12448 = k.val; omega

theorem value_ref (b : Fin 4) (s : Fin 2048) (k : Fin 256) : val_main_v25 (F := Ideal) X W (ix3 b s k) = projAt X W b s (wide (vcol k)) := by
  rw [val_main_v25_apply, val_main_v4_apply]
  refine Eq.trans (congrArg (val_main_v3 (F := Ideal) X W) (funext fun a => ?_)) (proj_ref X W b s (wide (vcol k)))
  match a with
  | ⟨0, _⟩ => rfl
  | ⟨1, _⟩ => rfl
  | ⟨2, _⟩ => rfl

theorem latent_ref (b : Fin 4) (s : Fin 2048) (k : Fin 256) : val_main_v5 (F := Ideal) X W (ix3 b s k) = projAt X W b s (wide (lcol k)) := by
  rw [val_main_v5_apply]
  refine Eq.trans (congrArg _ (funext fun a => ?_)) (proj_ref X W b s (wide (lcol k)))
  match a with
  | ⟨0, _⟩ => rfl
  | ⟨1, _⟩ => rfl
  | ⟨2, _⟩ => rfl

theorem weight_ref (b : Fin 4) (s : Fin 2048) (k : Fin 256) : val_main_v19 (F := Ideal) g (ix3 b s k) = g (ix2 0 k) := by
  rw [val_main_v19_apply, val_main_v18_apply, val_main_v17_apply, val_main_v16_apply]
  refine congrArg g (funext fun a => Fin.ext ?_)
  have hk := k.isLt
  match a with
  | ⟨0, _⟩ => rfl
  | ⟨1, _⟩ => show k.val % 256 = k.val; omega

theorem normed_ref (b : Fin 4) (s : Fin 2048) (k : Fin 256) :
    val_main_v20 (F := Ideal) X W g (ix3 b s k) = normed (fun k => projAt X W b s (wide (lcol k))) (fun k => g (ix2 0 k)) k := by
  have h8 : val_main_v8 (F := Ideal) X W (ix3 b s (0 : Fin 1)) = ∑ j : Fin 256, projAt X W b s (wide (lcol j)) * projAt X W b s (wide (lcol j)) := by
    rw [val_main_v8_apply, val_main_v7_apply]
    refine ((congrArg (fun p : EReal => p + _) zeroBits).trans (zero_add _)).trans ?_
    refine Finset.sum_congr rfl fun j _ => ?_
    have e : idx_main_v7 (idx_main_v8 (ix3 b s (0 : Fin 1))) j = ix3 b s j := funext fun a => match a with | ⟨0, _⟩ => rfl | ⟨1, _⟩ => rfl | ⟨2, _⟩ => rfl
    rw [e, val_main_v6_apply, latent_ref]
    rfl
  have h14 : val_main_v14 (F := Ideal) X W (ix3 b s k) = Ideal.rsqrt (Ideal.div (∑ j : Fin 256, projAt X W b s (wide (lcol j)) * projAt X W b s (wide (lcol j)))
      (FloatOps.ofBits (F := Ideal) .f32 0x43800000#32 : EReal) + (FloatOps.ofBits (F := Ideal) .f32 0x358637BD#32 : EReal)) := by
    rw [val_main_v14_apply]
    have e : idx_main_v14 (ix3 b s k) = ix3 b s (0 : Fin 1) := funext fun a => match a with | ⟨0, _⟩ => rfl | ⟨1, _⟩ => rfl | ⟨2, _⟩ => rfl
    rw [e]
    exact congrArg (fun p : EReal => Ideal.rsqrt (Ideal.div p (FloatOps.ofBits (F := Ideal) .f32 0x43800000#32 : EReal) + (FloatOps.ofBits (F := Ideal) .f32 0x358637BD#32 : EReal))) h8
  rw [val_main_v20_apply, val_main_v15_apply, latent_ref, h14, weight_ref]
  rfl

theorem mixed_ref (b : Fin 4) (s : Fin 2048) (j : Fin 768) : val_main_v23 (F := Ideal) X W g B (ix3 b s j) = mixedAt X W g B b s j := by
  rw [val_main_v23_apply]
  refine Finset.sum_congr rfl fun k _ => congrArg₂ (α := EReal) (β := EReal) (γ := EReal) (fun p q => p * q) ?_ ?_
  · refine Eq.trans (congrArg _ (funext fun a => ?_)) (normed_ref X W g b s k)
    match a with
    | ⟨0, _⟩ => rfl
    | ⟨1, _⟩ => rfl
    | ⟨2, _⟩ => rfl
  · rw [val_main_v22_apply, val_main_v21_apply]
    refine congrArg B (funext fun a => Fin.ext ?_)
    have hk := k.isLt; have hj := j.isLt
    match a with
    | ⟨0, _⟩ => rfl
    | ⟨1, _⟩ => show (k.val * 768 + j.val) / 768 % 256 = k.val; omega
    | ⟨2, _⟩ => show (k.val * 768 + j.val) % 768 = j.val; omega

theorem latent_value_ref (b : Fin 4) (s : Fin 2048) (d : Fin 512) : val_main_v28 (F := Ideal) X W g B (ix3 b s d) = mixedAt X W g B b s (bcol d) := by
  rw [val_main_v28_apply, val_main_v27_apply, val_main_v26_apply, val_main_v24_apply]
  refine Eq.trans (congrArg (val_main_v23 (F := Ideal) X W g B) (funext fun a => Fin.ext ?_)) (mixed_ref X W g B b s (bcol d))
  have hb := b.isLt; have hs := s.isLt; have hd := d.isLt
  have f0 : ((b.val * 2048 + s.val) * 512 + d.val) / 1048576 = b.val := by omega
  have f1 : ((b.val * 2048 + s.val) * 512 + d.val) / 512 % 2048 = s.val := by omega
  have f2 : ((b.val * 2048 + s.val) * 512 + d.val) / 128 % 4 = d.val / 128 := by omega
  have f3 : ((b.val * 2048 + s.val) * 512 + d.val) % 128 = d.val % 128 := by omega
  match a with
  | ⟨0, _⟩ =>
    show ((((((b.val * 2048 + s.val) * 512 + d.val) / 1048576) * 2048 + ((b.val * 2048 + s.val) * 512 + d.val) / 512 % 2048) * 4 + ((b.val * 2048 + s.val) * 512 + d.val) / 128 % 4) * 192 + (64 + ((b.val * 2048 + s.val) * 512 + d.val) % 128)) / 1572864 = b.val
    rw [f0, f1, f2, f3]; omega
  | ⟨1, _⟩ =>
    show ((((((b.val * 2048 + s.val) * 512 + d.val) / 1048576) * 2048 + ((b.val * 2048 + s.val) * 512 + d.val) / 512 % 2048) * 4 + ((b.val * 2048 + s.val) * 512 + d.val) / 128 % 4) * 192 + (64 + ((b.val * 2048 + s.val) * 512 + d.val) % 128)) / 768 % 2048 = s.val
    rw [f0, f1, f2, f3]; omega
  | ⟨2, _⟩ =>
    show ((((((b.val * 2048 + s.val) * 512 + d.val) / 1048576) * 2048 + ((b.val * 2048 + s.val) * 512 + d.val) / 512 % 2048) * 4 + ((b.val * 2048 + s.val) * 512 + d.val) / 128 % 4) * 192 + (64 + ((b.val * 2048 + s.val) * 512 + d.val) % 128)) % 768 = 192 * (d.val / 128) + (64 + d.val % 128)
    rw [f0, f1, f2, f3]; omega

end reference

end Cert.Kernel11Ideal.AttnValues

namespace Cert.Proof.AttnValues

open Idealize.ShloMosaic Idealize.ShloMosaic.TcCoe Idealize.ShloMosaic.ValueIdx
open Idealize.SL.Sem
open Cert.Kernel11Ideal.AttnValues

theorem frame_p : Cert.quiescent_Kernel11 := fun m ρ _ => Cert.Kernel11.Gen.frame m ρ
theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem preserves : Cert.preserves_Kernel11_Kernel11Ideal := trivial

theorem algebraic : Cert.algebraic_Kernel11Ideal_Reference11Ideal := fun m ρ m' ρ' _ hag =>
  ⟨fun c => GV m c, fun c => GM m c, run m ρ, (θ_run Cert.Reference11Ideal.defs _ _).mono (fun _ h c => ⟨(h c).1.trans (by
      rw [Cert.Reference11Ideal.Read.val_main_v25_eq]
      obtain ⟨e0, e1, -⟩ := hag c
      rw [e0, e1]
      funext i
      exact (congrArg _ (eq_ix3 i)).trans (value_ref _ _ (i 0) (i 1) (i 2))), (h c).2.1.trans (by
      rw [Cert.Reference11Ideal.Read.val_main_v28_eq]
      obtain ⟨e0, e1, -, -, -, -, e6, e7⟩ := hag c
      rw [e0, e1, e6, e7]
      funext i
      exact (congrArg _ (eq_ix3 i)).trans (latent_value_ref _ _ _ _ (i 0) (i 1) (i 2))), (h c).2.2⟩)
    (Cert.Reference11Ideal.Value.run (F := Ideal) m' ρ')⟩

end Cert.Proof.AttnValues

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_scores
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_slots_match
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_mla_scores
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite_router
public import Idealize.ShloMosaic.Adequacy
public import Idealize.ShloMosaic.Init
public import proofs.«01_k».proof.Proof.AttentionClaim
public import proofs.«01_k».proof.Proof.MergeClaim
public import proofs.«01_k».proof.Proof.FfnClaim
public import proofs.«01_k».proof.Proof.ScatterClaim
public import proofs.«01_k».proof.Proof.HyenaProj
public import proofs.«01_k».proof.Proof.ConvProj
public import proofs.«01_k».proof.Proof.MlaClaim
public import proofs.«01_k».proof.Proof.RouterClaim
public import proofs.«01_k».proof.Proof.NormMod
public import proofs.«01_k».proof.Proof.Modulation
public import proofs.«01_k».proof.Proof.AttnValues

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite_scores.Gen.facts, Cert.Pre_slots_match.Gen.facts, Cert.Pre_finite_mla_scores.Gen.facts, Cert.Pre_finite_router.Gen.facts,
  Attention.frame_p, Attention.frame_pi, Attention.frame_pi_pre, Attention.frame_ri, Attention.frame_ri_pre,
  Merge.frame_p, Merge.frame_pi, Merge.frame_ri, Ffn.frame_p, Ffn.frame_pi, Ffn.frame_ri,
  Scatter.frame_p, Scatter.frame_pi, Scatter.frame_pi_pre, Scatter.frame_ri, Scatter.frame_ri_pre,
  HyenaProj.frame_p, HyenaProj.frame_pi, HyenaProj.frame_ri, ConvProj.frame_p, ConvProj.frame_pi, ConvProj.frame_ri,
  Mla.frame_p, Mla.frame_pi, Mla.frame_pi_pre, Mla.frame_ri, Mla.frame_ri_pre,
  Router.frame_p, Router.frame_pi, Router.frame_pi_pre, Router.frame_ri, Router.frame_ri_pre,
  NormMod.frame_p, NormMod.frame_pi, NormMod.frame_ri, Modulation.frame_p, Modulation.frame_pi, Modulation.frame_ri,
  AttnValues.frame_p, AttnValues.frame_pi, AttnValues.frame_ri,
  Attention.preserves, Attention.algebraic, Merge.preserves, Merge.algebraic, Ffn.preserves, Ffn.algebraic,
  Scatter.preserves, Scatter.algebraic, HyenaProj.preserves, HyenaProj.algebraic, ConvProj.preserves, ConvProj.algebraic,
  Mla.preserves, Mla.algebraic, Router.preserves, Router.algebraic,
  NormMod.preserves, NormMod.algebraic, Modulation.preserves, Modulation.algebraic,
  AttnValues.preserves, AttnValues.algebraic⟩

end Cert.Proof

end
